-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_embeddings [hPre_finite_embeddings : Cert.Pre_finite_embeddings.Facts] (m : (ℓ : Loc Cert.KernelIdeal.nD Cert.KernelIdeal.τ Cert.KernelIdeal.sig) → Buf (Elt Ideal) ℓ) : Prop :=
  ∀ c : Dev Cert.KernelIdeal.nD,
    (Cert.Pre_finite_embeddings.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_embeddings [hPre_finite_embeddings : Cert.Pre_finite_embeddings.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_embeddings.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_embeddings [hKernelIdeal : Cert.KernelIdeal.Facts] [hPre_finite_embeddings : Cert.Pre_finite_embeddings.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_embeddings m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_embeddings [hReferenceIdeal : Cert.ReferenceIdeal.Facts] [hPre_finite_embeddings : Cert.Pre_finite_embeddings.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_embeddings m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2" .f32 0x3F317218#32 ((Real.log 2 : ℝ) : EReal)

def algebraic_KernelIdeal_ReferenceIdeal_pre_finite_embeddings [hKernelIdeal : Cert.KernelIdeal.Facts] [hReferenceIdeal : Cert.ReferenceIdeal.Facts] [hPre_finite_embeddings : Cert.Pre_finite_embeddings.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_embeddings m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_v75) = v4 c
          ∧ r.2.mem ((c.tc : Thread Cert.ReferenceIdeal.nD Cert.ReferenceIdeal.τ).loc Cert.ReferenceIdeal.main_v131) = v5 c
          ∧ r.2.mem ((c.tc : Thread Cert.ReferenceIdeal.nD Cert.ReferenceIdeal.τ).loc Cert.ReferenceIdeal.main_v175) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_embeddings : Cert.Pre_finite_embeddings.Facts),
    quiescent_Kernel (hKernel := hKernel)
    ∧ quiescent_KernelIdeal (hKernelIdeal := hKernelIdeal)
    ∧ quiescent_KernelIdeal_pre_finite_embeddings (hKernelIdeal := hKernelIdeal) (hPre_finite_embeddings := hPre_finite_embeddings)
    ∧ quiescent_ReferenceIdeal (hReferenceIdeal := hReferenceIdeal)
    ∧ quiescent_ReferenceIdeal_pre_finite_embeddings (hReferenceIdeal := hReferenceIdeal) (hPre_finite_embeddings := hPre_finite_embeddings)
    ∧ preserves_Kernel_KernelIdeal
    ∧ algebraic_KernelIdeal_ReferenceIdeal_pre_finite_embeddings (hKernelIdeal := hKernelIdeal) (hReferenceIdeal := hReferenceIdeal) (hPre_finite_embeddings := hPre_finite_embeddings)
-- ==== Pre_finite_embeddings.lean ====
abbrev S_ : Shape := ⟨0, ![]⟩
abbrev S1024x64 : Shape := ⟨2, ![1024, 64]⟩
abbrev S1024x64x128 : Shape := ⟨3, ![1024, 64, 128]⟩
abbrev S256x256 : Shape := ⟨2, ![256, 256]⟩
abbrev S256 : Shape := ⟨1, ![256]⟩
abbrev S256x128 : Shape := ⟨2, ![256, 128]⟩
abbrev S128 : Shape := ⟨1, ![128]⟩

class Facts : Prop where
  bcast_S_S1024x64x128 : S_.BroadcastsInDim S1024x64x128 (![] : Fin 0 → Fin S1024x64x128.rank)

variable [Facts]

def fn {F : FTy → Type} [FloatOps F] (main_arg0 : IVec S_ 32) (main_arg1 : IVec S1024x64 32) (main_arg2 : FVec F S1024x64x128 .f32) (main_arg3 : IVec S_ 1) (main_arg4 : FVec F S256x256 .f32) (main_arg5 : FVec F S256 .f32) (main_arg6 : FVec F S256x128 .f32) (main_arg7 : FVec F S128 .f32) : IVec S1024x64x128 1 :=
  let main_v0 : FVec F S1024x64x128 .f32 := Host.absf main_arg2
  let main_cst : FVec F S_ .f32 := constant S_ .f32 0x7F800000#32
  let main_v1 : FVec F S1024x64x128 .f32 := broadcastInDim S1024x64x128 ![] bcast_S_S1024x64x128 main_cst
  let main_v2 : IVec S1024x64x128 1 := cmpf .olt main_v0 main_v1
  main_v2
-- ==== Kernel.lean ====
abbrev S_ : Shape := ⟨0, ![]⟩
abbrev S1024x64 : Shape := ⟨2, ![1024, 64]⟩
abbrev S1024x64x128 : Shape := ⟨3, ![1024, 64, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1 : Shape := ⟨1, ![1]⟩
abbrev S2 : Shape := ⟨1, ![2]⟩
abbrev S1x1 : Shape := ⟨2, ![1, 1]⟩
abbrev S1024x4096 : Shape := ⟨2, ![1024, 4096]⟩
abbrev S1024x64x64 : Shape := ⟨3, ![1024, 64, 64]⟩
abbrev S1x256 : Shape := ⟨2, ![1, 256]⟩
abbrev S1x128 : Shape := ⟨2, ![1, 128]⟩
abbrev S8x1x128 : Shape := ⟨3, ![8, 1, 128]⟩
abbrev S1024x128 : Shape := ⟨2, ![1024, 128]⟩
abbrev S1024 : Shape := ⟨1, ![1024]⟩
abbrev S128x64x128 : Shape := ⟨3, ![128, 64, 128]⟩
abbrev S128x64x64 : Shape := ⟨3, ![128, 64, 64]⟩
abbrev S128x64 : Shape := ⟨2, ![128, 64]⟩
abbrev S1x1x128 : Shape := ⟨3, ![1, 1, 128]⟩
abbrev S128x128 : Shape := ⟨2, ![128, 128]⟩
abbrev S128x64x1 : Shape := ⟨3, ![128, 64, 1]⟩
abbrev S128x1x64 : Shape := ⟨3, ![128, 1, 64]⟩
abbrev S128x1x1 : Shape := ⟨3, ![128, 1, 1]⟩
abbrev S128x1 : Shape := ⟨2, ![128, 1]⟩
abbrev S128x256 : Shape := ⟨2, ![128, 256]⟩

abbrev nBuf : Space → Nat
  | .hbm => 301
  | .vmem => 24
  | .smem => 1
  | _ => 0

abbrev hbmTy0_0 (i : Nat) : BufTy := match i % 128 with
  | 0 => ⟨S_, .i32⟩
  | 1 => ⟨S1024x64, .i32⟩
  | 2 => ⟨S1024x64x128, .f32⟩
  | 3 => ⟨S_, .i1⟩
  | 4 => ⟨S256x256, .f32⟩
  | 5 => ⟨S256, .f32⟩
  | 6 => ⟨S256x128, .f32⟩
  | 7 => ⟨S128, .f32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S_, .f32⟩
  | 19 => ⟨S_, .f32⟩
  | 20 => ⟨S_, .f32⟩
  | 21 => ⟨S1x1, .f32⟩
  | 22 => ⟨S1x1, .f32⟩
  | 23 => ⟨S1, .i32⟩
  | 24 => ⟨S_, .i32⟩
  | 25 => ⟨S1, .i32⟩
  | 26 => ⟨S_, .i32⟩
  | 27 => ⟨S1024x4096, .i64⟩
  | 28 => ⟨S1024x4096, .i64⟩
  | 29 => ⟨S_, .i64⟩
  | 30 => ⟨S1024x4096, .i64⟩
  | 31 => ⟨S1024x4096, .i64⟩
  | 32 => ⟨S_, .i64⟩
  | 33 => ⟨S1024x4096, .i64⟩
  | 34 => ⟨S1024x4096, .i64⟩
  | 35 => ⟨S1024x4096, .i64⟩
  | 36 => ⟨S_, .i64⟩
  | 37 => ⟨S1024x4096, .i64⟩
  | 38 => ⟨S1024x4096, .i64⟩
  | 39 => ⟨S1024x4096, .i32⟩
  | 40 => ⟨S1024x4096, .i32⟩
  | 41 => ⟨S_, .i32⟩
  | 42 => ⟨S_, .i32⟩
  | 43 => ⟨S_, .i32⟩
  | 44 => ⟨S1024x4096, .i32⟩
  | 45 => ⟨S1024x4096, .i32⟩
  | 46 => ⟨S1024x4096, .i32⟩
  | 47 => ⟨S1024x4096, .i32⟩
  | 48 => ⟨S1024x4096, .i32⟩
  | 49 => ⟨S_, .i32⟩
  | 50 => ⟨S1024x4096, .i32⟩
  | 51 => ⟨S1024x4096, .i32⟩
  | 52 => ⟨S_, .i32⟩
  | 53 => ⟨S1024x4096, .i32⟩
  | 54 => ⟨S1024x4096, .i32⟩
  | 55 => ⟨S1024x4096, .i32⟩
  | 56 => ⟨S1024x4096, .i32⟩
  | 57 => ⟨S1024x4096, .i32⟩
  | 58 => ⟨S_, .i32⟩
  | 59 => ⟨S1024x4096, .i32⟩
  | 60 => ⟨S1024x4096, .i32⟩
  | 61 => ⟨S_, .i32⟩
  | 62 => ⟨S1024x4096, .i32⟩
  | 63 => ⟨S1024x4096, .i32⟩
  | 64 => ⟨S1024x4096, .i32⟩
  | 65 => ⟨S1024x4096, .i32⟩
  | 66 => ⟨S1024x4096, .i32⟩
  | 67 => ⟨S_, .i32⟩
  | 68 => ⟨S1024x4096, .i32⟩
  | 69 => ⟨S1024x4096, .i32⟩
  | 70 => ⟨S_, .i32⟩
  | 71 => ⟨S1024x4096, .i32⟩
  | 72 => ⟨S1024x4096, .i32⟩
  | 73 => ⟨S1024x4096, .i32⟩
  | 74 => ⟨S1024x4096, .i32⟩
  | 75 => ⟨S1024x4096, .i32⟩
  | 76 => ⟨S_, .i32⟩
  | 77 => ⟨S1024x4096, .i32⟩
  | 78 => ⟨S1024x4096, .i32⟩
  | 79 => ⟨S_, .i32⟩
  | 80 => ⟨S1024x4096, .i32⟩
  | 81 => ⟨S1024x4096, .i32⟩
  | 82 => ⟨S1024x4096, .i32⟩
  | 83 => ⟨S1024x4096, .i32⟩
  | 84 => ⟨S1024x4096, .i32⟩
  | 85 => ⟨S1024x4096, .i32⟩
  | 86 => ⟨S1024x4096, .i32⟩
  | 87 => ⟨S1024x4096, .i32⟩
  | 88 => ⟨S_, .i32⟩
  | 89 => ⟨S1024x4096, .i32⟩
  | 90 => ⟨S1024x4096, .i32⟩
  | 91 => ⟨S1024x4096, .i32⟩
  | 92 => ⟨S_, .i32⟩
  | 93 => ⟨S1024x4096, .i32⟩
  | 94 => ⟨S1024x4096, .i32⟩
  | 95 => ⟨S_, .i32⟩
  | 96 => ⟨S1024x4096, .i32⟩
  | 97 => ⟨S1024x4096, .i32⟩
  | 98 => ⟨S1024x4096, .i32⟩
  | 99 => ⟨S1024x4096, .i32⟩
  | 100 => ⟨S1024x4096, .i32⟩
  | 101 => ⟨S_, .i32⟩
  | 102 => ⟨S1024x4096, .i32⟩
  | 103 => ⟨S1024x4096, .i32⟩
  | 104 => ⟨S_, .i32⟩
  | 105 => ⟨S1024x4096, .i32⟩
  | 106 => ⟨S1024x4096, .i32⟩
  | 107 => ⟨S1024x4096, .i32⟩
  | 108 => ⟨S1024x4096, .i32⟩
  | 109 => ⟨S1024x4096, .i32⟩
  | 110 => ⟨S_, .i32⟩
  | 111 => ⟨S1024x4096, .i32⟩
  | 112 => ⟨S1024x4096, .i32⟩
  | 113 => ⟨S_, .i32⟩
  | 114 => ⟨S1024x4096, .i32⟩
  | 115 => ⟨S1024x4096, .i32⟩
  | 116 => ⟨S1024x4096, .i32⟩
  | 117 => ⟨S1024x4096, .i32⟩
  | 118 => ⟨S1024x4096, .i32⟩
  | 119 => ⟨S_, .i32⟩
  | 120 => ⟨S1024x4096, .i32⟩
  | 121 => ⟨S1024x4096, .i32⟩
  | 122 => ⟨S_, .i32⟩
  | 123 => ⟨S1024x4096, .i32⟩
  | 124 => ⟨S1024x4096, .i32⟩
  | 125 => ⟨S1024x4096, .i32⟩
  | 126 => ⟨S1024x4096, .i32⟩
  | 127 => ⟨S1024x4096, .i32⟩
  | _ => ⟨S_, .i32⟩

abbrev hbmTy0_1 (i : Nat) : BufTy := match i % 128 with
  | 0 => ⟨S1024x4096, .i32⟩
  | 1 => ⟨S1024x4096, .i32⟩
  | 2 => ⟨S1024x4096, .i32⟩
  | 3 => ⟨S_, .i32⟩
  | 4 => ⟨S1024x4096, .i32⟩
  | 5 => ⟨S1024x4096, .i32⟩
  | 6 => ⟨S1024x4096, .i32⟩
  | 7 => ⟨S_, .i32⟩
  | 8 => ⟨S1024x4096, .i32⟩
  | 9 => ⟨S1024x4096, .i32⟩
  | 10 => ⟨S_, .i32⟩
  | 11 => ⟨S1024x4096, .i32⟩
  | 12 => ⟨S1024x4096, .i32⟩
  | 13 => ⟨S1024x4096, .i32⟩
  | 14 => ⟨S1024x4096, .i32⟩
  | 15 => ⟨S1024x4096, .i32⟩
  | 16 => ⟨S_, .i32⟩
  | 17 => ⟨S1024x4096, .i32⟩
  | 18 => ⟨S1024x4096, .i32⟩
  | 19 => ⟨S_, .i32⟩
  | 20 => ⟨S1024x4096, .i32⟩
  | 21 => ⟨S1024x4096, .i32⟩
  | 22 => ⟨S1024x4096, .i32⟩
  | 23 => ⟨S1024x4096, .i32⟩
  | 24 => ⟨S1024x4096, .i32⟩
  | 25 => ⟨S_, .i32⟩
  | 26 => ⟨S1024x4096, .i32⟩
  | 27 => ⟨S1024x4096, .i32⟩
  | 28 => ⟨S_, .i32⟩
  | 29 => ⟨S1024x4096, .i32⟩
  | 30 => ⟨S1024x4096, .i32⟩
  | 31 => ⟨S1024x4096, .i32⟩
  | 32 => ⟨S1024x4096, .i32⟩
  | 33 => ⟨S1024x4096, .i32⟩
  | 34 => ⟨S_, .i32⟩
  | 35 => ⟨S1024x4096, .i32⟩
  | 36 => ⟨S1024x4096, .i32⟩
  | 37 => ⟨S_, .i32⟩
  | 38 => ⟨S1024x4096, .i32⟩
  | 39 => ⟨S1024x4096, .i32⟩
  | 40 => ⟨S1024x4096, .i32⟩
  | 41 => ⟨S1024x4096, .i32⟩
  | 42 => ⟨S1024x4096, .i32⟩
  | 43 => ⟨S1024x4096, .i32⟩
  | 44 => ⟨S1024x4096, .i32⟩
  | 45 => ⟨S1024x4096, .i32⟩
  | 46 => ⟨S_, .i32⟩
  | 47 => ⟨S1024x4096, .i32⟩
  | 48 => ⟨S1024x4096, .i32⟩
  | 49 => ⟨S1024x4096, .i32⟩
  | 50 => ⟨S_, .i32⟩
  | 51 => ⟨S1024x4096, .i32⟩
  | 52 => ⟨S1024x4096, .i32⟩
  | 53 => ⟨S_, .i32⟩
  | 54 => ⟨S1024x4096, .i32⟩
  | 55 => ⟨S1024x4096, .i32⟩
  | 56 => ⟨S1024x4096, .i32⟩
  | 57 => ⟨S1024x4096, .i32⟩
  | 58 => ⟨S1024x4096, .i32⟩
  | 59 => ⟨S_, .i32⟩
  | 60 => ⟨S1024x4096, .i32⟩
  | 61 => ⟨S1024x4096, .i32⟩
  | 62 => ⟨S_, .i32⟩
  | 63 => ⟨S1024x4096, .i32⟩
  | 64 => ⟨S1024x4096, .i32⟩
  | 65 => ⟨S1024x4096, .i32⟩
  | 66 => ⟨S1024x4096, .i32⟩
  | 67 => ⟨S1024x4096, .i32⟩
  | 68 => ⟨S_, .i32⟩
  | 69 => ⟨S1024x4096, .i32⟩
  | 70 => ⟨S1024x4096, .i32⟩
  | 71 => ⟨S_, .i32⟩
  | 72 => ⟨S1024x4096, .i32⟩
  | 73 => ⟨S1024x4096, .i32⟩
  | 74 => ⟨S1024x4096, .i32⟩
  | 75 => ⟨S1024x4096, .i32⟩
  | 76 => ⟨S1024x4096, .i32⟩
  | 77 => ⟨S_, .i32⟩
  | 78 => ⟨S1024x4096, .i32⟩
  | 79 => ⟨S1024x4096, .i32⟩
  | 80 => ⟨S_, .i32⟩
  | 81 => ⟨S1024x4096, .i32⟩
  | 82 => ⟨S1024x4096, .i32⟩
  | 83 => ⟨S1024x4096, .i32⟩
  | 84 => ⟨S1024x4096, .i32⟩
  | 85 => ⟨S1024x4096, .i32⟩
  | 86 => ⟨S1024x4096, .i32⟩
  | 87 => ⟨S1024x4096, .i32⟩
  | 88 => ⟨S1024x4096, .i32⟩
  | 89 => ⟨S_, .i32⟩
  | 90 => ⟨S1024x4096, .i32⟩
  | 91 => ⟨S1024x4096, .i32⟩
  | 92 => ⟨S1024x4096, .i32⟩
  | 93 => ⟨S_, .i32⟩
  | 94 => ⟨S1024x4096, .i32⟩
  | 95 => ⟨S1024x4096, .i32⟩
  | 96 => ⟨S_, .i32⟩
  | 97 => ⟨S1024x4096, .i32⟩
  | 98 => ⟨S1024x4096, .i32⟩
  | 99 => ⟨S1024x4096, .i32⟩
  | 100 => ⟨S1024x4096, .i32⟩
  | 101 => ⟨S1024x4096, .i32⟩
  | 102 => ⟨S_, .i32⟩
  | 103 => ⟨S1024x4096, .i32⟩
  | 104 => ⟨S1024x4096, .i32⟩
  | 105 => ⟨S_, .i32⟩
  | 106 => ⟨S1024x4096, .i32⟩
  | 107 => ⟨S1024x4096, .i32⟩
  | 108 => ⟨S1024x4096, .i32⟩
  | 109 => ⟨S1024x4096, .i32⟩
  | 110 => ⟨S1024x4096, .i32⟩
  | 111 => ⟨S_, .i32⟩
  | 112 => ⟨S1024x4096, .i32⟩
  | 113 => ⟨S1024x4096, .i32⟩
  | 114 => ⟨S_, .i32⟩
  | 115 => ⟨S1024x4096, .i32⟩
  | 116 => ⟨S1024x4096, .i32⟩
  | 117 => ⟨S1024x4096, .i32⟩
  | 118 => ⟨S1024x4096, .i32⟩
  | 119 => ⟨S1024x4096, .i32⟩
  | 120 => ⟨S_, .i32⟩
  | 121 => ⟨S1024x4096, .i32⟩
  | 122 => ⟨S1024x4096, .i32⟩
  | 123 => ⟨S_, .i32⟩
  | 124 => ⟨S1024x4096, .i32⟩
  | 125 => ⟨S1024x4096, .i32⟩
  | 126 => ⟨S1024x4096, .i32⟩
  | 127 => ⟨S1024x4096, .i32⟩
  | _ => ⟨S_, .i32⟩

abbrev hbmTy0_2 (i : Nat) : BufTy := match i % 128 with
  | 0 => ⟨S1024x4096, .i32⟩
  | 1 => ⟨S1024x4096, .i32⟩
  | 2 => ⟨S1024x4096, .i32⟩
  | 3 => ⟨S1024x4096, .i32⟩
  | 4 => ⟨S_, .i32⟩
  | 5 => ⟨S1024x4096, .i32⟩
  | 6 => ⟨S1024x4096, .i32⟩
  | 7 => ⟨S1024x4096, .i32⟩
  | 8 => ⟨S_, .i32⟩
  | 9 => ⟨S1024x4096, .i32⟩
  | 10 => ⟨S1024x4096, .i32⟩
  | 11 => ⟨S_, .i32⟩
  | 12 => ⟨S1024x4096, .i32⟩
  | 13 => ⟨S1024x4096, .i32⟩
  | 14 => ⟨S1024x4096, .f32⟩
  | 15 => ⟨S_, .f32⟩
  | 16 => ⟨S1024x4096, .f32⟩
  | 17 => ⟨S1024x4096, .f32⟩
  | 18 => ⟨S1x1, .f32⟩
  | 19 => ⟨S1024x4096, .f32⟩
  | 20 => ⟨S1024x4096, .f32⟩
  | 21 => ⟨S1024x4096, .f32⟩
  | 22 => ⟨S1024x4096, .f32⟩
  | 23 => ⟨S1024x4096, .f32⟩
  | 24 => ⟨S1024x4096, .f32⟩
  | 25 => ⟨S1024x4096, .f32⟩
  | 26 => ⟨S1024x4096, .f32⟩
  | 27 => ⟨S1024x4096, .f32⟩
  | 28 => ⟨S1024x4096, .f32⟩
  | 29 => ⟨S1024x64x64, .f32⟩
  | 30 => ⟨S1x256, .f32⟩
  | 31 => ⟨S1x128, .f32⟩
  | 32 => ⟨S8x1x128, .i32⟩
  | 33 => ⟨S8x1x128, .i32⟩
  | 34 => ⟨S8x1x128, .f32⟩
  | 35 => ⟨S8x1x128, .f32⟩
  | 36 => ⟨S1024x128, .f32⟩
  | 37 => ⟨S8x1x128, .f32⟩
  | 38 => ⟨S8x1x128, .f32⟩
  | 39 => ⟨S1024, .i32⟩
  | 40 => ⟨S1024, .i32⟩
  | 41 => ⟨S1024, .f32⟩
  | 42 => ⟨S1024, .f32⟩
  | 43 => ⟨S1024, .f32⟩
  | 44 => ⟨S1024, .f32⟩
  | _ => ⟨S_, .i32⟩

abbrev hbmTy (i : Nat) : BufTy := match i / 128 with
  | 0 => hbmTy0_0 i
  | 1 => hbmTy0_1 i
  | 2 => hbmTy0_2 i
  | _ => ⟨S_, .i32⟩

abbrev bufTy : (tb : Table) → Fin (tcTables nBuf tb) → BufTy
  | .hbm, ⟨i, _⟩ => hbmTy i
  | .local _ .vmem, ⟨0, _⟩ => ⟨S128x64x128, .f32⟩
  | .local _ .vmem, ⟨1, _⟩ => ⟨S128x64x128, .f32⟩
  | .local _ .vmem, ⟨2, _⟩ => ⟨S128x64x64, .f32⟩
  | .local _ .vmem, ⟨3, _⟩ => ⟨S128x64x64, .f32⟩
  | .local _ .vmem, ⟨4, _⟩ => ⟨S128x64, .i32⟩
  | .local _ .vmem, ⟨5, _⟩ => ⟨S128x64, .i32⟩
  | .local _ .vmem, ⟨6, _⟩ => ⟨S256x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S1x1x128, .i32⟩
  | .local _ .vmem, ⟨11, _⟩ => ⟨S1x1x128, .i32⟩
  | .local _ .vmem, ⟨12, _⟩ => ⟨S1x1x128, .i32⟩
  | .local _ .vmem, ⟨13, _⟩ => ⟨S1x1x128, .i32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S128x128, .f32⟩
  | .local _ .vmem, ⟨19, _⟩ => ⟨S128x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_c_1 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_call0_cst : Ref sig .tc := ⟨.hbm, 18, rfl⟩
abbrev main_call0_call0_cst_0 : Ref sig .tc := ⟨.hbm, 19, rfl⟩
abbrev main_call0_call0_call0_v0 : Ref sig .tc := ⟨.hbm, 20, rfl⟩
abbrev main_call0_call0_call0_v1 : Ref sig .tc := ⟨.hbm, 21, rfl⟩
abbrev main_call0_call0_call0_v2 : Ref sig .tc := ⟨.hbm, 22, rfl⟩
abbrev main_call0_call0_call0_v3 : Ref sig .tc := ⟨.hbm, 23, rfl⟩
abbrev main_call0_call0_call0_v4 : Ref sig .tc := ⟨.hbm, 24, rfl⟩
abbrev main_call0_call0_call0_v5 : Ref sig .tc := ⟨.hbm, 25, rfl⟩
abbrev main_call0_call0_call0_v6 : Ref sig .tc := ⟨.hbm, 26, rfl⟩
abbrev main_call0_call0_call0_v7 : Ref sig .tc := ⟨.hbm, 27, rfl⟩
abbrev main_call0_call0_call0_v8 : Ref sig .tc := ⟨.hbm, 28, rfl⟩
abbrev main_call0_call0_call0_c : Ref sig .tc := ⟨.hbm, 29, rfl⟩
abbrev main_call0_call0_call0_v9 : Ref sig .tc := ⟨.hbm, 30, rfl⟩
abbrev main_call0_call0_call0_v10 : Ref sig .tc := ⟨.hbm, 31, rfl⟩
abbrev main_call0_call0_call0_c_0 : Ref sig .tc := ⟨.hbm, 32, rfl⟩
abbrev main_call0_call0_call0_v11 : Ref sig .tc := ⟨.hbm, 33, rfl⟩
abbrev main_call0_call0_call0_v12 : Ref sig .tc := ⟨.hbm, 34, rfl⟩
abbrev main_call0_call0_call0_v13 : Ref sig .tc := ⟨.hbm, 35, rfl⟩
abbrev main_call0_call0_call0_c_1 : Ref sig .tc := ⟨.hbm, 36, rfl⟩
abbrev main_call0_call0_call0_v14 : Ref sig .tc := ⟨.hbm, 37, rfl⟩
abbrev main_call0_call0_call0_v15 : Ref sig .tc := ⟨.hbm, 38, rfl⟩
abbrev main_call0_call0_call0_v16 : Ref sig .tc := ⟨.hbm, 39, rfl⟩
abbrev main_call0_call0_call0_v17 : Ref sig .tc := ⟨.hbm, 40, rfl⟩
abbrev main_call0_call0_call0_call0_v0 : Ref sig .tc := ⟨.hbm, 41, rfl⟩
abbrev main_call0_call0_call0_call0_c : Ref sig .tc := ⟨.hbm, 42, rfl⟩
abbrev main_call0_call0_call0_call0_v1 : Ref sig .tc := ⟨.hbm, 43, rfl⟩
abbrev main_call0_call0_call0_call0_v2 : Ref sig .tc := ⟨.hbm, 44, rfl⟩
abbrev main_call0_call0_call0_call0_v3 : Ref sig .tc := ⟨.hbm, 45, rfl⟩
abbrev main_call0_call0_call0_call0_v4 : Ref sig .tc := ⟨.hbm, 46, rfl⟩
abbrev main_call0_call0_call0_call0_v5 : Ref sig .tc := ⟨.hbm, 47, rfl⟩
abbrev main_call0_call0_call0_call0_v6 : Ref sig .tc := ⟨.hbm, 48, rfl⟩
abbrev main_call0_call0_call0_call0_c_0 : Ref sig .tc := ⟨.hbm, 49, rfl⟩
abbrev main_call0_call0_call0_call0_v7 : Ref sig .tc := ⟨.hbm, 50, rfl⟩
abbrev main_call0_call0_call0_call0_v8 : Ref sig .tc := ⟨.hbm, 51, rfl⟩
abbrev main_call0_call0_call0_call0_c_1 : Ref sig .tc := ⟨.hbm, 52, rfl⟩
abbrev main_call0_call0_call0_call0_v9 : Ref sig .tc := ⟨.hbm, 53, rfl⟩
abbrev main_call0_call0_call0_call0_v10 : Ref sig .tc := ⟨.hbm, 54, rfl⟩
abbrev main_call0_call0_call0_call0_v11 : Ref sig .tc := ⟨.hbm, 55, rfl⟩
abbrev main_call0_call0_call0_call0_v12 : Ref sig .tc := ⟨.hbm, 56, rfl⟩
abbrev main_call0_call0_call0_call0_v13 : Ref sig .tc := ⟨.hbm, 57, rfl⟩
abbrev main_call0_call0_call0_call0_c_2 : Ref sig .tc := ⟨.hbm, 58, rfl⟩
abbrev main_call0_call0_call0_call0_v14 : Ref sig .tc := ⟨.hbm, 59, rfl⟩
abbrev main_call0_call0_call0_call0_v15 : Ref sig .tc := ⟨.hbm, 60, rfl⟩
abbrev main_call0_call0_call0_call0_c_3 : Ref sig .tc := ⟨.hbm, 61, rfl⟩
abbrev main_call0_call0_call0_call0_v16 : Ref sig .tc := ⟨.hbm, 62, rfl⟩
abbrev main_call0_call0_call0_call0_v17 : Ref sig .tc := ⟨.hbm, 63, rfl⟩
abbrev main_call0_call0_call0_call0_v18 : Ref sig .tc := ⟨.hbm, 64, rfl⟩
abbrev main_call0_call0_call0_call0_v19 : Ref sig .tc := ⟨.hbm, 65, rfl⟩
abbrev main_call0_call0_call0_call0_v20 : Ref sig .tc := ⟨.hbm, 66, rfl⟩
abbrev main_call0_call0_call0_call0_c_4 : Ref sig .tc := ⟨.hbm, 67, rfl⟩
abbrev main_call0_call0_call0_call0_v21 : Ref sig .tc := ⟨.hbm, 68, rfl⟩
abbrev main_call0_call0_call0_call0_v22 : Ref sig .tc := ⟨.hbm, 69, rfl⟩
abbrev main_call0_call0_call0_call0_c_5 : Ref sig .tc := ⟨.hbm, 70, rfl⟩
abbrev main_call0_call0_call0_call0_v23 : Ref sig .tc := ⟨.hbm, 71, rfl⟩
abbrev main_call0_call0_call0_call0_v24 : Ref sig .tc := ⟨.hbm, 72, rfl⟩
abbrev main_call0_call0_call0_call0_v25 : Ref sig .tc := ⟨.hbm, 73, rfl⟩
abbrev main_call0_call0_call0_call0_v26 : Ref sig .tc := ⟨.hbm, 74, rfl⟩
abbrev main_call0_call0_call0_call0_v27 : Ref sig .tc := ⟨.hbm, 75, rfl⟩
abbrev main_call0_call0_call0_call0_c_6 : Ref sig .tc := ⟨.hbm, 76, rfl⟩
abbrev main_call0_call0_call0_call0_v28 : Ref sig .tc := ⟨.hbm, 77, rfl⟩
abbrev main_call0_call0_call0_call0_v29 : Ref sig .tc := ⟨.hbm, 78, rfl⟩
abbrev main_call0_call0_call0_call0_c_7 : Ref sig .tc := ⟨.hbm, 79, rfl⟩
abbrev main_call0_call0_call0_call0_v30 : Ref sig .tc := ⟨.hbm, 80, rfl⟩
abbrev main_call0_call0_call0_call0_v31 : Ref sig .tc := ⟨.hbm, 81, rfl⟩
abbrev main_call0_call0_call0_call0_v32 : Ref sig .tc := ⟨.hbm, 82, rfl⟩
abbrev main_call0_call0_call0_call0_v33 : Ref sig .tc := ⟨.hbm, 83, rfl⟩
abbrev main_call0_call0_call0_call0_v34 : Ref sig .tc := ⟨.hbm, 84, rfl⟩
abbrev main_call0_call0_call0_call0_v35 : Ref sig .tc := ⟨.hbm, 85, rfl⟩
abbrev main_call0_call0_call0_call0_v36 : Ref sig .tc := ⟨.hbm, 86, rfl⟩
abbrev main_call0_call0_call0_call0_v37 : Ref sig .tc := ⟨.hbm, 87, rfl⟩
abbrev main_call0_call0_call0_call0_c_8 : Ref sig .tc := ⟨.hbm, 88, rfl⟩
abbrev main_call0_call0_call0_call0_v38 : Ref sig .tc := ⟨.hbm, 89, rfl⟩
abbrev main_call0_call0_call0_call0_v39 : Ref sig .tc := ⟨.hbm, 90, rfl⟩
abbrev main_call0_call0_call0_call0_v40 : Ref sig .tc := ⟨.hbm, 91, rfl⟩
abbrev main_call0_call0_call0_call0_c_9 : Ref sig .tc := ⟨.hbm, 92, rfl⟩
abbrev main_call0_call0_call0_call0_v41 : Ref sig .tc := ⟨.hbm, 93, rfl⟩
abbrev main_call0_call0_call0_call0_v42 : Ref sig .tc := ⟨.hbm, 94, rfl⟩
abbrev main_call0_call0_call0_call0_c_10 : Ref sig .tc := ⟨.hbm, 95, rfl⟩
abbrev main_call0_call0_call0_call0_v43 : Ref sig .tc := ⟨.hbm, 96, rfl⟩
abbrev main_call0_call0_call0_call0_v44 : Ref sig .tc := ⟨.hbm, 97, rfl⟩
abbrev main_call0_call0_call0_call0_v45 : Ref sig .tc := ⟨.hbm, 98, rfl⟩
abbrev main_call0_call0_call0_call0_v46 : Ref sig .tc := ⟨.hbm, 99, rfl⟩
abbrev main_call0_call0_call0_call0_v47 : Ref sig .tc := ⟨.hbm, 100, rfl⟩
abbrev main_call0_call0_call0_call0_c_11 : Ref sig .tc := ⟨.hbm, 101, rfl⟩
abbrev main_call0_call0_call0_call0_v48 : Ref sig .tc := ⟨.hbm, 102, rfl⟩
abbrev main_call0_call0_call0_call0_v49 : Ref sig .tc := ⟨.hbm, 103, rfl⟩
abbrev main_call0_call0_call0_call0_c_12 : Ref sig .tc := ⟨.hbm, 104, rfl⟩
abbrev main_call0_call0_call0_call0_v50 : Ref sig .tc := ⟨.hbm, 105, rfl⟩
abbrev main_call0_call0_call0_call0_v51 : Ref sig .tc := ⟨.hbm, 106, rfl⟩
abbrev main_call0_call0_call0_call0_v52 : Ref sig .tc := ⟨.hbm, 107, rfl⟩
abbrev main_call0_call0_call0_call0_v53 : Ref sig .tc := ⟨.hbm, 108, rfl⟩
abbrev main_call0_call0_call0_call0_v54 : Ref sig .tc := ⟨.hbm, 109, rfl⟩
abbrev main_call0_call0_call0_call0_c_13 : Ref sig .tc := ⟨.hbm, 110, rfl⟩
abbrev main_call0_call0_call0_call0_v55 : Ref sig .tc := ⟨.hbm, 111, rfl⟩
abbrev main_call0_call0_call0_call0_v56 : Ref sig .tc := ⟨.hbm, 112, rfl⟩
abbrev main_call0_call0_call0_call0_c_14 : Ref sig .tc := ⟨.hbm, 113, rfl⟩
abbrev main_call0_call0_call0_call0_v57 : Ref sig .tc := ⟨.hbm, 114, rfl⟩
abbrev main_call0_call0_call0_call0_v58 : Ref sig .tc := ⟨.hbm, 115, rfl⟩
abbrev main_call0_call0_call0_call0_v59 : Ref sig .tc := ⟨.hbm, 116, rfl⟩
abbrev main_call0_call0_call0_call0_v60 : Ref sig .tc := ⟨.hbm, 117, rfl⟩
abbrev main_call0_call0_call0_call0_v61 : Ref sig .tc := ⟨.hbm, 118, rfl⟩
abbrev main_call0_call0_call0_call0_c_15 : Ref sig .tc := ⟨.hbm, 119, rfl⟩
abbrev main_call0_call0_call0_call0_v62 : Ref sig .tc := ⟨.hbm, 120, rfl⟩
abbrev main_call0_call0_call0_call0_v63 : Ref sig .tc := ⟨.hbm, 121, rfl⟩
abbrev main_call0_call0_call0_call0_c_16 : Ref sig .tc := ⟨.hbm, 122, rfl⟩
abbrev main_call0_call0_call0_call0_v64 : Ref sig .tc := ⟨.hbm, 123, rfl⟩
abbrev main_call0_call0_call0_call0_v65 : Ref sig .tc := ⟨.hbm, 124, rfl⟩
abbrev main_call0_call0_call0_call0_v66 : Ref sig .tc := ⟨.hbm, 125, rfl⟩
abbrev main_call0_call0_call0_call0_v67 : Ref sig .tc := ⟨.hbm, 126, rfl⟩
abbrev main_call0_call0_call0_call0_v68 : Ref sig .tc := ⟨.hbm, 127, rfl⟩
abbrev main_call0_call0_call0_call0_v69 : Ref sig .tc := ⟨.hbm, 128, rfl⟩
abbrev main_call0_call0_call0_call0_v70 : Ref sig .tc := ⟨.hbm, 129, rfl⟩
abbrev main_call0_call0_call0_call0_v71 : Ref sig .tc := ⟨.hbm, 130, rfl⟩
abbrev main_call0_call0_call0_call0_c_17 : Ref sig .tc := ⟨.hbm, 131, rfl⟩
abbrev main_call0_call0_call0_call0_v72 : Ref sig .tc := ⟨.hbm, 132, rfl⟩
abbrev main_call0_call0_call0_call0_v73 : Ref sig .tc := ⟨.hbm, 133, rfl⟩
abbrev main_call0_call0_call0_call0_v74 : Ref sig .tc := ⟨.hbm, 134, rfl⟩
abbrev main_call0_call0_call0_call0_c_18 : Ref sig .tc := ⟨.hbm, 135, rfl⟩
abbrev main_call0_call0_call0_call0_v75 : Ref sig .tc := ⟨.hbm, 136, rfl⟩
abbrev main_call0_call0_call0_call0_v76 : Ref sig .tc := ⟨.hbm, 137, rfl⟩
abbrev main_call0_call0_call0_call0_c_19 : Ref sig .tc := ⟨.hbm, 138, rfl⟩
abbrev main_call0_call0_call0_call0_v77 : Ref sig .tc := ⟨.hbm, 139, rfl⟩
abbrev main_call0_call0_call0_call0_v78 : Ref sig .tc := ⟨.hbm, 140, rfl⟩
abbrev main_call0_call0_call0_call0_v79 : Ref sig .tc := ⟨.hbm, 141, rfl⟩
abbrev main_call0_call0_call0_call0_v80 : Ref sig .tc := ⟨.hbm, 142, rfl⟩
abbrev main_call0_call0_call0_call0_v81 : Ref sig .tc := ⟨.hbm, 143, rfl⟩
abbrev main_call0_call0_call0_call0_c_20 : Ref sig .tc := ⟨.hbm, 144, rfl⟩
abbrev main_call0_call0_call0_call0_v82 : Ref sig .tc := ⟨.hbm, 145, rfl⟩
abbrev main_call0_call0_call0_call0_v83 : Ref sig .tc := ⟨.hbm, 146, rfl⟩
abbrev main_call0_call0_call0_call0_c_21 : Ref sig .tc := ⟨.hbm, 147, rfl⟩
abbrev main_call0_call0_call0_call0_v84 : Ref sig .tc := ⟨.hbm, 148, rfl⟩
abbrev main_call0_call0_call0_call0_v85 : Ref sig .tc := ⟨.hbm, 149, rfl⟩
abbrev main_call0_call0_call0_call0_v86 : Ref sig .tc := ⟨.hbm, 150, rfl⟩
abbrev main_call0_call0_call0_call0_v87 : Ref sig .tc := ⟨.hbm, 151, rfl⟩
abbrev main_call0_call0_call0_call0_v88 : Ref sig .tc := ⟨.hbm, 152, rfl⟩
abbrev main_call0_call0_call0_call0_c_22 : Ref sig .tc := ⟨.hbm, 153, rfl⟩
abbrev main_call0_call0_call0_call0_v89 : Ref sig .tc := ⟨.hbm, 154, rfl⟩
abbrev main_call0_call0_call0_call0_v90 : Ref sig .tc := ⟨.hbm, 155, rfl⟩
abbrev main_call0_call0_call0_call0_c_23 : Ref sig .tc := ⟨.hbm, 156, rfl⟩
abbrev main_call0_call0_call0_call0_v91 : Ref sig .tc := ⟨.hbm, 157, rfl⟩
abbrev main_call0_call0_call0_call0_v92 : Ref sig .tc := ⟨.hbm, 158, rfl⟩
abbrev main_call0_call0_call0_call0_v93 : Ref sig .tc := ⟨.hbm, 159, rfl⟩
abbrev main_call0_call0_call0_call0_v94 : Ref sig .tc := ⟨.hbm, 160, rfl⟩
abbrev main_call0_call0_call0_call0_v95 : Ref sig .tc := ⟨.hbm, 161, rfl⟩
abbrev main_call0_call0_call0_call0_c_24 : Ref sig .tc := ⟨.hbm, 162, rfl⟩
abbrev main_call0_call0_call0_call0_v96 : Ref sig .tc := ⟨.hbm, 163, rfl⟩
abbrev main_call0_call0_call0_call0_v97 : Ref sig .tc := ⟨.hbm, 164, rfl⟩
abbrev main_call0_call0_call0_call0_c_25 : Ref sig .tc := ⟨.hbm, 165, rfl⟩
abbrev main_call0_call0_call0_call0_v98 : Ref sig .tc := ⟨.hbm, 166, rfl⟩
abbrev main_call0_call0_call0_call0_v99 : Ref sig .tc := ⟨.hbm, 167, rfl⟩
abbrev main_call0_call0_call0_call0_v100 : Ref sig .tc := ⟨.hbm, 168, rfl⟩
abbrev main_call0_call0_call0_call0_v101 : Ref sig .tc := ⟨.hbm, 169, rfl⟩
abbrev main_call0_call0_call0_call0_v102 : Ref sig .tc := ⟨.hbm, 170, rfl⟩
abbrev main_call0_call0_call0_call0_v103 : Ref sig .tc := ⟨.hbm, 171, rfl⟩
abbrev main_call0_call0_call0_call0_v104 : Ref sig .tc := ⟨.hbm, 172, rfl⟩
abbrev main_call0_call0_call0_call0_v105 : Ref sig .tc := ⟨.hbm, 173, rfl⟩
abbrev main_call0_call0_call0_call0_c_26 : Ref sig .tc := ⟨.hbm, 174, rfl⟩
abbrev main_call0_call0_call0_call0_v106 : Ref sig .tc := ⟨.hbm, 175, rfl⟩
abbrev main_call0_call0_call0_call0_v107 : Ref sig .tc := ⟨.hbm, 176, rfl⟩
abbrev main_call0_call0_call0_call0_v108 : Ref sig .tc := ⟨.hbm, 177, rfl⟩
abbrev main_call0_call0_call0_call0_c_27 : Ref sig .tc := ⟨.hbm, 178, rfl⟩
abbrev main_call0_call0_call0_call0_v109 : Ref sig .tc := ⟨.hbm, 179, rfl⟩
abbrev main_call0_call0_call0_call0_v110 : Ref sig .tc := ⟨.hbm, 180, rfl⟩
abbrev main_call0_call0_call0_call0_c_28 : Ref sig .tc := ⟨.hbm, 181, rfl⟩
abbrev main_call0_call0_call0_call0_v111 : Ref sig .tc := ⟨.hbm, 182, rfl⟩
abbrev main_call0_call0_call0_call0_v112 : Ref sig .tc := ⟨.hbm, 183, rfl⟩
abbrev main_call0_call0_call0_call0_v113 : Ref sig .tc := ⟨.hbm, 184, rfl⟩
abbrev main_call0_call0_call0_call0_v114 : Ref sig .tc := ⟨.hbm, 185, rfl⟩
abbrev main_call0_call0_call0_call0_v115 : Ref sig .tc := ⟨.hbm, 186, rfl⟩
abbrev main_call0_call0_call0_call0_c_29 : Ref sig .tc := ⟨.hbm, 187, rfl⟩
abbrev main_call0_call0_call0_call0_v116 : Ref sig .tc := ⟨.hbm, 188, rfl⟩
abbrev main_call0_call0_call0_call0_v117 : Ref sig .tc := ⟨.hbm, 189, rfl⟩
abbrev main_call0_call0_call0_call0_c_30 : Ref sig .tc := ⟨.hbm, 190, rfl⟩
abbrev main_call0_call0_call0_call0_v118 : Ref sig .tc := ⟨.hbm, 191, rfl⟩
abbrev main_call0_call0_call0_call0_v119 : Ref sig .tc := ⟨.hbm, 192, rfl⟩
abbrev main_call0_call0_call0_call0_v120 : Ref sig .tc := ⟨.hbm, 193, rfl⟩
abbrev main_call0_call0_call0_call0_v121 : Ref sig .tc := ⟨.hbm, 194, rfl⟩
abbrev main_call0_call0_call0_call0_v122 : Ref sig .tc := ⟨.hbm, 195, rfl⟩
abbrev main_call0_call0_call0_call0_c_31 : Ref sig .tc := ⟨.hbm, 196, rfl⟩
abbrev main_call0_call0_call0_call0_v123 : Ref sig .tc := ⟨.hbm, 197, rfl⟩
abbrev main_call0_call0_call0_call0_v124 : Ref sig .tc := ⟨.hbm, 198, rfl⟩
abbrev main_call0_call0_call0_call0_c_32 : Ref sig .tc := ⟨.hbm, 199, rfl⟩
abbrev main_call0_call0_call0_call0_v125 : Ref sig .tc := ⟨.hbm, 200, rfl⟩
abbrev main_call0_call0_call0_call0_v126 : Ref sig .tc := ⟨.hbm, 201, rfl⟩
abbrev main_call0_call0_call0_call0_v127 : Ref sig .tc := ⟨.hbm, 202, rfl⟩
abbrev main_call0_call0_call0_call0_v128 : Ref sig .tc := ⟨.hbm, 203, rfl⟩
abbrev main_call0_call0_call0_call0_v129 : Ref sig .tc := ⟨.hbm, 204, rfl⟩
abbrev main_call0_call0_call0_call0_c_33 : Ref sig .tc := ⟨.hbm, 205, rfl⟩
abbrev main_call0_call0_call0_call0_v130 : Ref sig .tc := ⟨.hbm, 206, rfl⟩
abbrev main_call0_call0_call0_call0_v131 : Ref sig .tc := ⟨.hbm, 207, rfl⟩
abbrev main_call0_call0_call0_call0_c_34 : Ref sig .tc := ⟨.hbm, 208, rfl⟩
abbrev main_call0_call0_call0_call0_v132 : Ref sig .tc := ⟨.hbm, 209, rfl⟩
abbrev main_call0_call0_call0_call0_v133 : Ref sig .tc := ⟨.hbm, 210, rfl⟩
abbrev main_call0_call0_call0_call0_v134 : Ref sig .tc := ⟨.hbm, 211, rfl⟩
abbrev main_call0_call0_call0_call0_v135 : Ref sig .tc := ⟨.hbm, 212, rfl⟩
abbrev main_call0_call0_call0_call0_v136 : Ref sig .tc := ⟨.hbm, 213, rfl⟩
abbrev main_call0_call0_call0_call0_v137 : Ref sig .tc := ⟨.hbm, 214, rfl⟩
abbrev main_call0_call0_call0_call0_v138 : Ref sig .tc := ⟨.hbm, 215, rfl⟩
abbrev main_call0_call0_call0_call0_v139 : Ref sig .tc := ⟨.hbm, 216, rfl⟩
abbrev main_call0_call0_call0_call0_c_35 : Ref sig .tc := ⟨.hbm, 217, rfl⟩
abbrev main_call0_call0_call0_call0_v140 : Ref sig .tc := ⟨.hbm, 218, rfl⟩
abbrev main_call0_call0_call0_call0_v141 : Ref sig .tc := ⟨.hbm, 219, rfl⟩
abbrev main_call0_call0_call0_call0_v142 : Ref sig .tc := ⟨.hbm, 220, rfl⟩
abbrev main_call0_call0_call0_call0_c_36 : Ref sig .tc := ⟨.hbm, 221, rfl⟩
abbrev main_call0_call0_call0_call0_v143 : Ref sig .tc := ⟨.hbm, 222, rfl⟩
abbrev main_call0_call0_call0_call0_v144 : Ref sig .tc := ⟨.hbm, 223, rfl⟩
abbrev main_call0_call0_call0_call0_c_37 : Ref sig .tc := ⟨.hbm, 224, rfl⟩
abbrev main_call0_call0_call0_call0_v145 : Ref sig .tc := ⟨.hbm, 225, rfl⟩
abbrev main_call0_call0_call0_call0_v146 : Ref sig .tc := ⟨.hbm, 226, rfl⟩
abbrev main_call0_call0_call0_call0_v147 : Ref sig .tc := ⟨.hbm, 227, rfl⟩
abbrev main_call0_call0_call0_call0_v148 : Ref sig .tc := ⟨.hbm, 228, rfl⟩
abbrev main_call0_call0_call0_call0_v149 : Ref sig .tc := ⟨.hbm, 229, rfl⟩
abbrev main_call0_call0_call0_call0_c_38 : Ref sig .tc := ⟨.hbm, 230, rfl⟩
abbrev main_call0_call0_call0_call0_v150 : Ref sig .tc := ⟨.hbm, 231, rfl⟩
abbrev main_call0_call0_call0_call0_v151 : Ref sig .tc := ⟨.hbm, 232, rfl⟩
abbrev main_call0_call0_call0_call0_c_39 : Ref sig .tc := ⟨.hbm, 233, rfl⟩
abbrev main_call0_call0_call0_call0_v152 : Ref sig .tc := ⟨.hbm, 234, rfl⟩
abbrev main_call0_call0_call0_call0_v153 : Ref sig .tc := ⟨.hbm, 235, rfl⟩
abbrev main_call0_call0_call0_call0_v154 : Ref sig .tc := ⟨.hbm, 236, rfl⟩
abbrev main_call0_call0_call0_call0_v155 : Ref sig .tc := ⟨.hbm, 237, rfl⟩
abbrev main_call0_call0_call0_call0_v156 : Ref sig .tc := ⟨.hbm, 238, rfl⟩
abbrev main_call0_call0_call0_call0_c_40 : Ref sig .tc := ⟨.hbm, 239, rfl⟩
abbrev main_call0_call0_call0_call0_v157 : Ref sig .tc := ⟨.hbm, 240, rfl⟩
abbrev main_call0_call0_call0_call0_v158 : Ref sig .tc := ⟨.hbm, 241, rfl⟩
abbrev main_call0_call0_call0_call0_c_41 : Ref sig .tc := ⟨.hbm, 242, rfl⟩
abbrev main_call0_call0_call0_call0_v159 : Ref sig .tc := ⟨.hbm, 243, rfl⟩
abbrev main_call0_call0_call0_call0_v160 : Ref sig .tc := ⟨.hbm, 244, rfl⟩
abbrev main_call0_call0_call0_call0_v161 : Ref sig .tc := ⟨.hbm, 245, rfl⟩
abbrev main_call0_call0_call0_call0_v162 : Ref sig .tc := ⟨.hbm, 246, rfl⟩
abbrev main_call0_call0_call0_call0_v163 : Ref sig .tc := ⟨.hbm, 247, rfl⟩
abbrev main_call0_call0_call0_call0_c_42 : Ref sig .tc := ⟨.hbm, 248, rfl⟩
abbrev main_call0_call0_call0_call0_v164 : Ref sig .tc := ⟨.hbm, 249, rfl⟩
abbrev main_call0_call0_call0_call0_v165 : Ref sig .tc := ⟨.hbm, 250, rfl⟩
abbrev main_call0_call0_call0_call0_c_43 : Ref sig .tc := ⟨.hbm, 251, rfl⟩
abbrev main_call0_call0_call0_call0_v166 : Ref sig .tc := ⟨.hbm, 252, rfl⟩
abbrev main_call0_call0_call0_call0_v167 : Ref sig .tc := ⟨.hbm, 253, rfl⟩
abbrev main_call0_call0_call0_call0_v168 : Ref sig .tc := ⟨.hbm, 254, rfl⟩
abbrev main_call0_call0_call0_call0_v169 : Ref sig .tc := ⟨.hbm, 255, rfl⟩
abbrev main_call0_call0_call0_call0_v170 : Ref sig .tc := ⟨.hbm, 256, rfl⟩
abbrev main_call0_call0_call0_v18_0 : Ref sig .tc := ⟨.hbm, 257, rfl⟩
abbrev main_call0_call0_call0_call0_v172 : Ref sig .tc := ⟨.hbm, 258, rfl⟩
abbrev main_call0_call0_call0_call0_v173 : Ref sig .tc := ⟨.hbm, 259, rfl⟩
abbrev main_call0_call0_call0_call0_c_44 : Ref sig .tc := ⟨.hbm, 260, rfl⟩
abbrev main_call0_call0_call0_call0_v174 : Ref sig .tc := ⟨.hbm, 261, rfl⟩
abbrev main_call0_call0_call0_v18_1 : Ref sig .tc := ⟨.hbm, 262, rfl⟩
abbrev main_call0_call0_call0_v19 : Ref sig .tc := ⟨.hbm, 263, rfl⟩
abbrev main_call0_call0_call0_c_2 : Ref sig .tc := ⟨.hbm, 264, rfl⟩
abbrev main_call0_call0_call0_v20 : Ref sig .tc := ⟨.hbm, 265, rfl⟩
abbrev main_call0_call0_call0_v21 : Ref sig .tc := ⟨.hbm, 266, rfl⟩
abbrev main_call0_call0_call0_c_3 : Ref sig .tc := ⟨.hbm, 267, rfl⟩
abbrev main_call0_call0_call0_v22 : Ref sig .tc := ⟨.hbm, 268, rfl⟩
abbrev main_call0_call0_call0_v23 : Ref sig .tc := ⟨.hbm, 269, rfl⟩
abbrev main_call0_call0_call0_v24 : Ref sig .tc := ⟨.hbm, 270, rfl⟩
abbrev main_call0_call0_call0_cst : Ref sig .tc := ⟨.hbm, 271, rfl⟩
abbrev main_call0_call0_call0_v25 : Ref sig .tc := ⟨.hbm, 272, rfl⟩
abbrev main_call0_call0_call0_v26 : Ref sig .tc := ⟨.hbm, 273, rfl⟩
abbrev main_call0_call0_call0_v27 : Ref sig .tc := ⟨.hbm, 274, rfl⟩
abbrev main_call0_call0_call0_v28 : Ref sig .tc := ⟨.hbm, 275, rfl⟩
abbrev main_call0_call0_call0_v29 : Ref sig .tc := ⟨.hbm, 276, rfl⟩
abbrev main_call0_call0_call0_v30 : Ref sig .tc := ⟨.hbm, 277, rfl⟩
abbrev main_call0_call0_call0_v31 : Ref sig .tc := ⟨.hbm, 278, rfl⟩
abbrev main_call0_call0_call0_v32 : Ref sig .tc := ⟨.hbm, 279, rfl⟩
abbrev main_call0_call0_v0 : Ref sig .tc := ⟨.hbm, 280, rfl⟩
abbrev main_call0_call0_v1 : Ref sig .tc := ⟨.hbm, 281, rfl⟩
abbrev main_call0_call0_v2 : Ref sig .tc := ⟨.hbm, 282, rfl⟩
abbrev main_call0_call0_v3 : Ref sig .tc := ⟨.hbm, 283, rfl⟩
abbrev main_call0_v7 : Ref sig .tc := ⟨.hbm, 284, rfl⟩
abbrev main_v0 : Ref sig .tc := ⟨.hbm, 285, rfl⟩
abbrev main_call1_v1 : Ref sig .tc := ⟨.hbm, 286, rfl⟩
abbrev main_call1_v2 : Ref sig .tc := ⟨.hbm, 287, rfl⟩
abbrev main_call1_v3_0 : Ref sig .tc := ⟨.hbm, 288, rfl⟩
abbrev main_call1_v3_1 : Ref sig .tc := ⟨.hbm, 289, rfl⟩
abbrev main_call1_v3_2 : Ref sig .tc := ⟨.hbm, 290, rfl⟩
abbrev main_call1_v3_3 : Ref sig .tc := ⟨.hbm, 291, rfl⟩
abbrev main_v1_4 : Ref sig .tc := ⟨.hbm, 292, rfl⟩
abbrev main_call1_v3_5 : Ref sig .tc := ⟨.hbm, 293, rfl⟩
abbrev main_call1_v3_6 : Ref sig .tc := ⟨.hbm, 294, rfl⟩
abbrev main_v1_0 : Ref sig .tc := ⟨.hbm, 295, rfl⟩
abbrev main_v1_1 : Ref sig .tc := ⟨.hbm, 296, rfl⟩
abbrev main_v1_2 : Ref sig .tc := ⟨.hbm, 297, rfl⟩
abbrev main_v1_3 : Ref sig .tc := ⟨.hbm, 298, rfl⟩
abbrev main_v1_5 : Ref sig .tc := ⟨.hbm, 299, rfl⟩
abbrev main_v1_6 : Ref sig .tc := ⟨.hbm, 300, rfl⟩
abbrev main_call1_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_call1_v0.idx], fun | 0 => main_call1_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "log2" => some ((Real.log 2 : ℝ) : EReal)
  | _ => none
-- ==== ReferenceIdeal.lean ====
abbrev S_ : Shape := ⟨0, ![]⟩
abbrev S1024x64 : Shape := ⟨2, ![1024, 64]⟩
abbrev S1024x64x128 : Shape := ⟨3, ![1024, 64, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1024x64x64 : Shape := ⟨3, ![1024, 64, 64]⟩
abbrev S1024x64x1 : Shape := ⟨3, ![1024, 64, 1]⟩
abbrev S1024x1x64 : Shape := ⟨3, ![1024, 1, 64]⟩
abbrev S64x64 : Shape := ⟨2, ![64, 64]⟩
abbrev S1x64x64 : Shape := ⟨3, ![1, 64, 64]⟩
abbrev S1024x4096 : Shape := ⟨2, ![1024, 4096]⟩
abbrev S1 : Shape := ⟨1, ![1]⟩
abbrev S2 : Shape := ⟨1, ![2]⟩
abbrev S1x1 : Shape := ⟨2, ![1, 1]⟩
abbrev S1024 : Shape := ⟨1, ![1024]⟩
abbrev S1024x1 : Shape := ⟨2, ![1024, 1]⟩
abbrev S1024x2 : Shape := ⟨2, ![1024, 2]⟩
abbrev S1024x128 : Shape := ⟨2, ![1024, 128]⟩
abbrev S1024x256 : Shape := ⟨2, ![1024, 256]⟩
abbrev S1x256 : Shape := ⟨2, ![1, 256]⟩
abbrev S1x128 : Shape := ⟨2, ![1, 128]⟩
abbrev S1024x3 : Shape := ⟨2, ![1024, 3]⟩
abbrev S1024x1x1 : Shape := ⟨3, ![1024, 1, 1]⟩

abbrev nBuf : Space → Nat
  | .hbm => 543
  | .vmem => 0
  | .smem => 0
  | _ => 0

abbrev hbmTy0_0 (i : Nat) : BufTy := match i % 128 with
  | 0 => ⟨S_, .i32⟩
  | 1 => ⟨S1024x64, .i32⟩
  | 2 => ⟨S1024x64x128, .f32⟩
  | 3 => ⟨S_, .i1⟩
  | 4 => ⟨S256x256, .f32⟩
  | 5 => ⟨S256, .f32⟩
  | 6 => ⟨S256x128, .f32⟩
  | 7 => ⟨S128, .f32⟩
  | 8 => ⟨S1024x64x128, .f32⟩
  | 9 => ⟨S_, .f32⟩
  | 10 => ⟨S1024x64, .f32⟩
  | 11 => ⟨S1024x64x64, .f32⟩
  | 12 => ⟨S1024x64x1, .f32⟩
  | 13 => ⟨S1024x1x64, .f32⟩
  | 14 => ⟨S1024x64x64, .f32⟩
  | 15 => ⟨S1024x64x64, .f32⟩
  | 16 => ⟨S1024x64x64, .f32⟩
  | 17 => ⟨S_, .f32⟩
  | 18 => ⟨S1024x64x64, .f32⟩
  | 19 => ⟨S1024x64x64, .f32⟩
  | 20 => ⟨S1024x64x64, .f32⟩
  | 21 => ⟨S_, .f32⟩
  | 22 => ⟨S1024x64x64, .f32⟩
  | 23 => ⟨S1024x64x64, .f32⟩
  | 24 => ⟨S1024x64x64, .f32⟩
  | 25 => ⟨S1024x64x64, .f32⟩
  | 26 => ⟨S_, .f32⟩
  | 27 => ⟨S1024x64x64, .f32⟩
  | 28 => ⟨S1024x64x64, .f32⟩
  | 29 => ⟨S64x64, .i32⟩
  | 30 => ⟨S64x64, .i32⟩
  | 31 => ⟨S_, .i32⟩
  | 32 => ⟨S64x64, .i32⟩
  | 33 => ⟨S64x64, .i32⟩
  | 34 => ⟨S64x64, .i1⟩
  | 35 => ⟨S1x64x64, .i1⟩
  | 36 => ⟨S_, .f32⟩
  | 37 => ⟨S_, .f32⟩
  | 38 => ⟨S1024x64x64, .i1⟩
  | 39 => ⟨S1024x64x64, .f32⟩
  | 40 => ⟨S1024x64x64, .f32⟩
  | 41 => ⟨S1024x4096, .f32⟩
  | 42 => ⟨S_, .i32⟩
  | 43 => ⟨S_, .i32⟩
  | 44 => ⟨S_, .i32⟩
  | 45 => ⟨S_, .i32⟩
  | 46 => ⟨S1, .i32⟩
  | 47 => ⟨S_, .i32⟩
  | 48 => ⟨S_, .i32⟩
  | 49 => ⟨S_, .i32⟩
  | 50 => ⟨S1, .i32⟩
  | 51 => ⟨S2, .i32⟩
  | 52 => ⟨S_, .f32⟩
  | 53 => ⟨S_, .f32⟩
  | 54 => ⟨S_, .f32⟩
  | 55 => ⟨S1x1, .f32⟩
  | 56 => ⟨S1x1, .f32⟩
  | 57 => ⟨S1, .i32⟩
  | 58 => ⟨S_, .i32⟩
  | 59 => ⟨S1, .i32⟩
  | 60 => ⟨S_, .i32⟩
  | 61 => ⟨S1024x4096, .i64⟩
  | 62 => ⟨S1024x4096, .i64⟩
  | 63 => ⟨S_, .i64⟩
  | 64 => ⟨S1024x4096, .i64⟩
  | 65 => ⟨S1024x4096, .i64⟩
  | 66 => ⟨S_, .i64⟩
  | 67 => ⟨S1024x4096, .i64⟩
  | 68 => ⟨S1024x4096, .i64⟩
  | 69 => ⟨S1024x4096, .i64⟩
  | 70 => ⟨S_, .i64⟩
  | 71 => ⟨S1024x4096, .i64⟩
  | 72 => ⟨S1024x4096, .i64⟩
  | 73 => ⟨S1024x4096, .i32⟩
  | 74 => ⟨S1024x4096, .i32⟩
  | 75 => ⟨S_, .i32⟩
  | 76 => ⟨S_, .i32⟩
  | 77 => ⟨S_, .i32⟩
  | 78 => ⟨S1024x4096, .i32⟩
  | 79 => ⟨S1024x4096, .i32⟩
  | 80 => ⟨S1024x4096, .i32⟩
  | 81 => ⟨S1024x4096, .i32⟩
  | 82 => ⟨S1024x4096, .i32⟩
  | 83 => ⟨S_, .i32⟩
  | 84 => ⟨S1024x4096, .i32⟩
  | 85 => ⟨S1024x4096, .i32⟩
  | 86 => ⟨S_, .i32⟩
  | 87 => ⟨S1024x4096, .i32⟩
  | 88 => ⟨S1024x4096, .i32⟩
  | 89 => ⟨S1024x4096, .i32⟩
  | 90 => ⟨S1024x4096, .i32⟩
  | 91 => ⟨S1024x4096, .i32⟩
  | 92 => ⟨S_, .i32⟩
  | 93 => ⟨S1024x4096, .i32⟩
  | 94 => ⟨S1024x4096, .i32⟩
  | 95 => ⟨S_, .i32⟩
  | 96 => ⟨S1024x4096, .i32⟩
  | 97 => ⟨S1024x4096, .i32⟩
  | 98 => ⟨S1024x4096, .i32⟩
  | 99 => ⟨S1024x4096, .i32⟩
  | 100 => ⟨S1024x4096, .i32⟩
  | 101 => ⟨S_, .i32⟩
  | 102 => ⟨S1024x4096, .i32⟩
  | 103 => ⟨S1024x4096, .i32⟩
  | 104 => ⟨S_, .i32⟩
  | 105 => ⟨S1024x4096, .i32⟩
  | 106 => ⟨S1024x4096, .i32⟩
  | 107 => ⟨S1024x4096, .i32⟩
  | 108 => ⟨S1024x4096, .i32⟩
  | 109 => ⟨S1024x4096, .i32⟩
  | 110 => ⟨S_, .i32⟩
  | 111 => ⟨S1024x4096, .i32⟩
  | 112 => ⟨S1024x4096, .i32⟩
  | 113 => ⟨S_, .i32⟩
  | 114 => ⟨S1024x4096, .i32⟩
  | 115 => ⟨S1024x4096, .i32⟩
  | 116 => ⟨S1024x4096, .i32⟩
  | 117 => ⟨S1024x4096, .i32⟩
  | 118 => ⟨S1024x4096, .i32⟩
  | 119 => ⟨S1024x4096, .i32⟩
  | 120 => ⟨S1024x4096, .i32⟩
  | 121 => ⟨S1024x4096, .i32⟩
  | 122 => ⟨S_, .i32⟩
  | 123 => ⟨S1024x4096, .i32⟩
  | 124 => ⟨S1024x4096, .i32⟩
  | 125 => ⟨S1024x4096, .i32⟩
  | 126 => ⟨S_, .i32⟩
  | 127 => ⟨S1024x4096, .i32⟩
  | _ => ⟨S_, .i32⟩

abbrev hbmTy0_1 (i : Nat) : BufTy := match i % 128 with
  | 0 => ⟨S1024x4096, .i32⟩
  | 1 => ⟨S_, .i32⟩
  | 2 => ⟨S1024x4096, .i32⟩
  | 3 => ⟨S1024x4096, .i32⟩
  | 4 => ⟨S1024x4096, .i32⟩
  | 5 => ⟨S1024x4096, .i32⟩
  | 6 => ⟨S1024x4096, .i32⟩
  | 7 => ⟨S_, .i32⟩
  | 8 => ⟨S1024x4096, .i32⟩
  | 9 => ⟨S1024x4096, .i32⟩
  | 10 => ⟨S_, .i32⟩
  | 11 => ⟨S1024x4096, .i32⟩
  | 12 => ⟨S1024x4096, .i32⟩
  | 13 => ⟨S1024x4096, .i32⟩
  | 14 => ⟨S1024x4096, .i32⟩
  | 15 => ⟨S1024x4096, .i32⟩
  | 16 => ⟨S_, .i32⟩
  | 17 => ⟨S1024x4096, .i32⟩
  | 18 => ⟨S1024x4096, .i32⟩
  | 19 => ⟨S_, .i32⟩
  | 20 => ⟨S1024x4096, .i32⟩
  | 21 => ⟨S1024x4096, .i32⟩
  | 22 => ⟨S1024x4096, .i32⟩
  | 23 => ⟨S1024x4096, .i32⟩
  | 24 => ⟨S1024x4096, .i32⟩
  | 25 => ⟨S_, .i32⟩
  | 26 => ⟨S1024x4096, .i32⟩
  | 27 => ⟨S1024x4096, .i32⟩
  | 28 => ⟨S_, .i32⟩
  | 29 => ⟨S1024x4096, .i32⟩
  | 30 => ⟨S1024x4096, .i32⟩
  | 31 => ⟨S1024x4096, .i32⟩
  | 32 => ⟨S1024x4096, .i32⟩
  | 33 => ⟨S1024x4096, .i32⟩
  | 34 => ⟨S1024x4096, .i32⟩
  | 35 => ⟨S1024x4096, .i32⟩
  | 36 => ⟨S1024x4096, .i32⟩
  | 37 => ⟨S_, .i32⟩
  | 38 => ⟨S1024x4096, .i32⟩
  | 39 => ⟨S1024x4096, .i32⟩
  | 40 => ⟨S1024x4096, .i32⟩
  | 41 => ⟨S_, .i32⟩
  | 42 => ⟨S1024x4096, .i32⟩
  | 43 => ⟨S1024x4096, .i32⟩
  | 44 => ⟨S_, .i32⟩
  | 45 => ⟨S1024x4096, .i32⟩
  | 46 => ⟨S1024x4096, .i32⟩
  | 47 => ⟨S1024x4096, .i32⟩
  | 48 => ⟨S1024x4096, .i32⟩
  | 49 => ⟨S1024x4096, .i32⟩
  | 50 => ⟨S_, .i32⟩
  | 51 => ⟨S1024x4096, .i32⟩
  | 52 => ⟨S1024x4096, .i32⟩
  | 53 => ⟨S_, .i32⟩
  | 54 => ⟨S1024x4096, .i32⟩
  | 55 => ⟨S1024x4096, .i32⟩
  | 56 => ⟨S1024x4096, .i32⟩
  | 57 => ⟨S1024x4096, .i32⟩
  | 58 => ⟨S1024x4096, .i32⟩
  | 59 => ⟨S_, .i32⟩
  | 60 => ⟨S1024x4096, .i32⟩
  | 61 => ⟨S1024x4096, .i32⟩
  | 62 => ⟨S_, .i32⟩
  | 63 => ⟨S1024x4096, .i32⟩
  | 64 => ⟨S1024x4096, .i32⟩
  | 65 => ⟨S1024x4096, .i32⟩
  | 66 => ⟨S1024x4096, .i32⟩
  | 67 => ⟨S1024x4096, .i32⟩
  | 68 => ⟨S_, .i32⟩
  | 69 => ⟨S1024x4096, .i32⟩
  | 70 => ⟨S1024x4096, .i32⟩
  | 71 => ⟨S_, .i32⟩
  | 72 => ⟨S1024x4096, .i32⟩
  | 73 => ⟨S1024x4096, .i32⟩
  | 74 => ⟨S1024x4096, .i32⟩
  | 75 => ⟨S1024x4096, .i32⟩
  | 76 => ⟨S1024x4096, .i32⟩
  | 77 => ⟨S1024x4096, .i32⟩
  | 78 => ⟨S1024x4096, .i32⟩
  | 79 => ⟨S1024x4096, .i32⟩
  | 80 => ⟨S_, .i32⟩
  | 81 => ⟨S1024x4096, .i32⟩
  | 82 => ⟨S1024x4096, .i32⟩
  | 83 => ⟨S1024x4096, .i32⟩
  | 84 => ⟨S_, .i32⟩
  | 85 => ⟨S1024x4096, .i32⟩
  | 86 => ⟨S1024x4096, .i32⟩
  | 87 => ⟨S_, .i32⟩
  | 88 => ⟨S1024x4096, .i32⟩
  | 89 => ⟨S1024x4096, .i32⟩
  | 90 => ⟨S1024x4096, .i32⟩
  | 91 => ⟨S1024x4096, .i32⟩
  | 92 => ⟨S1024x4096, .i32⟩
  | 93 => ⟨S_, .i32⟩
  | 94 => ⟨S1024x4096, .i32⟩
  | 95 => ⟨S1024x4096, .i32⟩
  | 96 => ⟨S_, .i32⟩
  | 97 => ⟨S1024x4096, .i32⟩
  | 98 => ⟨S1024x4096, .i32⟩
  | 99 => ⟨S1024x4096, .i32⟩
  | 100 => ⟨S1024x4096, .i32⟩
  | 101 => ⟨S1024x4096, .i32⟩
  | 102 => ⟨S_, .i32⟩
  | 103 => ⟨S1024x4096, .i32⟩
  | 104 => ⟨S1024x4096, .i32⟩
  | 105 => ⟨S_, .i32⟩
  | 106 => ⟨S1024x4096, .i32⟩
  | 107 => ⟨S1024x4096, .i32⟩
  | 108 => ⟨S1024x4096, .i32⟩
  | 109 => ⟨S1024x4096, .i32⟩
  | 110 => ⟨S1024x4096, .i32⟩
  | 111 => ⟨S_, .i32⟩
  | 112 => ⟨S1024x4096, .i32⟩
  | 113 => ⟨S1024x4096, .i32⟩
  | 114 => ⟨S_, .i32⟩
  | 115 => ⟨S1024x4096, .i32⟩
  | 116 => ⟨S1024x4096, .i32⟩
  | 117 => ⟨S1024x4096, .i32⟩
  | 118 => ⟨S1024x4096, .i32⟩
  | 119 => ⟨S1024x4096, .i32⟩
  | 120 => ⟨S1024x4096, .i32⟩
  | 121 => ⟨S1024x4096, .i32⟩
  | 122 => ⟨S1024x4096, .i32⟩
  | 123 => ⟨S_, .i32⟩
  | 124 => ⟨S1024x4096, .i32⟩
  | 125 => ⟨S1024x4096, .i32⟩
  | 126 => ⟨S1024x4096, .i32⟩
  | 127 => ⟨S_, .i32⟩
  | _ => ⟨S_, .i32⟩

abbrev hbmTy0_2 (i : Nat) : BufTy := match i % 128 with
  | 0 => ⟨S1024x4096, .i32⟩
  | 1 => ⟨S1024x4096, .i32⟩
  | 2 => ⟨S_, .i32⟩
  | 3 => ⟨S1024x4096, .i32⟩
  | 4 => ⟨S1024x4096, .i32⟩
  | 5 => ⟨S1024x4096, .i32⟩
  | 6 => ⟨S1024x4096, .i32⟩
  | 7 => ⟨S1024x4096, .i32⟩
  | 8 => ⟨S_, .i32⟩
  | 9 => ⟨S1024x4096, .i32⟩
  | 10 => ⟨S1024x4096, .i32⟩
  | 11 => ⟨S_, .i32⟩
  | 12 => ⟨S1024x4096, .i32⟩
  | 13 => ⟨S1024x4096, .i32⟩
  | 14 => ⟨S1024x4096, .i32⟩
  | 15 => ⟨S1024x4096, .i32⟩
  | 16 => ⟨S1024x4096, .i32⟩
  | 17 => ⟨S_, .i32⟩
  | 18 => ⟨S1024x4096, .i32⟩
  | 19 => ⟨S1024x4096, .i32⟩
  | 20 => ⟨S_, .i32⟩
  | 21 => ⟨S1024x4096, .i32⟩
  | 22 => ⟨S1024x4096, .i32⟩
  | 23 => ⟨S1024x4096, .i32⟩
  | 24 => ⟨S1024x4096, .i32⟩
  | 25 => ⟨S1024x4096, .i32⟩
  | 26 => ⟨S_, .i32⟩
  | 27 => ⟨S1024x4096, .i32⟩
  | 28 => ⟨S1024x4096, .i32⟩
  | 29 => ⟨S_, .i32⟩
  | 30 => ⟨S1024x4096, .i32⟩
  | 31 => ⟨S1024x4096, .i32⟩
  | 32 => ⟨S1024x4096, .i32⟩
  | 33 => ⟨S1024x4096, .i32⟩
  | 34 => ⟨S1024x4096, .i32⟩
  | 35 => ⟨S1024x4096, .i32⟩
  | 36 => ⟨S1024x4096, .i32⟩
  | 37 => ⟨S1024x4096, .i32⟩
  | 38 => ⟨S_, .i32⟩
  | 39 => ⟨S1024x4096, .i32⟩
  | 40 => ⟨S1024x4096, .i32⟩
  | 41 => ⟨S1024x4096, .i32⟩
  | 42 => ⟨S_, .i32⟩
  | 43 => ⟨S1024x4096, .i32⟩
  | 44 => ⟨S1024x4096, .i32⟩
  | 45 => ⟨S_, .i32⟩
  | 46 => ⟨S1024x4096, .i32⟩
  | 47 => ⟨S1024x4096, .i32⟩
  | 48 => ⟨S1024x4096, .f32⟩
  | 49 => ⟨S_, .f32⟩
  | 50 => ⟨S1024x4096, .f32⟩
  | 51 => ⟨S1024x4096, .f32⟩
  | 52 => ⟨S1x1, .f32⟩
  | 53 => ⟨S1024x4096, .f32⟩
  | 54 => ⟨S1024x4096, .f32⟩
  | 55 => ⟨S1024x4096, .f32⟩
  | 56 => ⟨S1024x4096, .f32⟩
  | 57 => ⟨S1024x4096, .f32⟩
  | 58 => ⟨S1024x4096, .f32⟩
  | 59 => ⟨S1024x4096, .f32⟩
  | 60 => ⟨S1024x4096, .f32⟩
  | 61 => ⟨S1024x4096, .f32⟩
  | 62 => ⟨S1024x4096, .f32⟩
  | 63 => ⟨S1024x4096, .f32⟩
  | 64 => ⟨S1024x4096, .i32⟩
  | 65 => ⟨S_, .f32⟩
  | 66 => ⟨S_, .i32⟩
  | 67 => ⟨S1024, .f32⟩
  | 68 => ⟨S1024, .i32⟩
  | 69 => ⟨S_, .i32⟩
  | 70 => ⟨S_, .i32⟩
  | 71 => ⟨S1024, .i32⟩
  | 72 => ⟨S1024, .i32⟩
  | 73 => ⟨S1024, .i32⟩
  | 74 => ⟨S_, .i32⟩
  | 75 => ⟨S1024, .i32⟩
  | 76 => ⟨S1024, .i1⟩
  | 77 => ⟨S1024, .i32⟩
  | 78 => ⟨S1024, .i32⟩
  | 79 => ⟨S_, .i32⟩
  | 80 => ⟨S1024, .i32⟩
  | 81 => ⟨S1024, .i1⟩
  | 82 => ⟨S1024, .i1⟩
  | 83 => ⟨S_, .i32⟩
  | 84 => ⟨S1024, .i32⟩
  | 85 => ⟨S1024, .i32⟩
  | 86 => ⟨S1024, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S1024, .i32⟩
  | 94 => ⟨S1024, .i32⟩
  | 95 => ⟨S_, .i32⟩
  | 96 => ⟨S1024, .i32⟩
  | 97 => ⟨S1024, .i1⟩
  | 98 => ⟨S_, .i32⟩
  | 99 => ⟨S1024, .i32⟩
  | 100 => ⟨S1024, .i1⟩
  | 101 => ⟨S_, .i32⟩
  | 102 => ⟨S_, .i1⟩
  | 103 => ⟨S1024, .i1⟩
  | 104 => ⟨S1024, .i1⟩
  | 105 => ⟨S1024, .i1⟩
  | 106 => ⟨S1024, .i32⟩
  | 107 => ⟨S1024, .i32⟩
  | 108 => ⟨S1024, .i32⟩
  | 109 => ⟨S1024, .i32⟩
  | 110 => ⟨S_, .i32⟩
  | 111 => ⟨S1024, .i32⟩
  | 112 => ⟨S1024, .i1⟩
  | 113 => ⟨S_, .i32⟩
  | 114 => ⟨S1024, .i32⟩
  | 115 => ⟨S1024, .i32⟩
  | 116 => ⟨S1024, .i32⟩
  | 117 => ⟨S_, .i32⟩
  | 118 => ⟨S1024, .i32⟩
  | 119 => ⟨S1024, .i1⟩
  | 120 => ⟨S_, .i32⟩
  | 121 => ⟨S1024, .i32⟩
  | 122 => ⟨S1024, .i32⟩
  | 123 => ⟨S1024, .i32⟩
  | 124 => ⟨S1024x1, .i32⟩
  | 125 => ⟨S1024x1, .i32⟩
  | 126 => ⟨S1024x2, .i32⟩
  | 127 => ⟨S1024x128, .f32⟩
  | _ => ⟨S_, .i32⟩

abbrev hbmTy0_3 (i : Nat) : BufTy := match i % 128 with
  | 0 => ⟨S_, .i32⟩
  | 1 => ⟨S1024, .i32⟩
  | 2 => ⟨S1024, .i1⟩
  | 3 => ⟨S_, .i32⟩
  | 4 => ⟨S1024, .i32⟩
  | 5 => ⟨S1024, .i32⟩
  | 6 => ⟨S1024, .i32⟩
  | 7 => ⟨S_, .i32⟩
  | 8 => ⟨S1024, .i32⟩
  | 9 => ⟨S1024, .i1⟩
  | 10 => ⟨S_, .i32⟩
  | 11 => ⟨S1024, .i32⟩
  | 12 => ⟨S1024, .i32⟩
  | 13 => ⟨S1024, .i32⟩
  | 14 => ⟨S1024x1, .i32⟩
  | 15 => ⟨S1024x1, .i32⟩
  | 16 => ⟨S1024x2, .i32⟩
  | 17 => ⟨S1024x128, .f32⟩
  | 18 => ⟨S1024x256, .f32⟩
  | 19 => ⟨S1024x256, .f32⟩
  | 20 => ⟨S1x256, .f32⟩
  | 21 => ⟨S1024x256, .f32⟩
  | 22 => ⟨S1024x256, .f32⟩
  | 23 => ⟨S_, .f32⟩
  | 24 => ⟨S1024x256, .f32⟩
  | 25 => ⟨S1024x256, .f32⟩
  | 26 => ⟨S1024x128, .f32⟩
  | 27 => ⟨S1x128, .f32⟩
  | 28 => ⟨S1024x128, .f32⟩
  | 29 => ⟨S1024x128, .f32⟩
  | 30 => ⟨S1024x128, .f32⟩
  | 31 => ⟨S1024x128, .f32⟩
  | 32 => ⟨S_, .f32⟩
  | 33 => ⟨S1024, .f32⟩
  | 34 => ⟨S_, .f32⟩
  | 35 => ⟨S1024, .f32⟩
  | 36 => ⟨S1024, .f32⟩
  | 37 => ⟨S1024, .f32⟩
  | 38 => ⟨S1024x128, .f32⟩
  | 39 => ⟨S1024x128, .f32⟩
  | 40 => ⟨S_, .f32⟩
  | 41 => ⟨S1024, .f32⟩
  | 42 => ⟨S_, .f32⟩
  | 43 => ⟨S1024, .f32⟩
  | 44 => ⟨S1024, .f32⟩
  | 45 => ⟨S1024, .f32⟩
  | 46 => ⟨S_, .i32⟩
  | 47 => ⟨S1024, .i32⟩
  | 48 => ⟨S1024, .i1⟩
  | 49 => ⟨S_, .i32⟩
  | 50 => ⟨S1024, .i32⟩
  | 51 => ⟨S1024, .i32⟩
  | 52 => ⟨S1024, .i32⟩
  | 53 => ⟨S_, .i32⟩
  | 54 => ⟨S1024, .i32⟩
  | 55 => ⟨S1024, .i1⟩
  | 56 => ⟨S_, .i32⟩
  | 57 => ⟨S1024, .i32⟩
  | 58 => ⟨S1024, .i32⟩
  | 59 => ⟨S1024, .i32⟩
  | 60 => ⟨S_, .i32⟩
  | 61 => ⟨S1024, .i32⟩
  | 62 => ⟨S1024, .i1⟩
  | 63 => ⟨S_, .i32⟩
  | 64 => ⟨S1024, .i32⟩
  | 65 => ⟨S1024, .i32⟩
  | 66 => ⟨S1024, .i32⟩
  | 67 => ⟨S1024x1, .i32⟩
  | 68 => ⟨S1024x1, .i32⟩
  | 69 => ⟨S1024x1, .i32⟩
  | 70 => ⟨S1024x3, .i32⟩
  | 71 => ⟨S1024, .f32⟩
  | 72 => ⟨S_, .f32⟩
  | 73 => ⟨S_, .f32⟩
  | 74 => ⟨S_, .f32⟩
  | 75 => ⟨S1024, .f32⟩
  | 76 => ⟨S1024, .f32⟩
  | 77 => ⟨S_, .f32⟩
  | 78 => ⟨S1024, .f32⟩
  | 79 => ⟨S1024x1x1, .f32⟩
  | 80 => ⟨S1024x1x1, .f32⟩
  | 81 => ⟨S_, .f32⟩
  | 82 => ⟨S1024x1x1, .f32⟩
  | 83 => ⟨S1024x1x1, .i1⟩
  | 84 => ⟨S_, .f32⟩
  | 85 => ⟨S1024x1x1, .f32⟩
  | 86 => ⟨S1024x1x1, .f32⟩
  | 87 => ⟨S1024x64x64, .f32⟩
  | 88 => ⟨S1024x64x64, .f32⟩
  | 89 => ⟨S1024x64x64, .f32⟩
  | 90 => ⟨S_, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S_, .f32⟩
  | 98 => ⟨S1024, .f32⟩
  | 99 => ⟨S1024, .f32⟩
  | 100 => ⟨S_, .f32⟩
  | 101 => ⟨S1024, .f32⟩
  | 102 => ⟨S1024, .f32⟩
  | 103 => ⟨S_, .i32⟩
  | 104 => ⟨S1024x64, .i32⟩
  | 105 => ⟨S1024x64, .i1⟩
  | 106 => ⟨S1024x64, .i32⟩
  | 107 => ⟨S_, .i32⟩
  | 108 => ⟨S1024, .i32⟩
  | 109 => ⟨S_, .i32⟩
  | 110 => ⟨S1024, .i32⟩
  | 111 => ⟨S1024, .i1⟩
  | 112 => ⟨S_, .i32⟩
  | 113 => ⟨S1024, .i32⟩
  | 114 => ⟨S1024, .i32⟩
  | 115 => ⟨S1024, .i32⟩
  | 116 => ⟨S_, .i32⟩
  | 117 => ⟨S1024, .i32⟩
  | 118 => ⟨S1024, .i1⟩
  | 119 => ⟨S_, .i32⟩
  | 120 => ⟨S1024, .i32⟩
  | 121 => ⟨S1024, .i32⟩
  | 122 => ⟨S1024, .i32⟩
  | 123 => ⟨S1024x1, .i32⟩
  | 124 => ⟨S1024x1, .i32⟩
  | 125 => ⟨S1024x2, .i32⟩
  | 126 => ⟨S1024, .i32⟩
  | 127 => ⟨S_, .i32⟩
  | _ => ⟨S_, .i32⟩

abbrev hbmTy0_4 (i : Nat) : BufTy := match i % 128 with
  | 0 => ⟨S1024, .i32⟩
  | 1 => ⟨S1024, .i1⟩
  | 2 => ⟨S1024, .i32⟩
  | 3 => ⟨S1024, .i32⟩
  | 4 => ⟨S_, .i32⟩
  | 5 => ⟨S1024, .i32⟩
  | 6 => ⟨S1024, .i1⟩
  | 7 => ⟨S_, .i32⟩
  | 8 => ⟨S1024, .i32⟩
  | 9 => ⟨S1024, .i32⟩
  | 10 => ⟨S1024, .i32⟩
  | 11 => ⟨S_, .i32⟩
  | 12 => ⟨S1024, .i32⟩
  | 13 => ⟨S1024, .i1⟩
  | 14 => ⟨S_, .i32⟩
  | 15 => ⟨S1024, .i32⟩
  | 16 => ⟨S1024, .i32⟩
  | 17 => ⟨S1024, .i32⟩
  | 18 => ⟨S1024x1, .i32⟩
  | 19 => ⟨S1024x1, .i32⟩
  | 20 => ⟨S1024x2, .i32⟩
  | 21 => ⟨S1024, .i32⟩
  | 22 => ⟨S_, .i32⟩
  | 23 => ⟨S1024, .i32⟩
  | 24 => ⟨S1024, .i1⟩
  | 25 => ⟨S1024, .i32⟩
  | 26 => ⟨S1024, .i32⟩
  | 27 => ⟨S1024, .i32⟩
  | 28 => ⟨S1024, .i32⟩
  | 29 => ⟨S1024, .f32⟩
  | 30 => ⟨S1024, .f32⟩
  | _ => ⟨S_, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S_, .i32⟩

abbrev bufTy : (tb : Table) → Fin (tcTables nBuf tb) → BufTy
  | .hbm, ⟨i, _⟩ => hbmTy i
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_cst : Ref sig .tc := ⟨.hbm, 52, rfl⟩
abbrev main_call1_cst_0 : Ref sig .tc := ⟨.hbm, 53, rfl⟩
abbrev main_call1_call0_v0 : Ref sig .tc := ⟨.hbm, 54, rfl⟩
abbrev main_call1_call0_v1 : Ref sig .tc := ⟨.hbm, 55, rfl⟩
abbrev main_call1_call0_v2 : Ref sig .tc := ⟨.hbm, 56, rfl⟩
abbrev main_call1_call0_v3 : Ref sig .tc := ⟨.hbm, 57, rfl⟩
abbrev main_call1_call0_v4 : Ref sig .tc := ⟨.hbm, 58, rfl⟩
abbrev main_call1_call0_v5 : Ref sig .tc := ⟨.hbm, 59, rfl⟩
abbrev main_call1_call0_v6 : Ref sig .tc := ⟨.hbm, 60, rfl⟩
abbrev main_call1_call0_v7 : Ref sig .tc := ⟨.hbm, 61, rfl⟩
abbrev main_call1_call0_v8 : Ref sig .tc := ⟨.hbm, 62, rfl⟩
abbrev main_call1_call0_c : Ref sig .tc := ⟨.hbm, 63, rfl⟩
abbrev main_call1_call0_v9 : Ref sig .tc := ⟨.hbm, 64, rfl⟩
abbrev main_call1_call0_v10 : Ref sig .tc := ⟨.hbm, 65, rfl⟩
abbrev main_call1_call0_c_0 : Ref sig .tc := ⟨.hbm, 66, rfl⟩
abbrev main_call1_call0_v11 : Ref sig .tc := ⟨.hbm, 67, rfl⟩
abbrev main_call1_call0_v12 : Ref sig .tc := ⟨.hbm, 68, rfl⟩
abbrev main_call1_call0_v13 : Ref sig .tc := ⟨.hbm, 69, rfl⟩
abbrev main_call1_call0_c_1 : Ref sig .tc := ⟨.hbm, 70, rfl⟩
abbrev main_call1_call0_v14 : Ref sig .tc := ⟨.hbm, 71, rfl⟩
abbrev main_call1_call0_v15 : Ref sig .tc := ⟨.hbm, 72, rfl⟩
abbrev main_call1_call0_v16 : Ref sig .tc := ⟨.hbm, 73, rfl⟩
abbrev main_call1_call0_v17 : Ref sig .tc := ⟨.hbm, 74, rfl⟩
abbrev main_call1_call0_call0_v0 : Ref sig .tc := ⟨.hbm, 75, rfl⟩
abbrev main_call1_call0_call0_c : Ref sig .tc := ⟨.hbm, 76, rfl⟩
abbrev main_call1_call0_call0_v1 : Ref sig .tc := ⟨.hbm, 77, rfl⟩
abbrev main_call1_call0_call0_v2 : Ref sig .tc := ⟨.hbm, 78, rfl⟩
abbrev main_call1_call0_call0_v3 : Ref sig .tc := ⟨.hbm, 79, rfl⟩
abbrev main_call1_call0_call0_v4 : Ref sig .tc := ⟨.hbm, 80, rfl⟩
abbrev main_call1_call0_call0_v5 : Ref sig .tc := ⟨.hbm, 81, rfl⟩
abbrev main_call1_call0_call0_v6 : Ref sig .tc := ⟨.hbm, 82, rfl⟩
abbrev main_call1_call0_call0_c_0 : Ref sig .tc := ⟨.hbm, 83, rfl⟩
abbrev main_call1_call0_call0_v7 : Ref sig .tc := ⟨.hbm, 84, rfl⟩
abbrev main_call1_call0_call0_v8 : Ref sig .tc := ⟨.hbm, 85, rfl⟩
abbrev main_call1_call0_call0_c_1 : Ref sig .tc := ⟨.hbm, 86, rfl⟩
abbrev main_call1_call0_call0_v9 : Ref sig .tc := ⟨.hbm, 87, rfl⟩
abbrev main_call1_call0_call0_v10 : Ref sig .tc := ⟨.hbm, 88, rfl⟩
abbrev main_call1_call0_call0_v11 : Ref sig .tc := ⟨.hbm, 89, rfl⟩
abbrev main_call1_call0_call0_v12 : Ref sig .tc := ⟨.hbm, 90, rfl⟩
abbrev main_call1_call0_call0_v13 : Ref sig .tc := ⟨.hbm, 91, rfl⟩
abbrev main_call1_call0_call0_c_2 : Ref sig .tc := ⟨.hbm, 92, rfl⟩
abbrev main_call1_call0_call0_v14 : Ref sig .tc := ⟨.hbm, 93, rfl⟩
abbrev main_call1_call0_call0_v15 : Ref sig .tc := ⟨.hbm, 94, rfl⟩
abbrev main_call1_call0_call0_c_3 : Ref sig .tc := ⟨.hbm, 95, rfl⟩
abbrev main_call1_call0_call0_v16 : Ref sig .tc := ⟨.hbm, 96, rfl⟩
abbrev main_call1_call0_call0_v17 : Ref sig .tc := ⟨.hbm, 97, rfl⟩
abbrev main_call1_call0_call0_v18 : Ref sig .tc := ⟨.hbm, 98, rfl⟩
abbrev main_call1_call0_call0_v19 : Ref sig .tc := ⟨.hbm, 99, rfl⟩
abbrev main_call1_call0_call0_v20 : Ref sig .tc := ⟨.hbm, 100, rfl⟩
abbrev main_call1_call0_call0_c_4 : Ref sig .tc := ⟨.hbm, 101, rfl⟩
abbrev main_call1_call0_call0_v21 : Ref sig .tc := ⟨.hbm, 102, rfl⟩
abbrev main_call1_call0_call0_v22 : Ref sig .tc := ⟨.hbm, 103, rfl⟩
abbrev main_call1_call0_call0_c_5 : Ref sig .tc := ⟨.hbm, 104, rfl⟩
abbrev main_call1_call0_call0_v23 : Ref sig .tc := ⟨.hbm, 105, rfl⟩
abbrev main_call1_call0_call0_v24 : Ref sig .tc := ⟨.hbm, 106, rfl⟩
abbrev main_call1_call0_call0_v25 : Ref sig .tc := ⟨.hbm, 107, rfl⟩
abbrev main_call1_call0_call0_v26 : Ref sig .tc := ⟨.hbm, 108, rfl⟩
abbrev main_call1_call0_call0_v27 : Ref sig .tc := ⟨.hbm, 109, rfl⟩
abbrev main_call1_call0_call0_c_6 : Ref sig .tc := ⟨.hbm, 110, rfl⟩
abbrev main_call1_call0_call0_v28 : Ref sig .tc := ⟨.hbm, 111, rfl⟩
abbrev main_call1_call0_call0_v29 : Ref sig .tc := ⟨.hbm, 112, rfl⟩
abbrev main_call1_call0_call0_c_7 : Ref sig .tc := ⟨.hbm, 113, rfl⟩
abbrev main_call1_call0_call0_v30 : Ref sig .tc := ⟨.hbm, 114, rfl⟩
abbrev main_call1_call0_call0_v31 : Ref sig .tc := ⟨.hbm, 115, rfl⟩
abbrev main_call1_call0_call0_v32 : Ref sig .tc := ⟨.hbm, 116, rfl⟩
abbrev main_call1_call0_call0_v33 : Ref sig .tc := ⟨.hbm, 117, rfl⟩
abbrev main_call1_call0_call0_v34 : Ref sig .tc := ⟨.hbm, 118, rfl⟩
abbrev main_call1_call0_call0_v35 : Ref sig .tc := ⟨.hbm, 119, rfl⟩
abbrev main_call1_call0_call0_v36 : Ref sig .tc := ⟨.hbm, 120, rfl⟩
abbrev main_call1_call0_call0_v37 : Ref sig .tc := ⟨.hbm, 121, rfl⟩
abbrev main_call1_call0_call0_c_8 : Ref sig .tc := ⟨.hbm, 122, rfl⟩
abbrev main_call1_call0_call0_v38 : Ref sig .tc := ⟨.hbm, 123, rfl⟩
abbrev main_call1_call0_call0_v39 : Ref sig .tc := ⟨.hbm, 124, rfl⟩
abbrev main_call1_call0_call0_v40 : Ref sig .tc := ⟨.hbm, 125, rfl⟩
abbrev main_call1_call0_call0_c_9 : Ref sig .tc := ⟨.hbm, 126, rfl⟩
abbrev main_call1_call0_call0_v41 : Ref sig .tc := ⟨.hbm, 127, rfl⟩
abbrev main_call1_call0_call0_v42 : Ref sig .tc := ⟨.hbm, 128, rfl⟩
abbrev main_call1_call0_call0_c_10 : Ref sig .tc := ⟨.hbm, 129, rfl⟩
abbrev main_call1_call0_call0_v43 : Ref sig .tc := ⟨.hbm, 130, rfl⟩
abbrev main_call1_call0_call0_v44 : Ref sig .tc := ⟨.hbm, 131, rfl⟩
abbrev main_call1_call0_call0_v45 : Ref sig .tc := ⟨.hbm, 132, rfl⟩
abbrev main_call1_call0_call0_v46 : Ref sig .tc := ⟨.hbm, 133, rfl⟩
abbrev main_call1_call0_call0_v47 : Ref sig .tc := ⟨.hbm, 134, rfl⟩
abbrev main_call1_call0_call0_c_11 : Ref sig .tc := ⟨.hbm, 135, rfl⟩
abbrev main_call1_call0_call0_v48 : Ref sig .tc := ⟨.hbm, 136, rfl⟩
abbrev main_call1_call0_call0_v49 : Ref sig .tc := ⟨.hbm, 137, rfl⟩
abbrev main_call1_call0_call0_c_12 : Ref sig .tc := ⟨.hbm, 138, rfl⟩
abbrev main_call1_call0_call0_v50 : Ref sig .tc := ⟨.hbm, 139, rfl⟩
abbrev main_call1_call0_call0_v51 : Ref sig .tc := ⟨.hbm, 140, rfl⟩
abbrev main_call1_call0_call0_v52 : Ref sig .tc := ⟨.hbm, 141, rfl⟩
abbrev main_call1_call0_call0_v53 : Ref sig .tc := ⟨.hbm, 142, rfl⟩
abbrev main_call1_call0_call0_v54 : Ref sig .tc := ⟨.hbm, 143, rfl⟩
abbrev main_call1_call0_call0_c_13 : Ref sig .tc := ⟨.hbm, 144, rfl⟩
abbrev main_call1_call0_call0_v55 : Ref sig .tc := ⟨.hbm, 145, rfl⟩
abbrev main_call1_call0_call0_v56 : Ref sig .tc := ⟨.hbm, 146, rfl⟩
abbrev main_call1_call0_call0_c_14 : Ref sig .tc := ⟨.hbm, 147, rfl⟩
abbrev main_call1_call0_call0_v57 : Ref sig .tc := ⟨.hbm, 148, rfl⟩
abbrev main_call1_call0_call0_v58 : Ref sig .tc := ⟨.hbm, 149, rfl⟩
abbrev main_call1_call0_call0_v59 : Ref sig .tc := ⟨.hbm, 150, rfl⟩
abbrev main_call1_call0_call0_v60 : Ref sig .tc := ⟨.hbm, 151, rfl⟩
abbrev main_call1_call0_call0_v61 : Ref sig .tc := ⟨.hbm, 152, rfl⟩
abbrev main_call1_call0_call0_c_15 : Ref sig .tc := ⟨.hbm, 153, rfl⟩
abbrev main_call1_call0_call0_v62 : Ref sig .tc := ⟨.hbm, 154, rfl⟩
abbrev main_call1_call0_call0_v63 : Ref sig .tc := ⟨.hbm, 155, rfl⟩
abbrev main_call1_call0_call0_c_16 : Ref sig .tc := ⟨.hbm, 156, rfl⟩
abbrev main_call1_call0_call0_v64 : Ref sig .tc := ⟨.hbm, 157, rfl⟩
abbrev main_call1_call0_call0_v65 : Ref sig .tc := ⟨.hbm, 158, rfl⟩
abbrev main_call1_call0_call0_v66 : Ref sig .tc := ⟨.hbm, 159, rfl⟩
abbrev main_call1_call0_call0_v67 : Ref sig .tc := ⟨.hbm, 160, rfl⟩
abbrev main_call1_call0_call0_v68 : Ref sig .tc := ⟨.hbm, 161, rfl⟩
abbrev main_call1_call0_call0_v69 : Ref sig .tc := ⟨.hbm, 162, rfl⟩
abbrev main_call1_call0_call0_v70 : Ref sig .tc := ⟨.hbm, 163, rfl⟩
abbrev main_call1_call0_call0_v71 : Ref sig .tc := ⟨.hbm, 164, rfl⟩
abbrev main_call1_call0_call0_c_17 : Ref sig .tc := ⟨.hbm, 165, rfl⟩
abbrev main_call1_call0_call0_v72 : Ref sig .tc := ⟨.hbm, 166, rfl⟩
abbrev main_call1_call0_call0_v73 : Ref sig .tc := ⟨.hbm, 167, rfl⟩
abbrev main_call1_call0_call0_v74 : Ref sig .tc := ⟨.hbm, 168, rfl⟩
abbrev main_call1_call0_call0_c_18 : Ref sig .tc := ⟨.hbm, 169, rfl⟩
abbrev main_call1_call0_call0_v75 : Ref sig .tc := ⟨.hbm, 170, rfl⟩
abbrev main_call1_call0_call0_v76 : Ref sig .tc := ⟨.hbm, 171, rfl⟩
abbrev main_call1_call0_call0_c_19 : Ref sig .tc := ⟨.hbm, 172, rfl⟩
abbrev main_call1_call0_call0_v77 : Ref sig .tc := ⟨.hbm, 173, rfl⟩
abbrev main_call1_call0_call0_v78 : Ref sig .tc := ⟨.hbm, 174, rfl⟩
abbrev main_call1_call0_call0_v79 : Ref sig .tc := ⟨.hbm, 175, rfl⟩
abbrev main_call1_call0_call0_v80 : Ref sig .tc := ⟨.hbm, 176, rfl⟩
abbrev main_call1_call0_call0_v81 : Ref sig .tc := ⟨.hbm, 177, rfl⟩
abbrev main_call1_call0_call0_c_20 : Ref sig .tc := ⟨.hbm, 178, rfl⟩
abbrev main_call1_call0_call0_v82 : Ref sig .tc := ⟨.hbm, 179, rfl⟩
abbrev main_call1_call0_call0_v83 : Ref sig .tc := ⟨.hbm, 180, rfl⟩
abbrev main_call1_call0_call0_c_21 : Ref sig .tc := ⟨.hbm, 181, rfl⟩
abbrev main_call1_call0_call0_v84 : Ref sig .tc := ⟨.hbm, 182, rfl⟩
abbrev main_call1_call0_call0_v85 : Ref sig .tc := ⟨.hbm, 183, rfl⟩
abbrev main_call1_call0_call0_v86 : Ref sig .tc := ⟨.hbm, 184, rfl⟩
abbrev main_call1_call0_call0_v87 : Ref sig .tc := ⟨.hbm, 185, rfl⟩
abbrev main_call1_call0_call0_v88 : Ref sig .tc := ⟨.hbm, 186, rfl⟩
abbrev main_call1_call0_call0_c_22 : Ref sig .tc := ⟨.hbm, 187, rfl⟩
abbrev main_call1_call0_call0_v89 : Ref sig .tc := ⟨.hbm, 188, rfl⟩
abbrev main_call1_call0_call0_v90 : Ref sig .tc := ⟨.hbm, 189, rfl⟩
abbrev main_call1_call0_call0_c_23 : Ref sig .tc := ⟨.hbm, 190, rfl⟩
abbrev main_call1_call0_call0_v91 : Ref sig .tc := ⟨.hbm, 191, rfl⟩
abbrev main_call1_call0_call0_v92 : Ref sig .tc := ⟨.hbm, 192, rfl⟩
abbrev main_call1_call0_call0_v93 : Ref sig .tc := ⟨.hbm, 193, rfl⟩
abbrev main_call1_call0_call0_v94 : Ref sig .tc := ⟨.hbm, 194, rfl⟩
abbrev main_call1_call0_call0_v95 : Ref sig .tc := ⟨.hbm, 195, rfl⟩
abbrev main_call1_call0_call0_c_24 : Ref sig .tc := ⟨.hbm, 196, rfl⟩
abbrev main_call1_call0_call0_v96 : Ref sig .tc := ⟨.hbm, 197, rfl⟩
abbrev main_call1_call0_call0_v97 : Ref sig .tc := ⟨.hbm, 198, rfl⟩
abbrev main_call1_call0_call0_c_25 : Ref sig .tc := ⟨.hbm, 199, rfl⟩
abbrev main_call1_call0_call0_v98 : Ref sig .tc := ⟨.hbm, 200, rfl⟩
abbrev main_call1_call0_call0_v99 : Ref sig .tc := ⟨.hbm, 201, rfl⟩
abbrev main_call1_call0_call0_v100 : Ref sig .tc := ⟨.hbm, 202, rfl⟩
abbrev main_call1_call0_call0_v101 : Ref sig .tc := ⟨.hbm, 203, rfl⟩
abbrev main_call1_call0_call0_v102 : Ref sig .tc := ⟨.hbm, 204, rfl⟩
abbrev main_call1_call0_call0_v103 : Ref sig .tc := ⟨.hbm, 205, rfl⟩
abbrev main_call1_call0_call0_v104 : Ref sig .tc := ⟨.hbm, 206, rfl⟩
abbrev main_call1_call0_call0_v105 : Ref sig .tc := ⟨.hbm, 207, rfl⟩
abbrev main_call1_call0_call0_c_26 : Ref sig .tc := ⟨.hbm, 208, rfl⟩
abbrev main_call1_call0_call0_v106 : Ref sig .tc := ⟨.hbm, 209, rfl⟩
abbrev main_call1_call0_call0_v107 : Ref sig .tc := ⟨.hbm, 210, rfl⟩
abbrev main_call1_call0_call0_v108 : Ref sig .tc := ⟨.hbm, 211, rfl⟩
abbrev main_call1_call0_call0_c_27 : Ref sig .tc := ⟨.hbm, 212, rfl⟩
abbrev main_call1_call0_call0_v109 : Ref sig .tc := ⟨.hbm, 213, rfl⟩
abbrev main_call1_call0_call0_v110 : Ref sig .tc := ⟨.hbm, 214, rfl⟩
abbrev main_call1_call0_call0_c_28 : Ref sig .tc := ⟨.hbm, 215, rfl⟩
abbrev main_call1_call0_call0_v111 : Ref sig .tc := ⟨.hbm, 216, rfl⟩
abbrev main_call1_call0_call0_v112 : Ref sig .tc := ⟨.hbm, 217, rfl⟩
abbrev main_call1_call0_call0_v113 : Ref sig .tc := ⟨.hbm, 218, rfl⟩
abbrev main_call1_call0_call0_v114 : Ref sig .tc := ⟨.hbm, 219, rfl⟩
abbrev main_call1_call0_call0_v115 : Ref sig .tc := ⟨.hbm, 220, rfl⟩
abbrev main_call1_call0_call0_c_29 : Ref sig .tc := ⟨.hbm, 221, rfl⟩
abbrev main_call1_call0_call0_v116 : Ref sig .tc := ⟨.hbm, 222, rfl⟩
abbrev main_call1_call0_call0_v117 : Ref sig .tc := ⟨.hbm, 223, rfl⟩
abbrev main_call1_call0_call0_c_30 : Ref sig .tc := ⟨.hbm, 224, rfl⟩
abbrev main_call1_call0_call0_v118 : Ref sig .tc := ⟨.hbm, 225, rfl⟩
abbrev main_call1_call0_call0_v119 : Ref sig .tc := ⟨.hbm, 226, rfl⟩
abbrev main_call1_call0_call0_v120 : Ref sig .tc := ⟨.hbm, 227, rfl⟩
abbrev main_call1_call0_call0_v121 : Ref sig .tc := ⟨.hbm, 228, rfl⟩
abbrev main_call1_call0_call0_v122 : Ref sig .tc := ⟨.hbm, 229, rfl⟩
abbrev main_call1_call0_call0_c_31 : Ref sig .tc := ⟨.hbm, 230, rfl⟩
abbrev main_call1_call0_call0_v123 : Ref sig .tc := ⟨.hbm, 231, rfl⟩
abbrev main_call1_call0_call0_v124 : Ref sig .tc := ⟨.hbm, 232, rfl⟩
abbrev main_call1_call0_call0_c_32 : Ref sig .tc := ⟨.hbm, 233, rfl⟩
abbrev main_call1_call0_call0_v125 : Ref sig .tc := ⟨.hbm, 234, rfl⟩
abbrev main_call1_call0_call0_v126 : Ref sig .tc := ⟨.hbm, 235, rfl⟩
abbrev main_call1_call0_call0_v127 : Ref sig .tc := ⟨.hbm, 236, rfl⟩
abbrev main_call1_call0_call0_v128 : Ref sig .tc := ⟨.hbm, 237, rfl⟩
abbrev main_call1_call0_call0_v129 : Ref sig .tc := ⟨.hbm, 238, rfl⟩
abbrev main_call1_call0_call0_c_33 : Ref sig .tc := ⟨.hbm, 239, rfl⟩
abbrev main_call1_call0_call0_v130 : Ref sig .tc := ⟨.hbm, 240, rfl⟩
abbrev main_call1_call0_call0_v131 : Ref sig .tc := ⟨.hbm, 241, rfl⟩
abbrev main_call1_call0_call0_c_34 : Ref sig .tc := ⟨.hbm, 242, rfl⟩
abbrev main_call1_call0_call0_v132 : Ref sig .tc := ⟨.hbm, 243, rfl⟩
abbrev main_call1_call0_call0_v133 : Ref sig .tc := ⟨.hbm, 244, rfl⟩
abbrev main_call1_call0_call0_v134 : Ref sig .tc := ⟨.hbm, 245, rfl⟩
abbrev main_call1_call0_call0_v135 : Ref sig .tc := ⟨.hbm, 246, rfl⟩
abbrev main_call1_call0_call0_v136 : Ref sig .tc := ⟨.hbm, 247, rfl⟩
abbrev main_call1_call0_call0_v137 : Ref sig .tc := ⟨.hbm, 248, rfl⟩
abbrev main_call1_call0_call0_v138 : Ref sig .tc := ⟨.hbm, 249, rfl⟩
abbrev main_call1_call0_call0_v139 : Ref sig .tc := ⟨.hbm, 250, rfl⟩
abbrev main_call1_call0_call0_c_35 : Ref sig .tc := ⟨.hbm, 251, rfl⟩
abbrev main_call1_call0_call0_v140 : Ref sig .tc := ⟨.hbm, 252, rfl⟩
abbrev main_call1_call0_call0_v141 : Ref sig .tc := ⟨.hbm, 253, rfl⟩
abbrev main_call1_call0_call0_v142 : Ref sig .tc := ⟨.hbm, 254, rfl⟩
abbrev main_call1_call0_call0_c_36 : Ref sig .tc := ⟨.hbm, 255, rfl⟩
abbrev main_call1_call0_call0_v143 : Ref sig .tc := ⟨.hbm, 256, rfl⟩
abbrev main_call1_call0_call0_v144 : Ref sig .tc := ⟨.hbm, 257, rfl⟩
abbrev main_call1_call0_call0_c_37 : Ref sig .tc := ⟨.hbm, 258, rfl⟩
abbrev main_call1_call0_call0_v145 : Ref sig .tc := ⟨.hbm, 259, rfl⟩
abbrev main_call1_call0_call0_v146 : Ref sig .tc := ⟨.hbm, 260, rfl⟩
abbrev main_call1_call0_call0_v147 : Ref sig .tc := ⟨.hbm, 261, rfl⟩
abbrev main_call1_call0_call0_v148 : Ref sig .tc := ⟨.hbm, 262, rfl⟩
abbrev main_call1_call0_call0_v149 : Ref sig .tc := ⟨.hbm, 263, rfl⟩
abbrev main_call1_call0_call0_c_38 : Ref sig .tc := ⟨.hbm, 264, rfl⟩
abbrev main_call1_call0_call0_v150 : Ref sig .tc := ⟨.hbm, 265, rfl⟩
abbrev main_call1_call0_call0_v151 : Ref sig .tc := ⟨.hbm, 266, rfl⟩
abbrev main_call1_call0_call0_c_39 : Ref sig .tc := ⟨.hbm, 267, rfl⟩
abbrev main_call1_call0_call0_v152 : Ref sig .tc := ⟨.hbm, 268, rfl⟩
abbrev main_call1_call0_call0_v153 : Ref sig .tc := ⟨.hbm, 269, rfl⟩
abbrev main_call1_call0_call0_v154 : Ref sig .tc := ⟨.hbm, 270, rfl⟩
abbrev main_call1_call0_call0_v155 : Ref sig .tc := ⟨.hbm, 271, rfl⟩
abbrev main_call1_call0_call0_v156 : Ref sig .tc := ⟨.hbm, 272, rfl⟩
abbrev main_call1_call0_call0_c_40 : Ref sig .tc := ⟨.hbm, 273, rfl⟩
abbrev main_call1_call0_call0_v157 : Ref sig .tc := ⟨.hbm, 274, rfl⟩
abbrev main_call1_call0_call0_v158 : Ref sig .tc := ⟨.hbm, 275, rfl⟩
abbrev main_call1_call0_call0_c_41 : Ref sig .tc := ⟨.hbm, 276, rfl⟩
abbrev main_call1_call0_call0_v159 : Ref sig .tc := ⟨.hbm, 277, rfl⟩
abbrev main_call1_call0_call0_v160 : Ref sig .tc := ⟨.hbm, 278, rfl⟩
abbrev main_call1_call0_call0_v161 : Ref sig .tc := ⟨.hbm, 279, rfl⟩
abbrev main_call1_call0_call0_v162 : Ref sig .tc := ⟨.hbm, 280, rfl⟩
abbrev main_call1_call0_call0_v163 : Ref sig .tc := ⟨.hbm, 281, rfl⟩
abbrev main_call1_call0_call0_c_42 : Ref sig .tc := ⟨.hbm, 282, rfl⟩
abbrev main_call1_call0_call0_v164 : Ref sig .tc := ⟨.hbm, 283, rfl⟩
abbrev main_call1_call0_call0_v165 : Ref sig .tc := ⟨.hbm, 284, rfl⟩
abbrev main_call1_call0_call0_c_43 : Ref sig .tc := ⟨.hbm, 285, rfl⟩
abbrev main_call1_call0_call0_v166 : Ref sig .tc := ⟨.hbm, 286, rfl⟩
abbrev main_call1_call0_call0_v167 : Ref sig .tc := ⟨.hbm, 287, rfl⟩
abbrev main_call1_call0_call0_v168 : Ref sig .tc := ⟨.hbm, 288, rfl⟩
abbrev main_call1_call0_call0_v169 : Ref sig .tc := ⟨.hbm, 289, rfl⟩
abbrev main_call1_call0_call0_v170 : Ref sig .tc := ⟨.hbm, 290, rfl⟩
abbrev main_call1_call0_v18_0 : Ref sig .tc := ⟨.hbm, 291, rfl⟩
abbrev main_call1_call0_call0_v172 : Ref sig .tc := ⟨.hbm, 292, rfl⟩
abbrev main_call1_call0_call0_v173 : Ref sig .tc := ⟨.hbm, 293, rfl⟩
abbrev main_call1_call0_call0_c_44 : Ref sig .tc := ⟨.hbm, 294, rfl⟩
abbrev main_call1_call0_call0_v174 : Ref sig .tc := ⟨.hbm, 295, rfl⟩
abbrev main_call1_call0_v18_1 : Ref sig .tc := ⟨.hbm, 296, rfl⟩
abbrev main_call1_call0_v19 : Ref sig .tc := ⟨.hbm, 297, rfl⟩
abbrev main_call1_call0_c_2 : Ref sig .tc := ⟨.hbm, 298, rfl⟩
abbrev main_call1_call0_v20 : Ref sig .tc := ⟨.hbm, 299, rfl⟩
abbrev main_call1_call0_v21 : Ref sig .tc := ⟨.hbm, 300, rfl⟩
abbrev main_call1_call0_c_3 : Ref sig .tc := ⟨.hbm, 301, rfl⟩
abbrev main_call1_call0_v22 : Ref sig .tc := ⟨.hbm, 302, rfl⟩
abbrev main_call1_call0_v23 : Ref sig .tc := ⟨.hbm, 303, rfl⟩
abbrev main_call1_call0_v24 : Ref sig .tc := ⟨.hbm, 304, rfl⟩
abbrev main_call1_call0_cst : Ref sig .tc := ⟨.hbm, 305, rfl⟩
abbrev main_call1_call0_v25 : Ref sig .tc := ⟨.hbm, 306, rfl⟩
abbrev main_call1_call0_v26 : Ref sig .tc := ⟨.hbm, 307, rfl⟩
abbrev main_call1_call0_v27 : Ref sig .tc := ⟨.hbm, 308, rfl⟩
abbrev main_call1_call0_v28 : Ref sig .tc := ⟨.hbm, 309, rfl⟩
abbrev main_call1_call0_v29 : Ref sig .tc := ⟨.hbm, 310, rfl⟩
abbrev main_call1_call0_v30 : Ref sig .tc := ⟨.hbm, 311, rfl⟩
abbrev main_call1_call0_v31 : Ref sig .tc := ⟨.hbm, 312, rfl⟩
abbrev main_call1_call0_v32 : Ref sig .tc := ⟨.hbm, 313, rfl⟩
abbrev main_call1_v0 : Ref sig .tc := ⟨.hbm, 314, rfl⟩
abbrev main_call1_v1 : Ref sig .tc := ⟨.hbm, 315, rfl⟩
abbrev main_call1_v2 : Ref sig .tc := ⟨.hbm, 316, rfl⟩
abbrev main_call1_v3 : Ref sig .tc := ⟨.hbm, 317, rfl⟩
abbrev main_v32 : Ref sig .tc := ⟨.hbm, 318, rfl⟩
abbrev main_v33 : Ref sig .tc := ⟨.hbm, 319, rfl⟩
abbrev main_call2_v0 : Ref sig .tc := ⟨.hbm, 320, rfl⟩
abbrev main_call2_cst : Ref sig .tc := ⟨.hbm, 321, rfl⟩
abbrev main_call2_c : Ref sig .tc := ⟨.hbm, 322, rfl⟩
abbrev main_call2_v1_0 : Ref sig .tc := ⟨.hbm, 323, rfl⟩
abbrev main_v34 : Ref sig .tc := ⟨.hbm, 324, rfl⟩
abbrev main_c_7 : Ref sig .tc := ⟨.hbm, 325, rfl⟩
abbrev main_call3_v0 : Ref sig .tc := ⟨.hbm, 326, rfl⟩
abbrev main_call3_v1 : Ref sig .tc := ⟨.hbm, 327, rfl⟩
abbrev main_call3_v2 : Ref sig .tc := ⟨.hbm, 328, rfl⟩
abbrev main_call3_v3 : Ref sig .tc := ⟨.hbm, 329, rfl⟩
abbrev main_call3_v4 : Ref sig .tc := ⟨.hbm, 330, rfl⟩
abbrev main_call3_v5 : Ref sig .tc := ⟨.hbm, 331, rfl⟩
abbrev main_call3_v6 : Ref sig .tc := ⟨.hbm, 332, rfl⟩
abbrev main_call3_v7 : Ref sig .tc := ⟨.hbm, 333, rfl⟩
abbrev main_call3_v8 : Ref sig .tc := ⟨.hbm, 334, rfl⟩
abbrev main_call3_c : Ref sig .tc := ⟨.hbm, 335, rfl⟩
abbrev main_call3_v9 : Ref sig .tc := ⟨.hbm, 336, rfl⟩
abbrev main_call3_v10 : Ref sig .tc := ⟨.hbm, 337, rfl⟩
abbrev main_call3_v11 : Ref sig .tc := ⟨.hbm, 338, rfl⟩
abbrev main_call3_c_0 : Ref sig .tc := ⟨.hbm, 339, rfl⟩
abbrev main_call3_v12 : Ref sig .tc := ⟨.hbm, 340, rfl⟩
abbrev main_call3_v13 : Ref sig .tc := ⟨.hbm, 341, rfl⟩
abbrev main_v35 : Ref sig .tc := ⟨.hbm, 342, rfl⟩
abbrev main_c_8 : Ref sig .tc := ⟨.hbm, 343, rfl⟩
abbrev main_call4_v0 : Ref sig .tc := ⟨.hbm, 344, rfl⟩
abbrev main_call4_c : Ref sig .tc := ⟨.hbm, 345, rfl⟩
abbrev main_call4_v1 : Ref sig .tc := ⟨.hbm, 346, rfl⟩
abbrev main_call4_c_0 : Ref sig .tc := ⟨.hbm, 347, rfl⟩
abbrev main_call4_v2 : Ref sig .tc := ⟨.hbm, 348, rfl⟩
abbrev main_call4_v3 : Ref sig .tc := ⟨.hbm, 349, rfl⟩
abbrev main_call4_v4 : Ref sig .tc := ⟨.hbm, 350, rfl⟩
abbrev main_call4_c_1 : Ref sig .tc := ⟨.hbm, 351, rfl⟩
abbrev main_call4_v5 : Ref sig .tc := ⟨.hbm, 352, rfl⟩
abbrev main_call4_v6 : Ref sig .tc := ⟨.hbm, 353, rfl⟩
abbrev main_call4_c_2 : Ref sig .tc := ⟨.hbm, 354, rfl⟩
abbrev main_call4_v7 : Ref sig .tc := ⟨.hbm, 355, rfl⟩
abbrev main_call4_v8 : Ref sig .tc := ⟨.hbm, 356, rfl⟩
abbrev main_call4_c_3 : Ref sig .tc := ⟨.hbm, 357, rfl⟩
abbrev main_call4_v9 : Ref sig .tc := ⟨.hbm, 358, rfl⟩
abbrev main_call4_v10 : Ref sig .tc := ⟨.hbm, 359, rfl⟩
abbrev main_call4_v11 : Ref sig .tc := ⟨.hbm, 360, rfl⟩
abbrev main_call4_v12 : Ref sig .tc := ⟨.hbm, 361, rfl⟩
abbrev main_call4_v13 : Ref sig .tc := ⟨.hbm, 362, rfl⟩
abbrev main_call4_v14 : Ref sig .tc := ⟨.hbm, 363, rfl⟩
abbrev main_v36 : Ref sig .tc := ⟨.hbm, 364, rfl⟩
abbrev main_v37 : Ref sig .tc := ⟨.hbm, 365, rfl⟩
abbrev main_c_9 : Ref sig .tc := ⟨.hbm, 366, rfl⟩
abbrev main_v38 : Ref sig .tc := ⟨.hbm, 367, rfl⟩
abbrev main_v39 : Ref sig .tc := ⟨.hbm, 368, rfl⟩
abbrev main_c_10 : Ref sig .tc := ⟨.hbm, 369, rfl⟩
abbrev main_v40 : Ref sig .tc := ⟨.hbm, 370, rfl⟩
abbrev main_v41 : Ref sig .tc := ⟨.hbm, 371, rfl⟩
abbrev main_v42 : Ref sig .tc := ⟨.hbm, 372, rfl⟩
abbrev main_c_11 : Ref sig .tc := ⟨.hbm, 373, rfl⟩
abbrev main_v43 : Ref sig .tc := ⟨.hbm, 374, rfl⟩
abbrev main_v44 : Ref sig .tc := ⟨.hbm, 375, rfl⟩
abbrev main_c_12 : Ref sig .tc := ⟨.hbm, 376, rfl⟩
abbrev main_v45 : Ref sig .tc := ⟨.hbm, 377, rfl⟩
abbrev main_v46 : Ref sig .tc := ⟨.hbm, 378, rfl⟩
abbrev main_v47 : Ref sig .tc := ⟨.hbm, 379, rfl⟩
abbrev main_v48 : Ref sig .tc := ⟨.hbm, 380, rfl⟩
abbrev main_v49 : Ref sig .tc := ⟨.hbm, 381, rfl⟩
abbrev main_v50 : Ref sig .tc := ⟨.hbm, 382, rfl⟩
abbrev main_v51 : Ref sig .tc := ⟨.hbm, 383, rfl⟩
abbrev main_c_13 : Ref sig .tc := ⟨.hbm, 384, rfl⟩
abbrev main_v52 : Ref sig .tc := ⟨.hbm, 385, rfl⟩
abbrev main_v53 : Ref sig .tc := ⟨.hbm, 386, rfl⟩
abbrev main_c_14 : Ref sig .tc := ⟨.hbm, 387, rfl⟩
abbrev main_v54 : Ref sig .tc := ⟨.hbm, 388, rfl⟩
abbrev main_v55 : Ref sig .tc := ⟨.hbm, 389, rfl⟩
abbrev main_v56 : Ref sig .tc := ⟨.hbm, 390, rfl⟩
abbrev main_c_15 : Ref sig .tc := ⟨.hbm, 391, rfl⟩
abbrev main_v57 : Ref sig .tc := ⟨.hbm, 392, rfl⟩
abbrev main_v58 : Ref sig .tc := ⟨.hbm, 393, rfl⟩
abbrev main_c_16 : Ref sig .tc := ⟨.hbm, 394, rfl⟩
abbrev main_v59 : Ref sig .tc := ⟨.hbm, 395, rfl⟩
abbrev main_v60 : Ref sig .tc := ⟨.hbm, 396, rfl⟩
abbrev main_v61 : Ref sig .tc := ⟨.hbm, 397, rfl⟩
abbrev main_v62 : Ref sig .tc := ⟨.hbm, 398, rfl⟩
abbrev main_v63 : Ref sig .tc := ⟨.hbm, 399, rfl⟩
abbrev main_v64 : Ref sig .tc := ⟨.hbm, 400, rfl⟩
abbrev main_v65 : Ref sig .tc := ⟨.hbm, 401, rfl⟩
abbrev main_v66 : Ref sig .tc := ⟨.hbm, 402, rfl⟩
abbrev main_v67 : Ref sig .tc := ⟨.hbm, 403, rfl⟩
abbrev main_v68 : Ref sig .tc := ⟨.hbm, 404, rfl⟩
abbrev main_v69 : Ref sig .tc := ⟨.hbm, 405, rfl⟩
abbrev main_v70 : Ref sig .tc := ⟨.hbm, 406, rfl⟩
abbrev main_call5_cst : Ref sig .tc := ⟨.hbm, 407, rfl⟩
abbrev main_call5_v0 : Ref sig .tc := ⟨.hbm, 408, rfl⟩
abbrev main_v71 : Ref sig .tc := ⟨.hbm, 409, rfl⟩
abbrev main_v72 : Ref sig .tc := ⟨.hbm, 410, rfl⟩
abbrev main_v73 : Ref sig .tc := ⟨.hbm, 411, rfl⟩
abbrev main_v74 : Ref sig .tc := ⟨.hbm, 412, rfl⟩
abbrev main_v75 : Ref sig .tc := ⟨.hbm, 413, rfl⟩
abbrev main_v76 : Ref sig .tc := ⟨.hbm, 414, rfl⟩
abbrev main_v77 : Ref sig .tc := ⟨.hbm, 415, rfl⟩
abbrev main_cst_17 : Ref sig .tc := ⟨.hbm, 416, rfl⟩
abbrev main_v78 : Ref sig .tc := ⟨.hbm, 417, rfl⟩
abbrev main_cst_18 : Ref sig .tc := ⟨.hbm, 418, rfl⟩
abbrev main_v79 : Ref sig .tc := ⟨.hbm, 419, rfl⟩
abbrev main_v80 : Ref sig .tc := ⟨.hbm, 420, rfl⟩
abbrev main_v81 : Ref sig .tc := ⟨.hbm, 421, rfl⟩
abbrev main_v82 : Ref sig .tc := ⟨.hbm, 422, rfl⟩
abbrev main_v83 : Ref sig .tc := ⟨.hbm, 423, rfl⟩
abbrev main_cst_19 : Ref sig .tc := ⟨.hbm, 424, rfl⟩
abbrev main_v84 : Ref sig .tc := ⟨.hbm, 425, rfl⟩
abbrev main_cst_20 : Ref sig .tc := ⟨.hbm, 426, rfl⟩
abbrev main_v85 : Ref sig .tc := ⟨.hbm, 427, rfl⟩
abbrev main_v86 : Ref sig .tc := ⟨.hbm, 428, rfl⟩
abbrev main_v87 : Ref sig .tc := ⟨.hbm, 429, rfl⟩
abbrev main_c_21 : Ref sig .tc := ⟨.hbm, 430, rfl⟩
abbrev main_v88 : Ref sig .tc := ⟨.hbm, 431, rfl⟩
abbrev main_v89 : Ref sig .tc := ⟨.hbm, 432, rfl⟩
abbrev main_c_22 : Ref sig .tc := ⟨.hbm, 433, rfl⟩
abbrev main_v90 : Ref sig .tc := ⟨.hbm, 434, rfl⟩
abbrev main_v91 : Ref sig .tc := ⟨.hbm, 435, rfl⟩
abbrev main_v92 : Ref sig .tc := ⟨.hbm, 436, rfl⟩
abbrev main_c_23 : Ref sig .tc := ⟨.hbm, 437, rfl⟩
abbrev main_v93 : Ref sig .tc := ⟨.hbm, 438, rfl⟩
abbrev main_v94 : Ref sig .tc := ⟨.hbm, 439, rfl⟩
abbrev main_c_24 : Ref sig .tc := ⟨.hbm, 440, rfl⟩
abbrev main_v95 : Ref sig .tc := ⟨.hbm, 441, rfl⟩
abbrev main_v96 : Ref sig .tc := ⟨.hbm, 442, rfl⟩
abbrev main_v97 : Ref sig .tc := ⟨.hbm, 443, rfl⟩
abbrev main_c_25 : Ref sig .tc := ⟨.hbm, 444, rfl⟩
abbrev main_v98 : Ref sig .tc := ⟨.hbm, 445, rfl⟩
abbrev main_v99 : Ref sig .tc := ⟨.hbm, 446, rfl⟩
abbrev main_c_26 : Ref sig .tc := ⟨.hbm, 447, rfl⟩
abbrev main_v100 : Ref sig .tc := ⟨.hbm, 448, rfl⟩
abbrev main_v101 : Ref sig .tc := ⟨.hbm, 449, rfl⟩
abbrev main_v102 : Ref sig .tc := ⟨.hbm, 450, rfl⟩
abbrev main_v103 : Ref sig .tc := ⟨.hbm, 451, rfl⟩
abbrev main_v104 : Ref sig .tc := ⟨.hbm, 452, rfl⟩
abbrev main_v105 : Ref sig .tc := ⟨.hbm, 453, rfl⟩
abbrev main_v106 : Ref sig .tc := ⟨.hbm, 454, rfl⟩
abbrev main_v107 : Ref sig .tc := ⟨.hbm, 455, rfl⟩
abbrev main_cst_27 : Ref sig .tc := ⟨.hbm, 456, rfl⟩
abbrev main_v108 : Ref sig .tc := ⟨.hbm, 457, rfl⟩
abbrev main_v109 : Ref sig .tc := ⟨.hbm, 458, rfl⟩
abbrev main_v110 : Ref sig .tc := ⟨.hbm, 459, rfl⟩
abbrev main_v111 : Ref sig .tc := ⟨.hbm, 460, rfl⟩
abbrev main_cst_28 : Ref sig .tc := ⟨.hbm, 461, rfl⟩
abbrev main_v112 : Ref sig .tc := ⟨.hbm, 462, rfl⟩
abbrev main_v113 : Ref sig .tc := ⟨.hbm, 463, rfl⟩
abbrev main_v114 : Ref sig .tc := ⟨.hbm, 464, rfl⟩
abbrev main_cst_29 : Ref sig .tc := ⟨.hbm, 465, rfl⟩
abbrev main_v115 : Ref sig .tc := ⟨.hbm, 466, rfl⟩
abbrev main_v116 : Ref sig .tc := ⟨.hbm, 467, rfl⟩
abbrev main_cst_30 : Ref sig .tc := ⟨.hbm, 468, rfl⟩
abbrev main_v117 : Ref sig .tc := ⟨.hbm, 469, rfl⟩
abbrev main_v118 : Ref sig .tc := ⟨.hbm, 470, rfl⟩
abbrev main_v119 : Ref sig .tc := ⟨.hbm, 471, rfl⟩
abbrev main_v120 : Ref sig .tc := ⟨.hbm, 472, rfl⟩
abbrev main_v121 : Ref sig .tc := ⟨.hbm, 473, rfl⟩
abbrev main_cst_31 : Ref sig .tc := ⟨.hbm, 474, rfl⟩
abbrev main_v122 : Ref sig .tc := ⟨.hbm, 475, rfl⟩
abbrev main_v123 : Ref sig .tc := ⟨.hbm, 476, rfl⟩
abbrev main_v124 : Ref sig .tc := ⟨.hbm, 477, rfl⟩
abbrev main_v125 : Ref sig .tc := ⟨.hbm, 478, rfl⟩
abbrev main_v126 : Ref sig .tc := ⟨.hbm, 479, rfl⟩
abbrev main_v127 : Ref sig .tc := ⟨.hbm, 480, rfl⟩
abbrev main_cst_32 : Ref sig .tc := ⟨.hbm, 481, rfl⟩
abbrev main_v128 : Ref sig .tc := ⟨.hbm, 482, rfl⟩
abbrev main_v129 : Ref sig .tc := ⟨.hbm, 483, rfl⟩
abbrev main_cst_33 : Ref sig .tc := ⟨.hbm, 484, rfl⟩
abbrev main_v130 : Ref sig .tc := ⟨.hbm, 485, rfl⟩
abbrev main_v131 : Ref sig .tc := ⟨.hbm, 486, rfl⟩
abbrev main_c_34 : Ref sig .tc := ⟨.hbm, 487, rfl⟩
abbrev main_v132 : Ref sig .tc := ⟨.hbm, 488, rfl⟩
abbrev main_v133 : Ref sig .tc := ⟨.hbm, 489, rfl⟩
abbrev main_v134 : Ref sig .tc := ⟨.hbm, 490, rfl⟩
abbrev main_c_35 : Ref sig .tc := ⟨.hbm, 491, rfl⟩
abbrev main_v135 : Ref sig .tc := ⟨.hbm, 492, rfl⟩
abbrev main_c_36 : Ref sig .tc := ⟨.hbm, 493, rfl⟩
abbrev main_v136 : Ref sig .tc := ⟨.hbm, 494, rfl⟩
abbrev main_v137 : Ref sig .tc := ⟨.hbm, 495, rfl⟩
abbrev main_c_37 : Ref sig .tc := ⟨.hbm, 496, rfl⟩
abbrev main_v138 : Ref sig .tc := ⟨.hbm, 497, rfl⟩
abbrev main_v139 : Ref sig .tc := ⟨.hbm, 498, rfl⟩
abbrev main_v140 : Ref sig .tc := ⟨.hbm, 499, rfl⟩
abbrev main_c_38 : Ref sig .tc := ⟨.hbm, 500, rfl⟩
abbrev main_v141 : Ref sig .tc := ⟨.hbm, 501, rfl⟩
abbrev main_v142 : Ref sig .tc := ⟨.hbm, 502, rfl⟩
abbrev main_c_39 : Ref sig .tc := ⟨.hbm, 503, rfl⟩
abbrev main_v143 : Ref sig .tc := ⟨.hbm, 504, rfl⟩
abbrev main_v144 : Ref sig .tc := ⟨.hbm, 505, rfl⟩
abbrev main_v145 : Ref sig .tc := ⟨.hbm, 506, rfl⟩
abbrev main_v146 : Ref sig .tc := ⟨.hbm, 507, rfl⟩
abbrev main_v147 : Ref sig .tc := ⟨.hbm, 508, rfl⟩
abbrev main_v148 : Ref sig .tc := ⟨.hbm, 509, rfl⟩
abbrev main_v149 : Ref sig .tc := ⟨.hbm, 510, rfl⟩
abbrev main_c_40 : Ref sig .tc := ⟨.hbm, 511, rfl⟩
abbrev main_v150 : Ref sig .tc := ⟨.hbm, 512, rfl⟩
abbrev main_v151 : Ref sig .tc := ⟨.hbm, 513, rfl⟩
abbrev main_v152 : Ref sig .tc := ⟨.hbm, 514, rfl⟩
abbrev main_v153 : Ref sig .tc := ⟨.hbm, 515, rfl⟩
abbrev main_c_41 : Ref sig .tc := ⟨.hbm, 516, rfl⟩
abbrev main_v154 : Ref sig .tc := ⟨.hbm, 517, rfl⟩
abbrev main_v155 : Ref sig .tc := ⟨.hbm, 518, rfl⟩
abbrev main_c_42 : Ref sig .tc := ⟨.hbm, 519, rfl⟩
abbrev main_v156 : Ref sig .tc := ⟨.hbm, 520, rfl⟩
abbrev main_v157 : Ref sig .tc := ⟨.hbm, 521, rfl⟩
abbrev main_v158 : Ref sig .tc := ⟨.hbm, 522, rfl⟩
abbrev main_c_43 : Ref sig .tc := ⟨.hbm, 523, rfl⟩
abbrev main_v159 : Ref sig .tc := ⟨.hbm, 524, rfl⟩
abbrev main_v160 : Ref sig .tc := ⟨.hbm, 525, rfl⟩
abbrev main_c_44 : Ref sig .tc := ⟨.hbm, 526, rfl⟩
abbrev main_v161 : Ref sig .tc := ⟨.hbm, 527, rfl⟩
abbrev main_v162 : Ref sig .tc := ⟨.hbm, 528, rfl⟩
abbrev main_v163 : Ref sig .tc := ⟨.hbm, 529, rfl⟩
abbrev main_v164 : Ref sig .tc := ⟨.hbm, 530, rfl⟩
abbrev main_v165 : Ref sig .tc := ⟨.hbm, 531, rfl⟩
abbrev main_v166 : Ref sig .tc := ⟨.hbm, 532, rfl⟩
abbrev main_v167 : Ref sig .tc := ⟨.hbm, 533, rfl⟩
abbrev main_c_45 : Ref sig .tc := ⟨.hbm, 534, rfl⟩
abbrev main_v168 : Ref sig .tc := ⟨.hbm, 535, rfl⟩
abbrev main_v169 : Ref sig .tc := ⟨.hbm, 536, rfl⟩
abbrev main_v170 : Ref sig .tc := ⟨.hbm, 537, rfl⟩
abbrev main_v171 : Ref sig .tc := ⟨.hbm, 538, rfl⟩
abbrev main_v172 : Ref sig .tc := ⟨.hbm, 539, rfl⟩
abbrev main_v173 : Ref sig .tc := ⟨.hbm, 540, rfl⟩
abbrev main_v174 : Ref sig .tc := ⟨.hbm, 541, rfl⟩
abbrev main_v175 : Ref sig .tc := ⟨.hbm, 542, rfl⟩

abbrev nD : Nat := 1
abbrev τ : Topo := Topo.v7x

variable {F : FTy → Type} [FloatOps F]
-- ==== Proof.RefOps.lean ====
/- The straight-line reference as lists of its operations, in order, and the run of the whole list: what every buffer holds
   after it. -/
module

public import proofs.«01_k».proof.Proof.Gen.ReferenceIdeal
public import Idealize.ShloMosaic.Lib.StableHlo.RunHlo
public import Idealize.ShloMosaic.Lib.Quiescent

@[expose] public section

set_option maxRecDepth 16384

noncomputable section

namespace Cert.ReferenceIdeal.Ops

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

set_option maxHeartbeats 4000000 in
/-- The squared distances and the masked logits. -/
abbrev opsA : List (HloOp τ sig (Elt F)) :=
  [ binary main_arg2 main_arg2 main_v0 (mulf : (⟨S1024x64x128, .f32⟩ : BufTy).Contents (Elt F) → (⟨S1024x64x128, .f32⟩ : BufTy).Contents (Elt F) → (⟨S1024x64x128, .f32⟩ : BufTy).Contents (Elt F)),
    nullary main_cst (constant S_ .f32 0x00000000#32),
    binary main_v0 main_cst main_v1 ((fun x v => Host.reduceAdd x v reducesTo_S1024x64x128_S1024x64_d2 h_S_) : (⟨S1024x64x128, .f32⟩ : BufTy).Contents (Elt F) → (⟨S_, .f32⟩ : BufTy).Contents (Elt F) → (⟨S1024x64, .f32⟩ : BufTy).Contents (Elt F)),
    binary main_arg2 main_arg2 main_v2 ((fun l r => Host.dotGeneral dot_S1024x64x128_S1024x64x128_S1024x64x64_2_2_1_1_0_0 none l r) : (⟨S1024x64x128, .f32⟩ : BufTy).Contents (Elt F) → (⟨S1024x64x128, .f32⟩ : BufTy).Contents (Elt F) → (⟨S1024x64x64, .f32⟩ : BufTy).Contents (Elt F)),
    unary main_v1 main_v3 (broadcastInDim S1024x64x1 ![0, 1] bcast_S1024x64_S1024x64x1_0_1 : (⟨S1024x64, .f32⟩ : BufTy).Contents (Elt F) → (⟨S1024x64x1, .f32⟩ : BufTy).Contents (Elt F)),
    unary main_v1 main_v4 (broadcastInDim S1024x1x64 ![0, 2] bcast_S1024x64_S1024x1x64_0_2 : (⟨S1024x64, .f32⟩ : BufTy).Contents (Elt F) → (⟨S1024x1x64, .f32⟩ : BufTy).Contents (Elt F)),
    unary main_v3 main_v5 (broadcastInDim S1024x64x64 ![0, 1, 2] bcast_S1024x64x1_S1024x64x64_0_1_2 : (⟨S1024x64x1, .f32⟩ : BufTy).Contents (Elt F) → (⟨S1024x64x64, .f32⟩ : BufTy).Contents (Elt F)),
    unary main_v4 main_v6 (broadcastInDim S1024x64x64 ![0, 1, 2] bcast_S1024x1x64_S1024x64x64_0_1_2 : (⟨S1024x1x64, .f32⟩ : BufTy).Contents (Elt F) → (⟨S1024x64x64, .f32⟩ : BufTy).Contents (Elt F)),
    binary main_v5 main_v6 main_v7 (addf : (⟨S1024x64x64, .f32⟩ : BufTy).Contents (Elt F) → (⟨S1024x64x64, .f32⟩ : BufTy).Contents (Elt F) → (⟨S1024x64x64, .f32⟩ : BufTy).Contents (Elt F)),
    nullary main_cst_0 (constant S_ .f32 0x40000000#32),
    unary main_cst_0 main_v8 (broadcastInDim S1024x64x64 ![] bcast_S_S1024x64x64 : (⟨S_, .f32⟩ : BufTy).Contents (Elt F) → (⟨S1024x64x64, .f32⟩ : BufTy).Contents (Elt F)),
    binary main_v8 main_v2 main_v9 (mulf : (⟨S1024x64x64, .f32⟩ : BufTy).Contents (Elt F) → (⟨S1024x64x64, .f32⟩ : BufTy).Contents (Elt F) → (⟨S1024x64x64, .f32⟩ : BufTy).Contents (Elt F)),
    binary main_v7 main_v9 main_v10 (subf : (⟨S1024x64x64, .f32⟩ : BufTy).Contents (Elt F) → (⟨S1024x64x64, .f32⟩ : BufTy).Contents (Elt F) → (⟨S1024x64x64, .f32⟩ : BufTy).Contents (Elt F)),
    nullary main_cst_1 (constant S_ .f32 0x2B8CBCCC#32),
    unary main_cst_1 main_v11 (broadcastInDim S1024x64x64 ![] bcast_S_S1024x64x64 : (⟨S_, .f32⟩ : BufTy).Contents (Elt F) → (⟨S1024x64x64, .f32⟩ : BufTy).Contents (Elt F)),
    binary main_v10 main_v11 main_v12 (maximumf : (⟨S1024x64x64, .f32⟩ : BufTy).Contents (Elt F) → (⟨S1024x64x64, .f32⟩ : BufTy).Contents (Elt F) → (⟨S1024x64x64, .f32⟩ : BufTy).Contents (Elt F)),
    unary main_v12 main_v13 (Host.sqrt : (⟨S1024x64x64, .f32⟩ : BufTy).Contents (Elt F) → (⟨S1024x64x64, .f32⟩ : BufTy).Contents (Elt F)),
    unary main_v13 main_v14 (Host.negf : (⟨S1024x64x64, .f32⟩ : BufTy).Contents (Elt F) → (⟨S1024x64x64, .f32⟩ : BufTy).Contents (Elt F)),
    nullary main_cst_2 (constant S_ .f32 0x3F800000#32),
    unary main_cst_2 main_v15 (broadcastInDim S1024x64x64 ![] bcast_S_S1024x64x64 : (⟨S_, .f32⟩ : BufTy).Contents (Elt F) → (⟨S1024x64x64, .f32⟩ : BufTy).Contents (Elt F)),
    binary main_v14 main_v15 main_v16 (Host.divf : (⟨S1024x64x64, .f32⟩ : BufTy).Contents (Elt F) → (⟨S1024x64x64, .f32⟩ : BufTy).Contents (Elt F) → (⟨S1024x64x64, .f32⟩ : BufTy).Contents (Elt F)),
    nullary main_v17 (iotaInDim S64x64 32 0),
    nullary main_v18 (iotaInDim S64x64 32 1),
    nullary main_c (constantI S_ 32 0#32),
    unary main_c main_v19 (broadcastInDim S64x64 ![] bcast_S_S64x64 : (⟨S_, .i32⟩ : BufTy).Contents (Elt F) → (⟨S64x64, .i32⟩ : BufTy).Contents (Elt F)),
    binary main_v17 main_v19 main_v20 (addi : (⟨S64x64, .i32⟩ : BufTy).Contents (Elt F) → (⟨S64x64, .i32⟩ : BufTy).Contents (Elt F) → (⟨S64x64, .i32⟩ : BufTy).Contents (Elt F)),
    binary main_v20 main_v18 main_v21 (cmpi .eq : (⟨S64x64, .i32⟩ : BufTy).Contents (Elt F) → (⟨S64x64, .i32⟩ : BufTy).Contents (Elt F) → (⟨S64x64, .i1⟩ : BufTy).Contents (Elt F)),
    unary main_v21 main_v22 (broadcastInDim S1x64x64 ![1, 2] bcast_S64x64_S1x64x64_1_2 : (⟨S64x64, .i1⟩ : BufTy).Contents (Elt F) → (⟨S1x64x64, .i1⟩ : BufTy).Contents (Elt F)),
    nullary main_cst_3 (constant S_ .f32 0xFF800000#32),
    TRef.unary (.of main_cst_3 : TRef sig ⟨S_, .f32⟩) (.of main_call0_v0 : TRef sig ⟨S_, .f32⟩) id,
    TRef.unary (.of main_v22 : TRef sig ⟨S1x64x64, .i1⟩) (.of main_call0_v1 : TRef sig ⟨S1024x64x64, .i1⟩) (broadcastInDim S1024x64x64 ![0, 1, 2] bcast_S1x64x64_S1024x64x64_0_1_2),
    TRef.unary (.of main_call0_v0 : TRef sig ⟨S_, .f32⟩) (.of main_call0_v2 : TRef sig ⟨S1024x64x64, .f32⟩) (broadcastInDim S1024x64x64 ![] bcast_S_S1024x64x64),
    TRef.ternary (.of main_call0_v1 : TRef sig ⟨S1024x64x64, .i1⟩) (.of main_call0_v2 : TRef sig ⟨S1024x64x64, .f32⟩) (.of main_v16 : TRef sig ⟨S1024x64x64, .f32⟩) (.of main_v23 : TRef sig ⟨S1024x64x64, .f32⟩) select ]

set_option maxHeartbeats 4000000 in
/-- The flat logits and the key words. -/
abbrev opsK : List (HloOp τ sig (Elt F)) :=
  [ reshape main_v23 main_v24 (rfl : (.f32 : EltTy) = .f32) shapeCasts_S1024x64x64_S1024x4096,
    nullary main_c_4 (constantI S_ 32 42#32),
    nullary main_c_5 (constantI S_ 32 32#32),
    binary main_c_4 main_c_5 main_v25 (Host.shrui : (⟨S_, .i32⟩ : BufTy).Contents (Elt F) → (⟨S_, .i32⟩ : BufTy).Contents (Elt F) → (⟨S_, .i32⟩ : BufTy).Contents (Elt F)),
    unary main_v25 main_v26 (id : (⟨S_, .i32⟩ : BufTy).Contents (Elt F) → (⟨S_, .i32⟩ : BufTy).Contents (Elt F)),
    unary main_v26 main_v27 (broadcastInDim S1 ![] bcast_S_S1 : (⟨S_, .i32⟩ : BufTy).Contents (Elt F) → (⟨S1, .i32⟩ : BufTy).Contents (Elt F)),
    nullary main_c_6 (constantI S_ 32 4294967295#32),
    binary main_c_4 main_c_6 main_v28 (andi : (⟨S_, .i32⟩ : BufTy).Contents (Elt F) → (⟨S_, .i32⟩ : BufTy).Contents (Elt F) → (⟨S_, .i32⟩ : BufTy).Contents (Elt F)),
    unary main_v28 main_v29 (id : (⟨S_, .i32⟩ : BufTy).Contents (Elt F) → (⟨S_, .i32⟩ : BufTy).Contents (Elt F)),
    unary main_v29 main_v30 (broadcastInDim S1 ![] bcast_S_S1 : (⟨S_, .i32⟩ : BufTy).Contents (Elt F) → (⟨S1, .i32⟩ : BufTy).Contents (Elt F)),
    binary main_v27 main_v30 main_v31 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

set_option maxHeartbeats 4000000 in
/-- The uniform draw up to the counter words. -/
abbrev opsG0 : List (HloOp τ sig (Elt F)) :=
  [ TRef.nullary (.of main_call1_cst : TRef sig ⟨S_, .f32⟩) (constant S_ .f32 0x3F800000#32),
    TRef.nullary (.of main_call1_cst_0 : TRef sig ⟨S_, .f32⟩) (constant S_ .f32 0x00800000#32),
    TRef.unary (.of main_call1_cst : TRef sig ⟨S_, .f32⟩) (.of main_call1_call0_v0 : TRef sig ⟨S_, .f32⟩) id,
    TRef.unary (.of main_call1_cst_0 : TRef sig ⟨S_, .f32⟩) (.of main_call1_call0_v1 : TRef sig ⟨S1x1, .f32⟩) (broadcastInDim S1x1 ![] bcast_S_S1x1),
    TRef.unary (.of main_call1_call0_v0 : TRef sig ⟨S_, .f32⟩) (.of main_call1_call0_v2 : TRef sig ⟨S1x1, .f32⟩) (broadcastInDim S1x1 ![] bcast_S_S1x1),
    TRef.unary (.of main_v31 : TRef sig ⟨S2, .i32⟩) (.of main_call1_call0_v3 : TRef sig ⟨S1, .i32⟩) (extractStridedSlice S1 ![0] · slices_S2_S1_0),
    TRef.reshape (.of main_call1_call0_v3 : TRef sig ⟨S1, .i32⟩) (.of main_call1_call0_v4 : TRef sig ⟨S_, .i32⟩) (rfl : (.i32 : EltTy) = .i32) shapeCasts_S1_S_,
    TRef.unary (.of main_v31 : TRef sig ⟨S2, .i32⟩) (.of main_call1_call0_v5 : TRef sig ⟨S1, .i32⟩) (extractStridedSlice S1 ![1] · slices_S2_S1_1),
    TRef.reshape (.of main_call1_call0_v5 : TRef sig ⟨S1, .i32⟩) (.of main_call1_call0_v6 : TRef sig ⟨S_, .i32⟩) (rfl : (.i32 : EltTy) = .i32) shapeCasts_S1_S_,
    TRef.nullary (.of main_call1_call0_v7 : TRef sig ⟨S1024x4096, .i64⟩) (iotaInDim S1024x4096 64 0),
    TRef.nullary (.of main_call1_call0_v8 : TRef sig ⟨S1024x4096, .i64⟩) (iotaInDim S1024x4096 64 1),
    TRef.nullary (.of main_call1_call0_c : TRef sig ⟨S_, .i64⟩) (constantI S_ 64 4096#64),
    TRef.unary (.of main_call1_call0_c : TRef sig ⟨S_, .i64⟩) (.of main_call1_call0_v9 : TRef sig ⟨S1024x4096, .i64⟩) (broadcastInDim S1024x4096 ![] bcast_S_S1024x4096),
    TRef.binary (.of main_call1_call0_v9 : TRef sig ⟨S1024x4096, .i64⟩) (.of main_call1_call0_v7 : TRef sig ⟨S1024x4096, .i64⟩) (.of main_call1_call0_v10 : TRef sig ⟨S1024x4096, .i64⟩) muli,
    TRef.nullary (.of main_call1_call0_c_0 : TRef sig ⟨S_, .i64⟩) (constantI S_ 64 1#64),
    TRef.unary (.of main_call1_call0_c_0 : TRef sig ⟨S_, .i64⟩) (.of main_call1_call0_v11 : TRef sig ⟨S1024x4096, .i64⟩) (broadcastInDim S1024x4096 ![] bcast_S_S1024x4096),
    TRef.binary (.of main_call1_call0_v11 : TRef sig ⟨S1024x4096, .i64⟩) (.of main_call1_call0_v8 : TRef sig ⟨S1024x4096, .i64⟩) (.of main_call1_call0_v12 : TRef sig ⟨S1024x4096, .i64⟩) muli,
    TRef.binary (.of main_call1_call0_v10 : TRef sig ⟨S1024x4096, .i64⟩) (.of main_call1_call0_v12 : TRef sig ⟨S1024x4096, .i64⟩) (.of main_call1_call0_v13 : TRef sig ⟨S1024x4096, .i64⟩) addi,
    TRef.nullary (.of main_call1_call0_c_1 : TRef sig ⟨S_, .i64⟩) (constantI S_ 64 32#64),
    TRef.unary (.of main_call1_call0_c_1 : TRef sig ⟨S_, .i64⟩) (.of main_call1_call0_v14 : TRef sig ⟨S1024x4096, .i64⟩) (broadcastInDim S1024x4096 ![] bcast_S_S1024x4096),
    TRef.binary (.of main_call1_call0_v13 : TRef sig ⟨S1024x4096, .i64⟩) (.of main_call1_call0_v14 : TRef sig ⟨S1024x4096, .i64⟩) (.of main_call1_call0_v15 : TRef sig ⟨S1024x4096, .i64⟩) Host.shrui,
    TRef.unary (.of main_call1_call0_v13 : TRef sig ⟨S1024x4096, .i64⟩) (.of main_call1_call0_v16 : TRef sig ⟨S1024x4096, .i32⟩) (trunci 32 · natLt_32_64),
    TRef.unary (.of main_call1_call0_v15 : TRef sig ⟨S1024x4096, .i64⟩) (.of main_call1_call0_v17 : TRef sig ⟨S1024x4096, .i32⟩) (trunci 32 · natLt_32_64) ]

set_option maxHeartbeats 4000000 in
/-- The counter hash, first part. -/
abbrev opsT0 : List (HloOp τ sig (Elt F)) :=
  [ TRef.binary (.of main_call1_call0_v4 : TRef sig ⟨S_, .i32⟩) (.of main_call1_call0_v6 : TRef sig ⟨S_, .i32⟩) (.of main_call1_call0_call0_v0 : TRef sig ⟨S_, .i32⟩) xori,
    TRef.nullary (.of main_call1_call0_call0_c : TRef sig ⟨S_, .i32⟩) (constantI S_ 32 466688986#32),
    TRef.binary (.of main_call1_call0_call0_v0 : TRef sig ⟨S_, .i32⟩) (.of main_call1_call0_call0_c : TRef sig ⟨S_, .i32⟩) (.of main_call1_call0_call0_v1 : TRef sig ⟨S_, .i32⟩) xori,
    TRef.unary (.of main_call1_call0_v4 : TRef sig ⟨S_, .i32⟩) (.of main_call1_call0_call0_v2 : TRef sig ⟨S1024x4096, .i32⟩) (broadcastInDim S1024x4096 ![] bcast_S_S1024x4096),
    TRef.binary (.of main_call1_call0_v17 : TRef sig ⟨S1024x4096, .i32⟩) (.of main_call1_call0_call0_v2 : TRef sig ⟨S1024x4096, .i32⟩) (.of main_call1_call0_call0_v3 : TRef sig ⟨S1024x4096, .i32⟩) addi,
    TRef.unary (.of main_call1_call0_v6 : TRef sig ⟨S_, .i32⟩) (.of main_call1_call0_call0_v4 : TRef sig ⟨S1024x4096, .i32⟩) (broadcastInDim S1024x4096 ![] bcast_S_S1024x4096),
    TRef.binary (.of main_call1_call0_v16 : TRef sig ⟨S1024x4096, .i32⟩) (.of main_call1_call0_call0_v4 : TRef sig ⟨S1024x4096, .i32⟩) (.of main_call1_call0_call0_v5 : TRef sig ⟨S1024x4096, .i32⟩) addi,
    TRef.binary (.of main_call1_call0_call0_v3 : TRef sig ⟨S1024x4096, .i32⟩) (.of main_call1_call0_call0_v5 : TRef sig ⟨S1024x4096, .i32⟩) (.of main_call1_call0_call0_v6 : TRef sig ⟨S1024x4096, .i32⟩) addi,
    TRef.nullary (.of main_call1_call0_call0_c_0 : TRef sig ⟨S_, .i32⟩) (constantI S_ 32 13#32),
    TRef.unary (.of main_call1_call0_call0_c_0 : TRef sig ⟨S_, .i32⟩) (.of main_call1_call0_call0_v7 : TRef sig ⟨S1024x4096, .i32⟩) (broadcastInDim S1024x4096 ![] bcast_S_S1024x4096),
    TRef.binary (.of main_call1_call0_call0_v5 : TRef sig ⟨S1024x4096, .i32⟩) (.of main_call1_call0_call0_v7 : TRef sig ⟨S1024x4096, .i32⟩) (.of main_call1_call0_call0_v8 : TRef sig ⟨S1024x4096, .i32⟩) Host.shli,
    TRef.nullary (.of main_call1_call0_call0_c_1 : TRef sig ⟨S_, .i32⟩) (constantI S_ 32 19#32),
    TRef.unary (.of main_call1_call0_call0_c_1 : TRef sig ⟨S_, .i32⟩) (.of main_call1_call0_call0_v9 : TRef sig ⟨S1024x4096, .i32⟩) (broadcastInDim S1024x4096 ![] bcast_S_S1024x4096),
    TRef.binary (.of main_call1_call0_call0_v5 : TRef sig ⟨S1024x4096, .i32⟩) (.of main_call1_call0_call0_v9 : TRef sig ⟨S1024x4096, .i32⟩) (.of main_call1_call0_call0_v10 : TRef sig ⟨S1024x4096, .i32⟩) Host.shrui,
    TRef.binary (.of main_call1_call0_call0_v8 : TRef sig ⟨S1024x4096, .i32⟩) (.of main_call1_call0_call0_v10 : TRef sig ⟨S1024x4096, .i32⟩) (.of main_call1_call0_call0_v11 : TRef sig ⟨S1024x4096, .i32⟩) ori,
    TRef.binary (.of main_call1_call0_call0_v6 : TRef sig ⟨S1024x4096, .i32⟩) (.of main_call1_call0_call0_v11 : TRef sig ⟨S1024x4096, .i32⟩) (.of main_call1_call0_call0_v12 : TRef sig ⟨S1024x4096, .i32⟩) xori,
    TRef.binary (.of main_call1_call0_call0_v6 : TRef sig ⟨S1024x4096, .i32⟩) (.of main_call1_call0_call0_v12 : TRef sig ⟨S1024x4096, .i32⟩) (.of main_call1_call0_call0_v13 : TRef sig ⟨S1024x4096, .i32⟩) addi,
    TRef.nullary (.of main_call1_call0_call0_c_2 : TRef sig ⟨S_, .i32⟩) (constantI S_ 32 15#32),
    TRef.unary (.of main_call1_call0_call0_c_2 : TRef sig ⟨S_, .i32⟩) (.of main_call1_call0_call0_v14 : TRef sig ⟨S1024x4096, .i32⟩) (broadcastInDim S1024x4096 ![] bcast_S_S1024x4096),
    TRef.binary (.of main_call1_call0_call0_v12 : TRef sig ⟨S1024x4096, .i32⟩) (.of main_call1_call0_call0_v14 : TRef sig ⟨S1024x4096, .i32⟩) (.of main_call1_call0_call0_v15 : TRef sig ⟨S1024x4096, .i32⟩) Host.shli,
    TRef.nullary (.of main_call1_call0_call0_c_3 : TRef sig ⟨S_, .i32⟩) (constantI S_ 32 17#32),
    TRef.unary (.of main_call1_call0_call0_c_3 : TRef sig ⟨S_, .i32⟩) (.of main_call1_call0_call0_v16 : TRef sig ⟨S1024x4096, .i32⟩) (broadcastInDim S1024x4096 ![] bcast_S_S1024x4096),
    TRef.binary (.of main_call1_call0_call0_v12 : TRef sig ⟨S1024x4096, .i32⟩) (.of main_call1_call0_call0_v16 : TRef sig ⟨S1024x4096, .i32⟩) (.of main_call1_call0_call0_v17 : TRef sig ⟨S1024x4096, .i32⟩) Host.shrui,
    TRef.binary (.of main_call1_call0_call0_v15 : TRef sig ⟨S1024x4096, .i32⟩) (.of main_call1_call0_call0_v17 : TRef sig ⟨S1024x4096, .i32⟩) (.of main_call1_call0_call0_v18 : TRef sig ⟨S1024x4096, .i32⟩) ori,
    TRef.binary (.of main_call1_call0_call0_v13 : TRef sig ⟨S1024x4096, .i32⟩) (.of main_call1_call0_call0_v18 : TRef sig ⟨S1024x4096, .i32⟩) (.of main_call1_call0_call0_v19 : TRef sig ⟨S1024x4096, .i32⟩) xori,
    TRef.binary (.of main_call1_call0_call0_v13 : TRef sig ⟨S1024x4096, .i32⟩) (.of main_call1_call0_call0_v19 : TRef sig ⟨S1024x4096, .i32⟩) (.of main_call1_call0_call0_v20 : TRef sig ⟨S1024x4096, .i32⟩) addi,
    TRef.nullary (.of main_call1_call0_call0_c_4 : TRef sig ⟨S_, .i32⟩) (constantI S_ 32 26#32),
    TRef.unary (.of main_call1_call0_call0_c_4 : TRef sig ⟨S_, .i32⟩) (.of main_call1_call0_call0_v21 : TRef sig ⟨S1024x4096, .i32⟩) (broadcastInDim S1024x4096 ![] bcast_S_S1024x4096),
    TRef.binary (.of main_call1_call0_call0_v19 : TRef sig ⟨S1024x4096, .i32⟩) (.of main_call1_call0_call0_v21 : TRef sig ⟨S1024x4096, .i32⟩) (.of main_call1_call0_call0_v22 : TRef sig ⟨S1024x4096, .i32⟩) Host.shli,
    TRef.nullary (.of main_call1_call0_call0_c_5 : TRef sig ⟨S_, .i32⟩) (constantI S_ 32 6#32),
    TRef.unary (.of main_call1_call0_call0_c_5 : TRef sig ⟨S_, .i32⟩) (.of main_call1_call0_call0_v23 : TRef sig ⟨S1024x4096, .i32⟩) (broadcastInDim S1024x4096 ![] bcast_S_S1024x4096),
    TRef.binary (.of main_call1_call0_call0_v19 : TRef sig ⟨S1024x4096, .i32⟩) (.of main_call1_call0_call0_v23 : TRef sig ⟨S1024x4096, .i32⟩) (.of main_call1_call0_call0_v24 : TRef sig ⟨S1024x4096, .i32⟩) Host.shrui,
    TRef.binary (.of main_call1_call0_call0_v22 : TRef sig ⟨S1024x4096, .i32⟩) (.of main_call1_call0_call0_v24 : TRef sig ⟨S1024x4096, .i32⟩) (.of main_call1_call0_call0_v25 : TRef sig ⟨S1024x4096, .i32⟩) ori,
    TRef.binary (.of main_call1_call0_call0_v20 : TRef sig ⟨S1024x4096, .i32⟩) (.of main_call1_call0_call0_v25 : TRef sig ⟨S1024x4096, .i32⟩) (.of main_call1_call0_call0_v26 : TRef sig ⟨S1024x4096, .i32⟩) xori,
    TRef.binary (.of main_call1_call0_call0_v20 : TRef sig ⟨S1024x4096, .i32⟩) (.of main_call1_call0_call0_v26 : TRef sig ⟨S1024x4096, .i32⟩) (.of main_call1_call0_call0_v27 : TRef sig ⟨S1024x4096, .i32⟩) addi,
    TRef.nullary (.of main_call1_call0_call0_c_6 : TRef sig ⟨S_, .i32⟩) (constantI S_ 32 6#32),
    TRef.unary (.of main_call1_call0_call0_c_6 : TRef sig ⟨S_, .i32⟩) (.of main_call1_call0_call0_v28 : TRef sig ⟨S1024x4096, .i32⟩) (broadcastInDim S1024x4096 ![] bcast_S_S1024x4096),
    TRef.binary (.of main_call1_call0_call0_v26 : TRef sig ⟨S1024x4096, .i32⟩) (.of main_call1_call0_call0_v28 : TRef sig ⟨S1024x4096, .i32⟩) (.of main_call1_call0_call0_v29 : TRef sig ⟨S1024x4096, .i32⟩) Host.shli,
    TRef.nullary (.of main_call1_call0_call0_c_7 : TRef sig ⟨S_, .i32⟩) (constantI S_ 32 26#32),
    TRef.unary (.of main_call1_call0_call0_c_7 : TRef sig ⟨S_, .i32⟩) (.of main_call1_call0_call0_v30 : TRef sig ⟨S1024x4096, .i32⟩) (broadcastInDim S1024x4096 ![] bcast_S_S1024x4096),
    TRef.binary (.of main_call1_call0_call0_v26 : TRef sig ⟨S1024x4096, .i32⟩) (.of main_call1_call0_call0_v30 : TRef sig ⟨S1024x4096, .i32⟩) (.of main_call1_call0_call0_v31 : TRef sig ⟨S1024x4096, .i32⟩) Host.shrui,
    TRef.binary (.of main_call1_call0_call0_v29 : TRef sig ⟨S1024x4096, .i32⟩) (.of main_call1_call0_call0_v31 : TRef sig ⟨S1024x4096, .i32⟩) (.of main_call1_call0_call0_v32 : TRef sig ⟨S1024x4096, .i32⟩) ori,
    TRef.binary (.of main_call1_call0_call0_v27 : TRef sig ⟨S1024x4096, .i32⟩) (.of main_call1_call0_call0_v32 : TRef sig ⟨S1024x4096, .i32⟩) (.of main_call1_call0_call0_v33 : TRef sig ⟨S1024x4096, .i32⟩) xori,
    TRef.unary (.of main_call1_call0_v6 : TRef sig ⟨S_, .i32⟩) (.of main_call1_call0_call0_v34 : TRef sig ⟨S1024x4096, .i32⟩) (broadcastInDim S1024x4096 ![] bcast_S_S1024x4096),
    TRef.binary (.of main_call1_call0_call0_v27 : TRef sig ⟨S1024x4096, .i32⟩) (.of main_call1_call0_call0_v34 : TRef sig ⟨S1024x4096, .i32⟩) (.of main_call1_call0_call0_v35 : TRef sig ⟨S1024x4096, .i32⟩) addi,
    TRef.unary (.of main_call1_call0_call0_v1 : TRef sig ⟨S_, .i32⟩) (.of main_call1_call0_call0_v36 : TRef sig ⟨S1024x4096, .i32⟩) (broadcastInDim S1024x4096 ![] bcast_S_S1024x4096),
    TRef.binary (.of main_call1_call0_call0_v33 : TRef sig ⟨S1024x4096, .i32⟩) (.of main_call1_call0_call0_v36 : TRef sig ⟨S1024x4096, .i32⟩) (.of main_call1_call0_call0_v37 : TRef sig ⟨S1024x4096, .i32⟩) addi,
    TRef.nullary (.of main_call1_call0_call0_c_8 : TRef sig ⟨S_, .i32⟩) (constantI S_ 32 1#32),
    TRef.unary (.of main_call1_call0_call0_c_8 : TRef sig ⟨S_, .i32⟩) (.of main_call1_call0_call0_v38 : TRef sig ⟨S1024x4096, .i32⟩) (broadcastInDim S1024x4096 ![] bcast_S_S1024x4096),
    TRef.binary (.of main_call1_call0_call0_v37 : TRef sig ⟨S1024x4096, .i32⟩) (.of main_call1_call0_call0_v38 : TRef sig ⟨S1024x4096, .i32⟩) (.of main_call1_call0_call0_v39 : TRef sig ⟨S1024x4096, .i32⟩) addi,
    TRef.binary (.of main_call1_call0_call0_v35 : TRef sig ⟨S1024x4096, .i32⟩) (.of main_call1_call0_call0_v39 : TRef sig ⟨S1024x4096, .i32⟩) (.of main_call1_call0_call0_v40 : TRef sig ⟨S1024x4096, .i32⟩) addi,
    TRef.nullary (.of main_call1_call0_call0_c_9 : TRef sig ⟨S_, .i32⟩) (constantI S_ 32 17#32),
    TRef.unary (.of main_call1_call0_call0_c_9 : TRef sig ⟨S_, .i32⟩) (.of main_call1_call0_call0_v41 : TRef sig ⟨S1024x4096, .i32⟩) (broadcastInDim S1024x4096 ![] bcast_S_S1024x4096),
    TRef.binary (.of main_call1_call0_call0_v39 : TRef sig ⟨S1024x4096, .i32⟩) (.of main_call1_call0_call0_v41 : TRef sig ⟨S1024x4096, .i32⟩) (.of main_call1_call0_call0_v42 : TRef sig ⟨S1024x4096, .i32⟩) Host.shli,
    TRef.nullary (.of main_call1_call0_call0_c_10 : TRef sig ⟨S_, .i32⟩) (constantI S_ 32 15#32),
    TRef.unary (.of main_call1_call0_call0_c_10 : TRef sig ⟨S_, .i32⟩) (.of main_call1_call0_call0_v43 : TRef sig ⟨S1024x4096, .i32⟩) (broadcastInDim S1024x4096 ![] bcast_S_S1024x4096),
    TRef.binary (.of main_call1_call0_call0_v39 : TRef sig ⟨S1024x4096, .i32⟩) (.of main_call1_call0_call0_v43 : TRef sig ⟨S1024x4096, .i32⟩) (.of main_call1_call0_call0_v44 : TRef sig ⟨S1024x4096, .i32⟩) Host.shrui,
    TRef.binary (.of main_call1_call0_call0_v42 : TRef sig ⟨S1024x4096, .i32⟩) (.of main_call1_call0_call0_v44 : TRef sig ⟨S1024x4096, .i32⟩) (.of main_call1_call0_call0_v45 : TRef sig ⟨S1024x4096, .i32⟩) ori,
    TRef.binary (.of main_call1_call0_call0_v40 : TRef sig ⟨S1024x4096, .i32⟩) (.of main_call1_call0_call0_v45 : TRef sig ⟨S1024x4096, .i32⟩) (.of main_call1_call0_call0_v46 : TRef sig ⟨S1024x4096, .i32⟩) xori,
    TRef.binary (.of main_call1_call0_call0_v40 : TRef sig ⟨S1024x4096, .i32⟩) (.of main_call1_call0_call0_v46 : TRef sig ⟨S1024x4096, .i32⟩) (.of main_call1_call0_call0_v47 : TRef sig ⟨S1024x4096, .i32⟩) addi ]

set_option maxHeartbeats 4000000 in
/-- The counter hash, second part. -/
abbrev opsT1 : List (HloOp τ sig (Elt F)) :=
  [ TRef.nullary (.of main_call1_call0_call0_c_11 : TRef sig ⟨S_, .i32⟩) (constantI S_ 32 29#32),
    TRef.unary (.of main_call1_call0_call0_c_11 : TRef sig ⟨S_, .i32⟩) (.of main_call1_call0_call0_v48 : TRef sig ⟨S1024x4096, .i32⟩) (broadcastInDim S1024x4096 ![] bcast_S_S1024x4096),
    TRef.binary (.of main_call1_call0_call0_v46 : TRef sig ⟨S1024x4096, .i32⟩) (.of main_call1_call0_call0_v48 : TRef sig ⟨S1024x4096, .i32⟩) (.of main_call1_call0_call0_v49 : TRef sig ⟨S1024x4096, .i32⟩) Host.shli,
    TRef.nullary (.of main_call1_call0_call0_c_12 : TRef sig ⟨S_, .i32⟩) (constantI S_ 32 3#32),
    TRef.unary (.of main_call1_call0_call0_c_12 : TRef sig ⟨S_, .i32⟩) (.of main_call1_call0_call0_v50 : TRef sig ⟨S1024x4096, .i32⟩) (broadcastInDim S1024x4096 ![] bcast_S_S1024x4096),
    TRef.binary (.of main_call1_call0_call0_v46 : TRef sig ⟨S1024x4096, .i32⟩) (.of main_call1_call0_call0_v50 : TRef sig ⟨S1024x4096, .i32⟩) (.of main_call1_call0_call0_v51 : TRef sig ⟨S1024x4096, .i32⟩) Host.shrui,
    TRef.binary (.of main_call1_call0_call0_v49 : TRef sig ⟨S1024x4096, .i32⟩) (.of main_call1_call0_call0_v51 : TRef sig ⟨S1024x4096, .i32⟩) (.of main_call1_call0_call0_v52 : TRef sig ⟨S1024x4096, .i32⟩) ori,
    TRef.binary (.of main_call1_call0_call0_v47 : TRef sig ⟨S1024x4096, .i32⟩) (.of main_call1_call0_call0_v52 : TRef sig ⟨S1024x4096, .i32⟩) (.of main_call1_call0_call0_v53 : TRef sig ⟨S1024x4096, .i32⟩) xori,
    TRef.binary (.of main_call1_call0_call0_v47 : TRef sig ⟨S1024x4096, .i32⟩) (.of main_call1_call0_call0_v53 : TRef sig ⟨S1024x4096, .i32⟩) (.of main_call1_call0_call0_v54 : TRef sig ⟨S1024x4096, .i32⟩) addi,
    TRef.nullary (.of main_call1_call0_call0_c_13 : TRef sig ⟨S_, .i32⟩) (constantI S_ 32 16#32),
    TRef.unary (.of main_call1_call0_call0_c_13 : TRef sig ⟨S_, .i32⟩) (.of main_call1_call0_call0_v55 : TRef sig ⟨S1024x4096, .i32⟩) (broadcastInDim S1024x4096 ![] bcast_S_S1024x4096),
    TRef.binary (.of main_call1_call0_call0_v53 : TRef sig ⟨S1024x4096, .i32⟩) (.of main_call1_call0_call0_v55 : TRef sig ⟨S1024x4096, .i32⟩) (.of main_call1_call0_call0_v56 : TRef sig ⟨S1024x4096, .i32⟩) Host.shli,
    TRef.nullary (.of main_call1_call0_call0_c_14 : TRef sig ⟨S_, .i32⟩) (constantI S_ 32 16#32),
    TRef.unary (.of main_call1_call0_call0_c_14 : TRef sig ⟨S_, .i32⟩) (.of main_call1_call0_call0_v57 : TRef sig ⟨S1024x4096, .i32⟩) (broadcastInDim S1024x4096 ![] bcast_S_S1024x4096),
    TRef.binary (.of main_call1_call0_call0_v53 : TRef sig ⟨S1024x4096, .i32⟩) (.of main_call1_call0_call0_v57 : TRef sig ⟨S1024x4096, .i32⟩) (.of main_call1_call0_call0_v58 : TRef sig ⟨S1024x4096, .i32⟩) Host.shrui,
    TRef.binary (.of main_call1_call0_call0_v56 : TRef sig ⟨S1024x4096, .i32⟩) (.of main_call1_call0_call0_v58 : TRef sig ⟨S1024x4096, .i32⟩) (.of main_call1_call0_call0_v59 : TRef sig ⟨S1024x4096, .i32⟩) ori,
    TRef.binary (.of main_call1_call0_call0_v54 : TRef sig ⟨S1024x4096, .i32⟩) (.of main_call1_call0_call0_v59 : TRef sig ⟨S1024x4096, .i32⟩) (.of main_call1_call0_call0_v60 : TRef sig ⟨S1024x4096, .i32⟩) xori,
    TRef.binary (.of main_call1_call0_call0_v54 : TRef sig ⟨S1024x4096, .i32⟩) (.of main_call1_call0_call0_v60 : TRef sig ⟨S1024x4096, .i32⟩) (.of main_call1_call0_call0_v61 : TRef sig ⟨S1024x4096, .i32⟩) addi,
    TRef.nullary (.of main_call1_call0_call0_c_15 : TRef sig ⟨S_, .i32⟩) (constantI S_ 32 24#32),
    TRef.unary (.of main_call1_call0_call0_c_15 : TRef sig ⟨S_, .i32⟩) (.of main_call1_call0_call0_v62 : TRef sig ⟨S1024x4096, .i32⟩) (broadcastInDim S1024x4096 ![] bcast_S_S1024x4096),
    TRef.binary (.of main_call1_call0_call0_v60 : TRef sig ⟨S1024x4096, .i32⟩) (.of main_call1_call0_call0_v62 : TRef sig ⟨S1024x4096, .i32⟩) (.of main_call1_call0_call0_v63 : TRef sig ⟨S1024x4096, .i32⟩) Host.shli,
    TRef.nullary (.of main_call1_call0_call0_c_16 : TRef sig ⟨S_, .i32⟩) (constantI S_ 32 8#32),
    TRef.unary (.of main_call1_call0_call0_c_16 : TRef sig ⟨S_, .i32⟩) (.of main_call1_call0_call0_v64 : TRef sig ⟨S1024x4096, .i32⟩) (broadcastInDim S1024x4096 ![] bcast_S_S1024x4096),
    TRef.binary (.of main_call1_call0_call0_v60 : TRef sig ⟨S1024x4096, .i32⟩) (.of main_call1_call0_call0_v64 : TRef sig ⟨S1024x4096, .i32⟩) (.of main_call1_call0_call0_v65 : TRef sig ⟨S1024x4096, .i32⟩) Host.shrui,
    TRef.binary (.of main_call1_call0_call0_v63 : TRef sig ⟨S1024x4096, .i32⟩) (.of main_call1_call0_call0_v65 : TRef sig ⟨S1024x4096, .i32⟩) (.of main_call1_call0_call0_v66 : TRef sig ⟨S1024x4096, .i32⟩) ori,
    TRef.binary (.of main_call1_call0_call0_v61 : TRef sig ⟨S1024x4096, .i32⟩) (.of main_call1_call0_call0_v66 : TRef sig ⟨S1024x4096, .i32⟩) (.of main_call1_call0_call0_v67 : TRef sig ⟨S1024x4096, .i32⟩) xori,
    TRef.unary (.of main_call1_call0_call0_v1 : TRef sig ⟨S_, .i32⟩) (.of main_call1_call0_call0_v68 : TRef sig ⟨S1024x4096, .i32⟩) (broadcastInDim S1024x4096 ![] bcast_S_S1024x4096),
    TRef.binary (.of main_call1_call0_call0_v61 : TRef sig ⟨S1024x4096, .i32⟩) (.of main_call1_call0_call0_v68 : TRef sig ⟨S1024x4096, .i32⟩) (.of main_call1_call0_call0_v69 : TRef sig ⟨S1024x4096, .i32⟩) addi,
    TRef.unary (.of main_call1_call0_v4 : TRef sig ⟨S_, .i32⟩) (.of main_call1_call0_call0_v70 : TRef sig ⟨S1024x4096, .i32⟩) (broadcastInDim S1024x4096 ![] bcast_S_S1024x4096),
    TRef.binary (.of main_call1_call0_call0_v67 : TRef sig ⟨S1024x4096, .i32⟩) (.of main_call1_call0_call0_v70 : TRef sig ⟨S1024x4096, .i32⟩) (.of main_call1_call0_call0_v71 : TRef sig ⟨S1024x4096, .i32⟩) addi,
    TRef.nullary (.of main_call1_call0_call0_c_17 : TRef sig ⟨S_, .i32⟩) (constantI S_ 32 2#32),
    TRef.unary (.of main_call1_call0_call0_c_17 : TRef sig ⟨S_, .i32⟩) (.of main_call1_call0_call0_v72 : TRef sig ⟨S1024x4096, .i32⟩) (broadcastInDim S1024x4096 ![] bcast_S_S1024x4096),
    TRef.binary (.of main_call1_call0_call0_v71 : TRef sig ⟨S1024x4096, .i32⟩) (.of main_call1_call0_call0_v72 : TRef sig ⟨S1024x4096, .i32⟩) (.of main_call1_call0_call0_v73 : TRef sig ⟨S1024x4096, .i32⟩) addi,
    TRef.binary (.of main_call1_call0_call0_v69 : TRef sig ⟨S1024x4096, .i32⟩) (.of main_call1_call0_call0_v73 : TRef sig ⟨S1024x4096, .i32⟩) (.of main_call1_call0_call0_v74 : TRef sig ⟨S1024x4096, .i32⟩) addi,
    TRef.nullary (.of main_call1_call0_call0_c_18 : TRef sig ⟨S_, .i32⟩) (constantI S_ 32 13#32),
    TRef.unary (.of main_call1_call0_call0_c_18 : TRef sig ⟨S_, .i32⟩) (.of main_call1_call0_call0_v75 : TRef sig ⟨S1024x4096, .i32⟩) (broadcastInDim S1024x4096 ![] bcast_S_S1024x4096),
    TRef.binary (.of main_call1_call0_call0_v73 : TRef sig ⟨S1024x4096, .i32⟩) (.of main_call1_call0_call0_v75 : TRef sig ⟨S1024x4096, .i32⟩) (.of main_call1_call0_call0_v76 : TRef sig ⟨S1024x4096, .i32⟩) Host.shli,
    TRef.nullary (.of main_call1_call0_call0_c_19 : TRef sig ⟨S_, .i32⟩) (constantI S_ 32 19#32),
    TRef.unary (.of main_call1_call0_call0_c_19 : TRef sig ⟨S_, .i32⟩) (.of main_call1_call0_call0_v77 : TRef sig ⟨S1024x4096, .i32⟩) (broadcastInDim S1024x4096 ![] bcast_S_S1024x4096),
    TRef.binary (.of main_call1_call0_call0_v73 : TRef sig ⟨S1024x4096, .i32⟩) (.of main_call1_call0_call0_v77 : TRef sig ⟨S1024x4096, .i32⟩) (.of main_call1_call0_call0_v78 : TRef sig ⟨S1024x4096, .i32⟩) Host.shrui,
    TRef.binary (.of main_call1_call0_call0_v76 : TRef sig ⟨S1024x4096, .i32⟩) (.of main_call1_call0_call0_v78 : TRef sig ⟨S1024x4096, .i32⟩) (.of main_call1_call0_call0_v79 : TRef sig ⟨S1024x4096, .i32⟩) ori,
    TRef.binary (.of main_call1_call0_call0_v74 : TRef sig ⟨S1024x4096, .i32⟩) (.of main_call1_call0_call0_v79 : TRef sig ⟨S1024x4096, .i32⟩) (.of main_call1_call0_call0_v80 : TRef sig ⟨S1024x4096, .i32⟩) xori,
    TRef.binary (.of main_call1_call0_call0_v74 : TRef sig ⟨S1024x4096, .i32⟩) (.of main_call1_call0_call0_v80 : TRef sig ⟨S1024x4096, .i32⟩) (.of main_call1_call0_call0_v81 : TRef sig ⟨S1024x4096, .i32⟩) addi,
    TRef.nullary (.of main_call1_call0_call0_c_20 : TRef sig ⟨S_, .i32⟩) (constantI S_ 32 15#32),
    TRef.unary (.of main_call1_call0_call0_c_20 : TRef sig ⟨S_, .i32⟩) (.of main_call1_call0_call0_v82 : TRef sig ⟨S1024x4096, .i32⟩) (broadcastInDim S1024x4096 ![] bcast_S_S1024x4096),
    TRef.binary (.of main_call1_call0_call0_v80 : TRef sig ⟨S1024x4096, .i32⟩) (.of main_call1_call0_call0_v82 : TRef sig ⟨S1024x4096, .i32⟩) (.of main_call1_call0_call0_v83 : TRef sig ⟨S1024x4096, .i32⟩) Host.shli,
    TRef.nullary (.of main_call1_call0_call0_c_21 : TRef sig ⟨S_, .i32⟩) (constantI S_ 32 17#32),
    TRef.unary (.of main_call1_call0_call0_c_21 : TRef sig ⟨S_, .i32⟩) (.of main_call1_call0_call0_v84 : TRef sig ⟨S1024x4096, .i32⟩) (broadcastInDim S1024x4096 ![] bcast_S_S1024x4096),
    TRef.binary (.of main_call1_call0_call0_v80 : TRef sig ⟨S1024x4096, .i32⟩) (.of main_call1_call0_call0_v84 : TRef sig ⟨S1024x4096, .i32⟩) (.of main_call1_call0_call0_v85 : TRef sig ⟨S1024x4096, .i32⟩) Host.shrui,
    TRef.binary (.of main_call1_call0_call0_v83 : TRef sig ⟨S1024x4096, .i32⟩) (.of main_call1_call0_call0_v85 : TRef sig ⟨S1024x4096, .i32⟩) (.of main_call1_call0_call0_v86 : TRef sig ⟨S1024x4096, .i32⟩) ori,
    TRef.binary (.of main_call1_call0_call0_v81 : TRef sig ⟨S1024x4096, .i32⟩) (.of main_call1_call0_call0_v86 : TRef sig ⟨S1024x4096, .i32⟩) (.of main_call1_call0_call0_v87 : TRef sig ⟨S1024x4096, .i32⟩) xori,
    TRef.binary (.of main_call1_call0_call0_v81 : TRef sig ⟨S1024x4096, .i32⟩) (.of main_call1_call0_call0_v87 : TRef sig ⟨S1024x4096, .i32⟩) (.of main_call1_call0_call0_v88 : TRef sig ⟨S1024x4096, .i32⟩) addi,
    TRef.nullary (.of main_call1_call0_call0_c_22 : TRef sig ⟨S_, .i32⟩) (constantI S_ 32 26#32),
    TRef.unary (.of main_call1_call0_call0_c_22 : TRef sig ⟨S_, .i32⟩) (.of main_call1_call0_call0_v89 : TRef sig ⟨S1024x4096, .i32⟩) (broadcastInDim S1024x4096 ![] bcast_S_S1024x4096),
    TRef.binary (.of main_call1_call0_call0_v87 : TRef sig ⟨S1024x4096, .i32⟩) (.of main_call1_call0_call0_v89 : TRef sig ⟨S1024x4096, .i32⟩) (.of main_call1_call0_call0_v90 : TRef sig ⟨S1024x4096, .i32⟩) Host.shli,
    TRef.nullary (.of main_call1_call0_call0_c_23 : TRef sig ⟨S_, .i32⟩) (constantI S_ 32 6#32),
    TRef.unary (.of main_call1_call0_call0_c_23 : TRef sig ⟨S_, .i32⟩) (.of main_call1_call0_call0_v91 : TRef sig ⟨S1024x4096, .i32⟩) (broadcastInDim S1024x4096 ![] bcast_S_S1024x4096),
    TRef.binary (.of main_call1_call0_call0_v87 : TRef sig ⟨S1024x4096, .i32⟩) (.of main_call1_call0_call0_v91 : TRef sig ⟨S1024x4096, .i32⟩) (.of main_call1_call0_call0_v92 : TRef sig ⟨S1024x4096, .i32⟩) Host.shrui,
    TRef.binary (.of main_call1_call0_call0_v90 : TRef sig ⟨S1024x4096, .i32⟩) (.of main_call1_call0_call0_v92 : TRef sig ⟨S1024x4096, .i32⟩) (.of main_call1_call0_call0_v93 : TRef sig ⟨S1024x4096, .i32⟩) ori,
    TRef.binary (.of main_call1_call0_call0_v88 : TRef sig ⟨S1024x4096, .i32⟩) (.of main_call1_call0_call0_v93 : TRef sig ⟨S1024x4096, .i32⟩) (.of main_call1_call0_call0_v94 : TRef sig ⟨S1024x4096, .i32⟩) xori ]

set_option maxHeartbeats 4000000 in
/-- The counter hash, third part. -/
abbrev opsT2 : List (HloOp τ sig (Elt F)) :=
  [ TRef.binary (.of main_call1_call0_call0_v88 : TRef sig ⟨S1024x4096, .i32⟩) (.of main_call1_call0_call0_v94 : TRef sig ⟨S1024x4096, .i32⟩) (.of main_call1_call0_call0_v95 : TRef sig ⟨S1024x4096, .i32⟩) addi,
    TRef.nullary (.of main_call1_call0_call0_c_24 : TRef sig ⟨S_, .i32⟩) (constantI S_ 32 6#32),
    TRef.unary (.of main_call1_call0_call0_c_24 : TRef sig ⟨S_, .i32⟩) (.of main_call1_call0_call0_v96 : TRef sig ⟨S1024x4096, .i32⟩) (broadcastInDim S1024x4096 ![] bcast_S_S1024x4096),
    TRef.binary (.of main_call1_call0_call0_v94 : TRef sig ⟨S1024x4096, .i32⟩) (.of main_call1_call0_call0_v96 : TRef sig ⟨S1024x4096, .i32⟩) (.of main_call1_call0_call0_v97 : TRef sig ⟨S1024x4096, .i32⟩) Host.shli,
    TRef.nullary (.of main_call1_call0_call0_c_25 : TRef sig ⟨S_, .i32⟩) (constantI S_ 32 26#32),
    TRef.unary (.of main_call1_call0_call0_c_25 : TRef sig ⟨S_, .i32⟩) (.of main_call1_call0_call0_v98 : TRef sig ⟨S1024x4096, .i32⟩) (broadcastInDim S1024x4096 ![] bcast_S_S1024x4096),
    TRef.binary (.of main_call1_call0_call0_v94 : TRef sig ⟨S1024x4096, .i32⟩) (.of main_call1_call0_call0_v98 : TRef sig ⟨S1024x4096, .i32⟩) (.of main_call1_call0_call0_v99 : TRef sig ⟨S1024x4096, .i32⟩) Host.shrui,
    TRef.binary (.of main_call1_call0_call0_v97 : TRef sig ⟨S1024x4096, .i32⟩) (.of main_call1_call0_call0_v99 : TRef sig ⟨S1024x4096, .i32⟩) (.of main_call1_call0_call0_v100 : TRef sig ⟨S1024x4096, .i32⟩) ori,
    TRef.binary (.of main_call1_call0_call0_v95 : TRef sig ⟨S1024x4096, .i32⟩) (.of main_call1_call0_call0_v100 : TRef sig ⟨S1024x4096, .i32⟩) (.of main_call1_call0_call0_v101 : TRef sig ⟨S1024x4096, .i32⟩) xori,
    TRef.unary (.of main_call1_call0_v4 : TRef sig ⟨S_, .i32⟩) (.of main_call1_call0_call0_v102 : TRef sig ⟨S1024x4096, .i32⟩) (broadcastInDim S1024x4096 ![] bcast_S_S1024x4096),
    TRef.binary (.of main_call1_call0_call0_v95 : TRef sig ⟨S1024x4096, .i32⟩) (.of main_call1_call0_call0_v102 : TRef sig ⟨S1024x4096, .i32⟩) (.of main_call1_call0_call0_v103 : TRef sig ⟨S1024x4096, .i32⟩) addi,
    TRef.unary (.of main_call1_call0_v6 : TRef sig ⟨S_, .i32⟩) (.of main_call1_call0_call0_v104 : TRef sig ⟨S1024x4096, .i32⟩) (broadcastInDim S1024x4096 ![] bcast_S_S1024x4096),
    TRef.binary (.of main_call1_call0_call0_v101 : TRef sig ⟨S1024x4096, .i32⟩) (.of main_call1_call0_call0_v104 : TRef sig ⟨S1024x4096, .i32⟩) (.of main_call1_call0_call0_v105 : TRef sig ⟨S1024x4096, .i32⟩) addi,
    TRef.nullary (.of main_call1_call0_call0_c_26 : TRef sig ⟨S_, .i32⟩) (constantI S_ 32 3#32),
    TRef.unary (.of main_call1_call0_call0_c_26 : TRef sig ⟨S_, .i32⟩) (.of main_call1_call0_call0_v106 : TRef sig ⟨S1024x4096, .i32⟩) (broadcastInDim S1024x4096 ![] bcast_S_S1024x4096),
    TRef.binary (.of main_call1_call0_call0_v105 : TRef sig ⟨S1024x4096, .i32⟩) (.of main_call1_call0_call0_v106 : TRef sig ⟨S1024x4096, .i32⟩) (.of main_call1_call0_call0_v107 : TRef sig ⟨S1024x4096, .i32⟩) addi,
    TRef.binary (.of main_call1_call0_call0_v103 : TRef sig ⟨S1024x4096, .i32⟩) (.of main_call1_call0_call0_v107 : TRef sig ⟨S1024x4096, .i32⟩) (.of main_call1_call0_call0_v108 : TRef sig ⟨S1024x4096, .i32⟩) addi,
    TRef.nullary (.of main_call1_call0_call0_c_27 : TRef sig ⟨S_, .i32⟩) (constantI S_ 32 17#32),
    TRef.unary (.of main_call1_call0_call0_c_27 : TRef sig ⟨S_, .i32⟩) (.of main_call1_call0_call0_v109 : TRef sig ⟨S1024x4096, .i32⟩) (broadcastInDim S1024x4096 ![] bcast_S_S1024x4096),
    TRef.binary (.of main_call1_call0_call0_v107 : TRef sig ⟨S1024x4096, .i32⟩) (.of main_call1_call0_call0_v109 : TRef sig ⟨S1024x4096, .i32⟩) (.of main_call1_call0_call0_v110 : TRef sig ⟨S1024x4096, .i32⟩) Host.shli,
    TRef.nullary (.of main_call1_call0_call0_c_28 : TRef sig ⟨S_, .i32⟩) (constantI S_ 32 15#32),
    TRef.unary (.of main_call1_call0_call0_c_28 : TRef sig ⟨S_, .i32⟩) (.of main_call1_call0_call0_v111 : TRef sig ⟨S1024x4096, .i32⟩) (broadcastInDim S1024x4096 ![] bcast_S_S1024x4096),
    TRef.binary (.of main_call1_call0_call0_v107 : TRef sig ⟨S1024x4096, .i32⟩) (.of main_call1_call0_call0_v111 : TRef sig ⟨S1024x4096, .i32⟩) (.of main_call1_call0_call0_v112 : TRef sig ⟨S1024x4096, .i32⟩) Host.shrui,
    TRef.binary (.of main_call1_call0_call0_v110 : TRef sig ⟨S1024x4096, .i32⟩) (.of main_call1_call0_call0_v112 : TRef sig ⟨S1024x4096, .i32⟩) (.of main_call1_call0_call0_v113 : TRef sig ⟨S1024x4096, .i32⟩) ori,
    TRef.binary (.of main_call1_call0_call0_v108 : TRef sig ⟨S1024x4096, .i32⟩) (.of main_call1_call0_call0_v113 : TRef sig ⟨S1024x4096, .i32⟩) (.of main_call1_call0_call0_v114 : TRef sig ⟨S1024x4096, .i32⟩) xori,
    TRef.binary (.of main_call1_call0_call0_v108 : TRef sig ⟨S1024x4096, .i32⟩) (.of main_call1_call0_call0_v114 : TRef sig ⟨S1024x4096, .i32⟩) (.of main_call1_call0_call0_v115 : TRef sig ⟨S1024x4096, .i32⟩) addi,
    TRef.nullary (.of main_call1_call0_call0_c_29 : TRef sig ⟨S_, .i32⟩) (constantI S_ 32 29#32),
    TRef.unary (.of main_call1_call0_call0_c_29 : TRef sig ⟨S_, .i32⟩) (.of main_call1_call0_call0_v116 : TRef sig ⟨S1024x4096, .i32⟩) (broadcastInDim S1024x4096 ![] bcast_S_S1024x4096),
    TRef.binary (.of main_call1_call0_call0_v114 : TRef sig ⟨S1024x4096, .i32⟩) (.of main_call1_call0_call0_v116 : TRef sig ⟨S1024x4096, .i32⟩) (.of main_call1_call0_call0_v117 : TRef sig ⟨S1024x4096, .i32⟩) Host.shli,
    TRef.nullary (.of main_call1_call0_call0_c_30 : TRef sig ⟨S_, .i32⟩) (constantI S_ 32 3#32),
    TRef.unary (.of main_call1_call0_call0_c_30 : TRef sig ⟨S_, .i32⟩) (.of main_call1_call0_call0_v118 : TRef sig ⟨S1024x4096, .i32⟩) (broadcastInDim S1024x4096 ![] bcast_S_S1024x4096),
    TRef.binary (.of main_call1_call0_call0_v114 : TRef sig ⟨S1024x4096, .i32⟩) (.of main_call1_call0_call0_v118 : TRef sig ⟨S1024x4096, .i32⟩) (.of main_call1_call0_call0_v119 : TRef sig ⟨S1024x4096, .i32⟩) Host.shrui,
    TRef.binary (.of main_call1_call0_call0_v117 : TRef sig ⟨S1024x4096, .i32⟩) (.of main_call1_call0_call0_v119 : TRef sig ⟨S1024x4096, .i32⟩) (.of main_call1_call0_call0_v120 : TRef sig ⟨S1024x4096, .i32⟩) ori,
    TRef.binary (.of main_call1_call0_call0_v115 : TRef sig ⟨S1024x4096, .i32⟩) (.of main_call1_call0_call0_v120 : TRef sig ⟨S1024x4096, .i32⟩) (.of main_call1_call0_call0_v121 : TRef sig ⟨S1024x4096, .i32⟩) xori,
    TRef.binary (.of main_call1_call0_call0_v115 : TRef sig ⟨S1024x4096, .i32⟩) (.of main_call1_call0_call0_v121 : TRef sig ⟨S1024x4096, .i32⟩) (.of main_call1_call0_call0_v122 : TRef sig ⟨S1024x4096, .i32⟩) addi,
    TRef.nullary (.of main_call1_call0_call0_c_31 : TRef sig ⟨S_, .i32⟩) (constantI S_ 32 16#32),
    TRef.unary (.of main_call1_call0_call0_c_31 : TRef sig ⟨S_, .i32⟩) (.of main_call1_call0_call0_v123 : TRef sig ⟨S1024x4096, .i32⟩) (broadcastInDim S1024x4096 ![] bcast_S_S1024x4096),
    TRef.binary (.of main_call1_call0_call0_v121 : TRef sig ⟨S1024x4096, .i32⟩) (.of main_call1_call0_call0_v123 : TRef sig ⟨S1024x4096, .i32⟩) (.of main_call1_call0_call0_v124 : TRef sig ⟨S1024x4096, .i32⟩) Host.shli,
    TRef.nullary (.of main_call1_call0_call0_c_32 : TRef sig ⟨S_, .i32⟩) (constantI S_ 32 16#32),
    TRef.unary (.of main_call1_call0_call0_c_32 : TRef sig ⟨S_, .i32⟩) (.of main_call1_call0_call0_v125 : TRef sig ⟨S1024x4096, .i32⟩) (broadcastInDim S1024x4096 ![] bcast_S_S1024x4096),
    TRef.binary (.of main_call1_call0_call0_v121 : TRef sig ⟨S1024x4096, .i32⟩) (.of main_call1_call0_call0_v125 : TRef sig ⟨S1024x4096, .i32⟩) (.of main_call1_call0_call0_v126 : TRef sig ⟨S1024x4096, .i32⟩) Host.shrui,
    TRef.binary (.of main_call1_call0_call0_v124 : TRef sig ⟨S1024x4096, .i32⟩) (.of main_call1_call0_call0_v126 : TRef sig ⟨S1024x4096, .i32⟩) (.of main_call1_call0_call0_v127 : TRef sig ⟨S1024x4096, .i32⟩) ori,
    TRef.binary (.of main_call1_call0_call0_v122 : TRef sig ⟨S1024x4096, .i32⟩) (.of main_call1_call0_call0_v127 : TRef sig ⟨S1024x4096, .i32⟩) (.of main_call1_call0_call0_v128 : TRef sig ⟨S1024x4096, .i32⟩) xori,
    TRef.binary (.of main_call1_call0_call0_v122 : TRef sig ⟨S1024x4096, .i32⟩) (.of main_call1_call0_call0_v128 : TRef sig ⟨S1024x4096, .i32⟩) (.of main_call1_call0_call0_v129 : TRef sig ⟨S1024x4096, .i32⟩) addi,
    TRef.nullary (.of main_call1_call0_call0_c_33 : TRef sig ⟨S_, .i32⟩) (constantI S_ 32 24#32),
    TRef.unary (.of main_call1_call0_call0_c_33 : TRef sig ⟨S_, .i32⟩) (.of main_call1_call0_call0_v130 : TRef sig ⟨S1024x4096, .i32⟩) (broadcastInDim S1024x4096 ![] bcast_S_S1024x4096),
    TRef.binary (.of main_call1_call0_call0_v128 : TRef sig ⟨S1024x4096, .i32⟩) (.of main_call1_call0_call0_v130 : TRef sig ⟨S1024x4096, .i32⟩) (.of main_call1_call0_call0_v131 : TRef sig ⟨S1024x4096, .i32⟩) Host.shli,
    TRef.nullary (.of main_call1_call0_call0_c_34 : TRef sig ⟨S_, .i32⟩) (constantI S_ 32 8#32),
    TRef.unary (.of main_call1_call0_call0_c_34 : TRef sig ⟨S_, .i32⟩) (.of main_call1_call0_call0_v132 : TRef sig ⟨S1024x4096, .i32⟩) (broadcastInDim S1024x4096 ![] bcast_S_S1024x4096),
    TRef.binary (.of main_call1_call0_call0_v128 : TRef sig ⟨S1024x4096, .i32⟩) (.of main_call1_call0_call0_v132 : TRef sig ⟨S1024x4096, .i32⟩) (.of main_call1_call0_call0_v133 : TRef sig ⟨S1024x4096, .i32⟩) Host.shrui,
    TRef.binary (.of main_call1_call0_call0_v131 : TRef sig ⟨S1024x4096, .i32⟩) (.of main_call1_call0_call0_v133 : TRef sig ⟨S1024x4096, .i32⟩) (.of main_call1_call0_call0_v134 : TRef sig ⟨S1024x4096, .i32⟩) ori,
    TRef.binary (.of main_call1_call0_call0_v129 : TRef sig ⟨S1024x4096, .i32⟩) (.of main_call1_call0_call0_v134 : TRef sig ⟨S1024x4096, .i32⟩) (.of main_call1_call0_call0_v135 : TRef sig ⟨S1024x4096, .i32⟩) xori,
    TRef.unary (.of main_call1_call0_v6 : TRef sig ⟨S_, .i32⟩) (.of main_call1_call0_call0_v136 : TRef sig ⟨S1024x4096, .i32⟩) (broadcastInDim S1024x4096 ![] bcast_S_S1024x4096),
    TRef.binary (.of main_call1_call0_call0_v129 : TRef sig ⟨S1024x4096, .i32⟩) (.of main_call1_call0_call0_v136 : TRef sig ⟨S1024x4096, .i32⟩) (.of main_call1_call0_call0_v137 : TRef sig ⟨S1024x4096, .i32⟩) addi,
    TRef.unary (.of main_call1_call0_call0_v1 : TRef sig ⟨S_, .i32⟩) (.of main_call1_call0_call0_v138 : TRef sig ⟨S1024x4096, .i32⟩) (broadcastInDim S1024x4096 ![] bcast_S_S1024x4096),
    TRef.binary (.of main_call1_call0_call0_v135 : TRef sig ⟨S1024x4096, .i32⟩) (.of main_call1_call0_call0_v138 : TRef sig ⟨S1024x4096, .i32⟩) (.of main_call1_call0_call0_v139 : TRef sig ⟨S1024x4096, .i32⟩) addi,
    TRef.nullary (.of main_call1_call0_call0_c_35 : TRef sig ⟨S_, .i32⟩) (constantI S_ 32 4#32),
    TRef.unary (.of main_call1_call0_call0_c_35 : TRef sig ⟨S_, .i32⟩) (.of main_call1_call0_call0_v140 : TRef sig ⟨S1024x4096, .i32⟩) (broadcastInDim S1024x4096 ![] bcast_S_S1024x4096),
    TRef.binary (.of main_call1_call0_call0_v139 : TRef sig ⟨S1024x4096, .i32⟩) (.of main_call1_call0_call0_v140 : TRef sig ⟨S1024x4096, .i32⟩) (.of main_call1_call0_call0_v141 : TRef sig ⟨S1024x4096, .i32⟩) addi,
    TRef.binary (.of main_call1_call0_call0_v137 : TRef sig ⟨S1024x4096, .i32⟩) (.of main_call1_call0_call0_v141 : TRef sig ⟨S1024x4096, .i32⟩) (.of main_call1_call0_call0_v142 : TRef sig ⟨S1024x4096, .i32⟩) addi ]

set_option maxHeartbeats 4000000 in
/-- The counter hash, last part. -/
abbrev opsT3 : List (HloOp τ sig (Elt F)) :=
  [ TRef.nullary (.of main_call1_call0_call0_c_36 : TRef sig ⟨S_, .i32⟩) (constantI S_ 32 13#32),
    TRef.unary (.of main_call1_call0_call0_c_36 : TRef sig ⟨S_, .i32⟩) (.of main_call1_call0_call0_v143 : TRef sig ⟨S1024x4096, .i32⟩) (broadcastInDim S1024x4096 ![] bcast_S_S1024x4096),
    TRef.binary (.of main_call1_call0_call0_v141 : TRef sig ⟨S1024x4096, .i32⟩) (.of main_call1_call0_call0_v143 : TRef sig ⟨S1024x4096, .i32⟩) (.of main_call1_call0_call0_v144 : TRef sig ⟨S1024x4096, .i32⟩) Host.shli,
    TRef.nullary (.of main_call1_call0_call0_c_37 : TRef sig ⟨S_, .i32⟩) (constantI S_ 32 19#32),
    TRef.unary (.of main_call1_call0_call0_c_37 : TRef sig ⟨S_, .i32⟩) (.of main_call1_call0_call0_v145 : TRef sig ⟨S1024x4096, .i32⟩) (broadcastInDim S1024x4096 ![] bcast_S_S1024x4096),
    TRef.binary (.of main_call1_call0_call0_v141 : TRef sig ⟨S1024x4096, .i32⟩) (.of main_call1_call0_call0_v145 : TRef sig ⟨S1024x4096, .i32⟩) (.of main_call1_call0_call0_v146 : TRef sig ⟨S1024x4096, .i32⟩) Host.shrui,
    TRef.binary (.of main_call1_call0_call0_v144 : TRef sig ⟨S1024x4096, .i32⟩) (.of main_call1_call0_call0_v146 : TRef sig ⟨S1024x4096, .i32⟩) (.of main_call1_call0_call0_v147 : TRef sig ⟨S1024x4096, .i32⟩) ori,
    TRef.binary (.of main_call1_call0_call0_v142 : TRef sig ⟨S1024x4096, .i32⟩) (.of main_call1_call0_call0_v147 : TRef sig ⟨S1024x4096, .i32⟩) (.of main_call1_call0_call0_v148 : TRef sig ⟨S1024x4096, .i32⟩) xori,
    TRef.binary (.of main_call1_call0_call0_v142 : TRef sig ⟨S1024x4096, .i32⟩) (.of main_call1_call0_call0_v148 : TRef sig ⟨S1024x4096, .i32⟩) (.of main_call1_call0_call0_v149 : TRef sig ⟨S1024x4096, .i32⟩) addi,
    TRef.nullary (.of main_call1_call0_call0_c_38 : TRef sig ⟨S_, .i32⟩) (constantI S_ 32 15#32),
    TRef.unary (.of main_call1_call0_call0_c_38 : TRef sig ⟨S_, .i32⟩) (.of main_call1_call0_call0_v150 : TRef sig ⟨S1024x4096, .i32⟩) (broadcastInDim S1024x4096 ![] bcast_S_S1024x4096),
    TRef.binary (.of main_call1_call0_call0_v148 : TRef sig ⟨S1024x4096, .i32⟩) (.of main_call1_call0_call0_v150 : TRef sig ⟨S1024x4096, .i32⟩) (.of main_call1_call0_call0_v151 : TRef sig ⟨S1024x4096, .i32⟩) Host.shli,
    TRef.nullary (.of main_call1_call0_call0_c_39 : TRef sig ⟨S_, .i32⟩) (constantI S_ 32 17#32),
    TRef.unary (.of main_call1_call0_call0_c_39 : TRef sig ⟨S_, .i32⟩) (.of main_call1_call0_call0_v152 : TRef sig ⟨S1024x4096, .i32⟩) (broadcastInDim S1024x4096 ![] bcast_S_S1024x4096),
    TRef.binary (.of main_call1_call0_call0_v148 : TRef sig ⟨S1024x4096, .i32⟩) (.of main_call1_call0_call0_v152 : TRef sig ⟨S1024x4096, .i32⟩) (.of main_call1_call0_call0_v153 : TRef sig ⟨S1024x4096, .i32⟩) Host.shrui,
    TRef.binary (.of main_call1_call0_call0_v151 : TRef sig ⟨S1024x4096, .i32⟩) (.of main_call1_call0_call0_v153 : TRef sig ⟨S1024x4096, .i32⟩) (.of main_call1_call0_call0_v154 : TRef sig ⟨S1024x4096, .i32⟩) ori,
    TRef.binary (.of main_call1_call0_call0_v149 : TRef sig ⟨S1024x4096, .i32⟩) (.of main_call1_call0_call0_v154 : TRef sig ⟨S1024x4096, .i32⟩) (.of main_call1_call0_call0_v155 : TRef sig ⟨S1024x4096, .i32⟩) xori,
    TRef.binary (.of main_call1_call0_call0_v149 : TRef sig ⟨S1024x4096, .i32⟩) (.of main_call1_call0_call0_v155 : TRef sig ⟨S1024x4096, .i32⟩) (.of main_call1_call0_call0_v156 : TRef sig ⟨S1024x4096, .i32⟩) addi,
    TRef.nullary (.of main_call1_call0_call0_c_40 : TRef sig ⟨S_, .i32⟩) (constantI S_ 32 26#32),
    TRef.unary (.of main_call1_call0_call0_c_40 : TRef sig ⟨S_, .i32⟩) (.of main_call1_call0_call0_v157 : TRef sig ⟨S1024x4096, .i32⟩) (broadcastInDim S1024x4096 ![] bcast_S_S1024x4096),
    TRef.binary (.of main_call1_call0_call0_v155 : TRef sig ⟨S1024x4096, .i32⟩) (.of main_call1_call0_call0_v157 : TRef sig ⟨S1024x4096, .i32⟩) (.of main_call1_call0_call0_v158 : TRef sig ⟨S1024x4096, .i32⟩) Host.shli,
    TRef.nullary (.of main_call1_call0_call0_c_41 : TRef sig ⟨S_, .i32⟩) (constantI S_ 32 6#32),
    TRef.unary (.of main_call1_call0_call0_c_41 : TRef sig ⟨S_, .i32⟩) (.of main_call1_call0_call0_v159 : TRef sig ⟨S1024x4096, .i32⟩) (broadcastInDim S1024x4096 ![] bcast_S_S1024x4096),
    TRef.binary (.of main_call1_call0_call0_v155 : TRef sig ⟨S1024x4096, .i32⟩) (.of main_call1_call0_call0_v159 : TRef sig ⟨S1024x4096, .i32⟩) (.of main_call1_call0_call0_v160 : TRef sig ⟨S1024x4096, .i32⟩) Host.shrui,
    TRef.binary (.of main_call1_call0_call0_v158 : TRef sig ⟨S1024x4096, .i32⟩) (.of main_call1_call0_call0_v160 : TRef sig ⟨S1024x4096, .i32⟩) (.of main_call1_call0_call0_v161 : TRef sig ⟨S1024x4096, .i32⟩) ori,
    TRef.binary (.of main_call1_call0_call0_v156 : TRef sig ⟨S1024x4096, .i32⟩) (.of main_call1_call0_call0_v161 : TRef sig ⟨S1024x4096, .i32⟩) (.of main_call1_call0_call0_v162 : TRef sig ⟨S1024x4096, .i32⟩) xori,
    TRef.binary (.of main_call1_call0_call0_v156 : TRef sig ⟨S1024x4096, .i32⟩) (.of main_call1_call0_call0_v162 : TRef sig ⟨S1024x4096, .i32⟩) (.of main_call1_call0_call0_v163 : TRef sig ⟨S1024x4096, .i32⟩) addi,
    TRef.nullary (.of main_call1_call0_call0_c_42 : TRef sig ⟨S_, .i32⟩) (constantI S_ 32 6#32),
    TRef.unary (.of main_call1_call0_call0_c_42 : TRef sig ⟨S_, .i32⟩) (.of main_call1_call0_call0_v164 : TRef sig ⟨S1024x4096, .i32⟩) (broadcastInDim S1024x4096 ![] bcast_S_S1024x4096),
    TRef.binary (.of main_call1_call0_call0_v162 : TRef sig ⟨S1024x4096, .i32⟩) (.of main_call1_call0_call0_v164 : TRef sig ⟨S1024x4096, .i32⟩) (.of main_call1_call0_call0_v165 : TRef sig ⟨S1024x4096, .i32⟩) Host.shli,
    TRef.nullary (.of main_call1_call0_call0_c_43 : TRef sig ⟨S_, .i32⟩) (constantI S_ 32 26#32),
    TRef.unary (.of main_call1_call0_call0_c_43 : TRef sig ⟨S_, .i32⟩) (.of main_call1_call0_call0_v166 : TRef sig ⟨S1024x4096, .i32⟩) (broadcastInDim S1024x4096 ![] bcast_S_S1024x4096),
    TRef.binary (.of main_call1_call0_call0_v162 : TRef sig ⟨S1024x4096, .i32⟩) (.of main_call1_call0_call0_v166 : TRef sig ⟨S1024x4096, .i32⟩) (.of main_call1_call0_call0_v167 : TRef sig ⟨S1024x4096, .i32⟩) Host.shrui,
    TRef.binary (.of main_call1_call0_call0_v165 : TRef sig ⟨S1024x4096, .i32⟩) (.of main_call1_call0_call0_v167 : TRef sig ⟨S1024x4096, .i32⟩) (.of main_call1_call0_call0_v168 : TRef sig ⟨S1024x4096, .i32⟩) ori,
    TRef.binary (.of main_call1_call0_call0_v163 : TRef sig ⟨S1024x4096, .i32⟩) (.of main_call1_call0_call0_v168 : TRef sig ⟨S1024x4096, .i32⟩) (.of main_call1_call0_call0_v169 : TRef sig ⟨S1024x4096, .i32⟩) xori,
    TRef.unary (.of main_call1_call0_call0_v1 : TRef sig ⟨S_, .i32⟩) (.of main_call1_call0_call0_v170 : TRef sig ⟨S1024x4096, .i32⟩) (broadcastInDim S1024x4096 ![] bcast_S_S1024x4096),
    TRef.binary (.of main_call1_call0_call0_v163 : TRef sig ⟨S1024x4096, .i32⟩) (.of main_call1_call0_call0_v170 : TRef sig ⟨S1024x4096, .i32⟩) (.of main_call1_call0_v18_0 : TRef sig ⟨S1024x4096, .i32⟩) addi,
    TRef.unary (.of main_call1_call0_v4 : TRef sig ⟨S_, .i32⟩) (.of main_call1_call0_call0_v172 : TRef sig ⟨S1024x4096, .i32⟩) (broadcastInDim S1024x4096 ![] bcast_S_S1024x4096),
    TRef.binary (.of main_call1_call0_call0_v169 : TRef sig ⟨S1024x4096, .i32⟩) (.of main_call1_call0_call0_v172 : TRef sig ⟨S1024x4096, .i32⟩) (.of main_call1_call0_call0_v173 : TRef sig ⟨S1024x4096, .i32⟩) addi,
    TRef.nullary (.of main_call1_call0_call0_c_44 : TRef sig ⟨S_, .i32⟩) (constantI S_ 32 5#32),
    TRef.unary (.of main_call1_call0_call0_c_44 : TRef sig ⟨S_, .i32⟩) (.of main_call1_call0_call0_v174 : TRef sig ⟨S1024x4096, .i32⟩) (broadcastInDim S1024x4096 ![] bcast_S_S1024x4096),
    TRef.binary (.of main_call1_call0_call0_v173 : TRef sig ⟨S1024x4096, .i32⟩) (.of main_call1_call0_call0_v174 : TRef sig ⟨S1024x4096, .i32⟩) (.of main_call1_call0_v18_1 : TRef sig ⟨S1024x4096, .i32⟩) addi ]

set_option maxHeartbeats 4000000 in
/-- From the hashed words to the Gumbel noise. -/
abbrev opsG1 : List (HloOp τ sig (Elt F)) :=
  [ TRef.binary (.of main_call1_call0_v18_0 : TRef sig ⟨S1024x4096, .i32⟩) (.of main_call1_call0_v18_1 : TRef sig ⟨S1024x4096, .i32⟩) (.of main_call1_call0_v19 : TRef sig ⟨S1024x4096, .i32⟩) xori,
    TRef.nullary (.of main_call1_call0_c_2 : TRef sig ⟨S_, .i32⟩) (constantI S_ 32 9#32),
    TRef.unary (.of main_call1_call0_c_2 : TRef sig ⟨S_, .i32⟩) (.of main_call1_call0_v20 : TRef sig ⟨S1024x4096, .i32⟩) (broadcastInDim S1024x4096 ![] bcast_S_S1024x4096),
    TRef.binary (.of main_call1_call0_v19 : TRef sig ⟨S1024x4096, .i32⟩) (.of main_call1_call0_v20 : TRef sig ⟨S1024x4096, .i32⟩) (.of main_call1_call0_v21 : TRef sig ⟨S1024x4096, .i32⟩) Host.shrui,
    TRef.nullary (.of main_call1_call0_c_3 : TRef sig ⟨S_, .i32⟩) (constantI S_ 32 1065353216#32),
    TRef.unary (.of main_call1_call0_c_3 : TRef sig ⟨S_, .i32⟩) (.of main_call1_call0_v22 : TRef sig ⟨S1024x4096, .i32⟩) (broadcastInDim S1024x4096 ![] bcast_S_S1024x4096),
    TRef.binary (.of main_call1_call0_v21 : TRef sig ⟨S1024x4096, .i32⟩) (.of main_call1_call0_v22 : TRef sig ⟨S1024x4096, .i32⟩) (.of main_call1_call0_v23 : TRef sig ⟨S1024x4096, .i32⟩) ori,
    TRef.unary (.of main_call1_call0_v23 : TRef sig ⟨S1024x4096, .i32⟩) (.of main_call1_call0_v24 : TRef sig ⟨S1024x4096, .f32⟩) (bitcastToFloat .f32),
    TRef.nullary (.of main_call1_call0_cst : TRef sig ⟨S_, .f32⟩) (constant S_ .f32 0x3F800000#32),
    TRef.unary (.of main_call1_call0_cst : TRef sig ⟨S_, .f32⟩) (.of main_call1_call0_v25 : TRef sig ⟨S1024x4096, .f32⟩) (broadcastInDim S1024x4096 ![] bcast_S_S1024x4096),
    TRef.binary (.of main_call1_call0_v24 : TRef sig ⟨S1024x4096, .f32⟩) (.of main_call1_call0_v25 : TRef sig ⟨S1024x4096, .f32⟩) (.of main_call1_call0_v26 : TRef sig ⟨S1024x4096, .f32⟩) subf,
    TRef.binary (.of main_call1_call0_v2 : TRef sig ⟨S1x1, .f32⟩) (.of main_call1_call0_v1 : TRef sig ⟨S1x1, .f32⟩) (.of main_call1_call0_v27 : TRef sig ⟨S1x1, .f32⟩) subf,
    TRef.unary (.of main_call1_call0_v27 : TRef sig ⟨S1x1, .f32⟩) (.of main_call1_call0_v28 : TRef sig ⟨S1024x4096, .f32⟩) (broadcastInDim S1024x4096 ![0, 1] bcast_S1x1_S1024x4096_0_1),
    TRef.binary (.of main_call1_call0_v26 : TRef sig ⟨S1024x4096, .f32⟩) (.of main_call1_call0_v28 : TRef sig ⟨S1024x4096, .f32⟩) (.of main_call1_call0_v29 : TRef sig ⟨S1024x4096, .f32⟩) mulf,
    TRef.unary (.of main_call1_call0_v1 : TRef sig ⟨S1x1, .f32⟩) (.of main_call1_call0_v30 : TRef sig ⟨S1024x4096, .f32⟩) (broadcastInDim S1024x4096 ![0, 1] bcast_S1x1_S1024x4096_0_1),
    TRef.binary (.of main_call1_call0_v29 : TRef sig ⟨S1024x4096, .f32⟩) (.of main_call1_call0_v30 : TRef sig ⟨S1024x4096, .f32⟩) (.of main_call1_call0_v31 : TRef sig ⟨S1024x4096, .f32⟩) addf,
    TRef.unary (.of main_call1_call0_v1 : TRef sig ⟨S1x1, .f32⟩) (.of main_call1_call0_v32 : TRef sig ⟨S1024x4096, .f32⟩) (broadcastInDim S1024x4096 ![0, 1] bcast_S1x1_S1024x4096_0_1),
    TRef.binary (.of main_call1_call0_v32 : TRef sig ⟨S1024x4096, .f32⟩) (.of main_call1_call0_v31 : TRef sig ⟨S1024x4096, .f32⟩) (.of main_call1_v0 : TRef sig ⟨S1024x4096, .f32⟩) maximumf,
    TRef.unary (.of main_call1_v0 : TRef sig ⟨S1024x4096, .f32⟩) (.of main_call1_v1 : TRef sig ⟨S1024x4096, .f32⟩) Host.log,
    TRef.unary (.of main_call1_v1 : TRef sig ⟨S1024x4096, .f32⟩) (.of main_call1_v2 : TRef sig ⟨S1024x4096, .f32⟩) Host.negf,
    TRef.unary (.of main_call1_v2 : TRef sig ⟨S1024x4096, .f32⟩) (.of main_call1_v3 : TRef sig ⟨S1024x4096, .f32⟩) Host.log,
    TRef.unary (.of main_call1_v3 : TRef sig ⟨S1024x4096, .f32⟩) (.of main_v32 : TRef sig ⟨S1024x4096, .f32⟩) Host.negf ]

set_option maxHeartbeats 4000000 in
/-- The noisy scores and their arg-max. -/
abbrev opsB1 : List (HloOp τ sig (Elt F)) :=
  [ binary main_v32 main_v24 main_v33 (addf : (⟨S1024x4096, .f32⟩ : BufTy).Contents (Elt F) → (⟨S1024x4096, .f32⟩ : BufTy).Contents (Elt F) → (⟨S1024x4096, .f32⟩ : BufTy).Contents (Elt F)),
    TRef.nullary (.of main_call2_v0 : TRef sig ⟨S1024x4096, .i32⟩) (iotaInDim S1024x4096 32 1),
    TRef.nullary (.of main_call2_cst : TRef sig ⟨S_, .f32⟩) (constant S_ .f32 0xFF800000#32),
    TRef.nullary (.of main_call2_c : TRef sig ⟨S_, .i32⟩) (constantI S_ 32 0#32),
    TRef.quaternary (.of main_v33 : TRef sig ⟨S1024x4096, .f32⟩) (.of main_call2_v0 : TRef sig ⟨S1024x4096, .i32⟩) (.of main_call2_cst : TRef sig ⟨S_, .f32⟩) (.of main_call2_c : TRef sig ⟨S_, .i32⟩) (.of main_call2_v1_0 : TRef sig ⟨S1024, .f32⟩) (fun x y u v j => (Host.argReduce reducer_argmax_f32_i32 x y u v reducesTo_S1024x4096_S1024_d1 h_S_ j).1),
    TRef.quaternary (.of main_v33 : TRef sig ⟨S1024x4096, .f32⟩) (.of main_call2_v0 : TRef sig ⟨S1024x4096, .i32⟩) (.of main_call2_cst : TRef sig ⟨S_, .f32⟩) (.of main_call2_c : TRef sig ⟨S_, .i32⟩) (.of main_v34 : TRef sig ⟨S1024, .i32⟩) (fun x y u v j => (Host.argReduce reducer_argmax_f32_i32 x y u v reducesTo_S1024x4096_S1024_d1 h_S_ j).2) ]

set_option maxHeartbeats 4000000 in
/-- The pair of positions from the flat position. -/
abbrev opsB2 : List (HloOp τ sig (Elt F)) :=
  [ nullary main_c_7 (constantI S_ 32 64#32),
    TRef.unary (.of main_c_7 : TRef sig ⟨S_, .i32⟩) (.of main_call3_v0 : TRef sig ⟨S_, .i32⟩) id,
    TRef.unary (.of main_call3_v0 : TRef sig ⟨S_, .i32⟩) (.of main_call3_v1 : TRef sig ⟨S1024, .i32⟩) (broadcastInDim S1024 ![] bcast_S_S1024),
    TRef.binary (.of main_v34 : TRef sig ⟨S1024, .i32⟩) (.of main_call3_v1 : TRef sig ⟨S1024, .i32⟩) (.of main_call3_v2 : TRef sig ⟨S1024, .i32⟩) Host.divsi,
    TRef.unary (.of main_v34 : TRef sig ⟨S1024, .i32⟩) (.of main_call3_v3 : TRef sig ⟨S1024, .i32⟩) signi,
    TRef.unary (.of main_call3_v0 : TRef sig ⟨S_, .i32⟩) (.of main_call3_v4 : TRef sig ⟨S_, .i32⟩) signi,
    TRef.unary (.of main_call3_v4 : TRef sig ⟨S_, .i32⟩) (.of main_call3_v5 : TRef sig ⟨S1024, .i32⟩) (broadcastInDim S1024 ![] bcast_S_S1024),
    TRef.binary (.of main_call3_v3 : TRef sig ⟨S1024, .i32⟩) (.of main_call3_v5 : TRef sig ⟨S1024, .i32⟩) (.of main_call3_v6 : TRef sig ⟨S1024, .i1⟩) (cmpi .ne),
    TRef.unary (.of main_call3_v0 : TRef sig ⟨S_, .i32⟩) (.of main_call3_v7 : TRef sig ⟨S1024, .i32⟩) (broadcastInDim S1024 ![] bcast_S_S1024),
    TRef.binary (.of main_v34 : TRef sig ⟨S1024, .i32⟩) (.of main_call3_v7 : TRef sig ⟨S1024, .i32⟩) (.of main_call3_v8 : TRef sig ⟨S1024, .i32⟩) Host.remsi,
    TRef.nullary (.of main_call3_c : TRef sig ⟨S_, .i32⟩) (constantI S_ 32 0#32),
    TRef.unary (.of main_call3_c : TRef sig ⟨S_, .i32⟩) (.of main_call3_v9 : TRef sig ⟨S1024, .i32⟩) (broadcastInDim S1024 ![] bcast_S_S1024),
    TRef.binary (.of main_call3_v8 : TRef sig ⟨S1024, .i32⟩) (.of main_call3_v9 : TRef sig ⟨S1024, .i32⟩) (.of main_call3_v10 : TRef sig ⟨S1024, .i1⟩) (cmpi .ne),
    TRef.binary (.of main_call3_v6 : TRef sig ⟨S1024, .i1⟩) (.of main_call3_v10 : TRef sig ⟨S1024, .i1⟩) (.of main_call3_v11 : TRef sig ⟨S1024, .i1⟩) andi,
    TRef.nullary (.of main_call3_c_0 : TRef sig ⟨S_, .i32⟩) (constantI S_ 32 1#32),
    TRef.unary (.of main_call3_c_0 : TRef sig ⟨S_, .i32⟩) (.of main_call3_v12 : TRef sig ⟨S1024, .i32⟩) (broadcastInDim S1024 ![] bcast_S_S1024),
    TRef.binary (.of main_call3_v2 : TRef sig ⟨S1024, .i32⟩) (.of main_call3_v12 : TRef sig ⟨S1024, .i32⟩) (.of main_call3_v13 : TRef sig ⟨S1024, .i32⟩) subi,
    TRef.ternary (.of main_call3_v11 : TRef sig ⟨S1024, .i1⟩) (.of main_call3_v13 : TRef sig ⟨S1024, .i32⟩) (.of main_call3_v2 : TRef sig ⟨S1024, .i32⟩) (.of main_v35 : TRef sig ⟨S1024, .i32⟩) select,
    nullary main_c_8 (constantI S_ 32 64#32),
    TRef.unary (.of main_c_8 : TRef sig ⟨S_, .i32⟩) (.of main_call4_v0 : TRef sig ⟨S_, .i32⟩) id,
    TRef.nullary (.of main_call4_c : TRef sig ⟨S_, .i32⟩) (constantI S_ 32 0#32),
    TRef.binary (.of main_call4_v0 : TRef sig ⟨S_, .i32⟩) (.of main_call4_c : TRef sig ⟨S_, .i32⟩) (.of main_call4_v1 : TRef sig ⟨S_, .i1⟩) (cmpi .eq),
    TRef.nullary (.of main_call4_c_0 : TRef sig ⟨S_, .i32⟩) (constantI S_ 32 1#32),
    TRef.ternary (.of main_call4_v1 : TRef sig ⟨S_, .i1⟩) (.of main_call4_c_0 : TRef sig ⟨S_, .i32⟩) (.of main_call4_v0 : TRef sig ⟨S_, .i32⟩) (.of main_call4_v2 : TRef sig ⟨S_, .i32⟩) select,
    TRef.unary (.of main_call4_v2 : TRef sig ⟨S_, .i32⟩) (.of main_call4_v3 : TRef sig ⟨S1024, .i32⟩) (broadcastInDim S1024 ![] bcast_S_S1024),
    TRef.binary (.of main_v34 : TRef sig ⟨S1024, .i32⟩) (.of main_call4_v3 : TRef sig ⟨S1024, .i32⟩) (.of main_call4_v4 : TRef sig ⟨S1024, .i32⟩) Host.remsi,
    TRef.nullary (.of main_call4_c_1 : TRef sig ⟨S_, .i32⟩) (constantI S_ 32 0#32),
    TRef.unary (.of main_call4_c_1 : TRef sig ⟨S_, .i32⟩) (.of main_call4_v5 : TRef sig ⟨S1024, .i32⟩) (broadcastInDim S1024 ![] bcast_S_S1024),
    TRef.binary (.of main_call4_v4 : TRef sig ⟨S1024, .i32⟩) (.of main_call4_v5 : TRef sig ⟨S1024, .i32⟩) (.of main_call4_v6 : TRef sig ⟨S1024, .i1⟩) (cmpi .ne),
    TRef.nullary (.of main_call4_c_2 : TRef sig ⟨S_, .i32⟩) (constantI S_ 32 0#32),
    TRef.unary (.of main_call4_c_2 : TRef sig ⟨S_, .i32⟩) (.of main_call4_v7 : TRef sig ⟨S1024, .i32⟩) (broadcastInDim S1024 ![] bcast_S_S1024),
    TRef.binary (.of main_call4_v4 : TRef sig ⟨S1024, .i32⟩) (.of main_call4_v7 : TRef sig ⟨S1024, .i32⟩) (.of main_call4_v8 : TRef sig ⟨S1024, .i1⟩) (cmpi .slt),
    TRef.nullary (.of main_call4_c_3 : TRef sig ⟨S_, .i32⟩) (constantI S_ 32 0#32),
    TRef.binary (.of main_call4_v2 : TRef sig ⟨S_, .i32⟩) (.of main_call4_c_3 : TRef sig ⟨S_, .i32⟩) (.of main_call4_v9 : TRef sig ⟨S_, .i1⟩) (cmpi .slt),
    TRef.unary (.of main_call4_v9 : TRef sig ⟨S_, .i1⟩) (.of main_call4_v10 : TRef sig ⟨S1024, .i1⟩) (broadcastInDim S1024 ![] bcast_S_S1024),
    TRef.binary (.of main_call4_v8 : TRef sig ⟨S1024, .i1⟩) (.of main_call4_v10 : TRef sig ⟨S1024, .i1⟩) (.of main_call4_v11 : TRef sig ⟨S1024, .i1⟩) (cmpi .ne),
    TRef.binary (.of main_call4_v11 : TRef sig ⟨S1024, .i1⟩) (.of main_call4_v6 : TRef sig ⟨S1024, .i1⟩) (.of main_call4_v12 : TRef sig ⟨S1024, .i1⟩) andi,
    TRef.unary (.of main_call4_v2 : TRef sig ⟨S_, .i32⟩) (.of main_call4_v13 : TRef sig ⟨S1024, .i32⟩) (broadcastInDim S1024 ![] bcast_S_S1024),
    TRef.binary (.of main_call4_v4 : TRef sig ⟨S1024, .i32⟩) (.of main_call4_v13 : TRef sig ⟨S1024, .i32⟩) (.of main_call4_v14 : TRef sig ⟨S1024, .i32⟩) addi,
    TRef.ternary (.of main_call4_v12 : TRef sig ⟨S1024, .i1⟩) (.of main_call4_v14 : TRef sig ⟨S1024, .i32⟩) (.of main_call4_v4 : TRef sig ⟨S1024, .i32⟩) (.of main_v36 : TRef sig ⟨S1024, .i32⟩) select ]

set_option maxHeartbeats 4000000 in
/-- The row numbers and the start of the gather of the two children. -/
abbrev opsB3 : List (HloOp τ sig (Elt F)) :=
  [ nullary main_v37 (iotaInDim S1024 32 0),
    nullary main_c_9 (constantI S_ 32 0#32),
    unary main_c_9 main_v38 (broadcastInDim S1024 ![] bcast_S_S1024 : (⟨S_, .i32⟩ : BufTy).Contents (Elt F) → (⟨S1024, .i32⟩ : BufTy).Contents (Elt F)),
    binary main_v37 main_v38 main_v39 (cmpi .slt : (⟨S1024, .i32⟩ : BufTy).Contents (Elt F) → (⟨S1024, .i32⟩ : BufTy).Contents (Elt F) → (⟨S1024, .i1⟩ : BufTy).Contents (Elt F)),
    nullary main_c_10 (constantI S_ 32 1024#32),
    unary main_c_10 main_v40 (broadcastInDim S1024 ![] bcast_S_S1024 : (⟨S_, .i32⟩ : BufTy).Contents (Elt F) → (⟨S1024, .i32⟩ : BufTy).Contents (Elt F)),
    binary main_v37 main_v40 main_v41 (addi : (⟨S1024, .i32⟩ : BufTy).Contents (Elt F) → (⟨S1024, .i32⟩ : BufTy).Contents (Elt F) → (⟨S1024, .i32⟩ : BufTy).Contents (Elt F)),
    ternary main_v39 main_v41 main_v37 main_v42 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    nullary main_c_11 (constantI S_ 32 0#32),
    unary main_c_11 main_v43 (broadcastInDim S1024 ![] bcast_S_S1024 : (⟨S_, .i32⟩ : BufTy).Contents (Elt F) → (⟨S1024, .i32⟩ : BufTy).Contents (Elt F)),
    binary main_v35 main_v43 main_v44 (cmpi .slt : (⟨S1024, .i32⟩ : BufTy).Contents (Elt F) → (⟨S1024, .i32⟩ : BufTy).Contents (Elt F) → (⟨S1024, .i1⟩ : BufTy).Contents (Elt F)),
    nullary main_c_12 (constantI S_ 32 64#32) ]

set_option maxHeartbeats 4000000 in
/-- The two children and their parent. -/
abbrev opsB3b : List (HloOp τ sig (Elt F)) :=
  [ unary main_c_12 main_v45 (broadcastInDim S1024 ![] bcast_S_S1024 : (⟨S_, .i32⟩ : BufTy).Contents (Elt F) → (⟨S1024, .i32⟩ : BufTy).Contents (Elt F)),
    binary main_v35 main_v45 main_v46 (addi : (⟨S1024, .i32⟩ : BufTy).Contents (Elt F) → (⟨S1024, .i32⟩ : BufTy).Contents (Elt F) → (⟨S1024, .i32⟩ : BufTy).Contents (Elt F)),
    ternary main_v44 main_v46 main_v35 main_v47 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v42 main_v48 (broadcastInDim S1024x1 ![0] bcast_S1024_S1024x1_0 : (⟨S1024, .i32⟩ : BufTy).Contents (Elt F) → (⟨S1024x1, .i32⟩ : BufTy).Contents (Elt F)),
    unary main_v47 main_v49 (broadcastInDim S1024x1 ![0] bcast_S1024_S1024x1_0 : (⟨S1024, .i32⟩ : BufTy).Contents (Elt F) → (⟨S1024x1, .i32⟩ : BufTy).Contents (Elt F)),
    binary main_v48 main_v49 main_v50 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)),
    binary main_arg2 main_v50 main_v51 ((fun x i => Host.gather gather_S1024x64x128_S1024x2_S1024x128_1_01_n_n_01_1_11128 x i) : (⟨S1024x64x128, .f32⟩ : BufTy).Contents (Elt F) → (⟨S1024x2, .i32⟩ : BufTy).Contents (Elt F) → (⟨S1024x128, .f32⟩ : BufTy).Contents (Elt F)),
    nullary main_c_13 (constantI S_ 32 0#32),
    unary main_c_13 main_v52 (broadcastInDim S1024 ![] bcast_S_S1024 : (⟨S_, .i32⟩ : BufTy).Contents (Elt F) → (⟨S1024, .i32⟩ : BufTy).Contents (Elt F)),
    binary main_v37 main_v52 main_v53 (cmpi .slt : (⟨S1024, .i32⟩ : BufTy).Contents (Elt F) → (⟨S1024, .i32⟩ : BufTy).Contents (Elt F) → (⟨S1024, .i1⟩ : BufTy).Contents (Elt F)),
    nullary main_c_14 (constantI S_ 32 1024#32),
    unary main_c_14 main_v54 (broadcastInDim S1024 ![] bcast_S_S1024 : (⟨S_, .i32⟩ : BufTy).Contents (Elt F) → (⟨S1024, .i32⟩ : BufTy).Contents (Elt F)),
    binary main_v37 main_v54 main_v55 (addi : (⟨S1024, .i32⟩ : BufTy).Contents (Elt F) → (⟨S1024, .i32⟩ : BufTy).Contents (Elt F) → (⟨S1024, .i32⟩ : BufTy).Contents (Elt F)),
    ternary main_v53 main_v55 main_v37 main_v56 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    nullary main_c_15 (constantI S_ 32 0#32),
    unary main_c_15 main_v57 (broadcastInDim S1024 ![] bcast_S_S1024 : (⟨S_, .i32⟩ : BufTy).Contents (Elt F) → (⟨S1024, .i32⟩ : BufTy).Contents (Elt F)),
    binary main_v36 main_v57 main_v58 (cmpi .slt : (⟨S1024, .i32⟩ : BufTy).Contents (Elt F) → (⟨S1024, .i32⟩ : BufTy).Contents (Elt F) → (⟨S1024, .i1⟩ : BufTy).Contents (Elt F)),
    nullary main_c_16 (constantI S_ 32 64#32),
    unary main_c_16 main_v59 (broadcastInDim S1024 ![] bcast_S_S1024 : (⟨S_, .i32⟩ : BufTy).Contents (Elt F) → (⟨S1024, .i32⟩ : BufTy).Contents (Elt F)),
    binary main_v36 main_v59 main_v60 (addi : (⟨S1024, .i32⟩ : BufTy).Contents (Elt F) → (⟨S1024, .i32⟩ : BufTy).Contents (Elt F) → (⟨S1024, .i32⟩ : BufTy).Contents (Elt F)),
    ternary main_v58 main_v60 main_v36 main_v61 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v56 main_v62 (broadcastInDim S1024x1 ![0] bcast_S1024_S1024x1_0 : (⟨S1024, .i32⟩ : BufTy).Contents (Elt F) → (⟨S1024x1, .i32⟩ : BufTy).Contents (Elt F)),
    unary main_v61 main_v63 (broadcastInDim S1024x1 ![0] bcast_S1024_S1024x1_0 : (⟨S1024, .i32⟩ : BufTy).Contents (Elt F) → (⟨S1024x1, .i32⟩ : BufTy).Contents (Elt F)),
    binary main_v62 main_v63 main_v64 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)),
    binary main_arg2 main_v64 main_v65 ((fun x i => Host.gather gather_S1024x64x128_S1024x2_S1024x128_1_01_n_n_01_1_11128 x i) : (⟨S1024x64x128, .f32⟩ : BufTy).Contents (Elt F) → (⟨S1024x2, .i32⟩ : BufTy).Contents (Elt F) → (⟨S1024x128, .f32⟩ : BufTy).Contents (Elt F)),
    binary main_v51 main_v65 main_v66 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    binary main_v66 main_arg4 main_v67 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    unary main_arg5 main_v68 (broadcastInDim S1x256 ![1] bcast_S256_S1x256_1 : (⟨S256, .f32⟩ : BufTy).Contents (Elt F) → (⟨S1x256, .f32⟩ : BufTy).Contents (Elt F)),
    unary main_v68 main_v69 (broadcastInDim S1024x256 ![0, 1] bcast_S1x256_S1024x256_0_1 : (⟨S1x256, .f32⟩ : BufTy).Contents (Elt F) → (⟨S1024x256, .f32⟩ : BufTy).Contents (Elt F)),
    binary main_v67 main_v69 main_v70 (addf : (⟨S1024x256, .f32⟩ : BufTy).Contents (Elt F) → (⟨S1024x256, .f32⟩ : BufTy).Contents (Elt F) → (⟨S1024x256, .f32⟩ : BufTy).Contents (Elt F)),
    TRef.nullary (.of main_call5_cst : TRef sig ⟨S_, .f32⟩) (constant S_ .f32 0x00000000#32),
    TRef.unary (.of main_call5_cst : TRef sig ⟨S_, .f32⟩) (.of main_call5_v0 : TRef sig ⟨S1024x256, .f32⟩) (broadcastInDim S1024x256 ![] bcast_S_S1024x256),
    TRef.binary (.of main_v70 : TRef sig ⟨S1024x256, .f32⟩) (.of main_call5_v0 : TRef sig ⟨S1024x256, .f32⟩) (.of main_v71 : TRef sig ⟨S1024x256, .f32⟩) maximumf,
    binary main_v71 main_arg6 main_v72 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    unary main_arg7 main_v73 (broadcastInDim S1x128 ![1] bcast_S128_S1x128_1 : (⟨S128, .f32⟩ : BufTy).Contents (Elt F) → (⟨S1x128, .f32⟩ : BufTy).Contents (Elt F)),
    unary main_v73 main_v74 (broadcastInDim S1024x128 ![0, 1] bcast_S1x128_S1024x128_0_1 : (⟨S1x128, .f32⟩ : BufTy).Contents (Elt F) → (⟨S1024x128, .f32⟩ : BufTy).Contents (Elt F)),
    binary main_v72 main_v74 main_v75 (addf : (⟨S1024x128, .f32⟩ : BufTy).Contents (Elt F) → (⟨S1024x128, .f32⟩ : BufTy).Contents (Elt F) → (⟨S1024x128, .f32⟩ : BufTy).Contents (Elt F)) ]

set_option maxHeartbeats 4000000 in
/-- The two branch lengths. -/
abbrev opsB4 : List (HloOp τ sig (Elt F)) :=
  [ binary main_v51 main_v75 main_v76 (subf : (⟨S1024x128, .f32⟩ : BufTy).Contents (Elt F) → (⟨S1024x128, .f32⟩ : BufTy).Contents (Elt F) → (⟨S1024x128, .f32⟩ : BufTy).Contents (Elt F)),
    binary main_v76 main_v76 main_v77 (mulf : (⟨S1024x128, .f32⟩ : BufTy).Contents (Elt F) → (⟨S1024x128, .f32⟩ : BufTy).Contents (Elt F) → (⟨S1024x128, .f32⟩ : BufTy).Contents (Elt F)),
    nullary main_cst_17 (constant S_ .f32 0x00000000#32),
    binary main_v77 main_cst_17 main_v78 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    nullary main_cst_18 (constant S_ .f32 0x2B8CBCCC#32),
    unary main_cst_18 main_v79 (broadcastInDim S1024 ![] bcast_S_S1024 : (⟨S_, .f32⟩ : BufTy).Contents (Elt F) → (⟨S1024, .f32⟩ : BufTy).Contents (Elt F)),
    binary main_v78 main_v79 main_v80 (maximumf : (⟨S1024, .f32⟩ : BufTy).Contents (Elt F) → (⟨S1024, .f32⟩ : BufTy).Contents (Elt F) → (⟨S1024, .f32⟩ : BufTy).Contents (Elt F)),
    unary main_v80 main_v81 (Host.sqrt : (⟨S1024, .f32⟩ : BufTy).Contents (Elt F) → (⟨S1024, .f32⟩ : BufTy).Contents (Elt F)),
    binary main_v65 main_v75 main_v82 (subf : (⟨S1024x128, .f32⟩ : BufTy).Contents (Elt F) → (⟨S1024x128, .f32⟩ : BufTy).Contents (Elt F) → (⟨S1024x128, .f32⟩ : BufTy).Contents (Elt F)),
    binary main_v82 main_v82 main_v83 (mulf : (⟨S1024x128, .f32⟩ : BufTy).Contents (Elt F) → (⟨S1024x128, .f32⟩ : BufTy).Contents (Elt F) → (⟨S1024x128, .f32⟩ : BufTy).Contents (Elt F)),
    nullary main_cst_19 (constant S_ .f32 0x00000000#32),
    binary main_v83 main_cst_19 main_v84 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    nullary main_cst_20 (constant S_ .f32 0x2B8CBCCC#32),
    unary main_cst_20 main_v85 (broadcastInDim S1024 ![] bcast_S_S1024 : (⟨S_, .f32⟩ : BufTy).Contents (Elt F) → (⟨S1024, .f32⟩ : BufTy).Contents (Elt F)),
    binary main_v84 main_v85 main_v86 (maximumf : (⟨S1024, .f32⟩ : BufTy).Contents (Elt F) → (⟨S1024, .f32⟩ : BufTy).Contents (Elt F) → (⟨S1024, .f32⟩ : BufTy).Contents (Elt F)),
    unary main_v86 main_v87 (Host.sqrt : (⟨S1024, .f32⟩ : BufTy).Contents (Elt F) → (⟨S1024, .f32⟩ : BufTy).Contents (Elt F)) ]

set_option maxHeartbeats 4000000 in
/-- The start of the gather of the chosen logit. -/
abbrev opsB5 : List (HloOp τ sig (Elt F)) :=
  [ nullary main_c_21 (constantI S_ 32 0#32),
    unary main_c_21 main_v88 (broadcastInDim S1024 ![] bcast_S_S1024 : (⟨S_, .i32⟩ : BufTy).Contents (Elt F) → (⟨S1024, .i32⟩ : BufTy).Contents (Elt F)),
    binary main_v37 main_v88 main_v89 (cmpi .slt : (⟨S1024, .i32⟩ : BufTy).Contents (Elt F) → (⟨S1024, .i32⟩ : BufTy).Contents (Elt F) → (⟨S1024, .i1⟩ : BufTy).Contents (Elt F)),
    nullary main_c_22 (constantI S_ 32 1024#32),
    unary main_c_22 main_v90 (broadcastInDim S1024 ![] bcast_S_S1024 : (⟨S_, .i32⟩ : BufTy).Contents (Elt F) → (⟨S1024, .i32⟩ : BufTy).Contents (Elt F)),
    binary main_v37 main_v90 main_v91 (addi : (⟨S1024, .i32⟩ : BufTy).Contents (Elt F) → (⟨S1024, .i32⟩ : BufTy).Contents (Elt F) → (⟨S1024, .i32⟩ : BufTy).Contents (Elt F)),
    ternary main_v89 main_v91 main_v37 main_v92 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    nullary main_c_23 (constantI S_ 32 0#32),
    unary main_c_23 main_v93 (broadcastInDim S1024 ![] bcast_S_S1024 : (⟨S_, .i32⟩ : BufTy).Contents (Elt F) → (⟨S1024, .i32⟩ : BufTy).Contents (Elt F)) ]

set_option maxHeartbeats 4000000 in
/-- The log probability of the chosen pair. -/
abbrev opsB5b : List (HloOp τ sig (Elt F)) :=
  [ binary main_v35 main_v93 main_v94 (cmpi .slt : (⟨S1024, .i32⟩ : BufTy).Contents (Elt F) → (⟨S1024, .i32⟩ : BufTy).Contents (Elt F) → (⟨S1024, .i1⟩ : BufTy).Contents (Elt F)),
    nullary main_c_24 (constantI S_ 32 64#32),
    unary main_c_24 main_v95 (broadcastInDim S1024 ![] bcast_S_S1024 : (⟨S_, .i32⟩ : BufTy).Contents (Elt F) → (⟨S1024, .i32⟩ : BufTy).Contents (Elt F)),
    binary main_v35 main_v95 main_v96 (addi : (⟨S1024, .i32⟩ : BufTy).Contents (Elt F) → (⟨S1024, .i32⟩ : BufTy).Contents (Elt F) → (⟨S1024, .i32⟩ : BufTy).Contents (Elt F)),
    ternary main_v94 main_v96 main_v35 main_v97 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    nullary main_c_25 (constantI S_ 32 0#32),
    unary main_c_25 main_v98 (broadcastInDim S1024 ![] bcast_S_S1024 : (⟨S_, .i32⟩ : BufTy).Contents (Elt F) → (⟨S1024, .i32⟩ : BufTy).Contents (Elt F)),
    binary main_v36 main_v98 main_v99 (cmpi .slt : (⟨S1024, .i32⟩ : BufTy).Contents (Elt F) → (⟨S1024, .i32⟩ : BufTy).Contents (Elt F) → (⟨S1024, .i1⟩ : BufTy).Contents (Elt F)),
    nullary main_c_26 (constantI S_ 32 64#32),
    unary main_c_26 main_v100 (broadcastInDim S1024 ![] bcast_S_S1024 : (⟨S_, .i32⟩ : BufTy).Contents (Elt F) → (⟨S1024, .i32⟩ : BufTy).Contents (Elt F)),
    binary main_v36 main_v100 main_v101 (addi : (⟨S1024, .i32⟩ : BufTy).Contents (Elt F) → (⟨S1024, .i32⟩ : BufTy).Contents (Elt F) → (⟨S1024, .i32⟩ : BufTy).Contents (Elt F)),
    ternary main_v99 main_v101 main_v36 main_v102 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v92 main_v103 (broadcastInDim S1024x1 ![0] bcast_S1024_S1024x1_0 : (⟨S1024, .i32⟩ : BufTy).Contents (Elt F) → (⟨S1024x1, .i32⟩ : BufTy).Contents (Elt F)),
    unary main_v97 main_v104 (broadcastInDim S1024x1 ![0] bcast_S1024_S1024x1_0 : (⟨S1024, .i32⟩ : BufTy).Contents (Elt F) → (⟨S1024x1, .i32⟩ : BufTy).Contents (Elt F)),
    unary main_v102 main_v105 (broadcastInDim S1024x1 ![0] bcast_S1024_S1024x1_0 : (⟨S1024, .i32⟩ : BufTy).Contents (Elt F) → (⟨S1024x1, .i32⟩ : BufTy).Contents (Elt F)),
    nary ![main_v103, main_v104, main_v105] main_v106 (fun u => (concatenate S1024x3 1 [⟨S1024x1, (u 0 : (⟨S1024x1, .i32⟩ : BufTy).Contents (Elt F))⟩, ⟨S1024x1, (u 1 : (⟨S1024x1, .i32⟩ : BufTy).Contents (Elt F))⟩, ⟨S1024x1, (u 2 : (⟨S1024x1, .i32⟩ : BufTy).Contents (Elt F))⟩] concatenates_S1024x1_S1024x1_S1024x1_S1024x3_d1 : (⟨S1024x3, .i32⟩ : BufTy).Contents (Elt F))),
    binary main_v23 main_v106 main_v107 ((fun x i => Host.gather gather_S1024x64x64_S1024x3_S1024_n_012_n_n_012_1_111 x i) : (⟨S1024x64x64, .f32⟩ : BufTy).Contents (Elt F) → (⟨S1024x3, .i32⟩ : BufTy).Contents (Elt F) → (⟨S1024, .f32⟩ : BufTy).Contents (Elt F)),
    nullary main_cst_27 (constant S_ .f32 0x40000000#32),
    unary main_cst_27 main_v108 (Host.log : (⟨S_, .f32⟩ : BufTy).Contents (Elt F) → (⟨S_, .f32⟩ : BufTy).Contents (Elt F)),
    unary main_v108 main_v109 (id : (⟨S_, .f32⟩ : BufTy).Contents (Elt F) → (⟨S_, .f32⟩ : BufTy).Contents (Elt F)),
    unary main_v109 main_v110 (broadcastInDim S1024 ![] bcast_S_S1024 : (⟨S_, .f32⟩ : BufTy).Contents (Elt F) → (⟨S1024, .f32⟩ : BufTy).Contents (Elt F)),
    binary main_v107 main_v110 main_v111 (addf : (⟨S1024, .f32⟩ : BufTy).Contents (Elt F) → (⟨S1024, .f32⟩ : BufTy).Contents (Elt F) → (⟨S1024, .f32⟩ : BufTy).Contents (Elt F)),
    nullary main_cst_28 (constant S_ .f32 0xFF800000#32),
    binary main_v23 main_cst_28 main_v112 ((fun x v => Host.reduce FloatOps.maximumf x v reducesTo_S1024x64x64_S1024_d1_2 h_S_) : (⟨S1024x64x64, .f32⟩ : BufTy).Contents (Elt F) → (⟨S_, .f32⟩ : BufTy).Contents (Elt F) → (⟨S1024, .f32⟩ : BufTy).Contents (Elt F)),
    unary main_v112 main_v113 (broadcastInDim S1024x1x1 ![0] bcast_S1024_S1024x1x1_0 : (⟨S1024, .f32⟩ : BufTy).Contents (Elt F) → (⟨S1024x1x1, .f32⟩ : BufTy).Contents (Elt F)),
    unary main_v113 main_v114 (Host.absf : (⟨S1024x1x1, .f32⟩ : BufTy).Contents (Elt F) → (⟨S1024x1x1, .f32⟩ : BufTy).Contents (Elt F)),
    nullary main_cst_29 (constant S_ .f32 0x7F800000#32),
    unary main_cst_29 main_v115 (broadcastInDim S1024x1x1 ![] bcast_S_S1024x1x1 : (⟨S_, .f32⟩ : BufTy).Contents (Elt F) → (⟨S1024x1x1, .f32⟩ : BufTy).Contents (Elt F)),
    binary main_v114 main_v115 main_v116 (cmpf .olt : (⟨S1024x1x1, .f32⟩ : BufTy).Contents (Elt F) → (⟨S1024x1x1, .f32⟩ : BufTy).Contents (Elt F) → (⟨S1024x1x1, .i1⟩ : BufTy).Contents (Elt F)),
    nullary main_cst_30 (constant S_ .f32 0x00000000#32),
    unary main_cst_30 main_v117 (broadcastInDim S1024x1x1 ![] bcast_S_S1024x1x1 : (⟨S_, .f32⟩ : BufTy).Contents (Elt F) → (⟨S1024x1x1, .f32⟩ : BufTy).Contents (Elt F)),
    ternary main_v116 main_v113 main_v117 main_v118 (select : (⟨S1024x1x1, .i1⟩ : BufTy).Contents (Elt F) → (⟨S1024x1x1, .f32⟩ : BufTy).Contents (Elt F) → (⟨S1024x1x1, .f32⟩ : BufTy).Contents (Elt F) → (⟨S1024x1x1, .f32⟩ : BufTy).Contents (Elt F)),
    unary main_v118 main_v119 (broadcastInDim S1024x64x64 ![0, 1, 2] bcast_S1024x1x1_S1024x64x64_0_1_2 : (⟨S1024x1x1, .f32⟩ : BufTy).Contents (Elt F) → (⟨S1024x64x64, .f32⟩ : BufTy).Contents (Elt F)),
    binary main_v23 main_v119 main_v120 (subf : (⟨S1024x64x64, .f32⟩ : BufTy).Contents (Elt F) → (⟨S1024x64x64, .f32⟩ : BufTy).Contents (Elt F) → (⟨S1024x64x64, .f32⟩ : BufTy).Contents (Elt F)),
    unary main_v120 main_v121 (Host.exp : (⟨S1024x64x64, .f32⟩ : BufTy).Contents (Elt F) → (⟨S1024x64x64, .f32⟩ : BufTy).Contents (Elt F)),
    nullary main_cst_31 (constant S_ .f32 0x00000000#32),
    binary main_v121 main_cst_31 main_v122 ((fun x v => Host.reduceAdd x v reducesTo_S1024x64x64_S1024_d1_2 h_S_) : (⟨S1024x64x64, .f32⟩ : BufTy).Contents (Elt F) → (⟨S_, .f32⟩ : BufTy).Contents (Elt F) → (⟨S1024, .f32⟩ : BufTy).Contents (Elt F)),
    unary main_v122 main_v123 (Host.absf : (⟨S1024, .f32⟩ : BufTy).Contents (Elt F) → (⟨S1024, .f32⟩ : BufTy).Contents (Elt F)),
    unary main_v123 main_v124 (Host.log : (⟨S1024, .f32⟩ : BufTy).Contents (Elt F) → (⟨S1024, .f32⟩ : BufTy).Contents (Elt F)),
    reshape main_v118 main_v125 (rfl : (.f32 : EltTy) = .f32) shapeCasts_S1024x1x1_S1024,
    binary main_v124 main_v125 main_v126 (addf : (⟨S1024, .f32⟩ : BufTy).Contents (Elt F) → (⟨S1024, .f32⟩ : BufTy).Contents (Elt F) → (⟨S1024, .f32⟩ : BufTy).Contents (Elt F)),
    binary main_v111 main_v126 main_v127 (subf : (⟨S1024, .f32⟩ : BufTy).Contents (Elt F) → (⟨S1024, .f32⟩ : BufTy).Contents (Elt F) → (⟨S1024, .f32⟩ : BufTy).Contents (Elt F)),
    nullary main_cst_32 (constant S_ .f32 0x00000000#32),
    unary main_cst_32 main_v128 (broadcastInDim S1024 ![] bcast_S_S1024 : (⟨S_, .f32⟩ : BufTy).Contents (Elt F) → (⟨S1024, .f32⟩ : BufTy).Contents (Elt F)),
    binary main_v127 main_v128 main_v129 (addf : (⟨S1024, .f32⟩ : BufTy).Contents (Elt F) → (⟨S1024, .f32⟩ : BufTy).Contents (Elt F) → (⟨S1024, .f32⟩ : BufTy).Contents (Elt F)),
    nullary main_cst_33 (constant S_ .f32 0x00000000#32),
    unary main_cst_33 main_v130 (broadcastInDim S1024 ![] bcast_S_S1024 : (⟨S_, .f32⟩ : BufTy).Contents (Elt F) → (⟨S1024, .f32⟩ : BufTy).Contents (Elt F)),
    binary main_v129 main_v130 main_v131 (addf : (⟨S1024, .f32⟩ : BufTy).Contents (Elt F) → (⟨S1024, .f32⟩ : BufTy).Contents (Elt F) → (⟨S1024, .f32⟩ : BufTy).Contents (Elt F)) ]

set_option maxHeartbeats 4000000 in
/-- The counts of unit leaves. -/
abbrev opsB6 : List (HloOp τ sig (Elt F)) :=
  [ nullary main_c_34 (constantI S_ 32 1#32),
    unary main_c_34 main_v132 (broadcastInDim S1024x64 ![] bcast_S_S1024x64 : (⟨S_, .i32⟩ : BufTy).Contents (Elt F) → (⟨S1024x64, .i32⟩ : BufTy).Contents (Elt F)),
    binary main_arg1 main_v132 main_v133 (cmpi .eq : (⟨S1024x64, .i32⟩ : BufTy).Contents (Elt F) → (⟨S1024x64, .i32⟩ : BufTy).Contents (Elt F) → (⟨S1024x64, .i1⟩ : BufTy).Contents (Elt F)),
    unary main_v133 main_v134 ((extui 32 · natLt_1_32) : (⟨S1024x64, .i1⟩ : BufTy).Contents (Elt F) → (⟨S1024x64, .i32⟩ : BufTy).Contents (Elt F)),
    nullary main_c_35 (constantI S_ 32 0#32),
    binary main_v134 main_c_35 main_v135 ((fun x v => Host.reduce IntOp.addi x v reducesTo_S1024x64_S1024_d1 h_S_) : (⟨S1024x64, .i32⟩ : BufTy).Contents (Elt F) → (⟨S_, .i32⟩ : BufTy).Contents (Elt F) → (⟨S1024, .i32⟩ : BufTy).Contents (Elt F)),
    nullary main_c_36 (constantI S_ 32 0#32),
    unary main_c_36 main_v136 (broadcastInDim S1024 ![] bcast_S_S1024 : (⟨S_, .i32⟩ : BufTy).Contents (Elt F) → (⟨S1024, .i32⟩ : BufTy).Contents (Elt F)),
    binary main_v37 main_v136 main_v137 (cmpi .slt : (⟨S1024, .i32⟩ : BufTy).Contents (Elt F) → (⟨S1024, .i32⟩ : BufTy).Contents (Elt F) → (⟨S1024, .i1⟩ : BufTy).Contents (Elt F)),
    nullary main_c_37 (constantI S_ 32 1024#32),
    unary main_c_37 main_v138 (broadcastInDim S1024 ![] bcast_S_S1024 : (⟨S_, .i32⟩ : BufTy).Contents (Elt F) → (⟨S1024, .i32⟩ : BufTy).Contents (Elt F)),
    binary main_v37 main_v138 main_v139 (addi : (⟨S1024, .i32⟩ : BufTy).Contents (Elt F) → (⟨S1024, .i32⟩ : BufTy).Contents (Elt F) → (⟨S1024, .i32⟩ : BufTy).Contents (Elt F)) ]

set_option maxHeartbeats 4000000 in
/-- The log of the number of the merges. -/
abbrev opsB6b : List (HloOp τ sig (Elt F)) :=
  [ ternary main_v137 main_v139 main_v37 main_v140 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    nullary main_c_38 (constantI S_ 32 0#32),
    unary main_c_38 main_v141 (broadcastInDim S1024 ![] bcast_S_S1024 : (⟨S_, .i32⟩ : BufTy).Contents (Elt F) → (⟨S1024, .i32⟩ : BufTy).Contents (Elt F)),
    binary main_v35 main_v141 main_v142 (cmpi .slt : (⟨S1024, .i32⟩ : BufTy).Contents (Elt F) → (⟨S1024, .i32⟩ : BufTy).Contents (Elt F) → (⟨S1024, .i1⟩ : BufTy).Contents (Elt F)),
    nullary main_c_39 (constantI S_ 32 64#32),
    unary main_c_39 main_v143 (broadcastInDim S1024 ![] bcast_S_S1024 : (⟨S_, .i32⟩ : BufTy).Contents (Elt F) → (⟨S1024, .i32⟩ : BufTy).Contents (Elt F)),
    binary main_v35 main_v143 main_v144 (addi : (⟨S1024, .i32⟩ : BufTy).Contents (Elt F) → (⟨S1024, .i32⟩ : BufTy).Contents (Elt F) → (⟨S1024, .i32⟩ : BufTy).Contents (Elt F)),
    ternary main_v142 main_v144 main_v35 main_v145 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v140 main_v146 (broadcastInDim S1024x1 ![0] bcast_S1024_S1024x1_0 : (⟨S1024, .i32⟩ : BufTy).Contents (Elt F) → (⟨S1024x1, .i32⟩ : BufTy).Contents (Elt F)),
    unary main_v145 main_v147 (broadcastInDim S1024x1 ![0] bcast_S1024_S1024x1_0 : (⟨S1024, .i32⟩ : BufTy).Contents (Elt F) → (⟨S1024x1, .i32⟩ : BufTy).Contents (Elt F)),
    binary main_v146 main_v147 main_v148 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)),
    binary main_arg1 main_v148 main_v149 ((fun x i => Host.gather gather_S1024x64_S1024x2_S1024_n_01_n_n_01_1_11 x i) : (⟨S1024x64, .i32⟩ : BufTy).Contents (Elt F) → (⟨S1024x2, .i32⟩ : BufTy).Contents (Elt F) → (⟨S1024, .i32⟩ : BufTy).Contents (Elt F)),
    nullary main_c_40 (constantI S_ 32 1#32),
    unary main_c_40 main_v150 (broadcastInDim S1024 ![] bcast_S_S1024 : (⟨S_, .i32⟩ : BufTy).Contents (Elt F) → (⟨S1024, .i32⟩ : BufTy).Contents (Elt F)),
    binary main_v149 main_v150 main_v151 (cmpi .eq : (⟨S1024, .i32⟩ : BufTy).Contents (Elt F) → (⟨S1024, .i32⟩ : BufTy).Contents (Elt F) → (⟨S1024, .i1⟩ : BufTy).Contents (Elt F)),
    unary main_v151 main_v152 ((extui 32 · natLt_1_32) : (⟨S1024, .i1⟩ : BufTy).Contents (Elt F) → (⟨S1024, .i32⟩ : BufTy).Contents (Elt F)),
    binary main_v135 main_v152 main_v153 (subi : (⟨S1024, .i32⟩ : BufTy).Contents (Elt F) → (⟨S1024, .i32⟩ : BufTy).Contents (Elt F) → (⟨S1024, .i32⟩ : BufTy).Contents (Elt F)),
    nullary main_c_41 (constantI S_ 32 0#32),
    unary main_c_41 main_v154 (broadcastInDim S1024 ![] bcast_S_S1024 : (⟨S_, .i32⟩ : BufTy).Contents (Elt F) → (⟨S1024, .i32⟩ : BufTy).Contents (Elt F)),
    binary main_v37 main_v154 main_v155 (cmpi .slt : (⟨S1024, .i32⟩ : BufTy).Contents (Elt F) → (⟨S1024, .i32⟩ : BufTy).Contents (Elt F) → (⟨S1024, .i1⟩ : BufTy).Contents (Elt F)),
    nullary main_c_42 (constantI S_ 32 1024#32),
    unary main_c_42 main_v156 (broadcastInDim S1024 ![] bcast_S_S1024 : (⟨S_, .i32⟩ : BufTy).Contents (Elt F) → (⟨S1024, .i32⟩ : BufTy).Contents (Elt F)),
    binary main_v37 main_v156 main_v157 (addi : (⟨S1024, .i32⟩ : BufTy).Contents (Elt F) → (⟨S1024, .i32⟩ : BufTy).Contents (Elt F) → (⟨S1024, .i32⟩ : BufTy).Contents (Elt F)),
    ternary main_v155 main_v157 main_v37 main_v158 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    nullary main_c_43 (constantI S_ 32 0#32),
    unary main_c_43 main_v159 (broadcastInDim S1024 ![] bcast_S_S1024 : (⟨S_, .i32⟩ : BufTy).Contents (Elt F) → (⟨S1024, .i32⟩ : BufTy).Contents (Elt F)),
    binary main_v36 main_v159 main_v160 (cmpi .slt : (⟨S1024, .i32⟩ : BufTy).Contents (Elt F) → (⟨S1024, .i32⟩ : BufTy).Contents (Elt F) → (⟨S1024, .i1⟩ : BufTy).Contents (Elt F)),
    nullary main_c_44 (constantI S_ 32 64#32),
    unary main_c_44 main_v161 (broadcastInDim S1024 ![] bcast_S_S1024 : (⟨S_, .i32⟩ : BufTy).Contents (Elt F) → (⟨S1024, .i32⟩ : BufTy).Contents (Elt F)),
    binary main_v36 main_v161 main_v162 (addi : (⟨S1024, .i32⟩ : BufTy).Contents (Elt F) → (⟨S1024, .i32⟩ : BufTy).Contents (Elt F) → (⟨S1024, .i32⟩ : BufTy).Contents (Elt F)),
    ternary main_v160 main_v162 main_v36 main_v163 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v158 main_v164 (broadcastInDim S1024x1 ![0] bcast_S1024_S1024x1_0 : (⟨S1024, .i32⟩ : BufTy).Contents (Elt F) → (⟨S1024x1, .i32⟩ : BufTy).Contents (Elt F)),
    unary main_v163 main_v165 (broadcastInDim S1024x1 ![0] bcast_S1024_S1024x1_0 : (⟨S1024, .i32⟩ : BufTy).Contents (Elt F) → (⟨S1024x1, .i32⟩ : BufTy).Contents (Elt F)),
    binary main_v164 main_v165 main_v166 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)),
    binary main_arg1 main_v166 main_v167 ((fun x i => Host.gather gather_S1024x64_S1024x2_S1024_n_01_n_n_01_1_11 x i) : (⟨S1024x64, .i32⟩ : BufTy).Contents (Elt F) → (⟨S1024x2, .i32⟩ : BufTy).Contents (Elt F) → (⟨S1024, .i32⟩ : BufTy).Contents (Elt F)),
    nullary main_c_45 (constantI S_ 32 1#32),
    unary main_c_45 main_v168 (broadcastInDim S1024 ![] bcast_S_S1024 : (⟨S_, .i32⟩ : BufTy).Contents (Elt F) → (⟨S1024, .i32⟩ : BufTy).Contents (Elt F)),
    binary main_v167 main_v168 main_v169 (cmpi .eq : (⟨S1024, .i32⟩ : BufTy).Contents (Elt F) → (⟨S1024, .i32⟩ : BufTy).Contents (Elt F) → (⟨S1024, .i1⟩ : BufTy).Contents (Elt F)),
    unary main_v169 main_v170 ((extui 32 · natLt_1_32) : (⟨S1024, .i1⟩ : BufTy).Contents (Elt F) → (⟨S1024, .i32⟩ : BufTy).Contents (Elt F)),
    binary main_v153 main_v170 main_v171 (subi : (⟨S1024, .i32⟩ : BufTy).Contents (Elt F) → (⟨S1024, .i32⟩ : BufTy).Contents (Elt F) → (⟨S1024, .i32⟩ : BufTy).Contents (Elt F)),
    unary main_arg0 main_v172 (broadcastInDim S1024 ![] bcast_S_S1024 : (⟨S_, .i32⟩ : BufTy).Contents (Elt F) → (⟨S1024, .i32⟩ : BufTy).Contents (Elt F)),
    binary main_v172 main_v171 main_v173 (subi : (⟨S1024, .i32⟩ : BufTy).Contents (Elt F) → (⟨S1024, .i32⟩ : BufTy).Contents (Elt F) → (⟨S1024, .i32⟩ : BufTy).Contents (Elt F)),
    unary main_v173 main_v174 (sitofp .f32 : (⟨S1024, .i32⟩ : BufTy).Contents (Elt F) → (⟨S1024, .f32⟩ : BufTy).Contents (Elt F)),
    unary main_v174 main_v175 (Host.log : (⟨S1024, .f32⟩ : BufTy).Contents (Elt F) → (⟨S1024, .f32⟩ : BufTy).Contents (Elt F)) ]

/-- The buffers that `opsA` writes. -/
abbrev wrA : List (Ref sig .tc) := [main_v0, main_cst, main_v1, main_v2, main_v3, main_v4, main_v5, main_v6, main_v7, main_cst_0, main_v8, main_v9, main_v10, main_cst_1, main_v11, main_v12, main_v13, main_v14, main_cst_2, main_v15, main_v16, main_v17, main_v18, main_c, main_v19, main_v20, main_v21, main_v22, main_cst_3, main_call0_v0, main_call0_v1, main_call0_v2, main_v23]

theorem opsA_writes : (opsA (F := F)).map HloOp.writes = wrA.map fun w => {Proc.devRef .tc w} := rfl

/-- The buffers that `opsK` writes. -/
abbrev wrK : List (Ref sig .tc) := [main_v24, main_c_4, main_c_5, main_v25, main_v26, main_v27, main_c_6, main_v28, main_v29, main_v30, main_v31]

theorem opsK_writes : (opsK (F := F)).map HloOp.writes = wrK.map fun w => {Proc.devRef .tc w} := rfl

/-- The buffers that `opsG0` writes. -/
abbrev wrG0 : List (Ref sig .tc) := [main_call1_cst, main_call1_cst_0, main_call1_call0_v0, main_call1_call0_v1, main_call1_call0_v2, main_call1_call0_v3, main_call1_call0_v4, main_call1_call0_v5, main_call1_call0_v6, main_call1_call0_v7, main_call1_call0_v8, main_call1_call0_c, main_call1_call0_v9, main_call1_call0_v10, main_call1_call0_c_0, main_call1_call0_v11, main_call1_call0_v12, main_call1_call0_v13, main_call1_call0_c_1, main_call1_call0_v14, main_call1_call0_v15, main_call1_call0_v16, main_call1_call0_v17]

theorem opsG0_writes : (opsG0 (F := F)).map HloOp.writes = wrG0.map fun w => {Proc.devRef .tc w} := rfl

/-- The buffers that `opsT0` writes. -/
abbrev wrT0 : List (Ref sig .tc) := [main_call1_call0_call0_v0, main_call1_call0_call0_c, main_call1_call0_call0_v1, main_call1_call0_call0_v2, main_call1_call0_call0_v3, main_call1_call0_call0_v4, main_call1_call0_call0_v5, main_call1_call0_call0_v6, main_call1_call0_call0_c_0, main_call1_call0_call0_v7, main_call1_call0_call0_v8, main_call1_call0_call0_c_1, main_call1_call0_call0_v9, main_call1_call0_call0_v10, main_call1_call0_call0_v11, main_call1_call0_call0_v12, main_call1_call0_call0_v13, main_call1_call0_call0_c_2, main_call1_call0_call0_v14, main_call1_call0_call0_v15, main_call1_call0_call0_c_3, main_call1_call0_call0_v16, main_call1_call0_call0_v17, main_call1_call0_call0_v18, main_call1_call0_call0_v19, main_call1_call0_call0_v20, main_call1_call0_call0_c_4, main_call1_call0_call0_v21, main_call1_call0_call0_v22, main_call1_call0_call0_c_5, main_call1_call0_call0_v23, main_call1_call0_call0_v24, main_call1_call0_call0_v25, main_call1_call0_call0_v26, main_call1_call0_call0_v27, main_call1_call0_call0_c_6, main_call1_call0_call0_v28, main_call1_call0_call0_v29, main_call1_call0_call0_c_7, main_call1_call0_call0_v30, main_call1_call0_call0_v31, main_call1_call0_call0_v32, main_call1_call0_call0_v33, main_call1_call0_call0_v34, main_call1_call0_call0_v35, main_call1_call0_call0_v36, main_call1_call0_call0_v37, main_call1_call0_call0_c_8, main_call1_call0_call0_v38, main_call1_call0_call0_v39, main_call1_call0_call0_v40, main_call1_call0_call0_c_9, main_call1_call0_call0_v41, main_call1_call0_call0_v42, main_call1_call0_call0_c_10, main_call1_call0_call0_v43, main_call1_call0_call0_v44, main_call1_call0_call0_v45, main_call1_call0_call0_v46, main_call1_call0_call0_v47]

theorem opsT0_writes : (opsT0 (F := F)).map HloOp.writes = wrT0.map fun w => {Proc.devRef .tc w} := rfl

/-- The buffers that `opsT1` writes. -/
abbrev wrT1 : List (Ref sig .tc) := [main_call1_call0_call0_c_11, main_call1_call0_call0_v48, main_call1_call0_call0_v49, main_call1_call0_call0_c_12, main_call1_call0_call0_v50, main_call1_call0_call0_v51, main_call1_call0_call0_v52, main_call1_call0_call0_v53, main_call1_call0_call0_v54, main_call1_call0_call0_c_13, main_call1_call0_call0_v55, main_call1_call0_call0_v56, main_call1_call0_call0_c_14, main_call1_call0_call0_v57, main_call1_call0_call0_v58, main_call1_call0_call0_v59, main_call1_call0_call0_v60, main_call1_call0_call0_v61, main_call1_call0_call0_c_15, main_call1_call0_call0_v62, main_call1_call0_call0_v63, main_call1_call0_call0_c_16, main_call1_call0_call0_v64, main_call1_call0_call0_v65, main_call1_call0_call0_v66, main_call1_call0_call0_v67, main_call1_call0_call0_v68, main_call1_call0_call0_v69, main_call1_call0_call0_v70, main_call1_call0_call0_v71, main_call1_call0_call0_c_17, main_call1_call0_call0_v72, main_call1_call0_call0_v73, main_call1_call0_call0_v74, main_call1_call0_call0_c_18, main_call1_call0_call0_v75, main_call1_call0_call0_v76, main_call1_call0_call0_c_19, main_call1_call0_call0_v77, main_call1_call0_call0_v78, main_call1_call0_call0_v79, main_call1_call0_call0_v80, main_call1_call0_call0_v81, main_call1_call0_call0_c_20, main_call1_call0_call0_v82, main_call1_call0_call0_v83, main_call1_call0_call0_c_21, main_call1_call0_call0_v84, main_call1_call0_call0_v85, main_call1_call0_call0_v86, main_call1_call0_call0_v87, main_call1_call0_call0_v88, main_call1_call0_call0_c_22, main_call1_call0_call0_v89, main_call1_call0_call0_v90, main_call1_call0_call0_c_23, main_call1_call0_call0_v91, main_call1_call0_call0_v92, main_call1_call0_call0_v93, main_call1_call0_call0_v94]

theorem opsT1_writes : (opsT1 (F := F)).map HloOp.writes = wrT1.map fun w => {Proc.devRef .tc w} := rfl

/-- The buffers that `opsT2` writes. -/
abbrev wrT2 : List (Ref sig .tc) := [main_call1_call0_call0_v95, main_call1_call0_call0_c_24, main_call1_call0_call0_v96, main_call1_call0_call0_v97, main_call1_call0_call0_c_25, main_call1_call0_call0_v98, main_call1_call0_call0_v99, main_call1_call0_call0_v100, main_call1_call0_call0_v101, main_call1_call0_call0_v102, main_call1_call0_call0_v103, main_call1_call0_call0_v104, main_call1_call0_call0_v105, main_call1_call0_call0_c_26, main_call1_call0_call0_v106, main_call1_call0_call0_v107, main_call1_call0_call0_v108, main_call1_call0_call0_c_27, main_call1_call0_call0_v109, main_call1_call0_call0_v110, main_call1_call0_call0_c_28, main_call1_call0_call0_v111, main_call1_call0_call0_v112, main_call1_call0_call0_v113, main_call1_call0_call0_v114, main_call1_call0_call0_v115, main_call1_call0_call0_c_29, main_call1_call0_call0_v116, main_call1_call0_call0_v117, main_call1_call0_call0_c_30, main_call1_call0_call0_v118, main_call1_call0_call0_v119, main_call1_call0_call0_v120, main_call1_call0_call0_v121, main_call1_call0_call0_v122, main_call1_call0_call0_c_31, main_call1_call0_call0_v123, main_call1_call0_call0_v124, main_call1_call0_call0_c_32, main_call1_call0_call0_v125, main_call1_call0_call0_v126, main_call1_call0_call0_v127, main_call1_call0_call0_v128, main_call1_call0_call0_v129, main_call1_call0_call0_c_33, main_call1_call0_call0_v130, main_call1_call0_call0_v131, main_call1_call0_call0_c_34, main_call1_call0_call0_v132, main_call1_call0_call0_v133, main_call1_call0_call0_v134, main_call1_call0_call0_v135, main_call1_call0_call0_v136, main_call1_call0_call0_v137, main_call1_call0_call0_v138, main_call1_call0_call0_v139, main_call1_call0_call0_c_35, main_call1_call0_call0_v140, main_call1_call0_call0_v141, main_call1_call0_call0_v142]

theorem opsT2_writes : (opsT2 (F := F)).map HloOp.writes = wrT2.map fun w => {Proc.devRef .tc w} := rfl

/-- The buffers that `opsT3` writes. -/
abbrev wrT3 : List (Ref sig .tc) := [main_call1_call0_call0_c_36, main_call1_call0_call0_v143, main_call1_call0_call0_v144, main_call1_call0_call0_c_37, main_call1_call0_call0_v145, main_call1_call0_call0_v146, main_call1_call0_call0_v147, main_call1_call0_call0_v148, main_call1_call0_call0_v149, main_call1_call0_call0_c_38, main_call1_call0_call0_v150, main_call1_call0_call0_v151, main_call1_call0_call0_c_39, main_call1_call0_call0_v152, main_call1_call0_call0_v153, main_call1_call0_call0_v154, main_call1_call0_call0_v155, main_call1_call0_call0_v156, main_call1_call0_call0_c_40, main_call1_call0_call0_v157, main_call1_call0_call0_v158, main_call1_call0_call0_c_41, main_call1_call0_call0_v159, main_call1_call0_call0_v160, main_call1_call0_call0_v161, main_call1_call0_call0_v162, main_call1_call0_call0_v163, main_call1_call0_call0_c_42, main_call1_call0_call0_v164, main_call1_call0_call0_v165, main_call1_call0_call0_c_43, main_call1_call0_call0_v166, main_call1_call0_call0_v167, main_call1_call0_call0_v168, main_call1_call0_call0_v169, main_call1_call0_call0_v170, main_call1_call0_v18_0, main_call1_call0_call0_v172, main_call1_call0_call0_v173, main_call1_call0_call0_c_44, main_call1_call0_call0_v174, main_call1_call0_v18_1]

theorem opsT3_writes : (opsT3 (F := F)).map HloOp.writes = wrT3.map fun w => {Proc.devRef .tc w} := rfl

/-- The buffers that `opsG1` writes. -/
abbrev wrG1 : List (Ref sig .tc) := [main_call1_call0_v19, main_call1_call0_c_2, main_call1_call0_v20, main_call1_call0_v21, main_call1_call0_c_3, main_call1_call0_v22, main_call1_call0_v23, main_call1_call0_v24, main_call1_call0_cst, main_call1_call0_v25, main_call1_call0_v26, main_call1_call0_v27, main_call1_call0_v28, main_call1_call0_v29, main_call1_call0_v30, main_call1_call0_v31, main_call1_call0_v32, main_call1_v0, main_call1_v1, main_call1_v2, main_call1_v3, main_v32]

theorem opsG1_writes : (opsG1 (F := F)).map HloOp.writes = wrG1.map fun w => {Proc.devRef .tc w} := rfl

/-- The buffers that `opsB1` writes. -/
abbrev wrB1 : List (Ref sig .tc) := [main_v33, main_call2_v0, main_call2_cst, main_call2_c, main_call2_v1_0, main_v34]

theorem opsB1_writes : (opsB1 (F := F)).map HloOp.writes = wrB1.map fun w => {Proc.devRef .tc w} := rfl

/-- The buffers that `opsB2` writes. -/
abbrev wrB2 : List (Ref sig .tc) := [main_c_7, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v35, main_c_8, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v36]

theorem opsB2_writes : (opsB2 (F := F)).map HloOp.writes = wrB2.map fun w => {Proc.devRef .tc w} := rfl

/-- The buffers that `opsB3` writes. -/
abbrev wrB3 : List (Ref sig .tc) := [main_v37, main_c_9, main_v38, main_v39, main_c_10, main_v40, main_v41, main_v42, main_c_11, main_v43, main_v44, main_c_12]

theorem opsB3_writes : (opsB3 (F := F)).map HloOp.writes = wrB3.map fun w => {Proc.devRef .tc w} := rfl

/-- The buffers that `opsB3b` writes. -/
abbrev wrB3b : List (Ref sig .tc) := [main_v45, main_v46, main_v47, main_v48, main_v49, main_v50, main_v51, main_c_13, main_v52, main_v53, main_c_14, main_v54, main_v55, main_v56, main_c_15, main_v57, main_v58, main_c_16, main_v59, main_v60, main_v61, main_v62, main_v63, main_v64, main_v65, main_v66, main_v67, main_v68, main_v69, main_v70, main_call5_cst, main_call5_v0, main_v71, main_v72, main_v73, main_v74, main_v75]

theorem opsB3b_writes : (opsB3b (F := F)).map HloOp.writes = wrB3b.map fun w => {Proc.devRef .tc w} := rfl

/-- The buffers that `opsB4` writes. -/
abbrev wrB4 : List (Ref sig .tc) := [main_v76, main_v77, main_cst_17, main_v78, main_cst_18, main_v79, main_v80, main_v81, main_v82, main_v83, main_cst_19, main_v84, main_cst_20, main_v85, main_v86, main_v87]

theorem opsB4_writes : (opsB4 (F := F)).map HloOp.writes = wrB4.map fun w => {Proc.devRef .tc w} := rfl

/-- The buffers that `opsB5` writes. -/
abbrev wrB5 : List (Ref sig .tc) := [main_c_21, main_v88, main_v89, main_c_22, main_v90, main_v91, main_v92, main_c_23, main_v93]

theorem opsB5_writes : (opsB5 (F := F)).map HloOp.writes = wrB5.map fun w => {Proc.devRef .tc w} := rfl

/-- The buffers that `opsB5b` writes. -/
abbrev wrB5b : List (Ref sig .tc) := [main_v94, main_c_24, main_v95, main_v96, main_v97, main_c_25, main_v98, main_v99, main_c_26, main_v100, main_v101, main_v102, main_v103, main_v104, main_v105, main_v106, main_v107, main_cst_27, main_v108, main_v109, main_v110, main_v111, main_cst_28, main_v112, main_v113, main_v114, main_cst_29, main_v115, main_v116, main_cst_30, main_v117, main_v118, main_v119, main_v120, main_v121, main_cst_31, main_v122, main_v123, main_v124, main_v125, main_v126, main_v127, main_cst_32, main_v128, main_v129, main_cst_33, main_v130, main_v131]

theorem opsB5b_writes : (opsB5b (F := F)).map HloOp.writes = wrB5b.map fun w => {Proc.devRef .tc w} := rfl

/-- The buffers that `opsB6` writes. -/
abbrev wrB6 : List (Ref sig .tc) := [main_c_34, main_v132, main_v133, main_v134, main_c_35, main_v135, main_c_36, main_v136, main_v137, main_c_37, main_v138, main_v139]

theorem opsB6_writes : (opsB6 (F := F)).map HloOp.writes = wrB6.map fun w => {Proc.devRef .tc w} := rfl

/-- The buffers that `opsB6b` writes. -/
abbrev wrB6b : List (Ref sig .tc) := [main_v140, main_c_38, main_v141, main_v142, main_c_39, main_v143, main_v144, main_v145, main_v146, main_v147, main_v148, main_v149, main_c_40, main_v150, main_v151, main_v152, main_v153, main_c_41, main_v154, main_v155, main_c_42, main_v156, main_v157, main_v158, main_c_43, main_v159, main_v160, main_c_44, main_v161, main_v162, main_v163, main_v164, main_v165, main_v166, main_v167, main_c_45, main_v168, main_v169, main_v170, main_v171, main_v172, main_v173, main_v174, main_v175]

theorem opsB6b_writes : (opsB6b (F := F)).map HloOp.writes = wrB6b.map fun w => {Proc.devRef .tc w} := rfl

theorem opsA_sub : (opsA (F := F)).Forall fun op => op.bufs ⊆ tcRefs τ sig :=
  ⟨binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., unary_bufs_sub .., ternary_bufs_sub ..⟩

theorem opsA_fresh : (opsA (F := F)).Forall fun op => op.fresh = ∅ := forall_fresh_of_map rfl

theorem opsK_sub : (opsK (F := F)).Forall fun op => op.bufs ⊆ tcRefs τ sig :=
  ⟨reshape_bufs_sub .., nullary_bufs_sub .., nullary_bufs_sub .., binary_bufs_sub .., unary_bufs_sub .., unary_bufs_sub .., nullary_bufs_sub .., binary_bufs_sub .., unary_bufs_sub .., unary_bufs_sub .., binary_bufs_sub ..⟩

theorem opsK_fresh : (opsK (F := F)).Forall fun op => op.fresh = ∅ := forall_fresh_of_map rfl

theorem opsG0_sub : (opsG0 (F := F)).Forall fun op => op.bufs ⊆ tcRefs τ sig :=
  ⟨nullary_bufs_sub .., nullary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub ..⟩

theorem opsG0_fresh : (opsG0 (F := F)).Forall fun op => op.fresh = ∅ := forall_fresh_of_map rfl

theorem opsT0_sub : (opsT0 (F := F)).Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩

theorem opsT0_fresh : (opsT0 (F := F)).Forall fun op => op.fresh = ∅ := forall_fresh_of_map rfl

theorem opsT1_sub : (opsT1 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩

theorem opsT1_fresh : (opsT1 (F := F)).Forall fun op => op.fresh = ∅ := forall_fresh_of_map rfl

theorem opsT2_sub : (opsT2 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩

theorem opsT2_fresh : (opsT2 (F := F)).Forall fun op => op.fresh = ∅ := forall_fresh_of_map rfl

theorem opsT3_sub : (opsT3 (F := F)).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

theorem opsT3_fresh : (opsT3 (F := F)).Forall fun op => op.fresh = ∅ := forall_fresh_of_map rfl

theorem opsG1_sub : (opsG1 (F := F)).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub ..⟩

theorem opsG1_fresh : (opsG1 (F := F)).Forall fun op => op.fresh = ∅ := forall_fresh_of_map rfl

theorem opsB1_sub : (opsB1 (F := F)).Forall fun op => op.bufs ⊆ tcRefs τ sig :=
  ⟨binary_bufs_sub .., nullary_bufs_sub .., nullary_bufs_sub .., nullary_bufs_sub .., quaternary_bufs_sub .., quaternary_bufs_sub ..⟩

theorem opsB1_fresh : (opsB1 (F := F)).Forall fun op => op.fresh = ∅ := forall_fresh_of_map rfl

theorem opsB2_sub : (opsB2 (F := F)).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem opsB2_fresh : (opsB2 (F := F)).Forall fun op => op.fresh = ∅ := forall_fresh_of_map rfl

theorem opsB3_sub : (opsB3 (F := F)).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩

theorem opsB3_fresh : (opsB3 (F := F)).Forall fun op => op.fresh = ∅ := forall_fresh_of_map rfl

theorem opsB3b_sub : (opsB3b (F := F)).Forall fun op => op.bufs ⊆ tcRefs τ sig :=
  ⟨unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem opsB3b_fresh : (opsB3b (F := F)).Forall fun op => op.fresh = ∅ := forall_fresh_of_map rfl

theorem opsB4_sub : (opsB4 (F := F)).Forall fun op => op.bufs ⊆ tcRefs τ sig :=
  ⟨binary_bufs_sub .., binary_bufs_sub .., nullary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub ..⟩

theorem opsB4_fresh : (opsB4 (F := F)).Forall fun op => op.fresh = ∅ := forall_fresh_of_map rfl

theorem opsB5_sub : (opsB5 (F := F)).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub ..⟩

theorem opsB5_fresh : (opsB5 (F := F)).Forall fun op => op.fresh = ∅ := forall_fresh_of_map rfl

theorem opsB5b_sub : (opsB5b (F := F)).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., binary_bufs_sub .., nullary_bufs_sub .., binary_bufs_sub .., unary_bufs_sub .., unary_bufs_sub .., nullary_bufs_sub .., unary_bufs_sub .., binary_bufs_sub .., nullary_bufs_sub .., unary_bufs_sub .., ternary_bufs_sub .., unary_bufs_sub .., binary_bufs_sub .., unary_bufs_sub .., nullary_bufs_sub .., binary_bufs_sub .., unary_bufs_sub .., unary_bufs_sub .., reshape_bufs_sub .., binary_bufs_sub .., binary_bufs_sub .., nullary_bufs_sub .., unary_bufs_sub .., binary_bufs_sub .., nullary_bufs_sub .., unary_bufs_sub .., binary_bufs_sub ..⟩

theorem opsB5b_fresh : (opsB5b (F := F)).Forall fun op => op.fresh = ∅ := forall_fresh_of_map rfl

theorem opsB6_sub : (opsB6 (F := F)).Forall fun op => op.bufs ⊆ tcRefs τ sig :=
  ⟨nullary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub ..⟩

theorem opsB6_fresh : (opsB6 (F := F)).Forall fun op => op.fresh = ∅ := forall_fresh_of_map rfl

theorem opsB6b_sub : (opsB6b (F := F)).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., binary_bufs_sub .., unary_bufs_sub .., binary_bufs_sub .., unary_bufs_sub .., unary_bufs_sub ..⟩

theorem opsB6b_fresh : (opsB6b (F := F)).Forall fun op => op.fresh = ∅ := forall_fresh_of_map rfl

end Cert.ReferenceIdeal.Ops

end
-- ==== Proof.RefMain.lean ====
/- The reference runs to what its list of operations leaves: @main is that straight line, window by window and call by call. -/
module

public import proofs.«01_k».proof.Proof.RefOps
public import Idealize.ShloMosaic.Lib.Pipeline.Regions

@[expose] public section

set_option maxRecDepth 16384

noncomputable section

namespace Cert.ReferenceIdeal.Ops

open Idealize.ShloMosaic Idealize.ShloMosaic.TcCoe Idealize.SL.Sem Idealize.ShloMosaic.StableHlo
open Cert.ReferenceIdeal Cert.ReferenceIdeal.Facts₀ Cert.ReferenceIdeal.Facts

section Lines

variable {nD : Nat} {τ : Topo} {sig : RefSig} {Val : EltTy → Type} {Λ : Labels}

/-- A straight line and then another is the straight line of both lists. -/
theorem isSeq_bind {p k : Prog (TpuEff nD τ sig Val Λ .tc) PUnit} {a b : List (HloOp τ sig Val)}
    (hp : IsSeq p a) (hk : IsSeq k b) : IsSeq (p >>= fun _ => k) (a ++ b) := by
  unfold IsSeq at hp hk ⊢
  rw [hp, hk, seq_append]

/-- What one list leaves is where the next one starts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A block that starts with listed operations performs them first. -/
theorem isSeq_seqK {ops b : List (HloOp τ sig Val)} {k : Prog (TpuEff nD τ sig Val Λ .tc) PUnit} (h : IsSeq k b) :
    IsSeq (seqK ops k) (ops ++ b) := by
  induction ops with
  | nil => exact h
  | cons op ops ih => exact IsSeq.cons ih

end Lines

variable {F : FTy → Type} [FloatOps F]

/-- The counter hash's operations. -/
abbrev opsT : List (HloOp τ sig (Elt F)) := opsT0 ++ (opsT1 ++ (opsT2 ++ opsT3))

/-- The Gumbel call's operations. -/
abbrev opsG : List (HloOp τ sig (Elt F)) := opsG0 ++ (opsT ++ opsG1)

theorem tf_part0 : IsSeq (fn_threefry2x32.body_part0 (F := F) (.of main_call1_call0_v4) (.of main_call1_call0_v6) (.of main_call1_call0_v17) (.of main_call1_call0_v16) main_call1_call0_call0) opsT0 := by
  unfold fn_threefry2x32.body_part0
  repeat (first | exact IsSeq.nil | apply IsSeq.cons)

theorem tf_part1 : IsSeq (fn_threefry2x32.body_part1 (F := F) (.of main_call1_call0_v4) (.of main_call1_call0_v6) (.of main_call1_call0_v17) (.of main_call1_call0_v16) main_call1_call0_call0) opsT1 := by
  unfold fn_threefry2x32.body_part1
  repeat (first | exact IsSeq.nil | apply IsSeq.cons)

theorem tf_part2 : IsSeq (fn_threefry2x32.body_part2 (F := F) (.of main_call1_call0_v4) (.of main_call1_call0_v6) (.of main_call1_call0_v17) (.of main_call1_call0_v16) main_call1_call0_call0) opsT2 := by
  unfold fn_threefry2x32.body_part2
  repeat (first | exact IsSeq.nil | apply IsSeq.cons)

theorem tf_part3 : IsSeq (fn_threefry2x32.body_part3 (F := F) (.of main_call1_call0_v4) (.of main_call1_call0_v6) (.of main_call1_call0_v17) (.of main_call1_call0_v16) main_call1_call0_call0) opsT3 := by
  unfold fn_threefry2x32.body_part3
  repeat (first | exact IsSeq.nil | apply IsSeq.cons)

theorem tf_body : IsSeq (fn_threefry2x32.body (F := F) (.of main_call1_call0_v4) (.of main_call1_call0_v6) (.of main_call1_call0_v17) (.of main_call1_call0_v16) main_call1_call0_call0) opsT :=
  isSeq_bind tf_part0 (isSeq_bind tf_part1 (isSeq_bind tf_part2 tf_part3))

theorem uniform_body : IsSeq (fn_uniform.body (F := F) (.of main_v31) (.of main_call1_cst) (.of main_call1_cst_0) main_call1_call0)
    (opsG0.drop 2 ++ (opsT ++ opsG1.take 18)) := by
  unfold fn_uniform.body
  iterate 21 apply IsSeq.cons
  refine isSeq_bind tf_body (b := opsG1.take 18) ?_
  repeat (first | exact IsSeq.nil | apply IsSeq.cons)

theorem gumbel_body : IsSeq (fn_gumbel.body (F := F) (.of main_v31) main_call1) opsG := by
  unfold fn_gumbel.body
  iterate 2 apply IsSeq.cons
  refine isSeq_bind uniform_body (b := opsG1.drop 18) ?_
  repeat (first | exact IsSeq.nil | apply IsSeq.cons)

theorem where_body : IsSeq (fn_where.body (F := F) (.of main_v22) (.of main_cst_3) (.of main_v16) main_call0) (opsA.drop 29) := by
  unfold fn_where.body
  repeat (first | exact IsSeq.nil | apply IsSeq.cons)

theorem argmax_body : IsSeq (fn_argmax.body (F := F) (.of main_v33) main_call2) (opsB1.drop 1) := by
  unfold fn_argmax.body
  repeat (first | exact IsSeq.nil | apply IsSeq.cons)

theorem where0_body : IsSeq (fn_where_0.body (F := F) (.of main_call3_v11) (.of main_call3_v13) (.of main_call3_v2) main_call3_call0)
    ((opsB2.drop 17).take 1) := by
  unfold fn_where_0.body
  repeat (first | exact IsSeq.nil | apply IsSeq.cons)

theorem floor_body : IsSeq (fn_floor_divide.body (F := F) (.of main_v34) (.of main_c_7) main_call3) ((opsB2.drop 1).take 17) := by
  unfold fn_floor_divide.body
  iterate 16 apply IsSeq.cons
  refine isSeq_bind where0_body (b := []) ?_
  exact IsSeq.nil

theorem where1_body : IsSeq (fn_where_1.body (F := F) (.of main_call4_v1) (.of main_call4_c_0) (.of main_call4_v0) main_call4_call0)
    ((opsB2.drop 23).take 1) := by
  unfold fn_where_1.body
  repeat (first | exact IsSeq.nil | apply IsSeq.cons)

theorem rem_body : IsSeq (fn_remainder.body (F := F) (.of main_v34) (.of main_c_8) main_call4) (opsB2.drop 19) := by
  unfold fn_remainder.body
  iterate 4 apply IsSeq.cons
  refine isSeq_bind where1_body (b := opsB2.drop 24) ?_
  repeat (first | exact IsSeq.nil | apply IsSeq.cons)

theorem relu_body : IsSeq (fn_relu.body (F := F) (.of main_v70) main_call5) ((opsB3b.drop 30).take 3) := by
  unfold fn_relu.body
  repeat (first | exact IsSeq.nil | apply IsSeq.cons)

theorem part0_eq (d : Dev nD) : main_part0 (F := F) d =
    seqK (opsA.take 29) (fn_where.body (F := F) (.of main_v22) (.of main_cst_3) (.of main_v16) main_call0 >>= fun _ =>
      seqK opsK (fn_gumbel.body (F := F) (.of main_v31) main_call1 >>= fun _ =>
        seqK (opsB1.take 1) (fn_argmax.body (F := F) (.of main_v33) main_call2 >>= fun _ =>
          seqK (opsB2.take 1) (fn_floor_divide.body (F := F) (.of main_v34) (.of main_c_7) main_call3 >>= fun _ =>
            seqK ((opsB2.drop 18).take 1) (fn_remainder.body (F := F) (.of main_v34) (.of main_c_8) main_call4 >>= fun _ =>
              seqK opsB3 (pure ⟨⟩)))))) := by
  chain_rfl

theorem part0_list : opsA (F := F) ++ (opsK ++ (opsG ++ (opsB1 ++ (opsB2 ++ opsB3)))) =
    opsA.take 29 ++ (opsA.drop 29 ++ (opsK ++ (opsG ++ (opsB1.take 1 ++ (opsB1.drop 1 ++ (opsB2.take 1 ++ ((opsB2.drop 1).take 17 ++
      ((opsB2.drop 18).take 1 ++ (opsB2.drop 19 ++ (opsB3 ++ [])))))))))) := by
  chain_rfl

theorem part0 (d : Dev nD) : IsSeq (main_part0 (F := F) d) (opsA ++ (opsK ++ (opsG ++ (opsB1 ++ (opsB2 ++ opsB3))))) := by
  rw [part0_eq (F := F) d, part0_list (F := F)]
  exact isSeq_seqK (isSeq_bind where_body (isSeq_seqK (isSeq_bind gumbel_body (isSeq_seqK (isSeq_bind argmax_body
    (isSeq_seqK (isSeq_bind floor_body (isSeq_seqK (isSeq_bind rem_body (isSeq_seqK IsSeq.nil))))))))))

theorem part1 (d : Dev nD) : IsSeq (main_part1 (F := F) d) (opsB3b ++ (opsB4 ++ opsB5)) := by
  unfold main_part1
  iterate 30 apply IsSeq.cons
  refine isSeq_bind (relu_body (F := F)) (b := opsB3b.drop 33 ++ (opsB4 ++ opsB5)) ?_
  repeat (first | exact IsSeq.nil | apply IsSeq.cons)

theorem part2 (d : Dev nD) : IsSeq (main_part2 (F := F) d) (opsB5b ++ opsB6) := by
  unfold main_part2
  repeat (first | exact IsSeq.nil | apply IsSeq.cons)

theorem part3 (d : Dev nD) : IsSeq (main_part3 (F := F) d) opsB6b := by
  unfold main_part3
  repeat (first | exact IsSeq.nil | apply IsSeq.cons)

/-- The reference's operations, in order. -/
abbrev refOps : List (HloOp τ sig (Elt F)) :=
  (opsA ++ (opsK ++ (opsG ++ (opsB1 ++ (opsB2 ++ opsB3))))) ++ ((opsB3b ++ (opsB4 ++ opsB5)) ++ ((opsB5b ++ opsB6) ++ opsB6b))

/-- The reference is the straight line of its operations. -/
theorem main_isSeq (d : Dev nD) : IsSeq (main (F := F) d) (refOps (F := F)) :=
  by
  unfold main
  exact isSeq_bind (part0 d) (isSeq_bind (part1 d) (isSeq_bind (part2 d) (part3 d)))

end Cert.ReferenceIdeal.Ops

end
-- ==== Proof.RefRun.lean ====
/- The reference's run: every buffer ends at what the operations leave there, and its argument arrays end unchanged. -/
module

public import proofs.«01_k».proof.Proof.RefMain
public import Idealize.ShloMosaic.Lib.StableHlo.RunRead

@[expose] public section

set_option maxRecDepth 16384

noncomputable section

namespace Cert.ReferenceIdeal.Ops

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-- What holds of two lists' members holds of the appended list's. -/
theorem forall_app {α : Type*} {p : α → Prop} {a b : List α} (ha : a.Forall p) (hb : b.Forall p) : (a ++ b).Forall p :=
  List.forall_append.mpr ⟨ha, hb⟩

/-- The operations touch device references only. -/
theorem refOps_sub : (refOps (F := F)).Forall fun op => op.bufs ⊆ tcRefs τ sig :=
  (forall_app (forall_app opsA_sub (forall_app opsK_sub (forall_app (forall_app opsG0_sub (forall_app (forall_app opsT0_sub (forall_app opsT1_sub (forall_app opsT2_sub opsT3_sub))) opsG1_sub)) (forall_app opsB1_sub (forall_app opsB2_sub opsB3_sub))))) (forall_app (forall_app opsB3b_sub (forall_app opsB4_sub opsB5_sub)) (forall_app (forall_app opsB5b_sub opsB6_sub) opsB6b_sub)))

/-- No operation writes a fresh buffer. -/
theorem refOps_fresh : (refOps (F := F)).Forall fun op => op.fresh = ∅ :=
  (forall_app (forall_app opsA_fresh (forall_app opsK_fresh (forall_app (forall_app opsG0_fresh (forall_app (forall_app opsT0_fresh (forall_app opsT1_fresh (forall_app opsT2_fresh opsT3_fresh))) opsG1_fresh)) (forall_app opsB1_fresh (forall_app opsB2_fresh opsB3_fresh))))) (forall_app (forall_app opsB3b_fresh (forall_app opsB4_fresh opsB5_fresh)) (forall_app (forall_app opsB5b_fresh opsB6_fresh) opsB6b_fresh)))

/-- The reference terminates, and every buffer ends at what the operations leave there. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after refOps (launchContents m d) (Proc.devRef .tc b) :=
  run_hlo defs main main_isSeq (by decide) (by decide) refOps_sub (List.forall_iff_forall_mem.mp refOps_fresh) m ρ

/-- A list of operations keeps a buffer's contents. -/
def Keeps (ops : List (HloOp τ sig (Elt F))) (r : Ref sig .tc) : Prop :=
  ∀ V : Valuation τ sig (Elt F), after ops V (Proc.devRef .tc r) = V (Proc.devRef .tc r)

/-- Two lists that keep a buffer keep it together. -/
theorem keeps_app {a b : List (HloOp τ sig (Elt F))} {r : Ref sig .tc} (ha : Keeps a r) (hb : Keeps b r) : Keeps (a ++ b) r := by
  intro V
  rw [after_append, hb, ha]

/-- A list keeps what it does not write. -/
theorem keeps_of {ops : List (HloOp τ sig (Elt F))} {W : List (Ref sig .tc)}
    (hW : ops.map HloOp.writes = W.map fun w => {Proc.devRef .tc w}) {r : Ref sig .tc} (hr : r ∉ W) : Keeps ops r :=
  fun V => after_unwritten _ hW hr V

/-- A buffer outside every segment's list of written buffers is kept by the whole reference. -/
theorem refOps_keep (r : Ref sig .tc) (hA : r ∉ wrA) (hK : r ∉ wrK) (hG0 : r ∉ wrG0) (hT0 : r ∉ wrT0) (hT1 : r ∉ wrT1) (hT2 : r ∉ wrT2) (hT3 : r ∉ wrT3) (hG1 : r ∉ wrG1) (hB1 : r ∉ wrB1) (hB2 : r ∉ wrB2) (hB3 : r ∉ wrB3) (hB3b : r ∉ wrB3b) (hB4 : r ∉ wrB4) (hB5 : r ∉ wrB5) (hB5b : r ∉ wrB5b) (hB6 : r ∉ wrB6) (hB6b : r ∉ wrB6b) : Keeps (F := F) refOps r :=
  (keeps_app (keeps_app (keeps_of opsA_writes hA) (keeps_app (keeps_of opsK_writes hK) (keeps_app (keeps_app (keeps_of opsG0_writes hG0) (keeps_app (keeps_app (keeps_of opsT0_writes hT0) (keeps_app (keeps_of opsT1_writes hT1) (keeps_app (keeps_of opsT2_writes hT2) (keeps_of opsT3_writes hT3)))) (keeps_of opsG1_writes hG1))) (keeps_app (keeps_of opsB1_writes hB1) (keeps_app (keeps_of opsB2_writes hB2) (keeps_of opsB3_writes hB3)))))) (keeps_app (keeps_app (keeps_of opsB3b_writes hB3b) (keeps_app (keeps_of opsB4_writes hB4) (keeps_of opsB5_writes hB5))) (keeps_app (keeps_app (keeps_of opsB5b_writes hB5b) (keeps_of opsB6_writes hB6)) (keeps_of opsB6b_writes hB6b))))

theorem keep_arg0 : Keeps (F := F) refOps main_arg0 :=
  refOps_keep _ (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel)

theorem keep_arg1 : Keeps (F := F) refOps main_arg1 :=
  refOps_keep _ (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel)

theorem keep_arg2 : Keeps (F := F) refOps main_arg2 :=
  refOps_keep _ (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel)

theorem keep_arg3 : Keeps (F := F) refOps main_arg3 :=
  refOps_keep _ (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel)

theorem keep_arg4 : Keeps (F := F) refOps main_arg4 :=
  refOps_keep _ (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel)

theorem keep_arg5 : Keeps (F := F) refOps main_arg5 :=
  refOps_keep _ (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel)

theorem keep_arg6 : Keeps (F := F) refOps main_arg6 :=
  refOps_keep _ (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel)

theorem keep_arg7 : Keeps (F := F) refOps main_arg7 :=
  refOps_keep _ (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel)

/-- The argument arrays end unchanged. -/
theorem refOps_args (m : (ℓ : Loc nD τ sig) → Buf (Elt F) ℓ) (d : Dev nD) :
    after refOps (launchContents m d) (Proc.devRef .tc main_arg0) = m ((d.tc : Thread nD τ).loc main_arg0)
    ∧ after refOps (launchContents m d) (Proc.devRef .tc main_arg1) = m ((d.tc : Thread nD τ).loc main_arg1)
    ∧ after refOps (launchContents m d) (Proc.devRef .tc main_arg2) = m ((d.tc : Thread nD τ).loc main_arg2)
    ∧ after refOps (launchContents m d) (Proc.devRef .tc main_arg3) = m ((d.tc : Thread nD τ).loc main_arg3)
    ∧ after refOps (launchContents m d) (Proc.devRef .tc main_arg4) = m ((d.tc : Thread nD τ).loc main_arg4)
    ∧ after refOps (launchContents m d) (Proc.devRef .tc main_arg5) = m ((d.tc : Thread nD τ).loc main_arg5)
    ∧ after refOps (launchContents m d) (Proc.devRef .tc main_arg6) = m ((d.tc : Thread nD τ).loc main_arg6)
    ∧ after refOps (launchContents m d) (Proc.devRef .tc main_arg7) = m ((d.tc : Thread nD τ).loc main_arg7) :=
  ⟨keep_arg0 _, keep_arg1 _, keep_arg2 _, keep_arg3 _, keep_arg4 _, keep_arg5 _, keep_arg6 _, keep_arg7 _⟩

end Cert.ReferenceIdeal.Ops

end
-- ==== Proof.Frames.lean ====
/- The frames of the three programs, and the named constant's step from the kernel to its idealized form. -/
module

public import proofs.«01_k».proof.Defs
public import proofs.«01_k».proof.Proof.Gen.Kernel.Frame
public import proofs.«01_k».proof.Proof.Gen.KernelIdeal.Frame
public import proofs.«01_k».proof.Proof.RefRun

@[expose] public section

noncomputable section

namespace Cert.Proof

open Idealize.ShloMosaic Idealize.ShloMosaic.TcCoe Idealize.SL.Sem

/-- No index map of the kernel reads the prefetched word. -/
theorem ok_kernel (m : (ℓ : Loc Cert.Kernel.nD Cert.Kernel.τ Cert.Kernel.sig) → Buf (Elt Bits) ℓ) : Cert.Kernel.Gen.Ok m := trivial

/-- No index map of the idealized kernel reads the prefetched word. -/
theorem ok_ideal (m : (ℓ : Loc Cert.KernelIdeal.nD Cert.KernelIdeal.τ Cert.KernelIdeal.sig) → Buf (Elt Ideal) ℓ) :
    Cert.KernelIdeal.Gen.Ok m := trivial

/-- The kernel terminates without a fault, keeps its arguments and leaves every semaphore at zero. -/
theorem frame_kernel : Cert.quiescent_Kernel := fun m ρ _ => Cert.Kernel.Gen.frame m ρ (ok_kernel m)

/-- So does the idealized kernel. -/
theorem frame_ideal : Cert.quiescent_KernelIdeal := fun m ρ _ => Cert.KernelIdeal.Gen.frame m ρ (ok_ideal m)

/-- So does the reference. -/
theorem frame_reference : Cert.quiescent_ReferenceIdeal := fun m ρ _ =>
  (θ_run Cert.ReferenceIdeal.defs _ _).mono (fun r h => ⟨fun c => by
    obtain ⟨h0, h1, h2, h3, h4, h5, h6, h7⟩ := Cert.ReferenceIdeal.Ops.refOps_args m c
    exact ⟨(h c _).trans h0, (h c _).trans h1, (h c _).trans h2, (h c _).trans h3, (h c _).trans h4, (h c _).trans h5,
      (h c _).trans h6, (h c _).trans h7⟩, sem_eq_zero_of_no_sems (by decide) r.2⟩) (Cert.ReferenceIdeal.Ops.run m ρ)

/-- The idealized kernel is the kernel with the rounded logarithm of two read as the logarithm of two. -/
theorem log2_step : Cert.preserves_Kernel_KernelIdeal :=
  IdealRules.named_const.statement Cert.KernelIdeal.κ "log2" .f32 0x3F317218#32 ((Real.log 2 : ℝ) : EReal) rfl

end Cert.Proof

end
-- ==== Proof.KernelOut.lean ====
/- What the kernel's run leaves in each output block: the payloads over the input blocks and the table's word. -/
module
public import proofs.«01_k».proof.Proof.Gen.KernelIdeal.Frame
public import Idealize.ShloMosaic.Lib.Pipeline.Value
@[expose] public section
set_option maxRecDepth 16384
noncomputable section
namespace Cert.KernelOut
open Idealize.ShloMosaic Idealize.ShloMosaic.TcCoe Cert.KernelIdeal Cert.KernelIdeal.Gen Idealize.SL.Sem
variable {F : FTy → Type} [FloatOps F] [Named F]
/-- The one place of the one-word table. -/
def zero1 : S1.Idx := fun a => match a with | ⟨0, _⟩ => (0 : Fin 1)
theorem hz2 : (![0, 0] : Fin 2 → Nat) = fun _ => 0 := funext fun a => by fin_cases a <;> rfl
theorem hz3 : (![0, 0, 0] : Fin 3 → Nat) = fun _ => 0 := funext fun a => by fin_cases a <;> rfl
theorem e0 (X : Vec F S128x64x128 .f32) : View.ld X (Rect.unit ![0, 0, 0] ![128, 64, 128] Gen.inb_S128x64x128_S128x64x128_0_0_0) = X :=
  View.ld_unit_zero (S := S128x64x128) hz3 _ X
theorem e1 (X : Vec F S128x64x64 .f32) : View.ld X (Rect.unit ![0, 0, 0] ![128, 64, 64] Gen.inb_S128x64x64_S128x64x64_0_0_0) = X :=
  View.ld_unit_zero (S := S128x64x64) hz3 _ X
theorem e2 (X : Vec F S128x64 .i32) : View.ld X (Rect.unit ![0, 0] ![128, 64] Gen.inb_S128x64_S128x64_0_0) = X :=
  View.ld_unit_zero (S := S128x64) hz2 _ X
theorem e3 (X : Vec F S256x256 .f32) : View.ld X (Rect.unit ![0, 0] ![256, 256] Gen.inb_S256x256_S256x256_0_0) = X :=
  View.ld_unit_zero (S := S256x256) hz2 _ X
theorem e4 (X : Vec F S1x256 .f32) : View.ld X (Rect.unit ![0, 0] ![1, 256] Gen.inb_S1x256_S1x256_0_0) = X :=
  View.ld_unit_zero (S := S1x256) hz2 _ X
theorem e5 (X : Vec F S256x128 .f32) : View.ld X (Rect.unit ![0, 0] ![256, 128] Gen.inb_S256x128_S256x128_0_0) = X :=
  View.ld_unit_zero (S := S256x128) hz2 _ X
theorem e6 (X : Vec F S1x128 .f32) : View.ld X (Rect.unit ![0, 0] ![1, 128] Gen.inb_S1x128_S1x128_0_0) = X :=
  View.ld_unit_zero (S := S1x128) hz2 _ X
theorem et (f : Vec F S1 .i32) (h) : View.ld (Val := Elt F) (View.read (Elt F) (View.whole main_call1_v0) f) (Rect.unit ![0] ![1] Gen.inb_S1_S1_0) (Shape.Idx.first h) = f zero1 :=
  congrArg f (funext fun a => match a with | ⟨0, _⟩ => rfl)

theorem out7 (c : Dev nD) (i : grid0.Coords) (arg2 : Memref sig .tc .vmem S128x64x128 .f32) (harg2 : arg2.IsWhole) (arg3 : Memref sig .tc .vmem S128x64x64 .f32) (harg3 : arg3.IsWhole) (arg4 : Memref sig .tc .vmem S128x64 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1x128 .i32) (harg9 : arg9.IsWhole) (arg10 : Memref sig .tc .vmem S1x1x128 .i32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S128x128 .f32) (harg13 : arg13.IsWhole) (arg14 : Memref sig .tc .vmem S1x1x128 .f32) (harg14 : arg14.IsWhole) (arg15 : Memref sig .tc .vmem S1x1x128 .f32) (harg15 : arg15.IsWhole)
    (x0 : Vec F S128x64x128 .f32) (x1 : Vec F S128x64x64 .f32) (x2 : Vec F S128x64 .i32) (x3 : Vec F S256x256 .f32) (x4 : Vec F S1x256 .f32) (x5 : Vec F S256x128 .f32) (x6 : Vec F S1x128 .f32) (xt0 : TbBuf0 (F := F) c tbM0_0) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xt0 = k0_pay15 (k0_pay5 (k0_pay3 x0 x1) 64#32 (k0_pay4 x0 x1)) := by
  unfold out0_A_7
  rw [View.read_writes_junk_eq_canon]
  dsimp only [kernelRun0_A]
  refine (View.canon_unit_zero hz3 _ _).trans ?_
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16]
  simp only [View.readAt_eq_ld, harg2.read_unread, harg3.read_unread, harg4.read_unread, harg5.read_unread, harg6.read_unread, harg7.read_unread, harg8.read_unread, e0, e1, e2, e3, e4, e5, e6]
  try rw [et]
  try rfl

theorem out8 (c : Dev nD) (i : grid0.Coords) (arg2 : Memref sig .tc .vmem S128x64x128 .f32) (harg2 : arg2.IsWhole) (arg3 : Memref sig .tc .vmem S128x64x64 .f32) (harg3 : arg3.IsWhole) (arg4 : Memref sig .tc .vmem S128x64 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1x128 .i32) (harg9 : arg9.IsWhole) (arg10 : Memref sig .tc .vmem S1x1x128 .i32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S128x128 .f32) (harg13 : arg13.IsWhole) (arg14 : Memref sig .tc .vmem S1x1x128 .f32) (harg14 : arg14.IsWhole) (arg15 : Memref sig .tc .vmem S1x1x128 .f32) (harg15 : arg15.IsWhole)
    (x0 : Vec F S128x64x128 .f32) (x1 : Vec F S128x64x64 .f32) (x2 : Vec F S128x64 .i32) (x3 : Vec F S256x256 .f32) (x4 : Vec F S1x256 .f32) (x5 : Vec F S256x128 .f32) (x6 : Vec F S1x128 .f32) (xt0 : TbBuf0 (F := F) c tbM0_0) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xt0 = k0_pay16 (k0_pay6 (k0_pay3 x0 x1)) := by
  unfold out0_A_8
  rw [View.read_writes_junk_eq_canon]
  dsimp only [kernelRun0_A]
  refine (View.canon_unit_zero hz3 _ _).trans ?_
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16]
  simp only [View.readAt_eq_ld, harg2.read_unread, harg3.read_unread, harg4.read_unread, harg5.read_unread, harg6.read_unread, harg7.read_unread, harg8.read_unread, e0, e1, e2, e3, e4, e5, e6]
  try rw [et]
  try rfl

theorem out9 (c : Dev nD) (i : grid0.Coords) (arg2 : Memref sig .tc .vmem S128x64x128 .f32) (harg2 : arg2.IsWhole) (arg3 : Memref sig .tc .vmem S128x64x64 .f32) (harg3 : arg3.IsWhole) (arg4 : Memref sig .tc .vmem S128x64 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1x128 .i32) (harg9 : arg9.IsWhole) (arg10 : Memref sig .tc .vmem S1x1x128 .i32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S128x128 .f32) (harg13 : arg13.IsWhole) (arg14 : Memref sig .tc .vmem S1x1x128 .f32) (harg14 : arg14.IsWhole) (arg15 : Memref sig .tc .vmem S1x1x128 .f32) (harg15 : arg15.IsWhole)
    (x0 : Vec F S128x64x128 .f32) (x1 : Vec F S128x64x64 .f32) (x2 : Vec F S128x64 .i32) (x3 : Vec F S256x256 .f32) (x4 : Vec F S1x256 .f32) (x5 : Vec F S256x128 .f32) (x6 : Vec F S1x128 .f32) (xt0 : TbBuf0 (F := F) c tbM0_0) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xt0 = k0_pay17 (k0_pay14 (k0_pay8 x0 (k0_pay5 (k0_pay3 x0 x1) 64#32 (k0_pay4 x0 x1))) (k0_pay9 x0 (k0_pay6 (k0_pay3 x0 x1))) x3 x4 x5 x6) := by
  unfold out0_A_9
  rw [View.read_writes_junk_eq_canon]
  dsimp only [kernelRun0_A]
  refine (View.canon_unit_zero hz3 _ _).trans ?_
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16]
  simp only [View.readAt_eq_ld, harg2.read_unread, harg3.read_unread, harg4.read_unread, harg5.read_unread, harg6.read_unread, harg7.read_unread, harg8.read_unread, e0, e1, e2, e3, e4, e5, e6]
  try rw [et]
  try rfl

theorem out10 (c : Dev nD) (i : grid0.Coords) (arg2 : Memref sig .tc .vmem S128x64x128 .f32) (harg2 : arg2.IsWhole) (arg3 : Memref sig .tc .vmem S128x64x64 .f32) (harg3 : arg3.IsWhole) (arg4 : Memref sig .tc .vmem S128x64 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1x128 .i32) (harg9 : arg9.IsWhole) (arg10 : Memref sig .tc .vmem S1x1x128 .i32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S128x128 .f32) (harg13 : arg13.IsWhole) (arg14 : Memref sig .tc .vmem S1x1x128 .f32) (harg14 : arg14.IsWhole) (arg15 : Memref sig .tc .vmem S1x1x128 .f32) (harg15 : arg15.IsWhole)
    (x0 : Vec F S128x64x128 .f32) (x1 : Vec F S128x64x64 .f32) (x2 : Vec F S128x64 .i32) (x3 : Vec F S256x256 .f32) (x4 : Vec F S1x256 .f32) (x5 : Vec F S256x128 .f32) (x6 : Vec F S1x128 .f32) (xt0 : TbBuf0 (F := F) c tbM0_0) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xt0 = k0_pay18 (k0_pay9 x0 (k0_pay6 (k0_pay3 x0 x1))) (k0_pay13 (k0_pay8 x0 (k0_pay5 (k0_pay3 x0 x1) 64#32 (k0_pay4 x0 x1))) (k0_pay9 x0 (k0_pay6 (k0_pay3 x0 x1))) x3 x4 x5 x6) := by
  unfold out0_A_10
  rw [View.read_writes_junk_eq_canon]
  dsimp only [kernelRun0_A]
  refine (View.canon_unit_zero hz3 _ _).trans ?_
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16]
  simp only [View.readAt_eq_ld, harg2.read_unread, harg3.read_unread, harg4.read_unread, harg5.read_unread, harg6.read_unread, harg7.read_unread, harg8.read_unread, e0, e1, e2, e3, e4, e5, e6]
  try rw [et]
  try rfl

theorem out11 (c : Dev nD) (i : grid0.Coords) (arg2 : Memref sig .tc .vmem S128x64x128 .f32) (harg2 : arg2.IsWhole) (arg3 : Memref sig .tc .vmem S128x64x64 .f32) (harg3 : arg3.IsWhole) (arg4 : Memref sig .tc .vmem S128x64 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1x128 .i32) (harg9 : arg9.IsWhole) (arg10 : Memref sig .tc .vmem S1x1x128 .i32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S128x128 .f32) (harg13 : arg13.IsWhole) (arg14 : Memref sig .tc .vmem S1x1x128 .f32) (harg14 : arg14.IsWhole) (arg15 : Memref sig .tc .vmem S1x1x128 .f32) (harg15 : arg15.IsWhole)
    (x0 : Vec F S128x64x128 .f32) (x1 : Vec F S128x64x64 .f32) (x2 : Vec F S128x64 .i32) (x3 : Vec F S256x256 .f32) (x4 : Vec F S1x256 .f32) (x5 : Vec F S256x128 .f32) (x6 : Vec F S1x128 .f32) (xt0 : TbBuf0 (F := F) c tbM0_0) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xt0 = k0_pay13 (k0_pay8 x0 (k0_pay5 (k0_pay3 x0 x1) 64#32 (k0_pay4 x0 x1))) (k0_pay9 x0 (k0_pay6 (k0_pay3 x0 x1))) x3 x4 x5 x6 := by
  unfold out0_A_11
  rw [View.read_writes_junk_eq_canon]
  dsimp only [kernelRun0_A]
  refine (View.canon_unit_zero hz2 _ _).trans ?_
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16]
  simp only [View.readAt_eq_ld, harg2.read_unread, harg3.read_unread, harg4.read_unread, harg5.read_unread, harg6.read_unread, harg7.read_unread, harg8.read_unread, e0, e1, e2, e3, e4, e5, e6]
  try rw [et]
  try rfl

theorem out12 (c : Dev nD) (i : grid0.Coords) (arg2 : Memref sig .tc .vmem S128x64x128 .f32) (harg2 : arg2.IsWhole) (arg3 : Memref sig .tc .vmem S128x64x64 .f32) (harg3 : arg3.IsWhole) (arg4 : Memref sig .tc .vmem S128x64 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1x128 .i32) (harg9 : arg9.IsWhole) (arg10 : Memref sig .tc .vmem S1x1x128 .i32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S128x128 .f32) (harg13 : arg13.IsWhole) (arg14 : Memref sig .tc .vmem S1x1x128 .f32) (harg14 : arg14.IsWhole) (arg15 : Memref sig .tc .vmem S1x1x128 .f32) (harg15 : arg15.IsWhole)
    (x0 : Vec F S128x64x128 .f32) (x1 : Vec F S128x64x64 .f32) (x2 : Vec F S128x64 .i32) (x3 : Vec F S256x256 .f32) (x4 : Vec F S1x256 .f32) (x5 : Vec F S256x128 .f32) (x6 : Vec F S1x128 .f32) (xt0 : TbBuf0 (F := F) c tbM0_0) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xt0 = k0_pay19 (k0_pay10 x0 (k0_pay1 x0) (k0_pay5 (k0_pay3 x0 x1) 64#32 (k0_pay4 x0 x1)) (k0_pay6 (k0_pay3 x0 x1)) (k0_pay7 (k0_pay2 x0))) := by
  unfold out0_A_12
  rw [View.read_writes_junk_eq_canon]
  dsimp only [kernelRun0_A]
  refine (View.canon_unit_zero hz3 _ _).trans ?_
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16]
  simp only [View.readAt_eq_ld, harg2.read_unread, harg3.read_unread, harg4.read_unread, harg5.read_unread, harg6.read_unread, harg7.read_unread, harg8.read_unread, e0, e1, e2, e3, e4, e5, e6]
  try rw [et]
  try rfl

theorem out13 (c : Dev nD) (i : grid0.Coords) (arg2 : Memref sig .tc .vmem S128x64x128 .f32) (harg2 : arg2.IsWhole) (arg3 : Memref sig .tc .vmem S128x64x64 .f32) (harg3 : arg3.IsWhole) (arg4 : Memref sig .tc .vmem S128x64 .i32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1x128 .i32) (harg9 : arg9.IsWhole) (arg10 : Memref sig .tc .vmem S1x1x128 .i32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S128x128 .f32) (harg13 : arg13.IsWhole) (arg14 : Memref sig .tc .vmem S1x1x128 .f32) (harg14 : arg14.IsWhole) (arg15 : Memref sig .tc .vmem S1x1x128 .f32) (harg15 : arg15.IsWhole)
    (x0 : Vec F S128x64x128 .f32) (x1 : Vec F S128x64x64 .f32) (x2 : Vec F S128x64 .i32) (x3 : Vec F S256x256 .f32) (x4 : Vec F S1x256 .f32) (x5 : Vec F S256x128 .f32) (x6 : Vec F S1x128 .f32) (xt0 : TbBuf0 (F := F) c tbM0_0) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xt0 = k0_pay20 (k0_pay12 (xt0 zero1 : Elt F .i32) x2 (k0_pay5 (k0_pay3 x0 x1) 64#32 (k0_pay4 x0 x1)) (k0_pay6 (k0_pay3 x0 x1)) (iota .tc S128x64 32 [1] Gen.iota_S128x64_d1_w32) (k0_pay11 (F := F) x2)) := by
  unfold out0_A_13
  rw [View.read_writes_junk_eq_canon]
  dsimp only [kernelRun0_A]
  refine (View.canon_unit_zero hz3 _ _).trans ?_
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16]
  simp only [View.readAt_eq_ld, harg2.read_unread, harg3.read_unread, harg4.read_unread, harg5.read_unread, harg6.read_unread, harg7.read_unread, harg8.read_unread, e0, e1, e2, e3, e4, e5, e6]
  try rw [et]
  try rfl

end Cert.KernelOut
end
-- ==== Proof.KernelArr.lean ====
/- The kernel's result arrays after the run, block by block. -/
module
public import proofs.«01_k».proof.Proof.KernelOut
public import Idealize.ShloMosaic.Lib.Pointwise
@[expose] public section
set_option maxRecDepth 16384
noncomputable section
namespace Cert.KernelArr
open Idealize.ShloMosaic Idealize.ShloMosaic.TcCoe Cert.KernelIdeal Cert.KernelIdeal.Gen Idealize.SL.Sem
variable {F : FTy → Type} [FloatOps F] [Named F]
variable (m : (ℓ : Loc nD τ sig) → Buf (Elt F) ℓ) (hO : Ok m) (c : Dev nD)

theorem mem_of_emb {κ : Kind} {sp : Space} {S : Shape} {e : EltTy} {v : View sig κ sp S e} {j : S.Idx} {i} (h : v.emb j = i) : i ∈ v.set :=
  h ▸ v.emb_mem_set j
theorem hN : grid0.N = 8 := by decide +kernel
/-- A block's number as a point of the grid. -/
def pt (b : Fin 8) : Fin grid0.N := ⟨b.val, lt_of_lt_of_eq b.isLt hN.symm⟩
/-- A point of the grid as a block's number. -/
def nb (t : Fin grid0.N) : Fin 8 := ⟨t.val, lt_of_lt_of_eq t.isLt hN⟩
/-- The row of the array a row of a block is. -/
def row (t : Fin 8) (r : Fin 128) : Fin 1024 := ⟨t.val * 128 + r.val, by omega⟩

theorem ix7 : ∀ t : Fin grid0.N, cc0_transform_7 (grid0.coords t) (0 : Fin 3) = t.val ∧ cc0_transform_7 (grid0.coords t) (1 : Fin 3) = 0 ∧ cc0_transform_7 (grid0.coords t) (2 : Fin 3) = 0 := by
  decide +kernel
theorem emb7 (t : Fin grid0.N) (j : S1x1x128.Idx) :
    (((cfgM m hO).win 7).blk t).view.emb j = (ix3 (nb t) (0 : Fin 1) (j 2) : S8x1x128.Idx) := by
  obtain ⟨h0, h1, h2⟩ := ix7 t
  have j0 : (j 0).val < 1 := (j 0).isLt
  have j1 : (j 1).val < 1 := (j 1).isLt
  funext a; apply Fin.ext
  match a with
  | ⟨0, _⟩ => show cc0_transform_7 (grid0.coords t) (0 : Fin 3) * 1 + 1 * (j 0).val = t.val; omega
  | ⟨1, _⟩ => show cc0_transform_7 (grid0.coords t) (1 : Fin 3) * 1 + 1 * (j 1).val = 0; omega
  | ⟨2, _⟩ => show cc0_transform_7 (grid0.coords t) (2 : Fin 3) * 128 + 1 * (j 2).val = (j 2).val; omega

/-- The contents of result array 7, block by block. -/
def G7 : S8x1x128.Idx → Elt F ((cfgM m hO).win 7).elt :=
  fun j => (outsAt0 m hO c (pt (j 0))).1 (ix3 (0 : Fin 1) (0 : Fin 1) (j 2) : S1x1x128.Idx)

/-- Result array 7 after the run. -/
theorem arr7 : (dats m hO 0 c).arrAt 7 (cfgM m hO).N = G7 m hO c :=
  (dats m hO 0 c).arrAt_eq_of_cover 7 (G7 m hO c)
    (fun t _ => by
      refine (show (dats m hO 0 c).flushed 7 t = (dats m hO 0 c).after 7 t from rfl).trans ?_
      rw [after0_7]
      funext j
      show _ = G7 m hO c ((((cfgM m hO).win 7).blk t).view.emb j)
      rw [emb7]
      refine congrArg (outsAt0 m hO c t).1 ?_
      funext a
      match a with
      | ⟨0, _⟩ => exact Subsingleton.elim (α := Fin 1) _ _
      | ⟨1, _⟩ => exact Subsingleton.elim (α := Fin 1) _ _
      | ⟨2, _⟩ => rfl)
    (fun (i : S8x1x128.Idx) => ⟨pt (i 0), flush0_7 _ _, by
      have h := (((cfgM m hO).win 7).blk (pt (i 0))).view.emb_mem_set (ix3 (0 : Fin 1) (0 : Fin 1) (i 2) : S1x1x128.Idx)
      rw [emb7] at h
      have e : (ix3 (nb (pt (i 0))) (0 : Fin 1) (i 2) : S8x1x128.Idx) = i := by
        funext a
        match a with
        | ⟨0, _⟩ => rfl
        | ⟨1, _⟩ => exact Subsingleton.elim (α := Fin 1) _ _
        | ⟨2, _⟩ => rfl
      exact e ▸ h⟩)

theorem ix8 : ∀ t : Fin grid0.N, cc0_transform_8 (grid0.coords t) (0 : Fin 3) = t.val ∧ cc0_transform_8 (grid0.coords t) (1 : Fin 3) = 0 ∧ cc0_transform_8 (grid0.coords t) (2 : Fin 3) = 0 := by
  decide +kernel
theorem emb8 (t : Fin grid0.N) (j : S1x1x128.Idx) :
    (((cfgM m hO).win 8).blk t).view.emb j = (ix3 (nb t) (0 : Fin 1) (j 2) : S8x1x128.Idx) := by
  obtain ⟨h0, h1, h2⟩ := ix8 t
  have j0 : (j 0).val < 1 := (j 0).isLt
  have j1 : (j 1).val < 1 := (j 1).isLt
  funext a; apply Fin.ext
  match a with
  | ⟨0, _⟩ => show cc0_transform_8 (grid0.coords t) (0 : Fin 3) * 1 + 1 * (j 0).val = t.val; omega
  | ⟨1, _⟩ => show cc0_transform_8 (grid0.coords t) (1 : Fin 3) * 1 + 1 * (j 1).val = 0; omega
  | ⟨2, _⟩ => show cc0_transform_8 (grid0.coords t) (2 : Fin 3) * 128 + 1 * (j 2).val = (j 2).val; omega

/-- The contents of result array 8, block by block. -/
def G8 : S8x1x128.Idx → Elt F ((cfgM m hO).win 8).elt :=
  fun j => (outsAt0 m hO c (pt (j 0))).2.1 (ix3 (0 : Fin 1) (0 : Fin 1) (j 2) : S1x1x128.Idx)

/-- Result array 8 after the run. -/
theorem arr8 : (dats m hO 0 c).arrAt 8 (cfgM m hO).N = G8 m hO c :=
  (dats m hO 0 c).arrAt_eq_of_cover 8 (G8 m hO c)
    (fun t _ => by
      refine (show (dats m hO 0 c).flushed 8 t = (dats m hO 0 c).after 8 t from rfl).trans ?_
      rw [after0_8]
      funext j
      show _ = G8 m hO c ((((cfgM m hO).win 8).blk t).view.emb j)
      rw [emb8]
      refine congrArg (outsAt0 m hO c t).2.1 ?_
      funext a
      match a with
      | ⟨0, _⟩ => exact Subsingleton.elim (α := Fin 1) _ _
      | ⟨1, _⟩ => exact Subsingleton.elim (α := Fin 1) _ _
      | ⟨2, _⟩ => rfl)
    (fun (i : S8x1x128.Idx) => ⟨pt (i 0), flush0_8 _ _, by
      have h := (((cfgM m hO).win 8).blk (pt (i 0))).view.emb_mem_set (ix3 (0 : Fin 1) (0 : Fin 1) (i 2) : S1x1x128.Idx)
      rw [emb8] at h
      have e : (ix3 (nb (pt (i 0))) (0 : Fin 1) (i 2) : S8x1x128.Idx) = i := by
        funext a
        match a with
        | ⟨0, _⟩ => rfl
        | ⟨1, _⟩ => exact Subsingleton.elim (α := Fin 1) _ _
        | ⟨2, _⟩ => rfl
      exact e ▸ h⟩)

theorem ix9 : ∀ t : Fin grid0.N, cc0_transform_9 (grid0.coords t) (0 : Fin 3) = t.val ∧ cc0_transform_9 (grid0.coords t) (1 : Fin 3) = 0 ∧ cc0_transform_9 (grid0.coords t) (2 : Fin 3) = 0 := by
  decide +kernel
theorem emb9 (t : Fin grid0.N) (j : S1x1x128.Idx) :
    (((cfgM m hO).win 9).blk t).view.emb j = (ix3 (nb t) (0 : Fin 1) (j 2) : S8x1x128.Idx) := by
  obtain ⟨h0, h1, h2⟩ := ix9 t
  have j0 : (j 0).val < 1 := (j 0).isLt
  have j1 : (j 1).val < 1 := (j 1).isLt
  funext a; apply Fin.ext
  match a with
  | ⟨0, _⟩ => show cc0_transform_9 (grid0.coords t) (0 : Fin 3) * 1 + 1 * (j 0).val = t.val; omega
  | ⟨1, _⟩ => show cc0_transform_9 (grid0.coords t) (1 : Fin 3) * 1 + 1 * (j 1).val = 0; omega
  | ⟨2, _⟩ => show cc0_transform_9 (grid0.coords t) (2 : Fin 3) * 128 + 1 * (j 2).val = (j 2).val; omega

/-- The contents of result array 9, block by block. -/
def G9 : S8x1x128.Idx → Elt F ((cfgM m hO).win 9).elt :=
  fun j => (outsAt0 m hO c (pt (j 0))).2.2.1 (ix3 (0 : Fin 1) (0 : Fin 1) (j 2) : S1x1x128.Idx)

/-- Result array 9 after the run. -/
theorem arr9 : (dats m hO 0 c).arrAt 9 (cfgM m hO).N = G9 m hO c :=
  (dats m hO 0 c).arrAt_eq_of_cover 9 (G9 m hO c)
    (fun t _ => by
      refine (show (dats m hO 0 c).flushed 9 t = (dats m hO 0 c).after 9 t from rfl).trans ?_
      rw [after0_9]
      funext j
      show _ = G9 m hO c ((((cfgM m hO).win 9).blk t).view.emb j)
      rw [emb9]
      refine congrArg (outsAt0 m hO c t).2.2.1 ?_
      funext a
      match a with
      | ⟨0, _⟩ => exact Subsingleton.elim (α := Fin 1) _ _
      | ⟨1, _⟩ => exact Subsingleton.elim (α := Fin 1) _ _
      | ⟨2, _⟩ => rfl)
    (fun (i : S8x1x128.Idx) => ⟨pt (i 0), flush0_9 _ _, by
      have h := (((cfgM m hO).win 9).blk (pt (i 0))).view.emb_mem_set (ix3 (0 : Fin 1) (0 : Fin 1) (i 2) : S1x1x128.Idx)
      rw [emb9] at h
      have e : (ix3 (nb (pt (i 0))) (0 : Fin 1) (i 2) : S8x1x128.Idx) = i := by
        funext a
        match a with
        | ⟨0, _⟩ => rfl
        | ⟨1, _⟩ => exact Subsingleton.elim (α := Fin 1) _ _
        | ⟨2, _⟩ => rfl
      exact e ▸ h⟩)

theorem ix10 : ∀ t : Fin grid0.N, cc0_transform_10 (grid0.coords t) (0 : Fin 3) = t.val ∧ cc0_transform_10 (grid0.coords t) (1 : Fin 3) = 0 ∧ cc0_transform_10 (grid0.coords t) (2 : Fin 3) = 0 := by
  decide +kernel
theorem emb10 (t : Fin grid0.N) (j : S1x1x128.Idx) :
    (((cfgM m hO).win 10).blk t).view.emb j = (ix3 (nb t) (0 : Fin 1) (j 2) : S8x1x128.Idx) := by
  obtain ⟨h0, h1, h2⟩ := ix10 t
  have j0 : (j 0).val < 1 := (j 0).isLt
  have j1 : (j 1).val < 1 := (j 1).isLt
  funext a; apply Fin.ext
  match a with
  | ⟨0, _⟩ => show cc0_transform_10 (grid0.coords t) (0 : Fin 3) * 1 + 1 * (j 0).val = t.val; omega
  | ⟨1, _⟩ => show cc0_transform_10 (grid0.coords t) (1 : Fin 3) * 1 + 1 * (j 1).val = 0; omega
  | ⟨2, _⟩ => show cc0_transform_10 (grid0.coords t) (2 : Fin 3) * 128 + 1 * (j 2).val = (j 2).val; omega

/-- The contents of result array 10, block by block. -/
def G10 : S8x1x128.Idx → Elt F ((cfgM m hO).win 10).elt :=
  fun j => (outsAt0 m hO c (pt (j 0))).2.2.2.1 (ix3 (0 : Fin 1) (0 : Fin 1) (j 2) : S1x1x128.Idx)

/-- Result array 10 after the run. -/
theorem arr10 : (dats m hO 0 c).arrAt 10 (cfgM m hO).N = G10 m hO c :=
  (dats m hO 0 c).arrAt_eq_of_cover 10 (G10 m hO c)
    (fun t _ => by
      refine (show (dats m hO 0 c).flushed 10 t = (dats m hO 0 c).after 10 t from rfl).trans ?_
      rw [after0_10]
      funext j
      show _ = G10 m hO c ((((cfgM m hO).win 10).blk t).view.emb j)
      rw [emb10]
      refine congrArg (outsAt0 m hO c t).2.2.2.1 ?_
      funext a
      match a with
      | ⟨0, _⟩ => exact Subsingleton.elim (α := Fin 1) _ _
      | ⟨1, _⟩ => exact Subsingleton.elim (α := Fin 1) _ _
      | ⟨2, _⟩ => rfl)
    (fun (i : S8x1x128.Idx) => ⟨pt (i 0), flush0_10 _ _, by
      have h := (((cfgM m hO).win 10).blk (pt (i 0))).view.emb_mem_set (ix3 (0 : Fin 1) (0 : Fin 1) (i 2) : S1x1x128.Idx)
      rw [emb10] at h
      have e : (ix3 (nb (pt (i 0))) (0 : Fin 1) (i 2) : S8x1x128.Idx) = i := by
        funext a
        match a with
        | ⟨0, _⟩ => rfl
        | ⟨1, _⟩ => exact Subsingleton.elim (α := Fin 1) _ _
        | ⟨2, _⟩ => rfl
      exact e ▸ h⟩)

theorem ix11 : ∀ t : Fin grid0.N, cc0_transform_11 (grid0.coords t) (0 : Fin 2) = t.val ∧ cc0_transform_11 (grid0.coords t) (1 : Fin 2) = 0 := by
  decide +kernel
theorem emb11 (t : Fin grid0.N) (j : S128x128.Idx) :
    (((cfgM m hO).win 11).blk t).view.emb j = (ix2 (row (nb t) (j 0)) (j 1) : S1024x128.Idx) := by
  obtain ⟨h0, h1⟩ := ix11 t
  funext a; apply Fin.ext
  match a with
  | ⟨0, _⟩ => show cc0_transform_11 (grid0.coords t) (0 : Fin 2) * 128 + 1 * (j 0).val = t.val * 128 + (j 0).val; omega
  | ⟨1, _⟩ => show cc0_transform_11 (grid0.coords t) (1 : Fin 2) * 128 + 1 * (j 1).val = (j 1).val; omega

/-- The contents of result array 11, block by block. -/
def G11 : S1024x128.Idx → Elt F ((cfgM m hO).win 11).elt :=
  fun j => (outsAt0 m hO c (pt ⟨(j 0).val / 128, by have : (j 0).val < 1024 := (j 0).isLt; omega⟩)).2.2.2.2.1 (ix2 (⟨(j 0).val % 128, by omega⟩ : Fin 128) (j 1) : S128x128.Idx)

/-- Result array 11 after the run. -/
theorem arr11 : (dats m hO 0 c).arrAt 11 (cfgM m hO).N = G11 m hO c :=
  (dats m hO 0 c).arrAt_eq_of_cover 11 (G11 m hO c)
    (fun t _ => by
      refine (show (dats m hO 0 c).flushed 11 t = (dats m hO 0 c).after 11 t from rfl).trans ?_
      rw [after0_11]
      funext j
      show _ = G11 m hO c ((((cfgM m hO).win 11).blk t).view.emb j)
      rw [emb11]
      have j0 : (j 0).val < 128 := (j 0).isLt
      have e1 : (pt ⟨(row (nb t) (j 0)).val / 128, by omega⟩) = t := by
        apply Fin.ext; show (t.val * 128 + (j 0).val) / 128 = t.val; omega
      have e2 : (⟨(row (nb t) (j 0)).val % 128, by omega⟩ : Fin 128) = j 0 := by
        apply Fin.ext; show (t.val * 128 + (j 0).val) % 128 = (j 0).val; omega
      show _ = (outsAt0 m hO c (pt ⟨(row (nb t) (j 0)).val / 128, by omega⟩)).2.2.2.2.1 (ix2 (⟨(row (nb t) (j 0)).val % 128, by omega⟩ : Fin 128) (j 1) : S128x128.Idx)
      rw [e1, e2]
      refine congrArg (outsAt0 m hO c t).2.2.2.2.1 ?_
      funext a
      match a with
      | ⟨0, _⟩ => rfl
      | ⟨1, _⟩ => rfl)
    (fun (i : S1024x128.Idx) => ⟨pt ⟨(i 0).val / 128, by have : (i 0).val < 1024 := (i 0).isLt; omega⟩, flush0_11 _ _, by
      refine mem_of_emb (j := (ix2 (⟨(i 0).val % 128, by omega⟩ : Fin 128) (i 1) : S128x128.Idx)) ((emb11 m hO _ _).trans ?_)
      funext a
      match a with
      | ⟨0, _⟩ => apply Fin.ext; show (i 0).val / 128 * 128 + (i 0).val % 128 = (i 0).val; omega
      | ⟨1, _⟩ => rfl⟩)

theorem ix12 : ∀ t : Fin grid0.N, cc0_transform_12 (grid0.coords t) (0 : Fin 3) = t.val ∧ cc0_transform_12 (grid0.coords t) (1 : Fin 3) = 0 ∧ cc0_transform_12 (grid0.coords t) (2 : Fin 3) = 0 := by
  decide +kernel
theorem emb12 (t : Fin grid0.N) (j : S1x1x128.Idx) :
    (((cfgM m hO).win 12).blk t).view.emb j = (ix3 (nb t) (0 : Fin 1) (j 2) : S8x1x128.Idx) := by
  obtain ⟨h0, h1, h2⟩ := ix12 t
  have j0 : (j 0).val < 1 := (j 0).isLt
  have j1 : (j 1).val < 1 := (j 1).isLt
  funext a; apply Fin.ext
  match a with
  | ⟨0, _⟩ => show cc0_transform_12 (grid0.coords t) (0 : Fin 3) * 1 + 1 * (j 0).val = t.val; omega
  | ⟨1, _⟩ => show cc0_transform_12 (grid0.coords t) (1 : Fin 3) * 1 + 1 * (j 1).val = 0; omega
  | ⟨2, _⟩ => show cc0_transform_12 (grid0.coords t) (2 : Fin 3) * 128 + 1 * (j 2).val = (j 2).val; omega

/-- The contents of result array 12, block by block. -/
def G12 : S8x1x128.Idx → Elt F ((cfgM m hO).win 12).elt :=
  fun j => (outsAt0 m hO c (pt (j 0))).2.2.2.2.2.1 (ix3 (0 : Fin 1) (0 : Fin 1) (j 2) : S1x1x128.Idx)

/-- Result array 12 after the run. -/
theorem arr12 : (dats m hO 0 c).arrAt 12 (cfgM m hO).N = G12 m hO c :=
  (dats m hO 0 c).arrAt_eq_of_cover 12 (G12 m hO c)
    (fun t _ => by
      refine (show (dats m hO 0 c).flushed 12 t = (dats m hO 0 c).after 12 t from rfl).trans ?_
      rw [after0_12]
      funext j
      show _ = G12 m hO c ((((cfgM m hO).win 12).blk t).view.emb j)
      rw [emb12]
      refine congrArg (outsAt0 m hO c t).2.2.2.2.2.1 ?_
      funext a
      match a with
      | ⟨0, _⟩ => exact Subsingleton.elim (α := Fin 1) _ _
      | ⟨1, _⟩ => exact Subsingleton.elim (α := Fin 1) _ _
      | ⟨2, _⟩ => rfl)
    (fun (i : S8x1x128.Idx) => ⟨pt (i 0), flush0_12 _ _, by
      have h := (((cfgM m hO).win 12).blk (pt (i 0))).view.emb_mem_set (ix3 (0 : Fin 1) (0 : Fin 1) (i 2) : S1x1x128.Idx)
      rw [emb12] at h
      have e : (ix3 (nb (pt (i 0))) (0 : Fin 1) (i 2) : S8x1x128.Idx) = i := by
        funext a
        match a with
        | ⟨0, _⟩ => rfl
        | ⟨1, _⟩ => exact Subsingleton.elim (α := Fin 1) _ _
        | ⟨2, _⟩ => rfl
      exact e ▸ h⟩)

theorem ix13 : ∀ t : Fin grid0.N, cc0_transform_13 (grid0.coords t) (0 : Fin 3) = t.val ∧ cc0_transform_13 (grid0.coords t) (1 : Fin 3) = 0 ∧ cc0_transform_13 (grid0.coords t) (2 : Fin 3) = 0 := by
  decide +kernel
theorem emb13 (t : Fin grid0.N) (j : S1x1x128.Idx) :
    (((cfgM m hO).win 13).blk t).view.emb j = (ix3 (nb t) (0 : Fin 1) (j 2) : S8x1x128.Idx) := by
  obtain ⟨h0, h1, h2⟩ := ix13 t
  have j0 : (j 0).val < 1 := (j 0).isLt
  have j1 : (j 1).val < 1 := (j 1).isLt
  funext a; apply Fin.ext
  match a with
  | ⟨0, _⟩ => show cc0_transform_13 (grid0.coords t) (0 : Fin 3) * 1 + 1 * (j 0).val = t.val; omega
  | ⟨1, _⟩ => show cc0_transform_13 (grid0.coords t) (1 : Fin 3) * 1 + 1 * (j 1).val = 0; omega
  | ⟨2, _⟩ => show cc0_transform_13 (grid0.coords t) (2 : Fin 3) * 128 + 1 * (j 2).val = (j 2).val; omega

/-- The contents of result array 13, block by block. -/
def G13 : S8x1x128.Idx → Elt F ((cfgM m hO).win 13).elt :=
  fun j => (outsAt0 m hO c (pt (j 0))).2.2.2.2.2.2 (ix3 (0 : Fin 1) (0 : Fin 1) (j 2) : S1x1x128.Idx)

/-- Result array 13 after the run. -/
theorem arr13 : (dats m hO 0 c).arrAt 13 (cfgM m hO).N = G13 m hO c :=
  (dats m hO 0 c).arrAt_eq_of_cover 13 (G13 m hO c)
    (fun t _ => by
      refine (show (dats m hO 0 c).flushed 13 t = (dats m hO 0 c).after 13 t from rfl).trans ?_
      rw [after0_13]
      funext j
      show _ = G13 m hO c ((((cfgM m hO).win 13).blk t).view.emb j)
      rw [emb13]
      refine congrArg (outsAt0 m hO c t).2.2.2.2.2.2 ?_
      funext a
      match a with
      | ⟨0, _⟩ => exact Subsingleton.elim (α := Fin 1) _ _
      | ⟨1, _⟩ => exact Subsingleton.elim (α := Fin 1) _ _
      | ⟨2, _⟩ => rfl)
    (fun (i : S8x1x128.Idx) => ⟨pt (i 0), flush0_13 _ _, by
      have h := (((cfgM m hO).win 13).blk (pt (i 0))).view.emb_mem_set (ix3 (0 : Fin 1) (0 : Fin 1) (i 2) : S1x1x128.Idx)
      rw [emb13] at h
      have e : (ix3 (nb (pt (i 0))) (0 : Fin 1) (i 2) : S8x1x128.Idx) = i := by
        funext a
        match a with
        | ⟨0, _⟩ => rfl
        | ⟨1, _⟩ => exact Subsingleton.elim (α := Fin 1) _ _
        | ⟨2, _⟩ => rfl
      exact e ▸ h⟩)

end Cert.KernelArr
end
-- ==== Proof.KernelIn.lean ====
/- The kernel's input blocks as rows of the arrays the region finds, and those arrays from the arguments. -/
module
public import proofs.«01_k».proof.Proof.KernelArr
public import Idealize.ShloMosaic.Lib.StableHlo.RunRead
public import Idealize.ShloMosaic.Lib.Pointwise
@[expose] public section
set_option maxRecDepth 16384
noncomputable section
namespace Cert.KernelIn
open Idealize.ShloMosaic Idealize.ShloMosaic.TcCoe Cert.KernelIdeal Cert.KernelIdeal.Gen Cert.KernelArr Idealize.SL.Sem
variable {F : FTy → Type} [FloatOps F] [Named F]
variable (m : (ℓ : Loc nD τ sig) → Buf (Elt F) ℓ) (hO : Ok m) (c : Dev nD)

theorem cix0 : ∀ t : Fin grid0.N, cc0_transform_0 (grid0.coords t) (0 : Fin 3) = t.val ∧ cc0_transform_0 (grid0.coords t) (1 : Fin 3) = 0 ∧ cc0_transform_0 (grid0.coords t) (2 : Fin 3) = 0 := by
  decide +kernel
theorem emb0 (t : Fin grid0.N) (j : S128x64x128.Idx) :
    (((cfgM m hO).win 0).blk t).view.emb j = (ix3 (row (nb t) (j 0)) (j 1) (j 2) : S1024x64x128.Idx) := by
  obtain ⟨h0, h1, h2⟩ := cix0 t
  funext a; apply Fin.ext
  match a with
  | ⟨0, _⟩ => show cc0_transform_0 (grid0.coords t) (0 : Fin 3) * 128 + 1 * (j 0).val = t.val * 128 + (j 0).val; omega
  | ⟨1, _⟩ => show cc0_transform_0 (grid0.coords t) (1 : Fin 3) * 64 + 1 * (j 1).val = (j 1).val; omega
  | ⟨2, _⟩ => show cc0_transform_0 (grid0.coords t) (2 : Fin 3) * 128 + 1 * (j 2).val = (j 2).val; omega
theorem rd0 (W : (b : Ref sig .tc) → b.ty.Contents (Elt F)) (t : Fin grid0.N) (j : S128x64x128.Idx) :
    (((cfgM m hO).win 0).blk t).view.read (Elt F) (W (Pipeline.arrRef spec0 0)) j = W main_arg2 (ix3 (row (nb t) (j 0)) (j 1) (j 2) : S1024x64x128.Idx) :=
  congrArg (W main_arg2) (emb0 m hO t j)
theorem blk0 (t : Fin grid0.N) (j : S128x64x128.Idx) : iblk m hO c 0 t j = V m c main_arg2 (ix3 (row (nb t) (j 0)) (j 1) (j 2) : S1024x64x128.Idx) := rd0 m hO (V m c) t j

theorem cix1 : ∀ t : Fin grid0.N, cc0_transform_1 (grid0.coords t) (0 : Fin 3) = t.val ∧ cc0_transform_1 (grid0.coords t) (1 : Fin 3) = 0 ∧ cc0_transform_1 (grid0.coords t) (2 : Fin 3) = 0 := by
  decide +kernel
theorem emb1 (t : Fin grid0.N) (j : S128x64x64.Idx) :
    (((cfgM m hO).win 1).blk t).view.emb j = (ix3 (row (nb t) (j 0)) (j 1) (j 2) : S1024x64x64.Idx) := by
  obtain ⟨h0, h1, h2⟩ := cix1 t
  funext a; apply Fin.ext
  match a with
  | ⟨0, _⟩ => show cc0_transform_1 (grid0.coords t) (0 : Fin 3) * 128 + 1 * (j 0).val = t.val * 128 + (j 0).val; omega
  | ⟨1, _⟩ => show cc0_transform_1 (grid0.coords t) (1 : Fin 3) * 64 + 1 * (j 1).val = (j 1).val; omega
  | ⟨2, _⟩ => show cc0_transform_1 (grid0.coords t) (2 : Fin 3) * 64 + 1 * (j 2).val = (j 2).val; omega
theorem rd1 (W : (b : Ref sig .tc) → b.ty.Contents (Elt F)) (t : Fin grid0.N) (j : S128x64x64.Idx) :
    (((cfgM m hO).win 1).blk t).view.read (Elt F) (W (Pipeline.arrRef spec0 1)) j = W main_v0 (ix3 (row (nb t) (j 0)) (j 1) (j 2) : S1024x64x64.Idx) :=
  congrArg (W main_v0) (emb1 m hO t j)
theorem blk1 (t : Fin grid0.N) (j : S128x64x64.Idx) : iblk m hO c 1 t j = V m c main_v0 (ix3 (row (nb t) (j 0)) (j 1) (j 2) : S1024x64x64.Idx) := rd1 m hO (V m c) t j

theorem cix2 : ∀ t : Fin grid0.N, cc0_transform_2 (grid0.coords t) (0 : Fin 2) = t.val ∧ cc0_transform_2 (grid0.coords t) (1 : Fin 2) = 0 := by
  decide +kernel
theorem emb2 (t : Fin grid0.N) (j : S128x64.Idx) :
    (((cfgM m hO).win 2).blk t).view.emb j = (ix2 (row (nb t) (j 0)) (j 1) : S1024x64.Idx) := by
  obtain ⟨h0, h1⟩ := cix2 t
  funext a; apply Fin.ext
  match a with
  | ⟨0, _⟩ => show cc0_transform_2 (grid0.coords t) (0 : Fin 2) * 128 + 1 * (j 0).val = t.val * 128 + (j 0).val; omega
  | ⟨1, _⟩ => show cc0_transform_2 (grid0.coords t) (1 : Fin 2) * 64 + 1 * (j 1).val = (j 1).val; omega
theorem rd2 (W : (b : Ref sig .tc) → b.ty.Contents (Elt F)) (t : Fin grid0.N) (j : S128x64.Idx) :
    (((cfgM m hO).win 2).blk t).view.read (Elt F) (W (Pipeline.arrRef spec0 2)) j = W main_arg1 (ix2 (row (nb t) (j 0)) (j 1) : S1024x64.Idx) :=
  congrArg (W main_arg1) (emb2 m hO t j)
theorem blk2 (t : Fin grid0.N) (j : S128x64.Idx) : iblk m hO c 2 t j = V m c main_arg1 (ix2 (row (nb t) (j 0)) (j 1) : S1024x64.Idx) := rd2 m hO (V m c) t j

theorem cix3 : ∀ t : Fin grid0.N, cc0_transform_3 (grid0.coords t) (0 : Fin 2) = 0 ∧ cc0_transform_3 (grid0.coords t) (1 : Fin 2) = 0 := by
  decide +kernel
theorem emb3 (t : Fin grid0.N) (j : S256x256.Idx) :
    (((cfgM m hO).win 3).blk t).view.emb j = (j : S256x256.Idx) := by
  obtain ⟨h0, h1⟩ := cix3 t
  funext a; apply Fin.ext
  match a with
  | ⟨0, _⟩ => show cc0_transform_3 (grid0.coords t) (0 : Fin 2) * 256 + 1 * (j 0).val = (j 0).val; omega
  | ⟨1, _⟩ => show cc0_transform_3 (grid0.coords t) (1 : Fin 2) * 256 + 1 * (j 1).val = (j 1).val; omega
theorem rd3 (W : (b : Ref sig .tc) → b.ty.Contents (Elt F)) (t : Fin grid0.N) (j : S256x256.Idx) :
    (((cfgM m hO).win 3).blk t).view.read (Elt F) (W (Pipeline.arrRef spec0 3)) j = W main_arg4 j :=
  congrArg (W main_arg4) (emb3 m hO t j)
theorem blk3 (t : Fin grid0.N) (j : S256x256.Idx) : iblk m hO c 3 t j = V m c main_arg4 j := rd3 m hO (V m c) t j

theorem cix4 : ∀ t : Fin grid0.N, cc0_transform_4 (grid0.coords t) (0 : Fin 2) = 0 ∧ cc0_transform_4 (grid0.coords t) (1 : Fin 2) = 0 := by
  decide +kernel
theorem emb4 (t : Fin grid0.N) (j : S1x256.Idx) :
    (((cfgM m hO).win 4).blk t).view.emb j = (j : S1x256.Idx) := by
  obtain ⟨h0, h1⟩ := cix4 t
  funext a; apply Fin.ext
  match a with
  | ⟨0, _⟩ => show cc0_transform_4 (grid0.coords t) (0 : Fin 2) * 1 + 1 * (j 0).val = (j 0).val; omega
  | ⟨1, _⟩ => show cc0_transform_4 (grid0.coords t) (1 : Fin 2) * 256 + 1 * (j 1).val = (j 1).val; omega
theorem rd4 (W : (b : Ref sig .tc) → b.ty.Contents (Elt F)) (t : Fin grid0.N) (j : S1x256.Idx) :
    (((cfgM m hO).win 4).blk t).view.read (Elt F) (W (Pipeline.arrRef spec0 4)) j = W main_call1_v1 j :=
  congrArg (W main_call1_v1) (emb4 m hO t j)
theorem blk4 (t : Fin grid0.N) (j : S1x256.Idx) : iblk m hO c 4 t j = V m c main_call1_v1 j := rd4 m hO (V m c) t j

theorem cix5 : ∀ t : Fin grid0.N, cc0_transform_5 (grid0.coords t) (0 : Fin 2) = 0 ∧ cc0_transform_5 (grid0.coords t) (1 : Fin 2) = 0 := by
  decide +kernel
theorem emb5 (t : Fin grid0.N) (j : S256x128.Idx) :
    (((cfgM m hO).win 5).blk t).view.emb j = (j : S256x128.Idx) := by
  obtain ⟨h0, h1⟩ := cix5 t
  funext a; apply Fin.ext
  match a with
  | ⟨0, _⟩ => show cc0_transform_5 (grid0.coords t) (0 : Fin 2) * 256 + 1 * (j 0).val = (j 0).val; omega
  | ⟨1, _⟩ => show cc0_transform_5 (grid0.coords t) (1 : Fin 2) * 128 + 1 * (j 1).val = (j 1).val; omega
theorem rd5 (W : (b : Ref sig .tc) → b.ty.Contents (Elt F)) (t : Fin grid0.N) (j : S256x128.Idx) :
    (((cfgM m hO).win 5).blk t).view.read (Elt F) (W (Pipeline.arrRef spec0 5)) j = W main_arg6 j :=
  congrArg (W main_arg6) (emb5 m hO t j)
theorem blk5 (t : Fin grid0.N) (j : S256x128.Idx) : iblk m hO c 5 t j = V m c main_arg6 j := rd5 m hO (V m c) t j

theorem cix6 : ∀ t : Fin grid0.N, cc0_transform_6 (grid0.coords t) (0 : Fin 2) = 0 ∧ cc0_transform_6 (grid0.coords t) (1 : Fin 2) = 0 := by
  decide +kernel
theorem emb6 (t : Fin grid0.N) (j : S1x128.Idx) :
    (((cfgM m hO).win 6).blk t).view.emb j = (j : S1x128.Idx) := by
  obtain ⟨h0, h1⟩ := cix6 t
  funext a; apply Fin.ext
  match a with
  | ⟨0, _⟩ => show cc0_transform_6 (grid0.coords t) (0 : Fin 2) * 1 + 1 * (j 0).val = (j 0).val; omega
  | ⟨1, _⟩ => show cc0_transform_6 (grid0.coords t) (1 : Fin 2) * 128 + 1 * (j 1).val = (j 1).val; omega
theorem rd6 (W : (b : Ref sig .tc) → b.ty.Contents (Elt F)) (t : Fin grid0.N) (j : S1x128.Idx) :
    (((cfgM m hO).win 6).blk t).view.read (Elt F) (W (Pipeline.arrRef spec0 6)) j = W main_call1_v2 j :=
  congrArg (W main_call1_v2) (emb6 m hO t j)
theorem blk6 (t : Fin grid0.N) (j : S1x128.Idx) : iblk m hO c 6 t j = V m c main_call1_v2 j := rd6 m hO (V m c) t j

theorem after_app (l₁ l₂ : List (HloOp τ sig (Elt F))) (W : Valuation τ sig (Elt F)) :
    StableHlo.after (l₁ ++ l₂) W = StableHlo.after l₂ (StableHlo.after l₁ W) := by
  induction l₁ generalizing W with
  | nil => rfl
  | cons a l ih => exact ih _

/-- What the first stretch of host operations leaves. -/
def V00 : Valuation τ sig (Elt F) := StableHlo.after hostOps0 fun b => m (c, b)

theorem V_split (b : Ref sig .tc) : V m c b = StableHlo.after hostOps0_1 (V00 m c) (Proc.devRef .tc b) := by
  show StableHlo.after (hostOps0 ++ (hostOps0_1 ++ [])) (fun b => m (c, b)) _ = _
  rw [List.append_nil, after_app]; rfl

theorem tail_writes : (hostOps0_1 (F := F)).map HloOp.writes = [main_call1_v0, main_call1_v1, main_call1_v2].map fun w => {Proc.devRef .tc w} := rfl

theorem V_of (b : Ref sig .tc) (hb : b ∉ [main_call1_v0, main_call1_v1, main_call1_v2]) : V m c b = V00 m c (Proc.devRef .tc b) := by
  rw [V_split]; exact StableHlo.after_unwritten _ tail_writes hb _

theorem tbl_eq (z : S1.Idx) : V m c main_call1_v0 z = m ((c.tc : Thread nD τ).loc main_arg0) ix0 := by
  have h : V00 m c (Proc.devRef .tc main_arg0) = _ := (V_of m c main_arg0 (by decide)).symm.trans (V_main_arg0 m c)
  rw [← h, V_split]
  generalize V00 m c = W
  after_reads_simp
  pointwise
theorem b1_eq (k : Fin 256) : V m c main_call1_v1 (ix2 0 k) = m ((c.tc : Thread nD τ).loc main_arg5) (ix1 k) := by
  have h : V00 m c (Proc.devRef .tc main_arg5) = _ := (V_of m c main_arg5 (by decide)).symm.trans (V_main_arg5 m c)
  rw [← h, V_split]
  generalize V00 m c = W
  after_reads_simp
  pointwise
theorem b2_eq (k : Fin 128) : V m c main_call1_v2 (ix2 0 k) = m ((c.tc : Thread nD τ).loc main_arg7) (ix1 k) := by
  have h : V00 m c (Proc.devRef .tc main_arg7) = _ := (V_of m c main_arg7 (by decide)).symm.trans (V_main_arg7 m c)
  rw [← h, V_split]
  generalize V00 m c = W
  after_reads_simp
  pointwise
theorem noise_split (j : S1024x64x64.Idx) : V m c main_v0 j = V00 m c (Proc.devRef .tc main_v0) j := by
  rw [V_of m c main_v0 (by decide)]
end Cert.KernelIn
end
-- ==== Proof.Spec.lean ====
/- One row of the computation, as functions of the row's embeddings, noise, counts and the weights. -/
module
public import Idealize.ShloMosaic.Lib.Pointwise
@[expose] public section
noncomputable section
namespace Cert.Spec
open Idealize.ShloMosaic

/-- The least squared distance under the root. -/
def eps : EReal := Ideal.ofBits FTy.f32 730643660#32
/-- The factor of the inner product. -/
def two : EReal := Ideal.ofBits FTy.f32 1073741824#32

/-- A row's squared norms. -/
def sq (E : Fin 64 → Fin 128 → EReal) (i : Fin 64) : EReal := ∑ d, E i d * E i d
/-- A row's inner products. -/
def inner (E : Fin 64 → Fin 128 → EReal) (i j : Fin 64) : EReal := ∑ d, E i d * E j d
/-- The distance of two embeddings of a row. -/
def far (E : Fin 64 → Fin 128 → EReal) (i j : Fin 64) : EReal :=
  Ideal.sqrt (max (sq E i + sq E j - two * inner E i j) eps)
/-- The logit of a pair: minus the distance, and `⊥` on the diagonal. -/
def lg (E : Fin 64 → Fin 128 → EReal) (i j : Fin 64) : EReal := if i = j then ⊥ else - far E i j
/-- The score of a pair: its logit and its noise. -/
def score (E : Fin 64 → Fin 128 → EReal) (G : Fin 64 → Fin 64 → EReal) (i j : Fin 64) : EReal :=
  lg E i j + G i j
/-- The greatest logit of a row. -/
def top (L : Fin 64 → Fin 64 → EReal) : EReal := Finset.univ.fold max ⊥ fun x : Fin 64 × Fin 64 => L x.1 x.2
/-- The sum of the exponentials of the logits less the greatest. -/
def mass (L : Fin 64 → Fin 64 → EReal) : EReal := ∑ i, ∑ j, Ideal.exp (L i j - top L)
/-- The hidden layer. -/
def hid (c1 c2 : Fin 128 → EReal) (W : Fin 256 → Fin 256 → EReal) (b : Fin 256 → EReal) (k : Fin 256) : EReal :=
  max ((∑ x : Fin 128, c1 x * W ⟨x, by omega⟩ k + ∑ x : Fin 128, c2 x * W ⟨128 + x, by omega⟩ k) + b k) 0
/-- The merged embedding. -/
def out (c1 c2 : Fin 128 → EReal) (W : Fin 256 → Fin 256 → EReal) (b : Fin 256 → EReal)
    (U : Fin 256 → Fin 128 → EReal) (a : Fin 128 → EReal) (d : Fin 128) : EReal :=
  ∑ k, hid c1 c2 W b k * U k d + a d
/-- A branch length: the distance of a child to the merged embedding. -/
def branch (c o : Fin 128 → EReal) : EReal :=
  Ideal.sqrt (max (∑ d, (c d - o d) * (c d - o d)) eps)
/-- The number of counts one, less those of the pair. -/
def ones (C : Fin 64 → BitVec 32) (a b : Fin 64) : BitVec 32 :=
  IntOp.subi (IntOp.subi (Finset.univ.fold IntOp.addi 0#32 fun k => BitVec.setWidth 32 (IntOp.cmpi .eq (C k) 1#32))
    (BitVec.setWidth 32 (IntOp.cmpi .eq (C a) 1#32))) (BitVec.setWidth 32 (IntOp.cmpi .eq (C b) 1#32))
/-- The first pair, in row-major order, of the greatest score. -/
def FirstMax (s : Fin 64 → Fin 64 → EReal) (a b : Fin 64) : Prop :=
  (∀ i j, s i j ≤ s a b) ∧ ∀ i j : Fin 64, i.val * 64 + j.val < a.val * 64 + b.val → s i j < s a b

/-- There is a first pair of the greatest score. -/
theorem firstMax_exists (s : Fin 64 → Fin 64 → EReal) : ∃ a b, FirstMax s a b := by
  classical
  obtain ⟨p, -, hp⟩ := Finset.exists_max_image (Finset.univ : Finset (Fin 64 × Fin 64)) (fun x => s x.1 x.2) ⟨(0, 0), Finset.mem_univ _⟩
  obtain ⟨q, hq, hq'⟩ := Finset.exists_min_image
    (Finset.univ.filter fun x : Fin 64 × Fin 64 => s x.1 x.2 = s p.1 p.2) (fun x => x.1.val * 64 + x.2.val)
    ⟨p, by simp⟩
  have e := (Finset.mem_filter.mp hq).2
  refine ⟨q.1, q.2, fun i j => ?_, fun i j h => ?_⟩
  · rw [e]; exact hp (i, j) (Finset.mem_univ _)
  · rw [e]; refine lt_of_le_of_ne (hp (i, j) (Finset.mem_univ _)) fun c => ?_
    have := hq' (i, j) (by simp [c])
    simp only at this; omega

theorem negInf : Ideal.ofBits FTy.f32 4286578688#32 = ⊥ := by
  simp [Ideal.ofBits, Ideal.ieee, -EReal.coe_mul]
theorem posInf : Ideal.ofBits FTy.f32 2139095040#32 = ⊤ := by
  simp [Ideal.ofBits, Ideal.ieee, -EReal.coe_mul]

theorem fold_max_le {ι : Type} (s : Finset ι) (f : ι → EReal) (c : EReal) :
    s.fold max ⊥ f ≤ c ↔ ∀ x ∈ s, f x ≤ c := by
  rw [Finset.fold_max_le]; simp

/-- The greatest score is the first pair's. -/
theorem fold_firstMax {s : Fin 64 → Fin 64 → EReal} {a b : Fin 64} (h : FirstMax s a b) :
    (Finset.univ : Finset (Fin 64 × Fin 64)).fold max ⊥ (fun x => s x.1 x.2) = s a b := by
  apply le_antisymm
  · rw [fold_max_le]; exact fun x _ => h.1 x.1 x.2
  · exact (fold_max_le _ (fun x : Fin 64 × Fin 64 => s x.1 x.2) _).mp le_rfl (a, b) (Finset.mem_univ _)

theorem minsi_toInt (x y : BitVec 32) : (IntOp.minsi x y).toInt = min x.toInt y.toInt := by
  unfold IntOp.minsi
  split <;> rename_i h <;> simp only [BitVec.slt, BitVec.sle, decide_eq_true_eq] at h <;> omega

/-- The least position of the greatest score is the first pair's. -/
theorem fold_minsi {s : Fin 64 → Fin 64 → EReal} {a b : Fin 64} (h : FirstMax s a b)
    [Std.Commutative (IntOp.minsi (w := 32))] [Std.Associative (IntOp.minsi (w := 32))] :
    (Finset.univ : Finset (Fin 64 × Fin 64)).fold IntOp.minsi 2147483647#32
      (fun x => if s x.1 x.2 = s a b then
        IntOp.addi (IntOp.muli (BitVec.ofNat 32 x.1.val) 64#32) (BitVec.ofNat 32 x.2.val) else 4096#32)
      = BitVec.ofNat 32 (a.val * 64 + b.val) := by
  have key : ∀ x y : Fin 64, (IntOp.addi (IntOp.muli (BitVec.ofNat 32 x.val) 64#32) (BitVec.ofNat 32 y.val)) = BitVec.ofNat 32 (x.val * 64 + y.val) := by
    intro x y
    simp only [IntOp.addi, IntOp.muli]
    apply BitVec.eq_of_toNat_eq; simp
  have toI : ∀ n : Nat, n ≤ 4096 → (BitVec.ofNat 32 n).toInt = n := by
    intro n hn
    rw [BitVec.toInt_eq_toNat_of_lt] <;> simp <;> omega
  apply BitVec.eq_of_toInt_eq
  apply le_antisymm
  · have hr : ∀ {x y z : BitVec 32}, (fun c u : BitVec 32 => u.toInt ≤ c.toInt) x (IntOp.minsi y z) ↔
        (fun c u : BitVec 32 => u.toInt ≤ c.toInt) x y ∨ (fun c u : BitVec 32 => u.toInt ≤ c.toInt) x z := by
      intro x y z; simp only [minsi_toInt]; exact min_le_iff
    refine (Finset.fold_op_rel_iff_or (r := fun c u : BitVec 32 => u.toInt ≤ c.toInt) hr).mpr (Or.inr ⟨(a, b), Finset.mem_univ _, ?_⟩)
    rw [if_pos rfl, key]
  · have hr : ∀ {x y z : BitVec 32}, (fun c u : BitVec 32 => c.toInt ≤ u.toInt) x (IntOp.minsi y z) ↔
        (fun c u : BitVec 32 => c.toInt ≤ u.toInt) x y ∧ (fun c u : BitVec 32 => c.toInt ≤ u.toInt) x z := by
      intro x y z; simp only [minsi_toInt]; exact le_min_iff
    refine (Finset.fold_op_rel_iff_and (r := fun c u : BitVec 32 => c.toInt ≤ u.toInt) hr).mpr ⟨?_, fun x _ => ?_⟩
    · rw [toI _ (by omega)]; simp; omega
    · rw [toI _ (by omega)]
      split
      · rename_i e
        rw [key, toI _ (by omega)]
        by_contra c
        exact absurd e (ne_of_lt (h.2 x.1 x.2 (by omega)))
      · simp; omega

end Cert.Spec
end
-- ==== Proof.KernelRow.lean ====
/- The kernel's payloads at a row of a block, as the functions of Spec. -/
module
public import proofs.«01_k».proof.Proof.Gen.KernelIdeal.Skeleton
public import proofs.«01_k».proof.Proof.Spec
@[expose] public section
set_option maxRecDepth 16384
noncomputable section
namespace Cert.KernelRow
open Idealize.ShloMosaic Idealize.ShloMosaic.Pointwise Cert.KernelIdeal Cert.KernelIdeal.Gen Cert.Spec

variable (E : Vec Ideal S128x64x128 .f32) (G : Vec Ideal S128x64x64 .f32)

/-- A row's embeddings. -/
def erow (r : Fin 128) : Fin 64 → Fin 128 → EReal := fun i d => E (ix3 r i d)
/-- A row's noise. -/
def grow (r : Fin 128) : Fin 64 → Fin 64 → EReal := fun i j => G (ix3 r i j)

theorem ofNat_eq (i j : Fin 64) : BitVec.ofNat 32 i.val = BitVec.ofNat 32 j.val ↔ i = j := by
  constructor
  · intro h
    have := congrArg BitVec.toNat h
    simp only [BitVec.toNat_ofNat] at this
    apply Fin.ext; omega
  · rintro rfl; rfl

theorem select_eq {α : Type} (i j : Fin 64) (x y : α) :
    Scalar.select (IntOp.cmpi .eq (BitVec.ofNat 32 i.val) (BitVec.ofNat 32 j.val)) x y = if i = j then x else y := by
  by_cases h : i = j
  · subst h; simp [Scalar.select, IntOp.cmpi]
  · have : ¬ BitVec.ofNat 32 i.val = BitVec.ofNat 32 j.val := fun c => h ((ofNat_eq i j).mp c)
    have this : (BitVec.ofNat 32 i.val == BitVec.ofNat 32 j.val) = false := by simpa only [beq_eq_false_iff_ne] using this
    simp only [Scalar.select, IntOp.cmpi, h, this]
    rfl

theorem oneHot (i j : Fin 64) :
    (FloatOps.sitofp FTy.f32 (BitVec.setWidth 32 (IntOp.cmpi .eq (BitVec.ofNat 32 i.val) (BitVec.ofNat 32 j.val))) : Ideal FTy.f32)
      = if i = j then (1 : EReal) else 0 := by
  by_cases h : i = j
  · subst h; simp [IntOp.cmpi, FloatOps.sitofp]
  · have : ¬ BitVec.ofNat 32 i.val = BitVec.ofNat 32 j.val := fun c => h ((ofNat_eq i j).mp c)
    have this : (BitVec.ofNat 32 i.val == BitVec.ofNat 32 j.val) = false := by simpa only [beq_eq_false_iff_ne] using this
    simp only [IntOp.cmpi, h, this, if_false]
    simp [FloatOps.sitofp]

theorem pay1 (r : Fin 128) (i : Fin 64) : k0_pay1 (F := Ideal) E (ix2 r i) = sq (erow E r) i := by
  pointwise [k0_pay1]; rfl

theorem pay2 (r : Fin 128) (i j : Fin 64) : k0_pay2 (F := Ideal) E (ix3 r i j) = lg (erow E r) i j := by
  pointwise [k0_pay2, k0_pay1]
  rw [select_eq, negInf, zero_sub]; rfl

theorem pay3 {r : Fin 128} {a b : Fin 64} (h : FirstMax (score (erow E r) (grow G r)) a b) :
    k0_pay3 (F := Ideal) E G (ix1 r) = BitVec.ofNat 32 (a.val * 64 + b.val) := by
  pointwise [k0_pay3]
  simp only [pay2, negInf]
  have e := fold_firstMax h
  simp only [score, grow] at e
  rw [e]
  exact fold_minsi h

theorem quot_words : ∀ p : Fin 4096, Scalar.select
      (IntOp.andi
        (IntOp.cmpi CmpIPredicate.ne
          (IntOp.subi (BitVec.setWidth 32 (IntOp.cmpi CmpIPredicate.sgt (BitVec.ofNat 32 p.val) 0#32))
            (BitVec.setWidth 32 (IntOp.cmpi CmpIPredicate.slt (BitVec.ofNat 32 p.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 p.val) 64#32) 0#32))
      (IntOp.subi (IntOp.divsi ArithUnit.vector (BitVec.ofNat 32 p.val) 64#32) 1#32)
      (IntOp.divsi ArithUnit.vector (BitVec.ofNat 32 p.val) 64#32) = BitVec.ofNat 32 (p.val / 64) := by
  decide +kernel

theorem rem_words : ∀ p : Fin 4096, Scalar.select
      (IntOp.andi
        (IntOp.xori
          (IntOp.cmpi CmpIPredicate.slt
            (IntOp.remsi ArithUnit.vector (BitVec.ofNat 32 p.val)
              (Scalar.select (Scalar.cmpi CmpIPredicate.eq 64#32 0#32) 1#32 64#32))
            0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 p.val)
            (Scalar.select (Scalar.cmpi CmpIPredicate.eq 64#32 0#32) 1#32 64#32))
          0#32))
      (IntOp.addi
        (IntOp.remsi ArithUnit.vector (BitVec.ofNat 32 p.val)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 p.val)
        (Scalar.select (Scalar.cmpi CmpIPredicate.eq 64#32 0#32) 1#32 64#32)) = BitVec.ofNat 32 (p.val % 64) := by
  decide +kernel

theorem pay5 {r : Fin 128} {a b : Fin 64} (h : FirstMax (score (erow E r) (grow G r)) a b) :
    k0_pay5 (k0_pay3 (F := Ideal) E G) 64#32 (k0_pay4 (F := Ideal) E G) (ix1 r) = BitVec.ofNat 32 a.val := by
  pointwise [k0_pay5, k0_pay4]
  rw [pay3 E G h]
  have e := quot_words ⟨a.val * 64 + b.val, by omega⟩
  simp only at e
  rw [e]; congr 1; omega

theorem pay6 {r : Fin 128} {a b : Fin 64} (h : FirstMax (score (erow E r) (grow G r)) a b) :
    k0_pay6 (k0_pay3 (F := Ideal) E G) (ix1 r) = BitVec.ofNat 32 b.val := by
  pointwise [k0_pay6]
  rw [pay3 E G h]
  have e := rem_words ⟨a.val * 64 + b.val, by omega⟩
  simp only at e
  rw [e]; congr 1; omega

theorem pay7 (L : Vec Ideal S128x64x64 .f32) (r : Fin 128) :
    k0_pay7 (F := Ideal) L (ix1 r) = top (fun i j => L (ix3 r i j)) + Ideal.log (mass fun i j => L (ix3 r i j)) := by
  pointwise [k0_pay7]
  rw [negInf]; rfl

theorem pay8 (v : IVec S128 32) (r : Fin 128) (a : Fin 64) (h : v (ix1 r) = BitVec.ofNat 32 a.val) (d : Fin 128) :
    k0_pay8 (F := Ideal) E v (ix2 r d) = erow E r a d := by
  pointwise [k0_pay8]
  simp only [h, oneHot]
  simp [erow]

theorem pay9 (v : IVec S128 32) (r : Fin 128) (a : Fin 64) (h : v (ix1 r) = BitVec.ofNat 32 a.val) (d : Fin 128) :
    k0_pay9 (F := Ideal) E v (ix2 r d) = erow E r a d := by
  pointwise [k0_pay9]
  simp only [h, oneHot]
  simp [erow]

theorem pay10 (v w : IVec S128 32) (l : FVec Ideal S128 .f32) (r : Fin 128) (a b : Fin 64)
    (ha : v (ix1 r) = BitVec.ofNat 32 a.val) (hb : w (ix1 r) = BitVec.ofNat 32 b.val) :
    k0_pay10 (F := Ideal) E (k0_pay1 (F := Ideal) E) v w l (ix1 r)
      = - far (erow E r) a b + ((Real.log 2 : ℝ) : EReal) - l (ix1 r) := by
  pointwise [k0_pay10]
  simp only [ha, hb, select_eq, pay8 E v r a ha, pay9 E w r b hb, pay1, zero_sub]
  simp only [Finset.sum_ite_eq', Finset.mem_univ, if_true]
  rfl

theorem fold_addi (f : Fin 64 → BitVec 32) (a : Fin 64) :
    (Finset.univ : Finset (Fin 64)).fold IntOp.addi 0#32 (fun x => if x = a then f x else 0#32) = f a := by
  have : (Finset.univ : Finset (Fin 64)) = insert a (Finset.univ.erase a) := by simp
  rw [this, Finset.fold_insert (by simp)]
  have z : (Finset.univ.erase a : Finset (Fin 64)).fold IntOp.addi 0#32 (fun x => if x = a then f x else 0#32) = 0#32 := by
    have : ∀ s : Finset (Fin 64), a ∉ s → s.fold IntOp.addi 0#32 (fun x => if x = a then f x else 0#32) = 0#32 := by
      intro s
      induction s using Finset.induction_on with
      | empty => intro _; rfl
      | insert x s hx ih =>
        intro h
        rw [Finset.fold_insert hx, ih (fun c => h (Finset.mem_insert_of_mem c)), if_neg (fun c => h (by simp [c]))]
        rfl
    exact this _ (by simp)
  rw [z, if_pos rfl]; simp [IntOp.addi]

theorem pay12 (n : BitVec 32) (C : IVec S128x64 32) (v w : IVec S128 32) (r : Fin 128) (a b : Fin 64)
    (ha : v (ix1 r) = BitVec.ofNat 32 a.val) (hb : w (ix1 r) = BitVec.ofNat 32 b.val) :
    k0_pay12 (F := Ideal) n C v w (iota .tc S128x64 32 [1] Gen.iota_S128x64_d1_w32) (k0_pay11 (F := Ideal) C) (ix1 r)
      = Ideal.log (FloatOps.sitofp (F := Ideal) FTy.f32 (IntOp.subi n (ones (fun k => C (ix2 r k)) a b))) := by
  pointwise [k0_pay12, k0_pay11]
  simp only [ha, hb, select_eq, fold_addi (fun k => C (ix2 r k))]
  rfl

variable (W1 : Vec Ideal S256x256 .f32) (b1 : Vec Ideal S1x256 .f32) (W2 : Vec Ideal S256x128 .f32) (b2 : Vec Ideal S1x128 .f32)

theorem pay13 (c1 c2 : FVec Ideal S128x128 .f32) (r d : Fin 128) :
    k0_pay13 (F := Ideal) c1 c2 W1 b1 W2 b2 (ix2 r d)
      = out (fun x => c1 (ix2 r x)) (fun x => c2 (ix2 r x)) (fun x k => W1 (ix2 x k)) (fun k => b1 (ix2 0 k))
          (fun k d => W2 (ix2 k d)) (fun d => b2 (ix2 0 d)) d := by
  pointwise [k0_pay13]; rfl

theorem pay17 (c1 c2 : FVec Ideal S128x128 .f32) (r : Fin 128) :
    k0_pay17 (F := Ideal) (k0_pay14 c1 c2 W1 b1 W2 b2) (ix3 0 0 r)
      = branch (fun x => c1 (ix2 r x)) (fun d => k0_pay13 (F := Ideal) c1 c2 W1 b1 W2 b2 (ix2 r d)) := by
  pointwise [k0_pay17, k0_pay14]; rfl

theorem pay18 (c o : FVec Ideal S128x128 .f32) (r : Fin 128) :
    k0_pay18 (F := Ideal) c o (ix3 0 0 r) = branch (fun x => c (ix2 r x)) (fun d => o (ix2 r d)) := by
  pointwise [k0_pay18]; rfl

theorem pay15 (a : IVec S128 32) (r : Fin 128) : k0_pay15 a (ix3 0 0 r) = a (ix1 r) := by
  pointwise [k0_pay15]
theorem pay16 (a : IVec S128 32) (r : Fin 128) : k0_pay16 a (ix3 0 0 r) = a (ix1 r) := by
  pointwise [k0_pay16]
theorem pay19 (a : FVec Ideal S128 .f32) (r : Fin 128) : k0_pay19 (F := Ideal) a (ix3 0 0 r) = a (ix1 r) := by
  pointwise [k0_pay19]
theorem pay20 (a : FVec Ideal S128 .f32) (r : Fin 128) : k0_pay20 (F := Ideal) a (ix3 0 0 r) = a (ix1 r) := by
  pointwise [k0_pay20]
end Cert.KernelRow
end
-- ==== Proof.KernelVal.lean ====
/- The kernel's blocks of results, row by row, as functions of the row's data. -/
module
public import proofs.«01_k».proof.Proof.KernelIn
public import proofs.«01_k».proof.Proof.KernelRow
@[expose] public section
set_option maxRecDepth 16384
noncomputable section
namespace Cert.KernelVal
open Idealize.ShloMosaic Idealize.ShloMosaic.TcCoe Cert.KernelIdeal Cert.KernelIdeal.Gen Cert.KernelArr Cert.KernelIn Cert.Spec Idealize.SL.Sem
variable (m : (ℓ : Loc nD τ sig) → Buf (Elt Ideal) ℓ) (hO : Ok m) (c : Dev nD)

/-- A row's embeddings. -/
def Ein (R : Fin 1024) : Fin 64 → Fin 128 → EReal := fun i d => m ((c.tc : Thread nD τ).loc main_arg2) (ix3 R i d)
/-- A row's noise. -/
def Gin (R : Fin 1024) : Fin 64 → Fin 64 → EReal := fun i j => V00 m c (Proc.devRef .tc main_v0) (ix3 R i j)
/-- A row's counts. -/
def Cin (R : Fin 1024) : Fin 64 → BitVec 32 := fun i => m ((c.tc : Thread nD τ).loc main_arg1) (ix2 R i)
/-- The number of nodes. -/
def Nin : BitVec 32 := m ((c.tc : Thread nD τ).loc main_arg0) ix0
/-- The first layer's weights. -/
def W1in : Fin 256 → Fin 256 → EReal := fun x k => m ((c.tc : Thread nD τ).loc main_arg4) (ix2 x k)
/-- The first layer's bias. -/
def B1in : Fin 256 → EReal := fun k => m ((c.tc : Thread nD τ).loc main_arg5) (ix1 k)
/-- The second layer's weights. -/
def W2in : Fin 256 → Fin 128 → EReal := fun k d => m ((c.tc : Thread nD τ).loc main_arg6) (ix2 k d)
/-- The second layer's bias. -/
def B2in : Fin 128 → EReal := fun d => m ((c.tc : Thread nD τ).loc main_arg7) (ix1 d)
/-- A row's merged embedding for a pair. -/
def Out (R : Fin 1024) (a b : Fin 64) : Fin 128 → EReal :=
  out (Ein m c R a) (Ein m c R b) (W1in m c) (B1in m c) (W2in m c) (B2in m c)

variable (t : Fin grid0.N) (r : Fin 128)
/-- Input block 0 of a point. -/
def X0 : Vec Ideal S128x64x128 .f32 := iblk m hO c 0 t
/-- Input block 1 of a point. -/
def X1 : Vec Ideal S128x64x64 .f32 := iblk m hO c 1 t
/-- Input block 2 of a point. -/
def X2 : Vec Ideal S128x64 .i32 := iblk m hO c 2 t
/-- Input block 3 of a point. -/
def X3 : Vec Ideal S256x256 .f32 := iblk m hO c 3 t
/-- Input block 4 of a point. -/
def X4 : Vec Ideal S1x256 .f32 := iblk m hO c 4 t
/-- Input block 5 of a point. -/
def X5 : Vec Ideal S256x128 .f32 := iblk m hO c 5 t
/-- Input block 6 of a point. -/
def X6 : Vec Ideal S1x128 .f32 := iblk m hO c 6 t
set_option maxHeartbeats 4000000 in
theorem eq7 : (outsAt0 m hO c t).1 = k0_pay15 (k0_pay5 (k0_pay3 (F := Ideal) (X0 m hO c t) (X1 m hO c t)) 64#32 (k0_pay4 (F := Ideal) (X0 m hO c t) (X1 m hO c t))) :=
  KernelOut.out7 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (X0 m hO c t) (X1 m hO c t) (X2 m hO c t) (X3 m hO c t) (X4 m hO c t) (X5 m hO c t) (X6 m hO c t) (tbl m 0)
set_option maxHeartbeats 4000000 in
theorem eq8 : (outsAt0 m hO c t).2.1 = k0_pay16 (k0_pay6 (k0_pay3 (F := Ideal) (X0 m hO c t) (X1 m hO c t))) :=
  KernelOut.out8 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (X0 m hO c t) (X1 m hO c t) (X2 m hO c t) (X3 m hO c t) (X4 m hO c t) (X5 m hO c t) (X6 m hO c t) (tbl m 0)
set_option maxHeartbeats 4000000 in
theorem eq9 : (outsAt0 m hO c t).2.2.1 = k0_pay17 (F := Ideal) (k0_pay14 (F := Ideal) (k0_pay8 (F := Ideal) (X0 m hO c t) (k0_pay5 (k0_pay3 (F := Ideal) (X0 m hO c t) (X1 m hO c t)) 64#32 (k0_pay4 (F := Ideal) (X0 m hO c t) (X1 m hO c t)))) (k0_pay9 (F := Ideal) (X0 m hO c t) (k0_pay6 (k0_pay3 (F := Ideal) (X0 m hO c t) (X1 m hO c t)))) (X3 m hO c t) (X4 m hO c t) (X5 m hO c t) (X6 m hO c t)) :=
  KernelOut.out9 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (X0 m hO c t) (X1 m hO c t) (X2 m hO c t) (X3 m hO c t) (X4 m hO c t) (X5 m hO c t) (X6 m hO c t) (tbl m 0)
set_option maxHeartbeats 4000000 in
theorem eq10 : (outsAt0 m hO c t).2.2.2.1 = k0_pay18 (F := Ideal) (k0_pay9 (F := Ideal) (X0 m hO c t) (k0_pay6 (k0_pay3 (F := Ideal) (X0 m hO c t) (X1 m hO c t)))) (k0_pay13 (F := Ideal) (k0_pay8 (F := Ideal) (X0 m hO c t) (k0_pay5 (k0_pay3 (F := Ideal) (X0 m hO c t) (X1 m hO c t)) 64#32 (k0_pay4 (F := Ideal) (X0 m hO c t) (X1 m hO c t)))) (k0_pay9 (F := Ideal) (X0 m hO c t) (k0_pay6 (k0_pay3 (F := Ideal) (X0 m hO c t) (X1 m hO c t)))) (X3 m hO c t) (X4 m hO c t) (X5 m hO c t) (X6 m hO c t)) :=
  KernelOut.out10 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (X0 m hO c t) (X1 m hO c t) (X2 m hO c t) (X3 m hO c t) (X4 m hO c t) (X5 m hO c t) (X6 m hO c t) (tbl m 0)
set_option maxHeartbeats 4000000 in
theorem eq11 : (outsAt0 m hO c t).2.2.2.2.1 = k0_pay13 (F := Ideal) (k0_pay8 (F := Ideal) (X0 m hO c t) (k0_pay5 (k0_pay3 (F := Ideal) (X0 m hO c t) (X1 m hO c t)) 64#32 (k0_pay4 (F := Ideal) (X0 m hO c t) (X1 m hO c t)))) (k0_pay9 (F := Ideal) (X0 m hO c t) (k0_pay6 (k0_pay3 (F := Ideal) (X0 m hO c t) (X1 m hO c t)))) (X3 m hO c t) (X4 m hO c t) (X5 m hO c t) (X6 m hO c t) :=
  KernelOut.out11 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (X0 m hO c t) (X1 m hO c t) (X2 m hO c t) (X3 m hO c t) (X4 m hO c t) (X5 m hO c t) (X6 m hO c t) (tbl m 0)
set_option maxHeartbeats 4000000 in
theorem eq12 : (outsAt0 m hO c t).2.2.2.2.2.1 = k0_pay19 (F := Ideal) (k0_pay10 (F := Ideal) (X0 m hO c t) (k0_pay1 (F := Ideal) (X0 m hO c t)) (k0_pay5 (k0_pay3 (F := Ideal) (X0 m hO c t) (X1 m hO c t)) 64#32 (k0_pay4 (F := Ideal) (X0 m hO c t) (X1 m hO c t))) (k0_pay6 (k0_pay3 (F := Ideal) (X0 m hO c t) (X1 m hO c t))) (k0_pay7 (F := Ideal) (k0_pay2 (F := Ideal) (X0 m hO c t)))) :=
  KernelOut.out12 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (X0 m hO c t) (X1 m hO c t) (X2 m hO c t) (X3 m hO c t) (X4 m hO c t) (X5 m hO c t) (X6 m hO c t) (tbl m 0)
set_option maxHeartbeats 4000000 in
theorem eq13 : (outsAt0 m hO c t).2.2.2.2.2.2 = k0_pay20 (F := Ideal) (k0_pay12 (F := Ideal) (tbl m 0 KernelOut.zero1 : Elt Ideal .i32) (X2 m hO c t) (k0_pay5 (k0_pay3 (F := Ideal) (X0 m hO c t) (X1 m hO c t)) 64#32 (k0_pay4 (F := Ideal) (X0 m hO c t) (X1 m hO c t))) (k0_pay6 (k0_pay3 (F := Ideal) (X0 m hO c t) (X1 m hO c t))) (iota .tc S128x64 32 [1] Gen.iota_S128x64_d1_w32) (k0_pay11 (F := Ideal) (X2 m hO c t))) :=
  KernelOut.out13 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (X0 m hO c t) (X1 m hO c t) (X2 m hO c t) (X3 m hO c t) (X4 m hO c t) (X5 m hO c t) (X6 m hO c t) (tbl m 0)

theorem e_eq : KernelRow.erow (X0 m hO c t) r = Ein m c (row (nb t) r) := by
  funext i d
  exact (blk0 m hO c t (ix3 r i d)).trans (congrFun (V_main_arg2 m c) _)
theorem g_eq : KernelRow.grow (X1 m hO c t) r = Gin m c (row (nb t) r) := by
  funext i j
  exact (blk1 m hO c t (ix3 r i j)).trans (noise_split m c _)
theorem c_eq : (fun k => X2 m hO c t (ix2 r k)) = Cin m c (row (nb t) r) := by
  funext i
  exact (blk2 m hO c t (ix2 r i)).trans (congrFun (V_main_arg1 m c) _)
theorem w1_eq : (fun x k => X3 m hO c t (ix2 x k)) = W1in m c := by
  funext x k
  exact (blk3 m hO c t (ix2 x k)).trans (congrFun (V_main_arg4 m c) _)
theorem b1_eq' : (fun k => X4 m hO c t (ix2 0 k)) = B1in m c := by
  funext k
  exact (blk4 m hO c t (ix2 0 k)).trans (b1_eq m c k)
theorem w2_eq : (fun x k => X5 m hO c t (ix2 x k)) = W2in m c := by
  funext x k
  exact (blk5 m hO c t (ix2 x k)).trans (congrFun (V_main_arg6 m c) _)
theorem b2_eq' : (fun k => X6 m hO c t (ix2 0 k)) = B2in m c := by
  funext k
  exact (blk6 m hO c t (ix2 0 k)).trans (b2_eq m c k)
theorem t_eq : (tbl m 0 KernelOut.zero1 : BitVec 32) = Nin m c := by
  rw [Subsingleton.elim c 0]; exact tbl_eq m 0 KernelOut.zero1

section Rows
variable (x0 : Vec Ideal S128x64x128 .f32) (x1 : Vec Ideal S128x64x64 .f32) (x2 : Vec Ideal S128x64 .i32) (x3 : Vec Ideal S256x256 .f32) (x4 : Vec Ideal S1x256 .f32) (x5 : Vec Ideal S256x128 .f32) (x6 : Vec Ideal S1x128 .f32) (n : BitVec 32)
variable {a b : Fin 64} (h : FirstMax (score (KernelRow.erow x0 r) (KernelRow.grow x1 r)) a b)
include h
theorem r7 : (k0_pay15 (k0_pay5 (k0_pay3 (F := Ideal) x0 x1) 64#32 (k0_pay4 (F := Ideal) x0 x1))) (ix3 0 0 r) = BitVec.ofNat 32 a.val := by
  rw [KernelRow.pay15, KernelRow.pay5 x0 x1 h]
theorem r8 : (k0_pay16 (k0_pay6 (k0_pay3 (F := Ideal) x0 x1))) (ix3 0 0 r) = BitVec.ofNat 32 b.val := by
  rw [KernelRow.pay16, KernelRow.pay6 x0 x1 h]
theorem r11 (d : Fin 128) : (k0_pay13 (F := Ideal) (k0_pay8 (F := Ideal) x0 (k0_pay5 (k0_pay3 (F := Ideal) x0 x1) 64#32 (k0_pay4 (F := Ideal) x0 x1))) (k0_pay9 (F := Ideal) x0 (k0_pay6 (k0_pay3 (F := Ideal) x0 x1))) x3 x4 x5 x6) (ix2 r d) = (out (KernelRow.erow x0 r a) (KernelRow.erow x0 r b) (fun x k => x3 (ix2 x k)) (fun k => x4 (ix2 0 k)) (fun x k => x5 (ix2 x k)) (fun k => x6 (ix2 0 k))) d := by
  rw [KernelRow.pay13]
  simp only [KernelRow.pay8 x0 _ r a (KernelRow.pay5 x0 x1 h), KernelRow.pay9 x0 _ r b (KernelRow.pay6 x0 x1 h)]
theorem r9 : (k0_pay17 (F := Ideal) (k0_pay14 (F := Ideal) (k0_pay8 (F := Ideal) x0 (k0_pay5 (k0_pay3 (F := Ideal) x0 x1) 64#32 (k0_pay4 (F := Ideal) x0 x1))) (k0_pay9 (F := Ideal) x0 (k0_pay6 (k0_pay3 (F := Ideal) x0 x1))) x3 x4 x5 x6)) (ix3 0 0 r) = branch (KernelRow.erow x0 r a) (out (KernelRow.erow x0 r a) (KernelRow.erow x0 r b) (fun x k => x3 (ix2 x k)) (fun k => x4 (ix2 0 k)) (fun x k => x5 (ix2 x k)) (fun k => x6 (ix2 0 k))) := by
  rw [KernelRow.pay17]
  simp only [KernelRow.pay8 x0 _ r a (KernelRow.pay5 x0 x1 h), r11 r x0 x1 x3 x4 x5 x6 h]
theorem r10 : (k0_pay18 (F := Ideal) (k0_pay9 (F := Ideal) x0 (k0_pay6 (k0_pay3 (F := Ideal) x0 x1))) (k0_pay13 (F := Ideal) (k0_pay8 (F := Ideal) x0 (k0_pay5 (k0_pay3 (F := Ideal) x0 x1) 64#32 (k0_pay4 (F := Ideal) x0 x1))) (k0_pay9 (F := Ideal) x0 (k0_pay6 (k0_pay3 (F := Ideal) x0 x1))) x3 x4 x5 x6)) (ix3 0 0 r) = branch (KernelRow.erow x0 r b) (out (KernelRow.erow x0 r a) (KernelRow.erow x0 r b) (fun x k => x3 (ix2 x k)) (fun k => x4 (ix2 0 k)) (fun x k => x5 (ix2 x k)) (fun k => x6 (ix2 0 k))) := by
  rw [KernelRow.pay18]
  simp only [KernelRow.pay9 x0 _ r b (KernelRow.pay6 x0 x1 h), r11 r x0 x1 x3 x4 x5 x6 h]
theorem r12 : (k0_pay19 (F := Ideal) (k0_pay10 (F := Ideal) x0 (k0_pay1 (F := Ideal) x0) (k0_pay5 (k0_pay3 (F := Ideal) x0 x1) 64#32 (k0_pay4 (F := Ideal) x0 x1)) (k0_pay6 (k0_pay3 (F := Ideal) x0 x1)) (k0_pay7 (F := Ideal) (k0_pay2 (F := Ideal) x0)))) (ix3 0 0 r) = - far (KernelRow.erow x0 r) a b + ((Real.log 2 : ℝ) : EReal)
    - (top (lg (KernelRow.erow x0 r)) + Ideal.log (mass (lg (KernelRow.erow x0 r)))) := by
  rw [KernelRow.pay19, KernelRow.pay10 x0 _ _ _ r a b (KernelRow.pay5 x0 x1 h) (KernelRow.pay6 x0 x1 h), KernelRow.pay7]
  simp only [KernelRow.pay2]
theorem r13 : (k0_pay20 (F := Ideal) (k0_pay12 (F := Ideal) n x2 (k0_pay5 (k0_pay3 (F := Ideal) x0 x1) 64#32 (k0_pay4 (F := Ideal) x0 x1)) (k0_pay6 (k0_pay3 (F := Ideal) x0 x1)) (iota .tc S128x64 32 [1] Gen.iota_S128x64_d1_w32) (k0_pay11 (F := Ideal) x2))) (ix3 0 0 r) = Ideal.log (FloatOps.sitofp (F := Ideal) FTy.f32 (IntOp.subi n (ones (fun k => x2 (ix2 r k)) a b))) := by
  rw [KernelRow.pay20, KernelRow.pay12 n x2 _ _ r a b (KernelRow.pay5 x0 x1 h) (KernelRow.pay6 x0 x1 h)]
end Rows

variable {a b : Fin 64} (h : FirstMax (score (Ein m c (row (nb t) r)) (Gin m c (row (nb t) r))) a b)
include h

theorem fm : FirstMax (score (KernelRow.erow (X0 m hO c t) r) (KernelRow.grow (X1 m hO c t) r)) a b := by
  rw [e_eq, g_eq]; exact h
theorem o7 : (outsAt0 m hO c t).1 (ix3 0 0 r) = BitVec.ofNat 32 a.val := by
  refine (congrFun (eq7 m hO c t) (ix3 0 0 r)).trans ?_
  exact (r7 r (X0 m hO c t) (X1 m hO c t) (fm m hO c t r h))
theorem o8 : (outsAt0 m hO c t).2.1 (ix3 0 0 r) = BitVec.ofNat 32 b.val := by
  refine (congrFun (eq8 m hO c t) (ix3 0 0 r)).trans ?_
  exact (r8 r (X0 m hO c t) (X1 m hO c t) (fm m hO c t r h))
theorem o9 : (outsAt0 m hO c t).2.2.1 (ix3 0 0 r) = branch (Ein m c (row (nb t) r) a) (Out m c (row (nb t) r) a b) := by
  refine (congrFun (eq9 m hO c t) (ix3 0 0 r)).trans ?_
  refine (r9 r (X0 m hO c t) (X1 m hO c t) (X3 m hO c t) (X4 m hO c t) (X5 m hO c t) (X6 m hO c t) (fm m hO c t r h)).trans ?_
  rw [e_eq, w1_eq, b1_eq', w2_eq, b2_eq']; rfl
theorem o10 : (outsAt0 m hO c t).2.2.2.1 (ix3 0 0 r) = branch (Ein m c (row (nb t) r) b) (Out m c (row (nb t) r) a b) := by
  refine (congrFun (eq10 m hO c t) (ix3 0 0 r)).trans ?_
  refine (r10 r (X0 m hO c t) (X1 m hO c t) (X3 m hO c t) (X4 m hO c t) (X5 m hO c t) (X6 m hO c t) (fm m hO c t r h)).trans ?_
  rw [e_eq, w1_eq, b1_eq', w2_eq, b2_eq']; rfl
theorem o11 (d : Fin 128) : (outsAt0 m hO c t).2.2.2.2.1 (ix2 r d) = Out m c (row (nb t) r) a b d := by
  refine (congrFun (eq11 m hO c t) (ix2 r d)).trans ?_
  refine (r11 r (X0 m hO c t) (X1 m hO c t) (X3 m hO c t) (X4 m hO c t) (X5 m hO c t) (X6 m hO c t) (fm m hO c t r h) d).trans ?_
  rw [e_eq, w1_eq, b1_eq', w2_eq, b2_eq']; rfl
theorem o12 : (outsAt0 m hO c t).2.2.2.2.2.1 (ix3 0 0 r) = - far (Ein m c (row (nb t) r)) a b + ((Real.log 2 : ℝ) : EReal)
    - (top (lg (Ein m c (row (nb t) r))) + Ideal.log (mass (lg (Ein m c (row (nb t) r))))) := by
  refine (congrFun (eq12 m hO c t) (ix3 0 0 r)).trans ?_
  refine (r12 r (X0 m hO c t) (X1 m hO c t) (fm m hO c t r h)).trans ?_
  rw [e_eq]
theorem o13 : (outsAt0 m hO c t).2.2.2.2.2.2 (ix3 0 0 r) = Ideal.log (FloatOps.sitofp (F := Ideal) FTy.f32 (IntOp.subi (Nin m c) (ones (Cin m c (row (nb t) r)) a b))) := by
  refine (congrFun (eq13 m hO c t) (ix3 0 0 r)).trans ?_
  refine (r13 r (X0 m hO c t) (X1 m hO c t) (X2 m hO c t) (tbl m 0 KernelOut.zero1 : BitVec 32) (fm m hO c t r h)).trans ?_
  rw [t_eq m c, c_eq]
end Cert.KernelVal
end
-- ==== Proof.KernelEnd.lean ====
/- The kernel's results after the run, row by row. -/
module
public import proofs.«01_k».proof.Proof.KernelVal
@[expose] public section
set_option maxRecDepth 16384
noncomputable section
namespace Cert.KernelEnd
open Idealize.ShloMosaic Idealize.ShloMosaic.TcCoe Cert.KernelIdeal Cert.KernelIdeal.Gen Cert.KernelArr Cert.KernelIn Cert.KernelVal Cert.Spec Idealize.SL.Sem
variable (m : (ℓ : Loc nD τ sig) → Buf (Elt Ideal) ℓ) (hO : Ok m) (c : Dev nD)

/-- What the lines after the region start from. -/
def Wt : Valuation τ sig (Elt Ideal) :=
  Pipeline.withArrays (Pipeline.pin pcfgs (fun _ => adm m hO) 0).spec c (V0 m c) fun w => (dats m hO 0 c).arrAt w (Pipeline.pin pcfgs (fun _ => adm m hO) 0).N
/-- The block a row is in. -/
def bl (R : Fin 1024) : Fin 8 := ⟨R.val / 128, by omega⟩
/-- The row of its block a row is. -/
def ro (R : Fin 1024) : Fin 128 := ⟨R.val % 128, by omega⟩
theorem row_bl (R : Fin 1024) : row (nb (pt (bl R))) (ro R) = R := by
  apply Fin.ext; show R.val / 128 * 128 + R.val % 128 = R.val; omega

theorem tail_eq (b : Ref sig .tc) : Pipeline.afterTail pcfgs (fun _ => adm m hO) (dats m hO) 0 (V0 m) [hostOps1] c b
    = StableHlo.after hostOps1 (Wt m hO c) (Proc.devRef .tc b) := by
  show StableHlo.after (hostOps1 ++ []) _ _ = _
  rw [List.append_nil]; rfl
theorem hinj : Function.Injective (Pipeline.arrRef spec0) := by decide

theorem w7 : Wt m hO c (Proc.devRef .tc main_call1_v3_0) = G7 m hO c :=
  (Pipeline.withArrays_arr spec0 hinj c (V0 m c) (fun w => (dats m hO 0 c).arrAt w (cfgM m hO).N) 7).trans (arr7 m hO c)
theorem tl7 (W : Valuation τ sig (Elt Ideal)) (R : Fin 1024) : StableHlo.after hostOps1 W (Proc.devRef .tc main_v1_0) (ix1 R)
    = W (Proc.devRef .tc main_call1_v3_0) (ix3 (bl R) (0 : Fin 1) (ro R)) := by
  after_reads_simp
  pointwise
  rfl
theorem end7 (R : Fin 1024) : Pipeline.afterTail pcfgs (fun _ => adm m hO) (dats m hO) 0 (V0 m) [hostOps1] c main_v1_0 (ix1 R)
    = G7 m hO c (ix3 (bl R) (0 : Fin 1) (ro R)) := by
  rw [tail_eq, tl7]; exact congrFun (w7 m hO c) _

theorem w8 : Wt m hO c (Proc.devRef .tc main_call1_v3_1) = G8 m hO c :=
  (Pipeline.withArrays_arr spec0 hinj c (V0 m c) (fun w => (dats m hO 0 c).arrAt w (cfgM m hO).N) 8).trans (arr8 m hO c)
theorem tl8 (W : Valuation τ sig (Elt Ideal)) (R : Fin 1024) : StableHlo.after hostOps1 W (Proc.devRef .tc main_v1_1) (ix1 R)
    = W (Proc.devRef .tc main_call1_v3_1) (ix3 (bl R) (0 : Fin 1) (ro R)) := by
  after_reads_simp
  pointwise
  rfl
theorem end8 (R : Fin 1024) : Pipeline.afterTail pcfgs (fun _ => adm m hO) (dats m hO) 0 (V0 m) [hostOps1] c main_v1_1 (ix1 R)
    = G8 m hO c (ix3 (bl R) (0 : Fin 1) (ro R)) := by
  rw [tail_eq, tl8]; exact congrFun (w8 m hO c) _

theorem w9 : Wt m hO c (Proc.devRef .tc main_call1_v3_2) = G9 m hO c :=
  (Pipeline.withArrays_arr spec0 hinj c (V0 m c) (fun w => (dats m hO 0 c).arrAt w (cfgM m hO).N) 9).trans (arr9 m hO c)
theorem tl9 (W : Valuation τ sig (Elt Ideal)) (R : Fin 1024) : StableHlo.after hostOps1 W (Proc.devRef .tc main_v1_2) (ix1 R)
    = W (Proc.devRef .tc main_call1_v3_2) (ix3 (bl R) (0 : Fin 1) (ro R)) := by
  after_reads_simp
  pointwise
  rfl
theorem end9 (R : Fin 1024) : Pipeline.afterTail pcfgs (fun _ => adm m hO) (dats m hO) 0 (V0 m) [hostOps1] c main_v1_2 (ix1 R)
    = G9 m hO c (ix3 (bl R) (0 : Fin 1) (ro R)) := by
  rw [tail_eq, tl9]; exact congrFun (w9 m hO c) _

theorem w10 : Wt m hO c (Proc.devRef .tc main_call1_v3_3) = G10 m hO c :=
  (Pipeline.withArrays_arr spec0 hinj c (V0 m c) (fun w => (dats m hO 0 c).arrAt w (cfgM m hO).N) 10).trans (arr10 m hO c)
theorem tl10 (W : Valuation τ sig (Elt Ideal)) (R : Fin 1024) : StableHlo.after hostOps1 W (Proc.devRef .tc main_v1_3) (ix1 R)
    = W (Proc.devRef .tc main_call1_v3_3) (ix3 (bl R) (0 : Fin 1) (ro R)) := by
  after_reads_simp
  pointwise
  rfl
theorem end10 (R : Fin 1024) : Pipeline.afterTail pcfgs (fun _ => adm m hO) (dats m hO) 0 (V0 m) [hostOps1] c main_v1_3 (ix1 R)
    = G10 m hO c (ix3 (bl R) (0 : Fin 1) (ro R)) := by
  rw [tail_eq, tl10]; exact congrFun (w10 m hO c) _

theorem w12 : Wt m hO c (Proc.devRef .tc main_call1_v3_5) = G12 m hO c :=
  (Pipeline.withArrays_arr spec0 hinj c (V0 m c) (fun w => (dats m hO 0 c).arrAt w (cfgM m hO).N) 12).trans (arr12 m hO c)
theorem tl12 (W : Valuation τ sig (Elt Ideal)) (R : Fin 1024) : StableHlo.after hostOps1 W (Proc.devRef .tc main_v1_5) (ix1 R)
    = W (Proc.devRef .tc main_call1_v3_5) (ix3 (bl R) (0 : Fin 1) (ro R)) := by
  after_reads_simp
  pointwise
  rfl
theorem end12 (R : Fin 1024) : Pipeline.afterTail pcfgs (fun _ => adm m hO) (dats m hO) 0 (V0 m) [hostOps1] c main_v1_5 (ix1 R)
    = G12 m hO c (ix3 (bl R) (0 : Fin 1) (ro R)) := by
  rw [tail_eq, tl12]; exact congrFun (w12 m hO c) _

theorem w13 : Wt m hO c (Proc.devRef .tc main_call1_v3_6) = G13 m hO c :=
  (Pipeline.withArrays_arr spec0 hinj c (V0 m c) (fun w => (dats m hO 0 c).arrAt w (cfgM m hO).N) 13).trans (arr13 m hO c)
theorem tl13 (W : Valuation τ sig (Elt Ideal)) (R : Fin 1024) : StableHlo.after hostOps1 W (Proc.devRef .tc main_v1_6) (ix1 R)
    = W (Proc.devRef .tc main_call1_v3_6) (ix3 (bl R) (0 : Fin 1) (ro R)) := by
  after_reads_simp
  pointwise
  rfl
theorem end13 (R : Fin 1024) : Pipeline.afterTail pcfgs (fun _ => adm m hO) (dats m hO) 0 (V0 m) [hostOps1] c main_v1_6 (ix1 R)
    = G13 m hO c (ix3 (bl R) (0 : Fin 1) (ro R)) := by
  rw [tail_eq, tl13]; exact congrFun (w13 m hO c) _

theorem G11_eq (R : Fin 1024) (d : Fin 128) : G11 m hO c (ix2 R d) = (outsAt0 m hO c (pt (bl R))).2.2.2.2.1 (ix2 (ro R) d) := rfl

/-- What one row of the results is, given the row's pair. -/
def RowIs (c : Dev nD) (R : Fin 1024) (a b : Fin 64) (i0 i1 : BitVec 32) (x2 x3 : EReal) (x4 : Fin 128 → EReal) (x5 x6 : EReal) : Prop :=
  i0 = BitVec.ofNat 32 a.val ∧ i1 = BitVec.ofNat 32 b.val
    ∧ x2 = branch (Ein m c R a) (Out m c R a b) ∧ x3 = branch (Ein m c R b) (Out m c R a b)
    ∧ (∀ d, x4 d = Out m c R a b d)
    ∧ x5 = - far (Ein m c R) a b + ((Real.log 2 : ℝ) : EReal) - (top (lg (Ein m c R)) + Ideal.log (mass (lg (Ein m c R))))
    ∧ x6 = Ideal.log (FloatOps.sitofp (F := Ideal) FTy.f32 (IntOp.subi (Nin m c) (ones (Cin m c R) a b)))

theorem rows (R : Fin 1024) {a b : Fin 64} (h : FirstMax (score (Ein m c R) (Gin m c R)) a b) :
    RowIs m c R a b (G7 m hO c (ix3 (bl R) (0 : Fin 1) (ro R))) (G8 m hO c (ix3 (bl R) (0 : Fin 1) (ro R)))
      (G9 m hO c (ix3 (bl R) (0 : Fin 1) (ro R))) (G10 m hO c (ix3 (bl R) (0 : Fin 1) (ro R))) (fun d => G11 m hO c (ix2 R d))
      (G12 m hO c (ix3 (bl R) (0 : Fin 1) (ro R))) (G13 m hO c (ix3 (bl R) (0 : Fin 1) (ro R))) := by
  have e := row_bl R
  have h' : FirstMax (score (Ein m c (row (nb (pt (bl R))) (ro R))) (Gin m c (row (nb (pt (bl R))) (ro R)))) a b := e.symm ▸ h
  refine ⟨o7 m hO c _ _ h', o8 m hO c _ _ h', ?_, ?_, fun d => ?_, ?_, ?_⟩
  · have := o9 m hO c _ _ h'; rw [e] at this; exact this
  · have := o10 m hO c _ _ h'; rw [e] at this; exact this
  · have := o11 m hO c _ _ h' d; rw [e] at this; exact this
  · have := o12 m hO c _ _ h'; rw [e] at this; exact this
  · have := o13 m hO c _ _ h'; rw [e] at this; exact this

/-- The kernel terminates, and every row of its results is the row's pair, branch lengths, merged embedding and two logarithms. -/
theorem run (ρ : Dev nD → PrngReg) (A B : Dev nD → Fin 1024 → Fin 64)
    (hP : ∀ c R, FirstMax (score (Ein m c R) (Gin m c R)) (A c R) (B c R)) :
    θ_run (defs (F := Ideal)) (onTc (τ := τ) (main (F := Ideal))) ⟨m, fun _ => 0, ρ⟩ fun r => ∀ (c : Dev nD) (R : Fin 1024),
      RowIs m c R (A c R) (B c R) (r.2.mem ((c.tc : Thread nD τ).loc main_v1_0) (ix1 R)) (r.2.mem ((c.tc : Thread nD τ).loc main_v1_1) (ix1 R))
        (r.2.mem ((c.tc : Thread nD τ).loc main_v1_2) (ix1 R)) (r.2.mem ((c.tc : Thread nD τ).loc main_v1_3) (ix1 R))
        (fun d => r.2.mem ((c.tc : Thread nD τ).loc main_v1_4) (ix2 R d))
        (r.2.mem ((c.tc : Thread nD τ).loc main_v1_5) (ix1 R)) (r.2.mem ((c.tc : Thread nD τ).loc main_v1_6) (ix1 R)) := by
  refine (θ_run _ _ _).mono (fun r h => ?_) (run_main m ρ trivial)
  intro c R
  have e0 := (congrFun ((h c).2 main_v1_0 (by decide : main_v1_0 ∈ Pipeline.restRefs sig spec0)) (ix1 R)).trans (end7 m trivial c R)
  have e1 := (congrFun ((h c).2 main_v1_1 (by decide : main_v1_1 ∈ Pipeline.restRefs sig spec0)) (ix1 R)).trans (end8 m trivial c R)
  have e2 := (congrFun ((h c).2 main_v1_2 (by decide : main_v1_2 ∈ Pipeline.restRefs sig spec0)) (ix1 R)).trans (end9 m trivial c R)
  have e3 := (congrFun ((h c).2 main_v1_3 (by decide : main_v1_3 ∈ Pipeline.restRefs sig spec0)) (ix1 R)).trans (end10 m trivial c R)
  have e5 := (congrFun ((h c).2 main_v1_5 (by decide : main_v1_5 ∈ Pipeline.restRefs sig spec0)) (ix1 R)).trans (end12 m trivial c R)
  have e6 := (congrFun ((h c).2 main_v1_6 (by decide : main_v1_6 ∈ Pipeline.restRefs sig spec0)) (ix1 R)).trans (end13 m trivial c R)
  have e4 : r.2.mem ((c.tc : Thread nD τ).loc main_v1_4) = G11 m trivial c := ((h c).1 11).trans (arr11 m trivial c)
  obtain ⟨p0, p1, p2, p3, p4, p5, p6⟩ := rows m trivial c R (hP c R)
  exact ⟨e0.trans p0, e1.trans p1, e2.trans p2, e3.trans p3, fun d => (congrFun e4 (ix2 R d)).trans (p4 d), e5.trans p5, e6.trans p6⟩
end Cert.KernelEnd
end
-- ==== Proof.NoiseSim.lean ====
/- Two straight lines that do the same operations in the same order on like-numbered buffers leave like contents. -/
module
public import proofs.«01_k».proof.Proof.RefRun
public import proofs.«01_k».proof.Proof.KernelIn
@[expose] public section
set_option maxRecDepth 16384
noncomputable section
namespace Cert.NoiseSim
open Idealize.ShloMosaic Idealize.ShloMosaic.TcCoe Idealize.SL.Sem Idealize.ShloMosaic.StableHlo
variable {F : FTy → Type} [FloatOps F]

/-- The kernel's references. -/
abbrev KRef := Ref Cert.KernelIdeal.sig .tc
/-- The reference's references. -/
abbrev RRef := Ref Cert.ReferenceIdeal.sig .tc
/-- The kernel's contents. -/
abbrev KVal (F : FTy → Type) [FloatOps F] := Valuation Cert.KernelIdeal.τ Cert.KernelIdeal.sig (Elt F)
/-- The reference's contents. -/
abbrev RVal (F : FTy → Type) [FloatOps F] := Valuation Cert.ReferenceIdeal.τ Cert.ReferenceIdeal.sig (Elt F)
/-- The kernel's operations. -/
abbrev KOp (F : FTy → Type) [FloatOps F] := HloOp Cert.KernelIdeal.τ Cert.KernelIdeal.sig (Elt F)
/-- The reference's operations. -/
abbrev ROp (F : FTy → Type) [FloatOps F] := HloOp Cert.ReferenceIdeal.τ Cert.ReferenceIdeal.sig (Elt F)

/-- The buffers numbered `n` of the kernel and `n + 34` of the reference. -/
def At (n : Nat) (x : KRef) (x' : RRef) : Prop :=
  x.space = .hbm ∧ x'.space = .hbm ∧ x.idx.val = n ∧ x'.idx.val = n + 34
/-- Like-numbered buffers hold like contents, from 17 on and below `n`. -/
def Sim (n : Nat) (VK : KVal F) (VR : RVal F) : Prop :=
  ∀ (i : Nat) (x : KRef) (x' : RRef), At i x x' → 17 ≤ i → i < n → HEq (VK (Proc.devRef .tc x)) (VR (Proc.devRef .tc x'))

theorem ref_ext {sig : RefSig} {x y : Ref sig .tc} (h : x.space = y.space) (hi : x.idx.val = y.idx.val) : x = y := by
  cases x; cases y
  simp only at h; subst h
  simp only at hi
  congr 1; exact Fin.ext hi

/-- One more operation on each side, writing the next buffers with like contents. -/
theorem step {n : Nat} {VK : KVal F} {VR : RVal F} {VK' : KVal F} {VR' : RVal F} {y : KRef} {y' : RRef} (hy : At n y y')
    (hK : ∀ x : KRef, x ≠ y → VK' (Proc.devRef .tc x) = VK (Proc.devRef .tc x))
    (hR : ∀ x : RRef, x ≠ y' → VR' (Proc.devRef .tc x) = VR (Proc.devRef .tc x))
    (e : HEq (VK' (Proc.devRef .tc y)) (VR' (Proc.devRef .tc y'))) (h : Sim n VK VR) : Sim (n + 1) VK' VR' := by
  intro i x x' hx lo hi
  by_cases c : i = n
  · subst c
    obtain rfl : x = y := ref_ext (hx.1.trans hy.1.symm) (hx.2.2.1.trans hy.2.2.1.symm)
    obtain rfl : x' = y' := ref_ext (hx.2.1.trans hy.2.1.symm) (hx.2.2.2.trans hy.2.2.2.symm)
    exact e
  · have h1 : x ≠ y := by rintro rfl; exact c (hx.2.2.1.symm.trans hy.2.2.1)
    have h2 : x' ≠ y' := by
      rintro rfl; have := hx.2.2.2.symm.trans hy.2.2.2; omega
    rw [hK x h1, hR x' h2]
    exact h i x x' hx lo (by omega)

/-- From like contents below `n`, the two lines leave like contents below `N`. -/
def Chunk (n N : Nat) (lK : List (KOp F)) (lR : List (ROp F)) : Prop :=
  ∀ (VK : KVal F) (VR : RVal F), Sim n VK VR → Sim N (after lK VK) (after lR VR)

theorem Chunk.nil {n : Nat} : Chunk (F := F) n n [] [] := fun _ _ h => h

theorem Chunk.append {n N M : Nat} {lK lK' : List (KOp F)} {lR lR' : List (ROp F)} (h : Chunk n N lK lR) (h' : Chunk N M lK' lR') :
    Chunk n M (lK ++ lK') (lR ++ lR') := by
  intro VK VR hs
  rw [Cert.ReferenceIdeal.Ops.after_append, Cert.ReferenceIdeal.Ops.after_append]
  exact h' _ _ (h _ _ hs)

theorem toBuf_heq {T : BufTy} (y : TRef Cert.KernelIdeal.sig T) (y' : TRef Cert.ReferenceIdeal.sig T) (v : T.Contents (Elt F)) :
    HEq (y.toBuf v) (y'.toBuf v) := (cast_heq _ _).trans (cast_heq _ _).symm
theorem ofBuf_eq {T : BufTy} (x : TRef Cert.KernelIdeal.sig T) (x' : TRef Cert.ReferenceIdeal.sig T)
    {u : x.ref.ty.Contents (Elt F)} {u' : x'.ref.ty.Contents (Elt F)} (h : HEq u u') : x.ofBuf u = x'.ofBuf u' :=
  eq_of_heq ((cast_heq _ _).trans (h.trans (cast_heq _ _).symm))

variable {n N : Nat} {lK : List (KOp F)} {lR : List (ROp F)} {Tx Ta Tb Ty : BufTy}

theorem Chunk.nullary (y : TRef Cert.KernelIdeal.sig Ty) (y' : TRef Cert.ReferenceIdeal.sig Ty) (v : Ty.Contents (Elt F))
    (hy : At n y.ref y'.ref) (h : Chunk (n + 1) N lK lR) :
    Chunk n N (TRef.nullary y v :: lK) (TRef.nullary y' v :: lR) := by
  intro VK VR hs
  refine h _ _ (step hy (fun x hx => nullary_result_ne _ _ _ _ hx) (fun x hx => nullary_result_ne _ _ _ _ hx) ?_ hs)
  rw [nullary_result, nullary_result]
  exact toBuf_heq y y' v

theorem Chunk.unary (i : Nat) (x : TRef Cert.KernelIdeal.sig Tx) (x' : TRef Cert.ReferenceIdeal.sig Tx)
    (y : TRef Cert.KernelIdeal.sig Ty) (y' : TRef Cert.ReferenceIdeal.sig Ty) (f : Tx.Contents (Elt F) → Ty.Contents (Elt F))
    (hx : At i x.ref x'.ref) (hi : 17 ≤ i ∧ i < n) (hy : At n y.ref y'.ref) (h : Chunk (n + 1) N lK lR) :
    Chunk n N (TRef.unary x y f :: lK) (TRef.unary x' y' f :: lR) := by
  intro VK VR hs
  refine h _ _ (step hy (fun x hx => unary_result_ne _ _ _ _ _ _ hx) (fun x hx => unary_result_ne _ _ _ _ _ _ hx) ?_ hs)
  rw [unary_result, unary_result, ofBuf_eq x x' (hs i _ _ hx hi.1 hi.2)]
  exact toBuf_heq y y' _

theorem Chunk.binary (i j : Nat) (a : TRef Cert.KernelIdeal.sig Ta) (a' : TRef Cert.ReferenceIdeal.sig Ta)
    (b : TRef Cert.KernelIdeal.sig Tb) (b' : TRef Cert.ReferenceIdeal.sig Tb)
    (y : TRef Cert.KernelIdeal.sig Ty) (y' : TRef Cert.ReferenceIdeal.sig Ty) (f : Ta.Contents (Elt F) → Tb.Contents (Elt F) → Ty.Contents (Elt F))
    (ha : At i a.ref a'.ref) (hi : 17 ≤ i ∧ i < n) (hb : At j b.ref b'.ref) (hj : 17 ≤ j ∧ j < n)
    (hy : At n y.ref y'.ref) (h : Chunk (n + 1) N lK lR) :
    Chunk n N (TRef.binary a b y f :: lK) (TRef.binary a' b' y' f :: lR) := by
  intro VK VR hs
  refine h _ _ (step hy (fun x hx => binary_result_ne _ _ _ _ _ _ _ _ hx) (fun x hx => binary_result_ne _ _ _ _ _ _ _ _ hx) ?_ hs)
  rw [binary_result, binary_result, ofBuf_eq a a' (hs i _ _ ha hi.1 hi.2), ofBuf_eq b b' (hs j _ _ hb hj.1 hj.2)]
  exact toBuf_heq y y' _

theorem shapeCast_heq {x y : BufTy} {x' y' : BufTy} (ex : x = x') (ey : y = y') (he : x.elt = y.elt) (he' : x'.elt = y'.elt)
    (hn : x.shape.ShapeCasts y.shape) (hn' : x'.shape.ShapeCasts y'.shape) (u : x.Contents (Elt F)) (u' : x'.Contents (Elt F)) (hu : HEq u u') :
    HEq (fun i => (he ▸ shapeCast y.shape u hn i : Elt F y.elt)) (fun i => (he' ▸ shapeCast y'.shape u' hn' i : Elt F y'.elt)) := by
  subst ex; subst ey; cases hu; rfl

theorem Chunk.reshape (i : Nat) (x : TRef Cert.KernelIdeal.sig Tx) (x' : TRef Cert.ReferenceIdeal.sig Tx)
    (y : TRef Cert.KernelIdeal.sig Ty) (y' : TRef Cert.ReferenceIdeal.sig Ty) (he : Tx.elt = Ty.elt) (hn : Tx.shape.ShapeCasts Ty.shape)
    (hx : At i x.ref x'.ref) (hi : 17 ≤ i ∧ i < n) (hy : At n y.ref y'.ref) (h : Chunk (n + 1) N lK lR) :
    Chunk n N (TRef.reshape x y he hn :: lK) (TRef.reshape x' y' he hn :: lR) := by
  intro VK VR hs
  refine h _ _ (step hy (fun x hx => reshape_result_ne _ _ _ _ _ _ _ hx) (fun x hx => reshape_result_ne _ _ _ _ _ _ _ hx) ?_ hs)
  rw [reshape_result, reshape_result]
  exact shapeCast_heq (x.ty_eq.trans x'.ty_eq.symm) (y.ty_eq.trans y'.ty_eq.symm) _ _ _ _ _ _ (hs i _ _ hx hi.1 hi.2)

end Cert.NoiseSim
end
-- ==== Proof.NoiseOps.lean ====
/- The noise of the kernel and of the reference: the same operations in the same order. -/
module
public import proofs.«01_k».proof.Proof.NoiseSim
public import Idealize.ShloMosaic.Lib.Pipeline.Regions
@[expose] public section
set_option maxRecDepth 16384
noncomputable section
namespace Cert.NoiseOps
open Idealize.ShloMosaic Idealize.ShloMosaic.TcCoe Idealize.SL.Sem
section Lists
open Cert.KernelIdeal Cert.KernelIdeal.Facts₀ Cert.KernelIdeal.Facts
variable {F : FTy → Type} [FloatOps F]
set_option maxHeartbeats 4000000 in
/-- The key words. -/
abbrev kKey : List (HloOp τ sig (Elt F)) :=
  [ StableHlo.TRef.nullary (.of main_call0_c : StableHlo.TRef sig ⟨S_, .i32⟩) (constantI S_ 32 42#32),
    StableHlo.TRef.nullary (.of main_call0_c_0 : StableHlo.TRef sig ⟨S_, .i32⟩) (constantI S_ 32 32#32),
    StableHlo.TRef.binary (.of main_call0_c : StableHlo.TRef sig ⟨S_, .i32⟩) (.of main_call0_c_0 : StableHlo.TRef sig ⟨S_, .i32⟩) (.of main_call0_v0 : StableHlo.TRef sig ⟨S_, .i32⟩) Host.shrui,
    StableHlo.TRef.unary (.of main_call0_v0 : StableHlo.TRef sig ⟨S_, .i32⟩) (.of main_call0_v1 : StableHlo.TRef sig ⟨S_, .i32⟩) id,
    StableHlo.TRef.unary (.of main_call0_v1 : StableHlo.TRef sig ⟨S_, .i32⟩) (.of main_call0_v2 : StableHlo.TRef sig ⟨S1, .i32⟩) (broadcastInDim S1 ![] bcast_S_S1),
    StableHlo.TRef.nullary (.of main_call0_c_1 : StableHlo.TRef sig ⟨S_, .i32⟩) (constantI S_ 32 4294967295#32),
    StableHlo.TRef.binary (.of main_call0_c : StableHlo.TRef sig ⟨S_, .i32⟩) (.of main_call0_c_1 : StableHlo.TRef sig ⟨S_, .i32⟩) (.of main_call0_v3 : StableHlo.TRef sig ⟨S_, .i32⟩) andi,
    StableHlo.TRef.unary (.of main_call0_v3 : StableHlo.TRef sig ⟨S_, .i32⟩) (.of main_call0_v4 : StableHlo.TRef sig ⟨S_, .i32⟩) id,
    StableHlo.TRef.unary (.of main_call0_v4 : StableHlo.TRef sig ⟨S_, .i32⟩) (.of main_call0_v5 : StableHlo.TRef sig ⟨S1, .i32⟩) (broadcastInDim S1 ![] bcast_S_S1),
    StableHlo.TRef.binary (.of main_call0_v2 : StableHlo.TRef sig ⟨S1, .i32⟩) (.of main_call0_v5 : StableHlo.TRef sig ⟨S1, .i32⟩) (.of main_call0_v6 : StableHlo.TRef sig ⟨S2, .i32⟩) (fun a b => concatenate S2 0 [⟨S1, a⟩, ⟨S1, b⟩] concatenates_S1_S1_S2_d0) ]
set_option maxHeartbeats 4000000 in
/-- The uniform draw up to the counter words. -/
abbrev kG0 : List (HloOp τ sig (Elt F)) :=
  [ StableHlo.TRef.nullary (.of main_call0_call0_cst : StableHlo.TRef sig ⟨S_, .f32⟩) (constant S_ .f32 0x3F800000#32),
    StableHlo.TRef.nullary (.of main_call0_call0_cst_0 : StableHlo.TRef sig ⟨S_, .f32⟩) (constant S_ .f32 0x00800000#32),
    StableHlo.TRef.unary (.of main_call0_call0_cst : StableHlo.TRef sig ⟨S_, .f32⟩) (.of main_call0_call0_call0_v0 : StableHlo.TRef sig ⟨S_, .f32⟩) id,
    StableHlo.TRef.unary (.of main_call0_call0_cst_0 : StableHlo.TRef sig ⟨S_, .f32⟩) (.of main_call0_call0_call0_v1 : StableHlo.TRef sig ⟨S1x1, .f32⟩) (broadcastInDim S1x1 ![] bcast_S_S1x1),
    StableHlo.TRef.unary (.of main_call0_call0_call0_v0 : StableHlo.TRef sig ⟨S_, .f32⟩) (.of main_call0_call0_call0_v2 : StableHlo.TRef sig ⟨S1x1, .f32⟩) (broadcastInDim S1x1 ![] bcast_S_S1x1),
    StableHlo.TRef.unary (.of main_call0_v6 : StableHlo.TRef sig ⟨S2, .i32⟩) (.of main_call0_call0_call0_v3 : StableHlo.TRef sig ⟨S1, .i32⟩) (extractStridedSlice S1 ![0] · slices_S2_S1_0),
    StableHlo.TRef.reshape (.of main_call0_call0_call0_v3 : StableHlo.TRef sig ⟨S1, .i32⟩) (.of main_call0_call0_call0_v4 : StableHlo.TRef sig ⟨S_, .i32⟩) (rfl : (.i32 : EltTy) = .i32) shapeCasts_S1_S_,
    StableHlo.TRef.unary (.of main_call0_v6 : StableHlo.TRef sig ⟨S2, .i32⟩) (.of main_call0_call0_call0_v5 : StableHlo.TRef sig ⟨S1, .i32⟩) (extractStridedSlice S1 ![1] · slices_S2_S1_1),
    StableHlo.TRef.reshape (.of main_call0_call0_call0_v5 : StableHlo.TRef sig ⟨S1, .i32⟩) (.of main_call0_call0_call0_v6 : StableHlo.TRef sig ⟨S_, .i32⟩) (rfl : (.i32 : EltTy) = .i32) shapeCasts_S1_S_,
    StableHlo.TRef.nullary (.of main_call0_call0_call0_v7 : StableHlo.TRef sig ⟨S1024x4096, .i64⟩) (iotaInDim S1024x4096 64 0),
    StableHlo.TRef.nullary (.of main_call0_call0_call0_v8 : StableHlo.TRef sig ⟨S1024x4096, .i64⟩) (iotaInDim S1024x4096 64 1),
    StableHlo.TRef.nullary (.of main_call0_call0_call0_c : StableHlo.TRef sig ⟨S_, .i64⟩) (constantI S_ 64 4096#64),
    StableHlo.TRef.unary (.of main_call0_call0_call0_c : StableHlo.TRef sig ⟨S_, .i64⟩) (.of main_call0_call0_call0_v9 : StableHlo.TRef sig ⟨S1024x4096, .i64⟩) (broadcastInDim S1024x4096 ![] bcast_S_S1024x4096),
    StableHlo.TRef.binary (.of main_call0_call0_call0_v9 : StableHlo.TRef sig ⟨S1024x4096, .i64⟩) (.of main_call0_call0_call0_v7 : StableHlo.TRef sig ⟨S1024x4096, .i64⟩) (.of main_call0_call0_call0_v10 : StableHlo.TRef sig ⟨S1024x4096, .i64⟩) muli,
    StableHlo.TRef.nullary (.of main_call0_call0_call0_c_0 : StableHlo.TRef sig ⟨S_, .i64⟩) (constantI S_ 64 1#64),
    StableHlo.TRef.unary (.of main_call0_call0_call0_c_0 : StableHlo.TRef sig ⟨S_, .i64⟩) (.of main_call0_call0_call0_v11 : StableHlo.TRef sig ⟨S1024x4096, .i64⟩) (broadcastInDim S1024x4096 ![] bcast_S_S1024x4096),
    StableHlo.TRef.binary (.of main_call0_call0_call0_v11 : StableHlo.TRef sig ⟨S1024x4096, .i64⟩) (.of main_call0_call0_call0_v8 : StableHlo.TRef sig ⟨S1024x4096, .i64⟩) (.of main_call0_call0_call0_v12 : StableHlo.TRef sig ⟨S1024x4096, .i64⟩) muli,
    StableHlo.TRef.binary (.of main_call0_call0_call0_v10 : StableHlo.TRef sig ⟨S1024x4096, .i64⟩) (.of main_call0_call0_call0_v12 : StableHlo.TRef sig ⟨S1024x4096, .i64⟩) (.of main_call0_call0_call0_v13 : StableHlo.TRef sig ⟨S1024x4096, .i64⟩) addi,
    StableHlo.TRef.nullary (.of main_call0_call0_call0_c_1 : StableHlo.TRef sig ⟨S_, .i64⟩) (constantI S_ 64 32#64),
    StableHlo.TRef.unary (.of main_call0_call0_call0_c_1 : StableHlo.TRef sig ⟨S_, .i64⟩) (.of main_call0_call0_call0_v14 : StableHlo.TRef sig ⟨S1024x4096, .i64⟩) (broadcastInDim S1024x4096 ![] bcast_S_S1024x4096),
    StableHlo.TRef.binary (.of main_call0_call0_call0_v13 : StableHlo.TRef sig ⟨S1024x4096, .i64⟩) (.of main_call0_call0_call0_v14 : StableHlo.TRef sig ⟨S1024x4096, .i64⟩) (.of main_call0_call0_call0_v15 : StableHlo.TRef sig ⟨S1024x4096, .i64⟩) Host.shrui,
    StableHlo.TRef.unary (.of main_call0_call0_call0_v13 : StableHlo.TRef sig ⟨S1024x4096, .i64⟩) (.of main_call0_call0_call0_v16 : StableHlo.TRef sig ⟨S1024x4096, .i32⟩) (trunci 32 · natLt_32_64),
    StableHlo.TRef.unary (.of main_call0_call0_call0_v15 : StableHlo.TRef sig ⟨S1024x4096, .i64⟩) (.of main_call0_call0_call0_v17 : StableHlo.TRef sig ⟨S1024x4096, .i32⟩) (trunci 32 · natLt_32_64) ]
set_option maxHeartbeats 4000000 in
/-- The mixing of the words, first part. -/
abbrev kT0 : List (HloOp τ sig (Elt F)) :=
  [ StableHlo.TRef.binary (.of main_call0_call0_call0_v4 : StableHlo.TRef sig ⟨S_, .i32⟩) (.of main_call0_call0_call0_v6 : StableHlo.TRef sig ⟨S_, .i32⟩) (.of main_call0_call0_call0_call0_v0 : StableHlo.TRef sig ⟨S_, .i32⟩) xori,
    StableHlo.TRef.nullary (.of main_call0_call0_call0_call0_c : StableHlo.TRef sig ⟨S_, .i32⟩) (constantI S_ 32 466688986#32),
    StableHlo.TRef.binary (.of main_call0_call0_call0_call0_v0 : StableHlo.TRef sig ⟨S_, .i32⟩) (.of main_call0_call0_call0_call0_c : StableHlo.TRef sig ⟨S_, .i32⟩) (.of main_call0_call0_call0_call0_v1 : StableHlo.TRef sig ⟨S_, .i32⟩) xori,
    StableHlo.TRef.unary (.of main_call0_call0_call0_v4 : StableHlo.TRef sig ⟨S_, .i32⟩) (.of main_call0_call0_call0_call0_v2 : StableHlo.TRef sig ⟨S1024x4096, .i32⟩) (broadcastInDim S1024x4096 ![] bcast_S_S1024x4096),
    StableHlo.TRef.binary (.of main_call0_call0_call0_v17 : StableHlo.TRef sig ⟨S1024x4096, .i32⟩) (.of main_call0_call0_call0_call0_v2 : StableHlo.TRef sig ⟨S1024x4096, .i32⟩) (.of main_call0_call0_call0_call0_v3 : StableHlo.TRef sig ⟨S1024x4096, .i32⟩) addi,
    StableHlo.TRef.unary (.of main_call0_call0_call0_v6 : StableHlo.TRef sig ⟨S_, .i32⟩) (.of main_call0_call0_call0_call0_v4 : StableHlo.TRef sig ⟨S1024x4096, .i32⟩) (broadcastInDim S1024x4096 ![] bcast_S_S1024x4096),
    StableHlo.TRef.binary (.of main_call0_call0_call0_v16 : StableHlo.TRef sig ⟨S1024x4096, .i32⟩) (.of main_call0_call0_call0_call0_v4 : StableHlo.TRef sig ⟨S1024x4096, .i32⟩) (.of main_call0_call0_call0_call0_v5 : StableHlo.TRef sig ⟨S1024x4096, .i32⟩) addi,
    StableHlo.TRef.binary (.of main_call0_call0_call0_call0_v3 : StableHlo.TRef sig ⟨S1024x4096, .i32⟩) (.of main_call0_call0_call0_call0_v5 : StableHlo.TRef sig ⟨S1024x4096, .i32⟩) (.of main_call0_call0_call0_call0_v6 : StableHlo.TRef sig ⟨S1024x4096, .i32⟩) addi,
    StableHlo.TRef.nullary (.of main_call0_call0_call0_call0_c_0 : StableHlo.TRef sig ⟨S_, .i32⟩) (constantI S_ 32 13#32),
    StableHlo.TRef.unary (.of main_call0_call0_call0_call0_c_0 : StableHlo.TRef sig ⟨S_, .i32⟩) (.of main_call0_call0_call0_call0_v7 : StableHlo.TRef sig ⟨S1024x4096, .i32⟩) (broadcastInDim S1024x4096 ![] bcast_S_S1024x4096),
    StableHlo.TRef.binary (.of main_call0_call0_call0_call0_v5 : StableHlo.TRef sig ⟨S1024x4096, .i32⟩) (.of main_call0_call0_call0_call0_v7 : StableHlo.TRef sig ⟨S1024x4096, .i32⟩) (.of main_call0_call0_call0_call0_v8 : StableHlo.TRef sig ⟨S1024x4096, .i32⟩) Host.shli,
    StableHlo.TRef.nullary (.of main_call0_call0_call0_call0_c_1 : StableHlo.TRef sig ⟨S_, .i32⟩) (constantI S_ 32 19#32),
    StableHlo.TRef.unary (.of main_call0_call0_call0_call0_c_1 : StableHlo.TRef sig ⟨S_, .i32⟩) (.of main_call0_call0_call0_call0_v9 : StableHlo.TRef sig ⟨S1024x4096, .i32⟩) (broadcastInDim S1024x4096 ![] bcast_S_S1024x4096),
    StableHlo.TRef.binary (.of main_call0_call0_call0_call0_v5 : StableHlo.TRef sig ⟨S1024x4096, .i32⟩) (.of main_call0_call0_call0_call0_v9 : StableHlo.TRef sig ⟨S1024x4096, .i32⟩) (.of main_call0_call0_call0_call0_v10 : StableHlo.TRef sig ⟨S1024x4096, .i32⟩) Host.shrui,
    StableHlo.TRef.binary (.of main_call0_call0_call0_call0_v8 : StableHlo.TRef sig ⟨S1024x4096, .i32⟩) (.of main_call0_call0_call0_call0_v10 : StableHlo.TRef sig ⟨S1024x4096, .i32⟩) (.of main_call0_call0_call0_call0_v11 : StableHlo.TRef sig ⟨S1024x4096, .i32⟩) ori,
    StableHlo.TRef.binary (.of main_call0_call0_call0_call0_v6 : StableHlo.TRef sig ⟨S1024x4096, .i32⟩) (.of main_call0_call0_call0_call0_v11 : StableHlo.TRef sig ⟨S1024x4096, .i32⟩) (.of main_call0_call0_call0_call0_v12 : StableHlo.TRef sig ⟨S1024x4096, .i32⟩) xori,
    StableHlo.TRef.binary (.of main_call0_call0_call0_call0_v6 : StableHlo.TRef sig ⟨S1024x4096, .i32⟩) (.of main_call0_call0_call0_call0_v12 : StableHlo.TRef sig ⟨S1024x4096, .i32⟩) (.of main_call0_call0_call0_call0_v13 : StableHlo.TRef sig ⟨S1024x4096, .i32⟩) addi,
    StableHlo.TRef.nullary (.of main_call0_call0_call0_call0_c_2 : StableHlo.TRef sig ⟨S_, .i32⟩) (constantI S_ 32 15#32),
    StableHlo.TRef.unary (.of main_call0_call0_call0_call0_c_2 : StableHlo.TRef sig ⟨S_, .i32⟩) (.of main_call0_call0_call0_call0_v14 : StableHlo.TRef sig ⟨S1024x4096, .i32⟩) (broadcastInDim S1024x4096 ![] bcast_S_S1024x4096),
    StableHlo.TRef.binary (.of main_call0_call0_call0_call0_v12 : StableHlo.TRef sig ⟨S1024x4096, .i32⟩) (.of main_call0_call0_call0_call0_v14 : StableHlo.TRef sig ⟨S1024x4096, .i32⟩) (.of main_call0_call0_call0_call0_v15 : StableHlo.TRef sig ⟨S1024x4096, .i32⟩) Host.shli,
    StableHlo.TRef.nullary (.of main_call0_call0_call0_call0_c_3 : StableHlo.TRef sig ⟨S_, .i32⟩) (constantI S_ 32 17#32),
    StableHlo.TRef.unary (.of main_call0_call0_call0_call0_c_3 : StableHlo.TRef sig ⟨S_, .i32⟩) (.of main_call0_call0_call0_call0_v16 : StableHlo.TRef sig ⟨S1024x4096, .i32⟩) (broadcastInDim S1024x4096 ![] bcast_S_S1024x4096),
    StableHlo.TRef.binary (.of main_call0_call0_call0_call0_v12 : StableHlo.TRef sig ⟨S1024x4096, .i32⟩) (.of main_call0_call0_call0_call0_v16 : StableHlo.TRef sig ⟨S1024x4096, .i32⟩) (.of main_call0_call0_call0_call0_v17 : StableHlo.TRef sig ⟨S1024x4096, .i32⟩) Host.shrui,
    StableHlo.TRef.binary (.of main_call0_call0_call0_call0_v15 : StableHlo.TRef sig ⟨S1024x4096, .i32⟩) (.of main_call0_call0_call0_call0_v17 : StableHlo.TRef sig ⟨S1024x4096, .i32⟩) (.of main_call0_call0_call0_call0_v18 : StableHlo.TRef sig ⟨S1024x4096, .i32⟩) ori,
    StableHlo.TRef.binary (.of main_call0_call0_call0_call0_v13 : StableHlo.TRef sig ⟨S1024x4096, .i32⟩) (.of main_call0_call0_call0_call0_v18 : StableHlo.TRef sig ⟨S1024x4096, .i32⟩) (.of main_call0_call0_call0_call0_v19 : StableHlo.TRef sig ⟨S1024x4096, .i32⟩) xori,
    StableHlo.TRef.binary (.of main_call0_call0_call0_call0_v13 : StableHlo.TRef sig ⟨S1024x4096, .i32⟩) (.of main_call0_call0_call0_call0_v19 : StableHlo.TRef sig ⟨S1024x4096, .i32⟩) (.of main_call0_call0_call0_call0_v20 : StableHlo.TRef sig ⟨S1024x4096, .i32⟩) addi,
    StableHlo.TRef.nullary (.of main_call0_call0_call0_call0_c_4 : StableHlo.TRef sig ⟨S_, .i32⟩) (constantI S_ 32 26#32),
    StableHlo.TRef.unary (.of main_call0_call0_call0_call0_c_4 : StableHlo.TRef sig ⟨S_, .i32⟩) (.of main_call0_call0_call0_call0_v21 : StableHlo.TRef sig ⟨S1024x4096, .i32⟩) (broadcastInDim S1024x4096 ![] bcast_S_S1024x4096),
    StableHlo.TRef.binary (.of main_call0_call0_call0_call0_v19 : StableHlo.TRef sig ⟨S1024x4096, .i32⟩) (.of main_call0_call0_call0_call0_v21 : StableHlo.TRef sig ⟨S1024x4096, .i32⟩) (.of main_call0_call0_call0_call0_v22 : StableHlo.TRef sig ⟨S1024x4096, .i32⟩) Host.shli,
    StableHlo.TRef.nullary (.of main_call0_call0_call0_call0_c_5 : StableHlo.TRef sig ⟨S_, .i32⟩) (constantI S_ 32 6#32),
    StableHlo.TRef.unary (.of main_call0_call0_call0_call0_c_5 : StableHlo.TRef sig ⟨S_, .i32⟩) (.of main_call0_call0_call0_call0_v23 : StableHlo.TRef sig ⟨S1024x4096, .i32⟩) (broadcastInDim S1024x4096 ![] bcast_S_S1024x4096),
    StableHlo.TRef.binary (.of main_call0_call0_call0_call0_v19 : StableHlo.TRef sig ⟨S1024x4096, .i32⟩) (.of main_call0_call0_call0_call0_v23 : StableHlo.TRef sig ⟨S1024x4096, .i32⟩) (.of main_call0_call0_call0_call0_v24 : StableHlo.TRef sig ⟨S1024x4096, .i32⟩) Host.shrui,
    StableHlo.TRef.binary (.of main_call0_call0_call0_call0_v22 : StableHlo.TRef sig ⟨S1024x4096, .i32⟩) (.of main_call0_call0_call0_call0_v24 : StableHlo.TRef sig ⟨S1024x4096, .i32⟩) (.of main_call0_call0_call0_call0_v25 : StableHlo.TRef sig ⟨S1024x4096, .i32⟩) ori,
    StableHlo.TRef.binary (.of main_call0_call0_call0_call0_v20 : StableHlo.TRef sig ⟨S1024x4096, .i32⟩) (.of main_call0_call0_call0_call0_v25 : StableHlo.TRef sig ⟨S1024x4096, .i32⟩) (.of main_call0_call0_call0_call0_v26 : StableHlo.TRef sig ⟨S1024x4096, .i32⟩) xori,
    StableHlo.TRef.binary (.of main_call0_call0_call0_call0_v20 : StableHlo.TRef sig ⟨S1024x4096, .i32⟩) (.of main_call0_call0_call0_call0_v26 : StableHlo.TRef sig ⟨S1024x4096, .i32⟩) (.of main_call0_call0_call0_call0_v27 : StableHlo.TRef sig ⟨S1024x4096, .i32⟩) addi,
    StableHlo.TRef.nullary (.of main_call0_call0_call0_call0_c_6 : StableHlo.TRef sig ⟨S_, .i32⟩) (constantI S_ 32 6#32),
    StableHlo.TRef.unary (.of main_call0_call0_call0_call0_c_6 : StableHlo.TRef sig ⟨S_, .i32⟩) (.of main_call0_call0_call0_call0_v28 : StableHlo.TRef sig ⟨S1024x4096, .i32⟩) (broadcastInDim S1024x4096 ![] bcast_S_S1024x4096),
    StableHlo.TRef.binary (.of main_call0_call0_call0_call0_v26 : StableHlo.TRef sig ⟨S1024x4096, .i32⟩) (.of main_call0_call0_call0_call0_v28 : StableHlo.TRef sig ⟨S1024x4096, .i32⟩) (.of main_call0_call0_call0_call0_v29 : StableHlo.TRef sig ⟨S1024x4096, .i32⟩) Host.shli,
    StableHlo.TRef.nullary (.of main_call0_call0_call0_call0_c_7 : StableHlo.TRef sig ⟨S_, .i32⟩) (constantI S_ 32 26#32),
    StableHlo.TRef.unary (.of main_call0_call0_call0_call0_c_7 : StableHlo.TRef sig ⟨S_, .i32⟩) (.of main_call0_call0_call0_call0_v30 : StableHlo.TRef sig ⟨S1024x4096, .i32⟩) (broadcastInDim S1024x4096 ![] bcast_S_S1024x4096),
    StableHlo.TRef.binary (.of main_call0_call0_call0_call0_v26 : StableHlo.TRef sig ⟨S1024x4096, .i32⟩) (.of main_call0_call0_call0_call0_v30 : StableHlo.TRef sig ⟨S1024x4096, .i32⟩) (.of main_call0_call0_call0_call0_v31 : StableHlo.TRef sig ⟨S1024x4096, .i32⟩) Host.shrui,
    StableHlo.TRef.binary (.of main_call0_call0_call0_call0_v29 : StableHlo.TRef sig ⟨S1024x4096, .i32⟩) (.of main_call0_call0_call0_call0_v31 : StableHlo.TRef sig ⟨S1024x4096, .i32⟩) (.of main_call0_call0_call0_call0_v32 : StableHlo.TRef sig ⟨S1024x4096, .i32⟩) ori,
    StableHlo.TRef.binary (.of main_call0_call0_call0_call0_v27 : StableHlo.TRef sig ⟨S1024x4096, .i32⟩) (.of main_call0_call0_call0_call0_v32 : StableHlo.TRef sig ⟨S1024x4096, .i32⟩) (.of main_call0_call0_call0_call0_v33 : StableHlo.TRef sig ⟨S1024x4096, .i32⟩) xori,
    StableHlo.TRef.unary (.of main_call0_call0_call0_v6 : StableHlo.TRef sig ⟨S_, .i32⟩) (.of main_call0_call0_call0_call0_v34 : StableHlo.TRef sig ⟨S1024x4096, .i32⟩) (broadcastInDim S1024x4096 ![] bcast_S_S1024x4096),
    StableHlo.TRef.binary (.of main_call0_call0_call0_call0_v27 : StableHlo.TRef sig ⟨S1024x4096, .i32⟩) (.of main_call0_call0_call0_call0_v34 : StableHlo.TRef sig ⟨S1024x4096, .i32⟩) (.of main_call0_call0_call0_call0_v35 : StableHlo.TRef sig ⟨S1024x4096, .i32⟩) addi,
    StableHlo.TRef.unary (.of main_call0_call0_call0_call0_v1 : StableHlo.TRef sig ⟨S_, .i32⟩) (.of main_call0_call0_call0_call0_v36 : StableHlo.TRef sig ⟨S1024x4096, .i32⟩) (broadcastInDim S1024x4096 ![] bcast_S_S1024x4096),
    StableHlo.TRef.binary (.of main_call0_call0_call0_call0_v33 : StableHlo.TRef sig ⟨S1024x4096, .i32⟩) (.of main_call0_call0_call0_call0_v36 : StableHlo.TRef sig ⟨S1024x4096, .i32⟩) (.of main_call0_call0_call0_call0_v37 : StableHlo.TRef sig ⟨S1024x4096, .i32⟩) addi,
    StableHlo.TRef.nullary (.of main_call0_call0_call0_call0_c_8 : StableHlo.TRef sig ⟨S_, .i32⟩) (constantI S_ 32 1#32),
    StableHlo.TRef.unary (.of main_call0_call0_call0_call0_c_8 : StableHlo.TRef sig ⟨S_, .i32⟩) (.of main_call0_call0_call0_call0_v38 : StableHlo.TRef sig ⟨S1024x4096, .i32⟩) (broadcastInDim S1024x4096 ![] bcast_S_S1024x4096),
    StableHlo.TRef.binary (.of main_call0_call0_call0_call0_v37 : StableHlo.TRef sig ⟨S1024x4096, .i32⟩) (.of main_call0_call0_call0_call0_v38 : StableHlo.TRef sig ⟨S1024x4096, .i32⟩) (.of main_call0_call0_call0_call0_v39 : StableHlo.TRef sig ⟨S1024x4096, .i32⟩) addi,
    StableHlo.TRef.binary (.of main_call0_call0_call0_call0_v35 : StableHlo.TRef sig ⟨S1024x4096, .i32⟩) (.of main_call0_call0_call0_call0_v39 : StableHlo.TRef sig ⟨S1024x4096, .i32⟩) (.of main_call0_call0_call0_call0_v40 : StableHlo.TRef sig ⟨S1024x4096, .i32⟩) addi,
    StableHlo.TRef.nullary (.of main_call0_call0_call0_call0_c_9 : StableHlo.TRef sig ⟨S_, .i32⟩) (constantI S_ 32 17#32),
    StableHlo.TRef.unary (.of main_call0_call0_call0_call0_c_9 : StableHlo.TRef sig ⟨S_, .i32⟩) (.of main_call0_call0_call0_call0_v41 : StableHlo.TRef sig ⟨S1024x4096, .i32⟩) (broadcastInDim S1024x4096 ![] bcast_S_S1024x4096),
    StableHlo.TRef.binary (.of main_call0_call0_call0_call0_v39 : StableHlo.TRef sig ⟨S1024x4096, .i32⟩) (.of main_call0_call0_call0_call0_v41 : StableHlo.TRef sig ⟨S1024x4096, .i32⟩) (.of main_call0_call0_call0_call0_v42 : StableHlo.TRef sig ⟨S1024x4096, .i32⟩) Host.shli,
    StableHlo.TRef.nullary (.of main_call0_call0_call0_call0_c_10 : StableHlo.TRef sig ⟨S_, .i32⟩) (constantI S_ 32 15#32),
    StableHlo.TRef.unary (.of main_call0_call0_call0_call0_c_10 : StableHlo.TRef sig ⟨S_, .i32⟩) (.of main_call0_call0_call0_call0_v43 : StableHlo.TRef sig ⟨S1024x4096, .i32⟩) (broadcastInDim S1024x4096 ![] bcast_S_S1024x4096),
    StableHlo.TRef.binary (.of main_call0_call0_call0_call0_v39 : StableHlo.TRef sig ⟨S1024x4096, .i32⟩) (.of main_call0_call0_call0_call0_v43 : StableHlo.TRef sig ⟨S1024x4096, .i32⟩) (.of main_call0_call0_call0_call0_v44 : StableHlo.TRef sig ⟨S1024x4096, .i32⟩) Host.shrui,
    StableHlo.TRef.binary (.of main_call0_call0_call0_call0_v42 : StableHlo.TRef sig ⟨S1024x4096, .i32⟩) (.of main_call0_call0_call0_call0_v44 : StableHlo.TRef sig ⟨S1024x4096, .i32⟩) (.of main_call0_call0_call0_call0_v45 : StableHlo.TRef sig ⟨S1024x4096, .i32⟩) ori,
    StableHlo.TRef.binary (.of main_call0_call0_call0_call0_v40 : StableHlo.TRef sig ⟨S1024x4096, .i32⟩) (.of main_call0_call0_call0_call0_v45 : StableHlo.TRef sig ⟨S1024x4096, .i32⟩) (.of main_call0_call0_call0_call0_v46 : StableHlo.TRef sig ⟨S1024x4096, .i32⟩) xori,
    StableHlo.TRef.binary (.of main_call0_call0_call0_call0_v40 : StableHlo.TRef sig ⟨S1024x4096, .i32⟩) (.of main_call0_call0_call0_call0_v46 : StableHlo.TRef sig ⟨S1024x4096, .i32⟩) (.of main_call0_call0_call0_call0_v47 : StableHlo.TRef sig ⟨S1024x4096, .i32⟩) addi ]
set_option maxHeartbeats 4000000 in
/-- The mixing of the words, second part. -/
abbrev kT1 : List (HloOp τ sig (Elt F)) :=
  [ StableHlo.TRef.nullary (.of main_call0_call0_call0_call0_c_11 : StableHlo.TRef sig ⟨S_, .i32⟩) (constantI S_ 32 29#32),
    StableHlo.TRef.unary (.of main_call0_call0_call0_call0_c_11 : StableHlo.TRef sig ⟨S_, .i32⟩) (.of main_call0_call0_call0_call0_v48 : StableHlo.TRef sig ⟨S1024x4096, .i32⟩) (broadcastInDim S1024x4096 ![] bcast_S_S1024x4096),
    StableHlo.TRef.binary (.of main_call0_call0_call0_call0_v46 : StableHlo.TRef sig ⟨S1024x4096, .i32⟩) (.of main_call0_call0_call0_call0_v48 : StableHlo.TRef sig ⟨S1024x4096, .i32⟩) (.of main_call0_call0_call0_call0_v49 : StableHlo.TRef sig ⟨S1024x4096, .i32⟩) Host.shli,
    StableHlo.TRef.nullary (.of main_call0_call0_call0_call0_c_12 : StableHlo.TRef sig ⟨S_, .i32⟩) (constantI S_ 32 3#32),
    StableHlo.TRef.unary (.of main_call0_call0_call0_call0_c_12 : StableHlo.TRef sig ⟨S_, .i32⟩) (.of main_call0_call0_call0_call0_v50 : StableHlo.TRef sig ⟨S1024x4096, .i32⟩) (broadcastInDim S1024x4096 ![] bcast_S_S1024x4096),
    StableHlo.TRef.binary (.of main_call0_call0_call0_call0_v46 : StableHlo.TRef sig ⟨S1024x4096, .i32⟩) (.of main_call0_call0_call0_call0_v50 : StableHlo.TRef sig ⟨S1024x4096, .i32⟩) (.of main_call0_call0_call0_call0_v51 : StableHlo.TRef sig ⟨S1024x4096, .i32⟩) Host.shrui,
    StableHlo.TRef.binary (.of main_call0_call0_call0_call0_v49 : StableHlo.TRef sig ⟨S1024x4096, .i32⟩) (.of main_call0_call0_call0_call0_v51 : StableHlo.TRef sig ⟨S1024x4096, .i32⟩) (.of main_call0_call0_call0_call0_v52 : StableHlo.TRef sig ⟨S1024x4096, .i32⟩) ori,
    StableHlo.TRef.binary (.of main_call0_call0_call0_call0_v47 : StableHlo.TRef sig ⟨S1024x4096, .i32⟩) (.of main_call0_call0_call0_call0_v52 : StableHlo.TRef sig ⟨S1024x4096, .i32⟩) (.of main_call0_call0_call0_call0_v53 : StableHlo.TRef sig ⟨S1024x4096, .i32⟩) xori,
    StableHlo.TRef.binary (.of main_call0_call0_call0_call0_v47 : StableHlo.TRef sig ⟨S1024x4096, .i32⟩) (.of main_call0_call0_call0_call0_v53 : StableHlo.TRef sig ⟨S1024x4096, .i32⟩) (.of main_call0_call0_call0_call0_v54 : StableHlo.TRef sig ⟨S1024x4096, .i32⟩) addi,
    StableHlo.TRef.nullary (.of main_call0_call0_call0_call0_c_13 : StableHlo.TRef sig ⟨S_, .i32⟩) (constantI S_ 32 16#32),
    StableHlo.TRef.unary (.of main_call0_call0_call0_call0_c_13 : StableHlo.TRef sig ⟨S_, .i32⟩) (.of main_call0_call0_call0_call0_v55 : StableHlo.TRef sig ⟨S1024x4096, .i32⟩) (broadcastInDim S1024x4096 ![] bcast_S_S1024x4096),
    StableHlo.TRef.binary (.of main_call0_call0_call0_call0_v53 : StableHlo.TRef sig ⟨S1024x4096, .i32⟩) (.of main_call0_call0_call0_call0_v55 : StableHlo.TRef sig ⟨S1024x4096, .i32⟩) (.of main_call0_call0_call0_call0_v56 : StableHlo.TRef sig ⟨S1024x4096, .i32⟩) Host.shli,
    StableHlo.TRef.nullary (.of main_call0_call0_call0_call0_c_14 : StableHlo.TRef sig ⟨S_, .i32⟩) (constantI S_ 32 16#32),
    StableHlo.TRef.unary (.of main_call0_call0_call0_call0_c_14 : StableHlo.TRef sig ⟨S_, .i32⟩) (.of main_call0_call0_call0_call0_v57 : StableHlo.TRef sig ⟨S1024x4096, .i32⟩) (broadcastInDim S1024x4096 ![] bcast_S_S1024x4096),
    StableHlo.TRef.binary (.of main_call0_call0_call0_call0_v53 : StableHlo.TRef sig ⟨S1024x4096, .i32⟩) (.of main_call0_call0_call0_call0_v57 : StableHlo.TRef sig ⟨S1024x4096, .i32⟩) (.of main_call0_call0_call0_call0_v58 : StableHlo.TRef sig ⟨S1024x4096, .i32⟩) Host.shrui,
    StableHlo.TRef.binary (.of main_call0_call0_call0_call0_v56 : StableHlo.TRef sig ⟨S1024x4096, .i32⟩) (.of main_call0_call0_call0_call0_v58 : StableHlo.TRef sig ⟨S1024x4096, .i32⟩) (.of main_call0_call0_call0_call0_v59 : StableHlo.TRef sig ⟨S1024x4096, .i32⟩) ori,
    StableHlo.TRef.binary (.of main_call0_call0_call0_call0_v54 : StableHlo.TRef sig ⟨S1024x4096, .i32⟩) (.of main_call0_call0_call0_call0_v59 : StableHlo.TRef sig ⟨S1024x4096, .i32⟩) (.of main_call0_call0_call0_call0_v60 : StableHlo.TRef sig ⟨S1024x4096, .i32⟩) xori,
    StableHlo.TRef.binary (.of main_call0_call0_call0_call0_v54 : StableHlo.TRef sig ⟨S1024x4096, .i32⟩) (.of main_call0_call0_call0_call0_v60 : StableHlo.TRef sig ⟨S1024x4096, .i32⟩) (.of main_call0_call0_call0_call0_v61 : StableHlo.TRef sig ⟨S1024x4096, .i32⟩) addi,
    StableHlo.TRef.nullary (.of main_call0_call0_call0_call0_c_15 : StableHlo.TRef sig ⟨S_, .i32⟩) (constantI S_ 32 24#32),
    StableHlo.TRef.unary (.of main_call0_call0_call0_call0_c_15 : StableHlo.TRef sig ⟨S_, .i32⟩) (.of main_call0_call0_call0_call0_v62 : StableHlo.TRef sig ⟨S1024x4096, .i32⟩) (broadcastInDim S1024x4096 ![] bcast_S_S1024x4096),
    StableHlo.TRef.binary (.of main_call0_call0_call0_call0_v60 : StableHlo.TRef sig ⟨S1024x4096, .i32⟩) (.of main_call0_call0_call0_call0_v62 : StableHlo.TRef sig ⟨S1024x4096, .i32⟩) (.of main_call0_call0_call0_call0_v63 : StableHlo.TRef sig ⟨S1024x4096, .i32⟩) Host.shli,
    StableHlo.TRef.nullary (.of main_call0_call0_call0_call0_c_16 : StableHlo.TRef sig ⟨S_, .i32⟩) (constantI S_ 32 8#32),
    StableHlo.TRef.unary (.of main_call0_call0_call0_call0_c_16 : StableHlo.TRef sig ⟨S_, .i32⟩) (.of main_call0_call0_call0_call0_v64 : StableHlo.TRef sig ⟨S1024x4096, .i32⟩) (broadcastInDim S1024x4096 ![] bcast_S_S1024x4096),
    StableHlo.TRef.binary (.of main_call0_call0_call0_call0_v60 : StableHlo.TRef sig ⟨S1024x4096, .i32⟩) (.of main_call0_call0_call0_call0_v64 : StableHlo.TRef sig ⟨S1024x4096, .i32⟩) (.of main_call0_call0_call0_call0_v65 : StableHlo.TRef sig ⟨S1024x4096, .i32⟩) Host.shrui,
    StableHlo.TRef.binary (.of main_call0_call0_call0_call0_v63 : StableHlo.TRef sig ⟨S1024x4096, .i32⟩) (.of main_call0_call0_call0_call0_v65 : StableHlo.TRef sig ⟨S1024x4096, .i32⟩) (.of main_call0_call0_call0_call0_v66 : StableHlo.TRef sig ⟨S1024x4096, .i32⟩) ori,
    StableHlo.TRef.binary (.of main_call0_call0_call0_call0_v61 : StableHlo.TRef sig ⟨S1024x4096, .i32⟩) (.of main_call0_call0_call0_call0_v66 : StableHlo.TRef sig ⟨S1024x4096, .i32⟩) (.of main_call0_call0_call0_call0_v67 : StableHlo.TRef sig ⟨S1024x4096, .i32⟩) xori,
    StableHlo.TRef.unary (.of main_call0_call0_call0_call0_v1 : StableHlo.TRef sig ⟨S_, .i32⟩) (.of main_call0_call0_call0_call0_v68 : StableHlo.TRef sig ⟨S1024x4096, .i32⟩) (broadcastInDim S1024x4096 ![] bcast_S_S1024x4096),
    StableHlo.TRef.binary (.of main_call0_call0_call0_call0_v61 : StableHlo.TRef sig ⟨S1024x4096, .i32⟩) (.of main_call0_call0_call0_call0_v68 : StableHlo.TRef sig ⟨S1024x4096, .i32⟩) (.of main_call0_call0_call0_call0_v69 : StableHlo.TRef sig ⟨S1024x4096, .i32⟩) addi,
    StableHlo.TRef.unary (.of main_call0_call0_call0_v4 : StableHlo.TRef sig ⟨S_, .i32⟩) (.of main_call0_call0_call0_call0_v70 : StableHlo.TRef sig ⟨S1024x4096, .i32⟩) (broadcastInDim S1024x4096 ![] bcast_S_S1024x4096),
    StableHlo.TRef.binary (.of main_call0_call0_call0_call0_v67 : StableHlo.TRef sig ⟨S1024x4096, .i32⟩) (.of main_call0_call0_call0_call0_v70 : StableHlo.TRef sig ⟨S1024x4096, .i32⟩) (.of main_call0_call0_call0_call0_v71 : StableHlo.TRef sig ⟨S1024x4096, .i32⟩) addi,
    StableHlo.TRef.nullary (.of main_call0_call0_call0_call0_c_17 : StableHlo.TRef sig ⟨S_, .i32⟩) (constantI S_ 32 2#32),
    StableHlo.TRef.unary (.of main_call0_call0_call0_call0_c_17 : StableHlo.TRef sig ⟨S_, .i32⟩) (.of main_call0_call0_call0_call0_v72 : StableHlo.TRef sig ⟨S1024x4096, .i32⟩) (broadcastInDim S1024x4096 ![] bcast_S_S1024x4096),
    StableHlo.TRef.binary (.of main_call0_call0_call0_call0_v71 : StableHlo.TRef sig ⟨S1024x4096, .i32⟩) (.of main_call0_call0_call0_call0_v72 : StableHlo.TRef sig ⟨S1024x4096, .i32⟩) (.of main_call0_call0_call0_call0_v73 : StableHlo.TRef sig ⟨S1024x4096, .i32⟩) addi,
    StableHlo.TRef.binary (.of main_call0_call0_call0_call0_v69 : StableHlo.TRef sig ⟨S1024x4096, .i32⟩) (.of main_call0_call0_call0_call0_v73 : StableHlo.TRef sig ⟨S1024x4096, .i32⟩) (.of main_call0_call0_call0_call0_v74 : StableHlo.TRef sig ⟨S1024x4096, .i32⟩) addi,
    StableHlo.TRef.nullary (.of main_call0_call0_call0_call0_c_18 : StableHlo.TRef sig ⟨S_, .i32⟩) (constantI S_ 32 13#32),
    StableHlo.TRef.unary (.of main_call0_call0_call0_call0_c_18 : StableHlo.TRef sig ⟨S_, .i32⟩) (.of main_call0_call0_call0_call0_v75 : StableHlo.TRef sig ⟨S1024x4096, .i32⟩) (broadcastInDim S1024x4096 ![] bcast_S_S1024x4096),
    StableHlo.TRef.binary (.of main_call0_call0_call0_call0_v73 : StableHlo.TRef sig ⟨S1024x4096, .i32⟩) (.of main_call0_call0_call0_call0_v75 : StableHlo.TRef sig ⟨S1024x4096, .i32⟩) (.of main_call0_call0_call0_call0_v76 : StableHlo.TRef sig ⟨S1024x4096, .i32⟩) Host.shli,
    StableHlo.TRef.nullary (.of main_call0_call0_call0_call0_c_19 : StableHlo.TRef sig ⟨S_, .i32⟩) (constantI S_ 32 19#32),
    StableHlo.TRef.unary (.of main_call0_call0_call0_call0_c_19 : StableHlo.TRef sig ⟨S_, .i32⟩) (.of main_call0_call0_call0_call0_v77 : StableHlo.TRef sig ⟨S1024x4096, .i32⟩) (broadcastInDim S1024x4096 ![] bcast_S_S1024x4096),
    StableHlo.TRef.binary (.of main_call0_call0_call0_call0_v73 : StableHlo.TRef sig ⟨S1024x4096, .i32⟩) (.of main_call0_call0_call0_call0_v77 : StableHlo.TRef sig ⟨S1024x4096, .i32⟩) (.of main_call0_call0_call0_call0_v78 : StableHlo.TRef sig ⟨S1024x4096, .i32⟩) Host.shrui,
    StableHlo.TRef.binary (.of main_call0_call0_call0_call0_v76 : StableHlo.TRef sig ⟨S1024x4096, .i32⟩) (.of main_call0_call0_call0_call0_v78 : StableHlo.TRef sig ⟨S1024x4096, .i32⟩) (.of main_call0_call0_call0_call0_v79 : StableHlo.TRef sig ⟨S1024x4096, .i32⟩) ori,
    StableHlo.TRef.binary (.of main_call0_call0_call0_call0_v74 : StableHlo.TRef sig ⟨S1024x4096, .i32⟩) (.of main_call0_call0_call0_call0_v79 : StableHlo.TRef sig ⟨S1024x4096, .i32⟩) (.of main_call0_call0_call0_call0_v80 : StableHlo.TRef sig ⟨S1024x4096, .i32⟩) xori,
    StableHlo.TRef.binary (.of main_call0_call0_call0_call0_v74 : StableHlo.TRef sig ⟨S1024x4096, .i32⟩) (.of main_call0_call0_call0_call0_v80 : StableHlo.TRef sig ⟨S1024x4096, .i32⟩) (.of main_call0_call0_call0_call0_v81 : StableHlo.TRef sig ⟨S1024x4096, .i32⟩) addi,
    StableHlo.TRef.nullary (.of main_call0_call0_call0_call0_c_20 : StableHlo.TRef sig ⟨S_, .i32⟩) (constantI S_ 32 15#32),
    StableHlo.TRef.unary (.of main_call0_call0_call0_call0_c_20 : StableHlo.TRef sig ⟨S_, .i32⟩) (.of main_call0_call0_call0_call0_v82 : StableHlo.TRef sig ⟨S1024x4096, .i32⟩) (broadcastInDim S1024x4096 ![] bcast_S_S1024x4096),
    StableHlo.TRef.binary (.of main_call0_call0_call0_call0_v80 : StableHlo.TRef sig ⟨S1024x4096, .i32⟩) (.of main_call0_call0_call0_call0_v82 : StableHlo.TRef sig ⟨S1024x4096, .i32⟩) (.of main_call0_call0_call0_call0_v83 : StableHlo.TRef sig ⟨S1024x4096, .i32⟩) Host.shli,
    StableHlo.TRef.nullary (.of main_call0_call0_call0_call0_c_21 : StableHlo.TRef sig ⟨S_, .i32⟩) (constantI S_ 32 17#32),
    StableHlo.TRef.unary (.of main_call0_call0_call0_call0_c_21 : StableHlo.TRef sig ⟨S_, .i32⟩) (.of main_call0_call0_call0_call0_v84 : StableHlo.TRef sig ⟨S1024x4096, .i32⟩) (broadcastInDim S1024x4096 ![] bcast_S_S1024x4096),
    StableHlo.TRef.binary (.of main_call0_call0_call0_call0_v80 : StableHlo.TRef sig ⟨S1024x4096, .i32⟩) (.of main_call0_call0_call0_call0_v84 : StableHlo.TRef sig ⟨S1024x4096, .i32⟩) (.of main_call0_call0_call0_call0_v85 : StableHlo.TRef sig ⟨S1024x4096, .i32⟩) Host.shrui,
    StableHlo.TRef.binary (.of main_call0_call0_call0_call0_v83 : StableHlo.TRef sig ⟨S1024x4096, .i32⟩) (.of main_call0_call0_call0_call0_v85 : StableHlo.TRef sig ⟨S1024x4096, .i32⟩) (.of main_call0_call0_call0_call0_v86 : StableHlo.TRef sig ⟨S1024x4096, .i32⟩) ori,
    StableHlo.TRef.binary (.of main_call0_call0_call0_call0_v81 : StableHlo.TRef sig ⟨S1024x4096, .i32⟩) (.of main_call0_call0_call0_call0_v86 : StableHlo.TRef sig ⟨S1024x4096, .i32⟩) (.of main_call0_call0_call0_call0_v87 : StableHlo.TRef sig ⟨S1024x4096, .i32⟩) xori,
    StableHlo.TRef.binary (.of main_call0_call0_call0_call0_v81 : StableHlo.TRef sig ⟨S1024x4096, .i32⟩) (.of main_call0_call0_call0_call0_v87 : StableHlo.TRef sig ⟨S1024x4096, .i32⟩) (.of main_call0_call0_call0_call0_v88 : StableHlo.TRef sig ⟨S1024x4096, .i32⟩) addi,
    StableHlo.TRef.nullary (.of main_call0_call0_call0_call0_c_22 : StableHlo.TRef sig ⟨S_, .i32⟩) (constantI S_ 32 26#32),
    StableHlo.TRef.unary (.of main_call0_call0_call0_call0_c_22 : StableHlo.TRef sig ⟨S_, .i32⟩) (.of main_call0_call0_call0_call0_v89 : StableHlo.TRef sig ⟨S1024x4096, .i32⟩) (broadcastInDim S1024x4096 ![] bcast_S_S1024x4096),
    StableHlo.TRef.binary (.of main_call0_call0_call0_call0_v87 : StableHlo.TRef sig ⟨S1024x4096, .i32⟩) (.of main_call0_call0_call0_call0_v89 : StableHlo.TRef sig ⟨S1024x4096, .i32⟩) (.of main_call0_call0_call0_call0_v90 : StableHlo.TRef sig ⟨S1024x4096, .i32⟩) Host.shli,
    StableHlo.TRef.nullary (.of main_call0_call0_call0_call0_c_23 : StableHlo.TRef sig ⟨S_, .i32⟩) (constantI S_ 32 6#32),
    StableHlo.TRef.unary (.of main_call0_call0_call0_call0_c_23 : StableHlo.TRef sig ⟨S_, .i32⟩) (.of main_call0_call0_call0_call0_v91 : StableHlo.TRef sig ⟨S1024x4096, .i32⟩) (broadcastInDim S1024x4096 ![] bcast_S_S1024x4096),
    StableHlo.TRef.binary (.of main_call0_call0_call0_call0_v87 : StableHlo.TRef sig ⟨S1024x4096, .i32⟩) (.of main_call0_call0_call0_call0_v91 : StableHlo.TRef sig ⟨S1024x4096, .i32⟩) (.of main_call0_call0_call0_call0_v92 : StableHlo.TRef sig ⟨S1024x4096, .i32⟩) Host.shrui,
    StableHlo.TRef.binary (.of main_call0_call0_call0_call0_v90 : StableHlo.TRef sig ⟨S1024x4096, .i32⟩) (.of main_call0_call0_call0_call0_v92 : StableHlo.TRef sig ⟨S1024x4096, .i32⟩) (.of main_call0_call0_call0_call0_v93 : StableHlo.TRef sig ⟨S1024x4096, .i32⟩) ori,
    StableHlo.TRef.binary (.of main_call0_call0_call0_call0_v88 : StableHlo.TRef sig ⟨S1024x4096, .i32⟩) (.of main_call0_call0_call0_call0_v93 : StableHlo.TRef sig ⟨S1024x4096, .i32⟩) (.of main_call0_call0_call0_call0_v94 : StableHlo.TRef sig ⟨S1024x4096, .i32⟩) xori ]
set_option maxHeartbeats 4000000 in
/-- The mixing of the words, third part. -/
abbrev kT2 : List (HloOp τ sig (Elt F)) :=
  [ StableHlo.TRef.binary (.of main_call0_call0_call0_call0_v88 : StableHlo.TRef sig ⟨S1024x4096, .i32⟩) (.of main_call0_call0_call0_call0_v94 : StableHlo.TRef sig ⟨S1024x4096, .i32⟩) (.of main_call0_call0_call0_call0_v95 : StableHlo.TRef sig ⟨S1024x4096, .i32⟩) addi,
    StableHlo.TRef.nullary (.of main_call0_call0_call0_call0_c_24 : StableHlo.TRef sig ⟨S_, .i32⟩) (constantI S_ 32 6#32),
    StableHlo.TRef.unary (.of main_call0_call0_call0_call0_c_24 : StableHlo.TRef sig ⟨S_, .i32⟩) (.of main_call0_call0_call0_call0_v96 : StableHlo.TRef sig ⟨S1024x4096, .i32⟩) (broadcastInDim S1024x4096 ![] bcast_S_S1024x4096),
    StableHlo.TRef.binary (.of main_call0_call0_call0_call0_v94 : StableHlo.TRef sig ⟨S1024x4096, .i32⟩) (.of main_call0_call0_call0_call0_v96 : StableHlo.TRef sig ⟨S1024x4096, .i32⟩) (.of main_call0_call0_call0_call0_v97 : StableHlo.TRef sig ⟨S1024x4096, .i32⟩) Host.shli,
    StableHlo.TRef.nullary (.of main_call0_call0_call0_call0_c_25 : StableHlo.TRef sig ⟨S_, .i32⟩) (constantI S_ 32 26#32),
    StableHlo.TRef.unary (.of main_call0_call0_call0_call0_c_25 : StableHlo.TRef sig ⟨S_, .i32⟩) (.of main_call0_call0_call0_call0_v98 : StableHlo.TRef sig ⟨S1024x4096, .i32⟩) (broadcastInDim S1024x4096 ![] bcast_S_S1024x4096),
    StableHlo.TRef.binary (.of main_call0_call0_call0_call0_v94 : StableHlo.TRef sig ⟨S1024x4096, .i32⟩) (.of main_call0_call0_call0_call0_v98 : StableHlo.TRef sig ⟨S1024x4096, .i32⟩) (.of main_call0_call0_call0_call0_v99 : StableHlo.TRef sig ⟨S1024x4096, .i32⟩) Host.shrui,
    StableHlo.TRef.binary (.of main_call0_call0_call0_call0_v97 : StableHlo.TRef sig ⟨S1024x4096, .i32⟩) (.of main_call0_call0_call0_call0_v99 : StableHlo.TRef sig ⟨S1024x4096, .i32⟩) (.of main_call0_call0_call0_call0_v100 : StableHlo.TRef sig ⟨S1024x4096, .i32⟩) ori,
    StableHlo.TRef.binary (.of main_call0_call0_call0_call0_v95 : StableHlo.TRef sig ⟨S1024x4096, .i32⟩) (.of main_call0_call0_call0_call0_v100 : StableHlo.TRef sig ⟨S1024x4096, .i32⟩) (.of main_call0_call0_call0_call0_v101 : StableHlo.TRef sig ⟨S1024x4096, .i32⟩) xori,
    StableHlo.TRef.unary (.of main_call0_call0_call0_v4 : StableHlo.TRef sig ⟨S_, .i32⟩) (.of main_call0_call0_call0_call0_v102 : StableHlo.TRef sig ⟨S1024x4096, .i32⟩) (broadcastInDim S1024x4096 ![] bcast_S_S1024x4096),
    StableHlo.TRef.binary (.of main_call0_call0_call0_call0_v95 : StableHlo.TRef sig ⟨S1024x4096, .i32⟩) (.of main_call0_call0_call0_call0_v102 : StableHlo.TRef sig ⟨S1024x4096, .i32⟩) (.of main_call0_call0_call0_call0_v103 : StableHlo.TRef sig ⟨S1024x4096, .i32⟩) addi,
    StableHlo.TRef.unary (.of main_call0_call0_call0_v6 : StableHlo.TRef sig ⟨S_, .i32⟩) (.of main_call0_call0_call0_call0_v104 : StableHlo.TRef sig ⟨S1024x4096, .i32⟩) (broadcastInDim S1024x4096 ![] bcast_S_S1024x4096),
    StableHlo.TRef.binary (.of main_call0_call0_call0_call0_v101 : StableHlo.TRef sig ⟨S1024x4096, .i32⟩) (.of main_call0_call0_call0_call0_v104 : StableHlo.TRef sig ⟨S1024x4096, .i32⟩) (.of main_call0_call0_call0_call0_v105 : StableHlo.TRef sig ⟨S1024x4096, .i32⟩) addi,
    StableHlo.TRef.nullary (.of main_call0_call0_call0_call0_c_26 : StableHlo.TRef sig ⟨S_, .i32⟩) (constantI S_ 32 3#32),
    StableHlo.TRef.unary (.of main_call0_call0_call0_call0_c_26 : StableHlo.TRef sig ⟨S_, .i32⟩) (.of main_call0_call0_call0_call0_v106 : StableHlo.TRef sig ⟨S1024x4096, .i32⟩) (broadcastInDim S1024x4096 ![] bcast_S_S1024x4096),
    StableHlo.TRef.binary (.of main_call0_call0_call0_call0_v105 : StableHlo.TRef sig ⟨S1024x4096, .i32⟩) (.of main_call0_call0_call0_call0_v106 : StableHlo.TRef sig ⟨S1024x4096, .i32⟩) (.of main_call0_call0_call0_call0_v107 : StableHlo.TRef sig ⟨S1024x4096, .i32⟩) addi,
    StableHlo.TRef.binary (.of main_call0_call0_call0_call0_v103 : StableHlo.TRef sig ⟨S1024x4096, .i32⟩) (.of main_call0_call0_call0_call0_v107 : StableHlo.TRef sig ⟨S1024x4096, .i32⟩) (.of main_call0_call0_call0_call0_v108 : StableHlo.TRef sig ⟨S1024x4096, .i32⟩) addi,
    StableHlo.TRef.nullary (.of main_call0_call0_call0_call0_c_27 : StableHlo.TRef sig ⟨S_, .i32⟩) (constantI S_ 32 17#32),
    StableHlo.TRef.unary (.of main_call0_call0_call0_call0_c_27 : StableHlo.TRef sig ⟨S_, .i32⟩) (.of main_call0_call0_call0_call0_v109 : StableHlo.TRef sig ⟨S1024x4096, .i32⟩) (broadcastInDim S1024x4096 ![] bcast_S_S1024x4096),
    StableHlo.TRef.binary (.of main_call0_call0_call0_call0_v107 : StableHlo.TRef sig ⟨S1024x4096, .i32⟩) (.of main_call0_call0_call0_call0_v109 : StableHlo.TRef sig ⟨S1024x4096, .i32⟩) (.of main_call0_call0_call0_call0_v110 : StableHlo.TRef sig ⟨S1024x4096, .i32⟩) Host.shli,
    StableHlo.TRef.nullary (.of main_call0_call0_call0_call0_c_28 : StableHlo.TRef sig ⟨S_, .i32⟩) (constantI S_ 32 15#32),
    StableHlo.TRef.unary (.of main_call0_call0_call0_call0_c_28 : StableHlo.TRef sig ⟨S_, .i32⟩) (.of main_call0_call0_call0_call0_v111 : StableHlo.TRef sig ⟨S1024x4096, .i32⟩) (broadcastInDim S1024x4096 ![] bcast_S_S1024x4096),
    StableHlo.TRef.binary (.of main_call0_call0_call0_call0_v107 : StableHlo.TRef sig ⟨S1024x4096, .i32⟩) (.of main_call0_call0_call0_call0_v111 : StableHlo.TRef sig ⟨S1024x4096, .i32⟩) (.of main_call0_call0_call0_call0_v112 : StableHlo.TRef sig ⟨S1024x4096, .i32⟩) Host.shrui,
    StableHlo.TRef.binary (.of main_call0_call0_call0_call0_v110 : StableHlo.TRef sig ⟨S1024x4096, .i32⟩) (.of main_call0_call0_call0_call0_v112 : StableHlo.TRef sig ⟨S1024x4096, .i32⟩) (.of main_call0_call0_call0_call0_v113 : StableHlo.TRef sig ⟨S1024x4096, .i32⟩) ori,
    StableHlo.TRef.binary (.of main_call0_call0_call0_call0_v108 : StableHlo.TRef sig ⟨S1024x4096, .i32⟩) (.of main_call0_call0_call0_call0_v113 : StableHlo.TRef sig ⟨S1024x4096, .i32⟩) (.of main_call0_call0_call0_call0_v114 : StableHlo.TRef sig ⟨S1024x4096, .i32⟩) xori,
    StableHlo.TRef.binary (.of main_call0_call0_call0_call0_v108 : StableHlo.TRef sig ⟨S1024x4096, .i32⟩) (.of main_call0_call0_call0_call0_v114 : StableHlo.TRef sig ⟨S1024x4096, .i32⟩) (.of main_call0_call0_call0_call0_v115 : StableHlo.TRef sig ⟨S1024x4096, .i32⟩) addi,
    StableHlo.TRef.nullary (.of main_call0_call0_call0_call0_c_29 : StableHlo.TRef sig ⟨S_, .i32⟩) (constantI S_ 32 29#32),
    StableHlo.TRef.unary (.of main_call0_call0_call0_call0_c_29 : StableHlo.TRef sig ⟨S_, .i32⟩) (.of main_call0_call0_call0_call0_v116 : StableHlo.TRef sig ⟨S1024x4096, .i32⟩) (broadcastInDim S1024x4096 ![] bcast_S_S1024x4096),
    StableHlo.TRef.binary (.of main_call0_call0_call0_call0_v114 : StableHlo.TRef sig ⟨S1024x4096, .i32⟩) (.of main_call0_call0_call0_call0_v116 : StableHlo.TRef sig ⟨S1024x4096, .i32⟩) (.of main_call0_call0_call0_call0_v117 : StableHlo.TRef sig ⟨S1024x4096, .i32⟩) Host.shli,
    StableHlo.TRef.nullary (.of main_call0_call0_call0_call0_c_30 : StableHlo.TRef sig ⟨S_, .i32⟩) (constantI S_ 32 3#32),
    StableHlo.TRef.unary (.of main_call0_call0_call0_call0_c_30 : StableHlo.TRef sig ⟨S_, .i32⟩) (.of main_call0_call0_call0_call0_v118 : StableHlo.TRef sig ⟨S1024x4096, .i32⟩) (broadcastInDim S1024x4096 ![] bcast_S_S1024x4096),
    StableHlo.TRef.binary (.of main_call0_call0_call0_call0_v114 : StableHlo.TRef sig ⟨S1024x4096, .i32⟩) (.of main_call0_call0_call0_call0_v118 : StableHlo.TRef sig ⟨S1024x4096, .i32⟩) (.of main_call0_call0_call0_call0_v119 : StableHlo.TRef sig ⟨S1024x4096, .i32⟩) Host.shrui,
    StableHlo.TRef.binary (.of main_call0_call0_call0_call0_v117 : StableHlo.TRef sig ⟨S1024x4096, .i32⟩) (.of main_call0_call0_call0_call0_v119 : StableHlo.TRef sig ⟨S1024x4096, .i32⟩) (.of main_call0_call0_call0_call0_v120 : StableHlo.TRef sig ⟨S1024x4096, .i32⟩) ori,
    StableHlo.TRef.binary (.of main_call0_call0_call0_call0_v115 : StableHlo.TRef sig ⟨S1024x4096, .i32⟩) (.of main_call0_call0_call0_call0_v120 : StableHlo.TRef sig ⟨S1024x4096, .i32⟩) (.of main_call0_call0_call0_call0_v121 : StableHlo.TRef sig ⟨S1024x4096, .i32⟩) xori,
    StableHlo.TRef.binary (.of main_call0_call0_call0_call0_v115 : StableHlo.TRef sig ⟨S1024x4096, .i32⟩) (.of main_call0_call0_call0_call0_v121 : StableHlo.TRef sig ⟨S1024x4096, .i32⟩) (.of main_call0_call0_call0_call0_v122 : StableHlo.TRef sig ⟨S1024x4096, .i32⟩) addi,
    StableHlo.TRef.nullary (.of main_call0_call0_call0_call0_c_31 : StableHlo.TRef sig ⟨S_, .i32⟩) (constantI S_ 32 16#32),
    StableHlo.TRef.unary (.of main_call0_call0_call0_call0_c_31 : StableHlo.TRef sig ⟨S_, .i32⟩) (.of main_call0_call0_call0_call0_v123 : StableHlo.TRef sig ⟨S1024x4096, .i32⟩) (broadcastInDim S1024x4096 ![] bcast_S_S1024x4096),
    StableHlo.TRef.binary (.of main_call0_call0_call0_call0_v121 : StableHlo.TRef sig ⟨S1024x4096, .i32⟩) (.of main_call0_call0_call0_call0_v123 : StableHlo.TRef sig ⟨S1024x4096, .i32⟩) (.of main_call0_call0_call0_call0_v124 : StableHlo.TRef sig ⟨S1024x4096, .i32⟩) Host.shli,
    StableHlo.TRef.nullary (.of main_call0_call0_call0_call0_c_32 : StableHlo.TRef sig ⟨S_, .i32⟩) (constantI S_ 32 16#32),
    StableHlo.TRef.unary (.of main_call0_call0_call0_call0_c_32 : StableHlo.TRef sig ⟨S_, .i32⟩) (.of main_call0_call0_call0_call0_v125 : StableHlo.TRef sig ⟨S1024x4096, .i32⟩) (broadcastInDim S1024x4096 ![] bcast_S_S1024x4096),
    StableHlo.TRef.binary (.of main_call0_call0_call0_call0_v121 : StableHlo.TRef sig ⟨S1024x4096, .i32⟩) (.of main_call0_call0_call0_call0_v125 : StableHlo.TRef sig ⟨S1024x4096, .i32⟩) (.of main_call0_call0_call0_call0_v126 : StableHlo.TRef sig ⟨S1024x4096, .i32⟩) Host.shrui,
    StableHlo.TRef.binary (.of main_call0_call0_call0_call0_v124 : StableHlo.TRef sig ⟨S1024x4096, .i32⟩) (.of main_call0_call0_call0_call0_v126 : StableHlo.TRef sig ⟨S1024x4096, .i32⟩) (.of main_call0_call0_call0_call0_v127 : StableHlo.TRef sig ⟨S1024x4096, .i32⟩) ori,
    StableHlo.TRef.binary (.of main_call0_call0_call0_call0_v122 : StableHlo.TRef sig ⟨S1024x4096, .i32⟩) (.of main_call0_call0_call0_call0_v127 : StableHlo.TRef sig ⟨S1024x4096, .i32⟩) (.of main_call0_call0_call0_call0_v128 : StableHlo.TRef sig ⟨S1024x4096, .i32⟩) xori,
    StableHlo.TRef.binary (.of main_call0_call0_call0_call0_v122 : StableHlo.TRef sig ⟨S1024x4096, .i32⟩) (.of main_call0_call0_call0_call0_v128 : StableHlo.TRef sig ⟨S1024x4096, .i32⟩) (.of main_call0_call0_call0_call0_v129 : StableHlo.TRef sig ⟨S1024x4096, .i32⟩) addi,
    StableHlo.TRef.nullary (.of main_call0_call0_call0_call0_c_33 : StableHlo.TRef sig ⟨S_, .i32⟩) (constantI S_ 32 24#32),
    StableHlo.TRef.unary (.of main_call0_call0_call0_call0_c_33 : StableHlo.TRef sig ⟨S_, .i32⟩) (.of main_call0_call0_call0_call0_v130 : StableHlo.TRef sig ⟨S1024x4096, .i32⟩) (broadcastInDim S1024x4096 ![] bcast_S_S1024x4096),
    StableHlo.TRef.binary (.of main_call0_call0_call0_call0_v128 : StableHlo.TRef sig ⟨S1024x4096, .i32⟩) (.of main_call0_call0_call0_call0_v130 : StableHlo.TRef sig ⟨S1024x4096, .i32⟩) (.of main_call0_call0_call0_call0_v131 : StableHlo.TRef sig ⟨S1024x4096, .i32⟩) Host.shli,
    StableHlo.TRef.nullary (.of main_call0_call0_call0_call0_c_34 : StableHlo.TRef sig ⟨S_, .i32⟩) (constantI S_ 32 8#32),
    StableHlo.TRef.unary (.of main_call0_call0_call0_call0_c_34 : StableHlo.TRef sig ⟨S_, .i32⟩) (.of main_call0_call0_call0_call0_v132 : StableHlo.TRef sig ⟨S1024x4096, .i32⟩) (broadcastInDim S1024x4096 ![] bcast_S_S1024x4096),
    StableHlo.TRef.binary (.of main_call0_call0_call0_call0_v128 : StableHlo.TRef sig ⟨S1024x4096, .i32⟩) (.of main_call0_call0_call0_call0_v132 : StableHlo.TRef sig ⟨S1024x4096, .i32⟩) (.of main_call0_call0_call0_call0_v133 : StableHlo.TRef sig ⟨S1024x4096, .i32⟩) Host.shrui,
    StableHlo.TRef.binary (.of main_call0_call0_call0_call0_v131 : StableHlo.TRef sig ⟨S1024x4096, .i32⟩) (.of main_call0_call0_call0_call0_v133 : StableHlo.TRef sig ⟨S1024x4096, .i32⟩) (.of main_call0_call0_call0_call0_v134 : StableHlo.TRef sig ⟨S1024x4096, .i32⟩) ori,
    StableHlo.TRef.binary (.of main_call0_call0_call0_call0_v129 : StableHlo.TRef sig ⟨S1024x4096, .i32⟩) (.of main_call0_call0_call0_call0_v134 : StableHlo.TRef sig ⟨S1024x4096, .i32⟩) (.of main_call0_call0_call0_call0_v135 : StableHlo.TRef sig ⟨S1024x4096, .i32⟩) xori,
    StableHlo.TRef.unary (.of main_call0_call0_call0_v6 : StableHlo.TRef sig ⟨S_, .i32⟩) (.of main_call0_call0_call0_call0_v136 : StableHlo.TRef sig ⟨S1024x4096, .i32⟩) (broadcastInDim S1024x4096 ![] bcast_S_S1024x4096),
    StableHlo.TRef.binary (.of main_call0_call0_call0_call0_v129 : StableHlo.TRef sig ⟨S1024x4096, .i32⟩) (.of main_call0_call0_call0_call0_v136 : StableHlo.TRef sig ⟨S1024x4096, .i32⟩) (.of main_call0_call0_call0_call0_v137 : StableHlo.TRef sig ⟨S1024x4096, .i32⟩) addi,
    StableHlo.TRef.unary (.of main_call0_call0_call0_call0_v1 : StableHlo.TRef sig ⟨S_, .i32⟩) (.of main_call0_call0_call0_call0_v138 : StableHlo.TRef sig ⟨S1024x4096, .i32⟩) (broadcastInDim S1024x4096 ![] bcast_S_S1024x4096),
    StableHlo.TRef.binary (.of main_call0_call0_call0_call0_v135 : StableHlo.TRef sig ⟨S1024x4096, .i32⟩) (.of main_call0_call0_call0_call0_v138 : StableHlo.TRef sig ⟨S1024x4096, .i32⟩) (.of main_call0_call0_call0_call0_v139 : StableHlo.TRef sig ⟨S1024x4096, .i32⟩) addi,
    StableHlo.TRef.nullary (.of main_call0_call0_call0_call0_c_35 : StableHlo.TRef sig ⟨S_, .i32⟩) (constantI S_ 32 4#32),
    StableHlo.TRef.unary (.of main_call0_call0_call0_call0_c_35 : StableHlo.TRef sig ⟨S_, .i32⟩) (.of main_call0_call0_call0_call0_v140 : StableHlo.TRef sig ⟨S1024x4096, .i32⟩) (broadcastInDim S1024x4096 ![] bcast_S_S1024x4096),
    StableHlo.TRef.binary (.of main_call0_call0_call0_call0_v139 : StableHlo.TRef sig ⟨S1024x4096, .i32⟩) (.of main_call0_call0_call0_call0_v140 : StableHlo.TRef sig ⟨S1024x4096, .i32⟩) (.of main_call0_call0_call0_call0_v141 : StableHlo.TRef sig ⟨S1024x4096, .i32⟩) addi,
    StableHlo.TRef.binary (.of main_call0_call0_call0_call0_v137 : StableHlo.TRef sig ⟨S1024x4096, .i32⟩) (.of main_call0_call0_call0_call0_v141 : StableHlo.TRef sig ⟨S1024x4096, .i32⟩) (.of main_call0_call0_call0_call0_v142 : StableHlo.TRef sig ⟨S1024x4096, .i32⟩) addi ]
set_option maxHeartbeats 4000000 in
/-- The mixing of the words, last part. -/
abbrev kT3 : List (HloOp τ sig (Elt F)) :=
  [ StableHlo.TRef.nullary (.of main_call0_call0_call0_call0_c_36 : StableHlo.TRef sig ⟨S_, .i32⟩) (constantI S_ 32 13#32),
    StableHlo.TRef.unary (.of main_call0_call0_call0_call0_c_36 : StableHlo.TRef sig ⟨S_, .i32⟩) (.of main_call0_call0_call0_call0_v143 : StableHlo.TRef sig ⟨S1024x4096, .i32⟩) (broadcastInDim S1024x4096 ![] bcast_S_S1024x4096),
    StableHlo.TRef.binary (.of main_call0_call0_call0_call0_v141 : StableHlo.TRef sig ⟨S1024x4096, .i32⟩) (.of main_call0_call0_call0_call0_v143 : StableHlo.TRef sig ⟨S1024x4096, .i32⟩) (.of main_call0_call0_call0_call0_v144 : StableHlo.TRef sig ⟨S1024x4096, .i32⟩) Host.shli,
    StableHlo.TRef.nullary (.of main_call0_call0_call0_call0_c_37 : StableHlo.TRef sig ⟨S_, .i32⟩) (constantI S_ 32 19#32),
    StableHlo.TRef.unary (.of main_call0_call0_call0_call0_c_37 : StableHlo.TRef sig ⟨S_, .i32⟩) (.of main_call0_call0_call0_call0_v145 : StableHlo.TRef sig ⟨S1024x4096, .i32⟩) (broadcastInDim S1024x4096 ![] bcast_S_S1024x4096),
    StableHlo.TRef.binary (.of main_call0_call0_call0_call0_v141 : StableHlo.TRef sig ⟨S1024x4096, .i32⟩) (.of main_call0_call0_call0_call0_v145 : StableHlo.TRef sig ⟨S1024x4096, .i32⟩) (.of main_call0_call0_call0_call0_v146 : StableHlo.TRef sig ⟨S1024x4096, .i32⟩) Host.shrui,
    StableHlo.TRef.binary (.of main_call0_call0_call0_call0_v144 : StableHlo.TRef sig ⟨S1024x4096, .i32⟩) (.of main_call0_call0_call0_call0_v146 : StableHlo.TRef sig ⟨S1024x4096, .i32⟩) (.of main_call0_call0_call0_call0_v147 : StableHlo.TRef sig ⟨S1024x4096, .i32⟩) ori,
    StableHlo.TRef.binary (.of main_call0_call0_call0_call0_v142 : StableHlo.TRef sig ⟨S1024x4096, .i32⟩) (.of main_call0_call0_call0_call0_v147 : StableHlo.TRef sig ⟨S1024x4096, .i32⟩) (.of main_call0_call0_call0_call0_v148 : StableHlo.TRef sig ⟨S1024x4096, .i32⟩) xori,
    StableHlo.TRef.binary (.of main_call0_call0_call0_call0_v142 : StableHlo.TRef sig ⟨S1024x4096, .i32⟩) (.of main_call0_call0_call0_call0_v148 : StableHlo.TRef sig ⟨S1024x4096, .i32⟩) (.of main_call0_call0_call0_call0_v149 : StableHlo.TRef sig ⟨S1024x4096, .i32⟩) addi,
    StableHlo.TRef.nullary (.of main_call0_call0_call0_call0_c_38 : StableHlo.TRef sig ⟨S_, .i32⟩) (constantI S_ 32 15#32),
    StableHlo.TRef.unary (.of main_call0_call0_call0_call0_c_38 : StableHlo.TRef sig ⟨S_, .i32⟩) (.of main_call0_call0_call0_call0_v150 : StableHlo.TRef sig ⟨S1024x4096, .i32⟩) (broadcastInDim S1024x4096 ![] bcast_S_S1024x4096),
    StableHlo.TRef.binary (.of main_call0_call0_call0_call0_v148 : StableHlo.TRef sig ⟨S1024x4096, .i32⟩) (.of main_call0_call0_call0_call0_v150 : StableHlo.TRef sig ⟨S1024x4096, .i32⟩) (.of main_call0_call0_call0_call0_v151 : StableHlo.TRef sig ⟨S1024x4096, .i32⟩) Host.shli,
    StableHlo.TRef.nullary (.of main_call0_call0_call0_call0_c_39 : StableHlo.TRef sig ⟨S_, .i32⟩) (constantI S_ 32 17#32),
    StableHlo.TRef.unary (.of main_call0_call0_call0_call0_c_39 : StableHlo.TRef sig ⟨S_, .i32⟩) (.of main_call0_call0_call0_call0_v152 : StableHlo.TRef sig ⟨S1024x4096, .i32⟩) (broadcastInDim S1024x4096 ![] bcast_S_S1024x4096),
    StableHlo.TRef.binary (.of main_call0_call0_call0_call0_v148 : StableHlo.TRef sig ⟨S1024x4096, .i32⟩) (.of main_call0_call0_call0_call0_v152 : StableHlo.TRef sig ⟨S1024x4096, .i32⟩) (.of main_call0_call0_call0_call0_v153 : StableHlo.TRef sig ⟨S1024x4096, .i32⟩) Host.shrui,
    StableHlo.TRef.binary (.of main_call0_call0_call0_call0_v151 : StableHlo.TRef sig ⟨S1024x4096, .i32⟩) (.of main_call0_call0_call0_call0_v153 : StableHlo.TRef sig ⟨S1024x4096, .i32⟩) (.of main_call0_call0_call0_call0_v154 : StableHlo.TRef sig ⟨S1024x4096, .i32⟩) ori,
    StableHlo.TRef.binary (.of main_call0_call0_call0_call0_v149 : StableHlo.TRef sig ⟨S1024x4096, .i32⟩) (.of main_call0_call0_call0_call0_v154 : StableHlo.TRef sig ⟨S1024x4096, .i32⟩) (.of main_call0_call0_call0_call0_v155 : StableHlo.TRef sig ⟨S1024x4096, .i32⟩) xori,
    StableHlo.TRef.binary (.of main_call0_call0_call0_call0_v149 : StableHlo.TRef sig ⟨S1024x4096, .i32⟩) (.of main_call0_call0_call0_call0_v155 : StableHlo.TRef sig ⟨S1024x4096, .i32⟩) (.of main_call0_call0_call0_call0_v156 : StableHlo.TRef sig ⟨S1024x4096, .i32⟩) addi,
    StableHlo.TRef.nullary (.of main_call0_call0_call0_call0_c_40 : StableHlo.TRef sig ⟨S_, .i32⟩) (constantI S_ 32 26#32),
    StableHlo.TRef.unary (.of main_call0_call0_call0_call0_c_40 : StableHlo.TRef sig ⟨S_, .i32⟩) (.of main_call0_call0_call0_call0_v157 : StableHlo.TRef sig ⟨S1024x4096, .i32⟩) (broadcastInDim S1024x4096 ![] bcast_S_S1024x4096),
    StableHlo.TRef.binary (.of main_call0_call0_call0_call0_v155 : StableHlo.TRef sig ⟨S1024x4096, .i32⟩) (.of main_call0_call0_call0_call0_v157 : StableHlo.TRef sig ⟨S1024x4096, .i32⟩) (.of main_call0_call0_call0_call0_v158 : StableHlo.TRef sig ⟨S1024x4096, .i32⟩) Host.shli,
    StableHlo.TRef.nullary (.of main_call0_call0_call0_call0_c_41 : StableHlo.TRef sig ⟨S_, .i32⟩) (constantI S_ 32 6#32),
    StableHlo.TRef.unary (.of main_call0_call0_call0_call0_c_41 : StableHlo.TRef sig ⟨S_, .i32⟩) (.of main_call0_call0_call0_call0_v159 : StableHlo.TRef sig ⟨S1024x4096, .i32⟩) (broadcastInDim S1024x4096 ![] bcast_S_S1024x4096),
    StableHlo.TRef.binary (.of main_call0_call0_call0_call0_v155 : StableHlo.TRef sig ⟨S1024x4096, .i32⟩) (.of main_call0_call0_call0_call0_v159 : StableHlo.TRef sig ⟨S1024x4096, .i32⟩) (.of main_call0_call0_call0_call0_v160 : StableHlo.TRef sig ⟨S1024x4096, .i32⟩) Host.shrui,
    StableHlo.TRef.binary (.of main_call0_call0_call0_call0_v158 : StableHlo.TRef sig ⟨S1024x4096, .i32⟩) (.of main_call0_call0_call0_call0_v160 : StableHlo.TRef sig ⟨S1024x4096, .i32⟩) (.of main_call0_call0_call0_call0_v161 : StableHlo.TRef sig ⟨S1024x4096, .i32⟩) ori,
    StableHlo.TRef.binary (.of main_call0_call0_call0_call0_v156 : StableHlo.TRef sig ⟨S1024x4096, .i32⟩) (.of main_call0_call0_call0_call0_v161 : StableHlo.TRef sig ⟨S1024x4096, .i32⟩) (.of main_call0_call0_call0_call0_v162 : StableHlo.TRef sig ⟨S1024x4096, .i32⟩) xori,
    StableHlo.TRef.binary (.of main_call0_call0_call0_call0_v156 : StableHlo.TRef sig ⟨S1024x4096, .i32⟩) (.of main_call0_call0_call0_call0_v162 : StableHlo.TRef sig ⟨S1024x4096, .i32⟩) (.of main_call0_call0_call0_call0_v163 : StableHlo.TRef sig ⟨S1024x4096, .i32⟩) addi,
    StableHlo.TRef.nullary (.of main_call0_call0_call0_call0_c_42 : StableHlo.TRef sig ⟨S_, .i32⟩) (constantI S_ 32 6#32),
    StableHlo.TRef.unary (.of main_call0_call0_call0_call0_c_42 : StableHlo.TRef sig ⟨S_, .i32⟩) (.of main_call0_call0_call0_call0_v164 : StableHlo.TRef sig ⟨S1024x4096, .i32⟩) (broadcastInDim S1024x4096 ![] bcast_S_S1024x4096),
    StableHlo.TRef.binary (.of main_call0_call0_call0_call0_v162 : StableHlo.TRef sig ⟨S1024x4096, .i32⟩) (.of main_call0_call0_call0_call0_v164 : StableHlo.TRef sig ⟨S1024x4096, .i32⟩) (.of main_call0_call0_call0_call0_v165 : StableHlo.TRef sig ⟨S1024x4096, .i32⟩) Host.shli,
    StableHlo.TRef.nullary (.of main_call0_call0_call0_call0_c_43 : StableHlo.TRef sig ⟨S_, .i32⟩) (constantI S_ 32 26#32),
    StableHlo.TRef.unary (.of main_call0_call0_call0_call0_c_43 : StableHlo.TRef sig ⟨S_, .i32⟩) (.of main_call0_call0_call0_call0_v166 : StableHlo.TRef sig ⟨S1024x4096, .i32⟩) (broadcastInDim S1024x4096 ![] bcast_S_S1024x4096),
    StableHlo.TRef.binary (.of main_call0_call0_call0_call0_v162 : StableHlo.TRef sig ⟨S1024x4096, .i32⟩) (.of main_call0_call0_call0_call0_v166 : StableHlo.TRef sig ⟨S1024x4096, .i32⟩) (.of main_call0_call0_call0_call0_v167 : StableHlo.TRef sig ⟨S1024x4096, .i32⟩) Host.shrui,
    StableHlo.TRef.binary (.of main_call0_call0_call0_call0_v165 : StableHlo.TRef sig ⟨S1024x4096, .i32⟩) (.of main_call0_call0_call0_call0_v167 : StableHlo.TRef sig ⟨S1024x4096, .i32⟩) (.of main_call0_call0_call0_call0_v168 : StableHlo.TRef sig ⟨S1024x4096, .i32⟩) ori,
    StableHlo.TRef.binary (.of main_call0_call0_call0_call0_v163 : StableHlo.TRef sig ⟨S1024x4096, .i32⟩) (.of main_call0_call0_call0_call0_v168 : StableHlo.TRef sig ⟨S1024x4096, .i32⟩) (.of main_call0_call0_call0_call0_v169 : StableHlo.TRef sig ⟨S1024x4096, .i32⟩) xori,
    StableHlo.TRef.unary (.of main_call0_call0_call0_call0_v1 : StableHlo.TRef sig ⟨S_, .i32⟩) (.of main_call0_call0_call0_call0_v170 : StableHlo.TRef sig ⟨S1024x4096, .i32⟩) (broadcastInDim S1024x4096 ![] bcast_S_S1024x4096),
    StableHlo.TRef.binary (.of main_call0_call0_call0_call0_v163 : StableHlo.TRef sig ⟨S1024x4096, .i32⟩) (.of main_call0_call0_call0_call0_v170 : StableHlo.TRef sig ⟨S1024x4096, .i32⟩) (.of main_call0_call0_call0_v18_0 : StableHlo.TRef sig ⟨S1024x4096, .i32⟩) addi,
    StableHlo.TRef.unary (.of main_call0_call0_call0_v4 : StableHlo.TRef sig ⟨S_, .i32⟩) (.of main_call0_call0_call0_call0_v172 : StableHlo.TRef sig ⟨S1024x4096, .i32⟩) (broadcastInDim S1024x4096 ![] bcast_S_S1024x4096),
    StableHlo.TRef.binary (.of main_call0_call0_call0_call0_v169 : StableHlo.TRef sig ⟨S1024x4096, .i32⟩) (.of main_call0_call0_call0_call0_v172 : StableHlo.TRef sig ⟨S1024x4096, .i32⟩) (.of main_call0_call0_call0_call0_v173 : StableHlo.TRef sig ⟨S1024x4096, .i32⟩) addi,
    StableHlo.TRef.nullary (.of main_call0_call0_call0_call0_c_44 : StableHlo.TRef sig ⟨S_, .i32⟩) (constantI S_ 32 5#32),
    StableHlo.TRef.unary (.of main_call0_call0_call0_call0_c_44 : StableHlo.TRef sig ⟨S_, .i32⟩) (.of main_call0_call0_call0_call0_v174 : StableHlo.TRef sig ⟨S1024x4096, .i32⟩) (broadcastInDim S1024x4096 ![] bcast_S_S1024x4096),
    StableHlo.TRef.binary (.of main_call0_call0_call0_call0_v173 : StableHlo.TRef sig ⟨S1024x4096, .i32⟩) (.of main_call0_call0_call0_call0_v174 : StableHlo.TRef sig ⟨S1024x4096, .i32⟩) (.of main_call0_call0_call0_v18_1 : StableHlo.TRef sig ⟨S1024x4096, .i32⟩) addi ]
set_option maxHeartbeats 4000000 in
/-- The words as uniform numbers, and as noise. -/
abbrev kG1 : List (HloOp τ sig (Elt F)) :=
  [ StableHlo.TRef.binary main_call0_call0_call0_call0.v171 main_call0_call0_call0_call0.v175 (.of main_call0_call0_call0_v19 : StableHlo.TRef sig ⟨S1024x4096, .i32⟩) xori,
    StableHlo.TRef.nullary (.of main_call0_call0_call0_c_2 : StableHlo.TRef sig ⟨S_, .i32⟩) (constantI S_ 32 9#32),
    StableHlo.TRef.unary (.of main_call0_call0_call0_c_2 : StableHlo.TRef sig ⟨S_, .i32⟩) (.of main_call0_call0_call0_v20 : StableHlo.TRef sig ⟨S1024x4096, .i32⟩) (broadcastInDim S1024x4096 ![] bcast_S_S1024x4096),
    StableHlo.TRef.binary (.of main_call0_call0_call0_v19 : StableHlo.TRef sig ⟨S1024x4096, .i32⟩) (.of main_call0_call0_call0_v20 : StableHlo.TRef sig ⟨S1024x4096, .i32⟩) (.of main_call0_call0_call0_v21 : StableHlo.TRef sig ⟨S1024x4096, .i32⟩) Host.shrui,
    StableHlo.TRef.nullary (.of main_call0_call0_call0_c_3 : StableHlo.TRef sig ⟨S_, .i32⟩) (constantI S_ 32 1065353216#32),
    StableHlo.TRef.unary (.of main_call0_call0_call0_c_3 : StableHlo.TRef sig ⟨S_, .i32⟩) (.of main_call0_call0_call0_v22 : StableHlo.TRef sig ⟨S1024x4096, .i32⟩) (broadcastInDim S1024x4096 ![] bcast_S_S1024x4096),
    StableHlo.TRef.binary (.of main_call0_call0_call0_v21 : StableHlo.TRef sig ⟨S1024x4096, .i32⟩) (.of main_call0_call0_call0_v22 : StableHlo.TRef sig ⟨S1024x4096, .i32⟩) (.of main_call0_call0_call0_v23 : StableHlo.TRef sig ⟨S1024x4096, .i32⟩) ori,
    StableHlo.TRef.unary (.of main_call0_call0_call0_v23 : StableHlo.TRef sig ⟨S1024x4096, .i32⟩) (.of main_call0_call0_call0_v24 : StableHlo.TRef sig ⟨S1024x4096, .f32⟩) (bitcastToFloat .f32),
    StableHlo.TRef.nullary (.of main_call0_call0_call0_cst : StableHlo.TRef sig ⟨S_, .f32⟩) (constant S_ .f32 0x3F800000#32),
    StableHlo.TRef.unary (.of main_call0_call0_call0_cst : StableHlo.TRef sig ⟨S_, .f32⟩) (.of main_call0_call0_call0_v25 : StableHlo.TRef sig ⟨S1024x4096, .f32⟩) (broadcastInDim S1024x4096 ![] bcast_S_S1024x4096),
    StableHlo.TRef.binary (.of main_call0_call0_call0_v24 : StableHlo.TRef sig ⟨S1024x4096, .f32⟩) (.of main_call0_call0_call0_v25 : StableHlo.TRef sig ⟨S1024x4096, .f32⟩) (.of main_call0_call0_call0_v26 : StableHlo.TRef sig ⟨S1024x4096, .f32⟩) subf,
    StableHlo.TRef.binary (.of main_call0_call0_call0_v2 : StableHlo.TRef sig ⟨S1x1, .f32⟩) (.of main_call0_call0_call0_v1 : StableHlo.TRef sig ⟨S1x1, .f32⟩) (.of main_call0_call0_call0_v27 : StableHlo.TRef sig ⟨S1x1, .f32⟩) subf,
    StableHlo.TRef.unary (.of main_call0_call0_call0_v27 : StableHlo.TRef sig ⟨S1x1, .f32⟩) (.of main_call0_call0_call0_v28 : StableHlo.TRef sig ⟨S1024x4096, .f32⟩) (broadcastInDim S1024x4096 ![0, 1] bcast_S1x1_S1024x4096_0_1),
    StableHlo.TRef.binary (.of main_call0_call0_call0_v26 : StableHlo.TRef sig ⟨S1024x4096, .f32⟩) (.of main_call0_call0_call0_v28 : StableHlo.TRef sig ⟨S1024x4096, .f32⟩) (.of main_call0_call0_call0_v29 : StableHlo.TRef sig ⟨S1024x4096, .f32⟩) mulf,
    StableHlo.TRef.unary (.of main_call0_call0_call0_v1 : StableHlo.TRef sig ⟨S1x1, .f32⟩) (.of main_call0_call0_call0_v30 : StableHlo.TRef sig ⟨S1024x4096, .f32⟩) (broadcastInDim S1024x4096 ![0, 1] bcast_S1x1_S1024x4096_0_1),
    StableHlo.TRef.binary (.of main_call0_call0_call0_v29 : StableHlo.TRef sig ⟨S1024x4096, .f32⟩) (.of main_call0_call0_call0_v30 : StableHlo.TRef sig ⟨S1024x4096, .f32⟩) (.of main_call0_call0_call0_v31 : StableHlo.TRef sig ⟨S1024x4096, .f32⟩) addf,
    StableHlo.TRef.unary (.of main_call0_call0_call0_v1 : StableHlo.TRef sig ⟨S1x1, .f32⟩) (.of main_call0_call0_call0_v32 : StableHlo.TRef sig ⟨S1024x4096, .f32⟩) (broadcastInDim S1024x4096 ![0, 1] bcast_S1x1_S1024x4096_0_1),
    StableHlo.TRef.binary (.of main_call0_call0_call0_v32 : StableHlo.TRef sig ⟨S1024x4096, .f32⟩) (.of main_call0_call0_call0_v31 : StableHlo.TRef sig ⟨S1024x4096, .f32⟩) (.of main_call0_call0_v0 : StableHlo.TRef sig ⟨S1024x4096, .f32⟩) maximumf,
    StableHlo.TRef.unary main_call0_call0_call0.v33 (.of main_call0_call0_v1 : StableHlo.TRef sig ⟨S1024x4096, .f32⟩) Host.log,
    StableHlo.TRef.unary (.of main_call0_call0_v1 : StableHlo.TRef sig ⟨S1024x4096, .f32⟩) (.of main_call0_call0_v2 : StableHlo.TRef sig ⟨S1024x4096, .f32⟩) Host.negf,
    StableHlo.TRef.unary (.of main_call0_call0_v2 : StableHlo.TRef sig ⟨S1024x4096, .f32⟩) (.of main_call0_call0_v3 : StableHlo.TRef sig ⟨S1024x4096, .f32⟩) Host.log,
    StableHlo.TRef.unary (.of main_call0_call0_v3 : StableHlo.TRef sig ⟨S1024x4096, .f32⟩) (.of main_call0_v7 : StableHlo.TRef sig ⟨S1024x4096, .f32⟩) Host.negf ]
set_option maxHeartbeats 4000000 in
/-- The noise by pairs. -/
abbrev kEnd : List (HloOp τ sig (Elt F)) :=
  [ StableHlo.TRef.reshape main_call0_call0.v4 (.of main_v0 : StableHlo.TRef sig ⟨S1024x64x64, .f32⟩) (rfl : (.f32 : EltTy) = .f32) shapeCasts_S1024x4096_S1024x64x64 ]
end Lists

open Cert.NoiseSim Cert.ReferenceIdeal.Ops
variable {F : FTy → Type} [FloatOps F]
theorem host_eq : Cert.KernelIdeal.Gen.hostOps0 (F := F) = kKey ++ ((kG0 ++ ((kT0 ++ (kT1 ++ (kT2 ++ kT3))) ++ kG1)) ++ kEnd) := by chain_rfl
theorem rng {i n : Nat} (h : (Nat.ble 17 i && Nat.ble (i + 1) n) = true) : 17 ≤ i ∧ i < n := by
  rw [Bool.and_eq_true] at h
  exact ⟨Nat.le_of_ble_eq_true h.1, Nat.le_of_ble_eq_true h.2⟩
set_option maxHeartbeats 4000000 in
theorem cG0 : Chunk (F := F) 18 41 kG0 opsG0 := by
  refine Chunk.nullary (n := 18) _ _ _ ⟨rfl, rfl, rfl, rfl⟩ ?_
  refine Chunk.nullary (n := 19) _ _ _ ⟨rfl, rfl, rfl, rfl⟩ ?_
  refine Chunk.unary (n := 20) 18 _ _ _ _ _ ⟨rfl, rfl, rfl, rfl⟩ (rng rfl) ⟨rfl, rfl, rfl, rfl⟩ ?_
  refine Chunk.unary (n := 21) 19 _ _ _ _ _ ⟨rfl, rfl, rfl, rfl⟩ (rng rfl) ⟨rfl, rfl, rfl, rfl⟩ ?_
  refine Chunk.unary (n := 22) 20 _ _ _ _ _ ⟨rfl, rfl, rfl, rfl⟩ (rng rfl) ⟨rfl, rfl, rfl, rfl⟩ ?_
  refine Chunk.unary (n := 23) 17 _ _ _ _ _ ⟨rfl, rfl, rfl, rfl⟩ (rng rfl) ⟨rfl, rfl, rfl, rfl⟩ ?_
  refine Chunk.reshape (n := 24) 23 _ _ _ _ _ _ ⟨rfl, rfl, rfl, rfl⟩ (rng rfl) ⟨rfl, rfl, rfl, rfl⟩ ?_
  refine Chunk.unary (n := 25) 17 _ _ _ _ _ ⟨rfl, rfl, rfl, rfl⟩ (rng rfl) ⟨rfl, rfl, rfl, rfl⟩ ?_
  refine Chunk.reshape (n := 26) 25 _ _ _ _ _ _ ⟨rfl, rfl, rfl, rfl⟩ (rng rfl) ⟨rfl, rfl, rfl, rfl⟩ ?_
  refine Chunk.nullary (n := 27) _ _ _ ⟨rfl, rfl, rfl, rfl⟩ ?_
  refine Chunk.nullary (n := 28) _ _ _ ⟨rfl, rfl, rfl, rfl⟩ ?_
  refine Chunk.nullary (n := 29) _ _ _ ⟨rfl, rfl, rfl, rfl⟩ ?_
  refine Chunk.unary (n := 30) 29 _ _ _ _ _ ⟨rfl, rfl, rfl, rfl⟩ (rng rfl) ⟨rfl, rfl, rfl, rfl⟩ ?_
  refine Chunk.binary (n := 31) 30 27 _ _ _ _ _ _ _ ⟨rfl, rfl, rfl, rfl⟩ (rng rfl) ⟨rfl, rfl, rfl, rfl⟩ (rng rfl) ⟨rfl, rfl, rfl, rfl⟩ ?_
  refine Chunk.nullary (n := 32) _ _ _ ⟨rfl, rfl, rfl, rfl⟩ ?_
  refine Chunk.unary (n := 33) 32 _ _ _ _ _ ⟨rfl, rfl, rfl, rfl⟩ (rng rfl) ⟨rfl, rfl, rfl, rfl⟩ ?_
  refine Chunk.binary (n := 34) 33 28 _ _ _ _ _ _ _ ⟨rfl, rfl, rfl, rfl⟩ (rng rfl) ⟨rfl, rfl, rfl, rfl⟩ (rng rfl) ⟨rfl, rfl, rfl, rfl⟩ ?_
  refine Chunk.binary (n := 35) 31 34 _ _ _ _ _ _ _ ⟨rfl, rfl, rfl, rfl⟩ (rng rfl) ⟨rfl, rfl, rfl, rfl⟩ (rng rfl) ⟨rfl, rfl, rfl, rfl⟩ ?_
  refine Chunk.nullary (n := 36) _ _ _ ⟨rfl, rfl, rfl, rfl⟩ ?_
  refine Chunk.unary (n := 37) 36 _ _ _ _ _ ⟨rfl, rfl, rfl, rfl⟩ (rng rfl) ⟨rfl, rfl, rfl, rfl⟩ ?_
  refine Chunk.binary (n := 38) 35 37 _ _ _ _ _ _ _ ⟨rfl, rfl, rfl, rfl⟩ (rng rfl) ⟨rfl, rfl, rfl, rfl⟩ (rng rfl) ⟨rfl, rfl, rfl, rfl⟩ ?_
  refine Chunk.unary (n := 39) 35 _ _ _ _ _ ⟨rfl, rfl, rfl, rfl⟩ (rng rfl) ⟨rfl, rfl, rfl, rfl⟩ ?_
  refine Chunk.unary (n := 40) 38 _ _ _ _ _ ⟨rfl, rfl, rfl, rfl⟩ (rng rfl) ⟨rfl, rfl, rfl, rfl⟩ ?_
  exact Chunk.nil
set_option maxHeartbeats 4000000 in
theorem cT0 : Chunk (F := F) 41 101 kT0 opsT0 := by
  refine Chunk.binary (n := 41) 24 26 _ _ _ _ _ _ _ ⟨rfl, rfl, rfl, rfl⟩ (rng rfl) ⟨rfl, rfl, rfl, rfl⟩ (rng rfl) ⟨rfl, rfl, rfl, rfl⟩ ?_
  refine Chunk.nullary (n := 42) _ _ _ ⟨rfl, rfl, rfl, rfl⟩ ?_
  refine Chunk.binary (n := 43) 41 42 _ _ _ _ _ _ _ ⟨rfl, rfl, rfl, rfl⟩ (rng rfl) ⟨rfl, rfl, rfl, rfl⟩ (rng rfl) ⟨rfl, rfl, rfl, rfl⟩ ?_
  refine Chunk.unary (n := 44) 24 _ _ _ _ _ ⟨rfl, rfl, rfl, rfl⟩ (rng rfl) ⟨rfl, rfl, rfl, rfl⟩ ?_
  refine Chunk.binary (n := 45) 40 44 _ _ _ _ _ _ _ ⟨rfl, rfl, rfl, rfl⟩ (rng rfl) ⟨rfl, rfl, rfl, rfl⟩ (rng rfl) ⟨rfl, rfl, rfl, rfl⟩ ?_
  refine Chunk.unary (n := 46) 26 _ _ _ _ _ ⟨rfl, rfl, rfl, rfl⟩ (rng rfl) ⟨rfl, rfl, rfl, rfl⟩ ?_
  refine Chunk.binary (n := 47) 39 46 _ _ _ _ _ _ _ ⟨rfl, rfl, rfl, rfl⟩ (rng rfl) ⟨rfl, rfl, rfl, rfl⟩ (rng rfl) ⟨rfl, rfl, rfl, rfl⟩ ?_
  refine Chunk.binary (n := 48) 45 47 _ _ _ _ _ _ _ ⟨rfl, rfl, rfl, rfl⟩ (rng rfl) ⟨rfl, rfl, rfl, rfl⟩ (rng rfl) ⟨rfl, rfl, rfl, rfl⟩ ?_
  refine Chunk.nullary (n := 49) _ _ _ ⟨rfl, rfl, rfl, rfl⟩ ?_
  refine Chunk.unary (n := 50) 49 _ _ _ _ _ ⟨rfl, rfl, rfl, rfl⟩ (rng rfl) ⟨rfl, rfl, rfl, rfl⟩ ?_
  refine Chunk.binary (n := 51) 47 50 _ _ _ _ _ _ _ ⟨rfl, rfl, rfl, rfl⟩ (rng rfl) ⟨rfl, rfl, rfl, rfl⟩ (rng rfl) ⟨rfl, rfl, rfl, rfl⟩ ?_
  refine Chunk.nullary (n := 52) _ _ _ ⟨rfl, rfl, rfl, rfl⟩ ?_
  refine Chunk.unary (n := 53) 52 _ _ _ _ _ ⟨rfl, rfl, rfl, rfl⟩ (rng rfl) ⟨rfl, rfl, rfl, rfl⟩ ?_
  refine Chunk.binary (n := 54) 47 53 _ _ _ _ _ _ _ ⟨rfl, rfl, rfl, rfl⟩ (rng rfl) ⟨rfl, rfl, rfl, rfl⟩ (rng rfl) ⟨rfl, rfl, rfl, rfl⟩ ?_
  refine Chunk.binary (n := 55) 51 54 _ _ _ _ _ _ _ ⟨rfl, rfl, rfl, rfl⟩ (rng rfl) ⟨rfl, rfl, rfl, rfl⟩ (rng rfl) ⟨rfl, rfl, rfl, rfl⟩ ?_
  refine Chunk.binary (n := 56) 48 55 _ _ _ _ _ _ _ ⟨rfl, rfl, rfl, rfl⟩ (rng rfl) ⟨rfl, rfl, rfl, rfl⟩ (rng rfl) ⟨rfl, rfl, rfl, rfl⟩ ?_
  refine Chunk.binary (n := 57) 48 56 _ _ _ _ _ _ _ ⟨rfl, rfl, rfl, rfl⟩ (rng rfl) ⟨rfl, rfl, rfl, rfl⟩ (rng rfl) ⟨rfl, rfl, rfl, rfl⟩ ?_
  refine Chunk.nullary (n := 58) _ _ _ ⟨rfl, rfl, rfl, rfl⟩ ?_
  refine Chunk.unary (n := 59) 58 _ _ _ _ _ ⟨rfl, rfl, rfl, rfl⟩ (rng rfl) ⟨rfl, rfl, rfl, rfl⟩ ?_
  refine Chunk.binary (n := 60) 56 59 _ _ _ _ _ _ _ ⟨rfl, rfl, rfl, rfl⟩ (rng rfl) ⟨rfl, rfl, rfl, rfl⟩ (rng rfl) ⟨rfl, rfl, rfl, rfl⟩ ?_
  refine Chunk.nullary (n := 61) _ _ _ ⟨rfl, rfl, rfl, rfl⟩ ?_
  refine Chunk.unary (n := 62) 61 _ _ _ _ _ ⟨rfl, rfl, rfl, rfl⟩ (rng rfl) ⟨rfl, rfl, rfl, rfl⟩ ?_
  refine Chunk.binary (n := 63) 56 62 _ _ _ _ _ _ _ ⟨rfl, rfl, rfl, rfl⟩ (rng rfl) ⟨rfl, rfl, rfl, rfl⟩ (rng rfl) ⟨rfl, rfl, rfl, rfl⟩ ?_
  refine Chunk.binary (n := 64) 60 63 _ _ _ _ _ _ _ ⟨rfl, rfl, rfl, rfl⟩ (rng rfl) ⟨rfl, rfl, rfl, rfl⟩ (rng rfl) ⟨rfl, rfl, rfl, rfl⟩ ?_
  refine Chunk.binary (n := 65) 57 64 _ _ _ _ _ _ _ ⟨rfl, rfl, rfl, rfl⟩ (rng rfl) ⟨rfl, rfl, rfl, rfl⟩ (rng rfl) ⟨rfl, rfl, rfl, rfl⟩ ?_
  refine Chunk.binary (n := 66) 57 65 _ _ _ _ _ _ _ ⟨rfl, rfl, rfl, rfl⟩ (rng rfl) ⟨rfl, rfl, rfl, rfl⟩ (rng rfl) ⟨rfl, rfl, rfl, rfl⟩ ?_
  refine Chunk.nullary (n := 67) _ _ _ ⟨rfl, rfl, rfl, rfl⟩ ?_
  refine Chunk.unary (n := 68) 67 _ _ _ _ _ ⟨rfl, rfl, rfl, rfl⟩ (rng rfl) ⟨rfl, rfl, rfl, rfl⟩ ?_
  refine Chunk.binary (n := 69) 65 68 _ _ _ _ _ _ _ ⟨rfl, rfl, rfl, rfl⟩ (rng rfl) ⟨rfl, rfl, rfl, rfl⟩ (rng rfl) ⟨rfl, rfl, rfl, rfl⟩ ?_
  refine Chunk.nullary (n := 70) _ _ _ ⟨rfl, rfl, rfl, rfl⟩ ?_
  refine Chunk.unary (n := 71) 70 _ _ _ _ _ ⟨rfl, rfl, rfl, rfl⟩ (rng rfl) ⟨rfl, rfl, rfl, rfl⟩ ?_
  refine Chunk.binary (n := 72) 65 71 _ _ _ _ _ _ _ ⟨rfl, rfl, rfl, rfl⟩ (rng rfl) ⟨rfl, rfl, rfl, rfl⟩ (rng rfl) ⟨rfl, rfl, rfl, rfl⟩ ?_
  refine Chunk.binary (n := 73) 69 72 _ _ _ _ _ _ _ ⟨rfl, rfl, rfl, rfl⟩ (rng rfl) ⟨rfl, rfl, rfl, rfl⟩ (rng rfl) ⟨rfl, rfl, rfl, rfl⟩ ?_
  refine Chunk.binary (n := 74) 66 73 _ _ _ _ _ _ _ ⟨rfl, rfl, rfl, rfl⟩ (rng rfl) ⟨rfl, rfl, rfl, rfl⟩ (rng rfl) ⟨rfl, rfl, rfl, rfl⟩ ?_
  refine Chunk.binary (n := 75) 66 74 _ _ _ _ _ _ _ ⟨rfl, rfl, rfl, rfl⟩ (rng rfl) ⟨rfl, rfl, rfl, rfl⟩ (rng rfl) ⟨rfl, rfl, rfl, rfl⟩ ?_
  refine Chunk.nullary (n := 76) _ _ _ ⟨rfl, rfl, rfl, rfl⟩ ?_
  refine Chunk.unary (n := 77) 76 _ _ _ _ _ ⟨rfl, rfl, rfl, rfl⟩ (rng rfl) ⟨rfl, rfl, rfl, rfl⟩ ?_
  refine Chunk.binary (n := 78) 74 77 _ _ _ _ _ _ _ ⟨rfl, rfl, rfl, rfl⟩ (rng rfl) ⟨rfl, rfl, rfl, rfl⟩ (rng rfl) ⟨rfl, rfl, rfl, rfl⟩ ?_
  refine Chunk.nullary (n := 79) _ _ _ ⟨rfl, rfl, rfl, rfl⟩ ?_
  refine Chunk.unary (n := 80) 79 _ _ _ _ _ ⟨rfl, rfl, rfl, rfl⟩ (rng rfl) ⟨rfl, rfl, rfl, rfl⟩ ?_
  refine Chunk.binary (n := 81) 74 80 _ _ _ _ _ _ _ ⟨rfl, rfl, rfl, rfl⟩ (rng rfl) ⟨rfl, rfl, rfl, rfl⟩ (rng rfl) ⟨rfl, rfl, rfl, rfl⟩ ?_
  refine Chunk.binary (n := 82) 78 81 _ _ _ _ _ _ _ ⟨rfl, rfl, rfl, rfl⟩ (rng rfl) ⟨rfl, rfl, rfl, rfl⟩ (rng rfl) ⟨rfl, rfl, rfl, rfl⟩ ?_
  refine Chunk.binary (n := 83) 75 82 _ _ _ _ _ _ _ ⟨rfl, rfl, rfl, rfl⟩ (rng rfl) ⟨rfl, rfl, rfl, rfl⟩ (rng rfl) ⟨rfl, rfl, rfl, rfl⟩ ?_
  refine Chunk.unary (n := 84) 26 _ _ _ _ _ ⟨rfl, rfl, rfl, rfl⟩ (rng rfl) ⟨rfl, rfl, rfl, rfl⟩ ?_
  refine Chunk.binary (n := 85) 75 84 _ _ _ _ _ _ _ ⟨rfl, rfl, rfl, rfl⟩ (rng rfl) ⟨rfl, rfl, rfl, rfl⟩ (rng rfl) ⟨rfl, rfl, rfl, rfl⟩ ?_
  refine Chunk.unary (n := 86) 43 _ _ _ _ _ ⟨rfl, rfl, rfl, rfl⟩ (rng rfl) ⟨rfl, rfl, rfl, rfl⟩ ?_
  refine Chunk.binary (n := 87) 83 86 _ _ _ _ _ _ _ ⟨rfl, rfl, rfl, rfl⟩ (rng rfl) ⟨rfl, rfl, rfl, rfl⟩ (rng rfl) ⟨rfl, rfl, rfl, rfl⟩ ?_
  refine Chunk.nullary (n := 88) _ _ _ ⟨rfl, rfl, rfl, rfl⟩ ?_
  refine Chunk.unary (n := 89) 88 _ _ _ _ _ ⟨rfl, rfl, rfl, rfl⟩ (rng rfl) ⟨rfl, rfl, rfl, rfl⟩ ?_
  refine Chunk.binary (n := 90) 87 89 _ _ _ _ _ _ _ ⟨rfl, rfl, rfl, rfl⟩ (rng rfl) ⟨rfl, rfl, rfl, rfl⟩ (rng rfl) ⟨rfl, rfl, rfl, rfl⟩ ?_
  refine Chunk.binary (n := 91) 85 90 _ _ _ _ _ _ _ ⟨rfl, rfl, rfl, rfl⟩ (rng rfl) ⟨rfl, rfl, rfl, rfl⟩ (rng rfl) ⟨rfl, rfl, rfl, rfl⟩ ?_
  refine Chunk.nullary (n := 92) _ _ _ ⟨rfl, rfl, rfl, rfl⟩ ?_
  refine Chunk.unary (n := 93) 92 _ _ _ _ _ ⟨rfl, rfl, rfl, rfl⟩ (rng rfl) ⟨rfl, rfl, rfl, rfl⟩ ?_
  refine Chunk.binary (n := 94) 90 93 _ _ _ _ _ _ _ ⟨rfl, rfl, rfl, rfl⟩ (rng rfl) ⟨rfl, rfl, rfl, rfl⟩ (rng rfl) ⟨rfl, rfl, rfl, rfl⟩ ?_
  refine Chunk.nullary (n := 95) _ _ _ ⟨rfl, rfl, rfl, rfl⟩ ?_
  refine Chunk.unary (n := 96) 95 _ _ _ _ _ ⟨rfl, rfl, rfl, rfl⟩ (rng rfl) ⟨rfl, rfl, rfl, rfl⟩ ?_
  refine Chunk.binary (n := 97) 90 96 _ _ _ _ _ _ _ ⟨rfl, rfl, rfl, rfl⟩ (rng rfl) ⟨rfl, rfl, rfl, rfl⟩ (rng rfl) ⟨rfl, rfl, rfl, rfl⟩ ?_
  refine Chunk.binary (n := 98) 94 97 _ _ _ _ _ _ _ ⟨rfl, rfl, rfl, rfl⟩ (rng rfl) ⟨rfl, rfl, rfl, rfl⟩ (rng rfl) ⟨rfl, rfl, rfl, rfl⟩ ?_
  refine Chunk.binary (n := 99) 91 98 _ _ _ _ _ _ _ ⟨rfl, rfl, rfl, rfl⟩ (rng rfl) ⟨rfl, rfl, rfl, rfl⟩ (rng rfl) ⟨rfl, rfl, rfl, rfl⟩ ?_
  refine Chunk.binary (n := 100) 91 99 _ _ _ _ _ _ _ ⟨rfl, rfl, rfl, rfl⟩ (rng rfl) ⟨rfl, rfl, rfl, rfl⟩ (rng rfl) ⟨rfl, rfl, rfl, rfl⟩ ?_
  exact Chunk.nil
set_option maxHeartbeats 4000000 in
theorem cT1 : Chunk (F := F) 101 161 kT1 opsT1 := by
  refine Chunk.nullary (n := 101) _ _ _ ⟨rfl, rfl, rfl, rfl⟩ ?_
  refine Chunk.unary (n := 102) 101 _ _ _ _ _ ⟨rfl, rfl, rfl, rfl⟩ (rng rfl) ⟨rfl, rfl, rfl, rfl⟩ ?_
  refine Chunk.binary (n := 103) 99 102 _ _ _ _ _ _ _ ⟨rfl, rfl, rfl, rfl⟩ (rng rfl) ⟨rfl, rfl, rfl, rfl⟩ (rng rfl) ⟨rfl, rfl, rfl, rfl⟩ ?_
  refine Chunk.nullary (n := 104) _ _ _ ⟨rfl, rfl, rfl, rfl⟩ ?_
  refine Chunk.unary (n := 105) 104 _ _ _ _ _ ⟨rfl, rfl, rfl, rfl⟩ (rng rfl) ⟨rfl, rfl, rfl, rfl⟩ ?_
  refine Chunk.binary (n := 106) 99 105 _ _ _ _ _ _ _ ⟨rfl, rfl, rfl, rfl⟩ (rng rfl) ⟨rfl, rfl, rfl, rfl⟩ (rng rfl) ⟨rfl, rfl, rfl, rfl⟩ ?_
  refine Chunk.binary (n := 107) 103 106 _ _ _ _ _ _ _ ⟨rfl, rfl, rfl, rfl⟩ (rng rfl) ⟨rfl, rfl, rfl, rfl⟩ (rng rfl) ⟨rfl, rfl, rfl, rfl⟩ ?_
  refine Chunk.binary (n := 108) 100 107 _ _ _ _ _ _ _ ⟨rfl, rfl, rfl, rfl⟩ (rng rfl) ⟨rfl, rfl, rfl, rfl⟩ (rng rfl) ⟨rfl, rfl, rfl, rfl⟩ ?_
  refine Chunk.binary (n := 109) 100 108 _ _ _ _ _ _ _ ⟨rfl, rfl, rfl, rfl⟩ (rng rfl) ⟨rfl, rfl, rfl, rfl⟩ (rng rfl) ⟨rfl, rfl, rfl, rfl⟩ ?_
  refine Chunk.nullary (n := 110) _ _ _ ⟨rfl, rfl, rfl, rfl⟩ ?_
  refine Chunk.unary (n := 111) 110 _ _ _ _ _ ⟨rfl, rfl, rfl, rfl⟩ (rng rfl) ⟨rfl, rfl, rfl, rfl⟩ ?_
  refine Chunk.binary (n := 112) 108 111 _ _ _ _ _ _ _ ⟨rfl, rfl, rfl, rfl⟩ (rng rfl) ⟨rfl, rfl, rfl, rfl⟩ (rng rfl) ⟨rfl, rfl, rfl, rfl⟩ ?_
  refine Chunk.nullary (n := 113) _ _ _ ⟨rfl, rfl, rfl, rfl⟩ ?_
  refine Chunk.unary (n := 114) 113 _ _ _ _ _ ⟨rfl, rfl, rfl, rfl⟩ (rng rfl) ⟨rfl, rfl, rfl, rfl⟩ ?_
  refine Chunk.binary (n := 115) 108 114 _ _ _ _ _ _ _ ⟨rfl, rfl, rfl, rfl⟩ (rng rfl) ⟨rfl, rfl, rfl, rfl⟩ (rng rfl) ⟨rfl, rfl, rfl, rfl⟩ ?_
  refine Chunk.binary (n := 116) 112 115 _ _ _ _ _ _ _ ⟨rfl, rfl, rfl, rfl⟩ (rng rfl) ⟨rfl, rfl, rfl, rfl⟩ (rng rfl) ⟨rfl, rfl, rfl, rfl⟩ ?_
  refine Chunk.binary (n := 117) 109 116 _ _ _ _ _ _ _ ⟨rfl, rfl, rfl, rfl⟩ (rng rfl) ⟨rfl, rfl, rfl, rfl⟩ (rng rfl) ⟨rfl, rfl, rfl, rfl⟩ ?_
  refine Chunk.binary (n := 118) 109 117 _ _ _ _ _ _ _ ⟨rfl, rfl, rfl, rfl⟩ (rng rfl) ⟨rfl, rfl, rfl, rfl⟩ (rng rfl) ⟨rfl, rfl, rfl, rfl⟩ ?_
  refine Chunk.nullary (n := 119) _ _ _ ⟨rfl, rfl, rfl, rfl⟩ ?_
  refine Chunk.unary (n := 120) 119 _ _ _ _ _ ⟨rfl, rfl, rfl, rfl⟩ (rng rfl) ⟨rfl, rfl, rfl, rfl⟩ ?_
  refine Chunk.binary (n := 121) 117 120 _ _ _ _ _ _ _ ⟨rfl, rfl, rfl, rfl⟩ (rng rfl) ⟨rfl, rfl, rfl, rfl⟩ (rng rfl) ⟨rfl, rfl, rfl, rfl⟩ ?_
  refine Chunk.nullary (n := 122) _ _ _ ⟨rfl, rfl, rfl, rfl⟩ ?_
  refine Chunk.unary (n := 123) 122 _ _ _ _ _ ⟨rfl, rfl, rfl, rfl⟩ (rng rfl) ⟨rfl, rfl, rfl, rfl⟩ ?_
  refine Chunk.binary (n := 124) 117 123 _ _ _ _ _ _ _ ⟨rfl, rfl, rfl, rfl⟩ (rng rfl) ⟨rfl, rfl, rfl, rfl⟩ (rng rfl) ⟨rfl, rfl, rfl, rfl⟩ ?_
  refine Chunk.binary (n := 125) 121 124 _ _ _ _ _ _ _ ⟨rfl, rfl, rfl, rfl⟩ (rng rfl) ⟨rfl, rfl, rfl, rfl⟩ (rng rfl) ⟨rfl, rfl, rfl, rfl⟩ ?_
  refine Chunk.binary (n := 126) 118 125 _ _ _ _ _ _ _ ⟨rfl, rfl, rfl, rfl⟩ (rng rfl) ⟨rfl, rfl, rfl, rfl⟩ (rng rfl) ⟨rfl, rfl, rfl, rfl⟩ ?_
  refine Chunk.unary (n := 127) 43 _ _ _ _ _ ⟨rfl, rfl, rfl, rfl⟩ (rng rfl) ⟨rfl, rfl, rfl, rfl⟩ ?_
  refine Chunk.binary (n := 128) 118 127 _ _ _ _ _ _ _ ⟨rfl, rfl, rfl, rfl⟩ (rng rfl) ⟨rfl, rfl, rfl, rfl⟩ (rng rfl) ⟨rfl, rfl, rfl, rfl⟩ ?_
  refine Chunk.unary (n := 129) 24 _ _ _ _ _ ⟨rfl, rfl, rfl, rfl⟩ (rng rfl) ⟨rfl, rfl, rfl, rfl⟩ ?_
  refine Chunk.binary (n := 130) 126 129 _ _ _ _ _ _ _ ⟨rfl, rfl, rfl, rfl⟩ (rng rfl) ⟨rfl, rfl, rfl, rfl⟩ (rng rfl) ⟨rfl, rfl, rfl, rfl⟩ ?_
  refine Chunk.nullary (n := 131) _ _ _ ⟨rfl, rfl, rfl, rfl⟩ ?_
  refine Chunk.unary (n := 132) 131 _ _ _ _ _ ⟨rfl, rfl, rfl, rfl⟩ (rng rfl) ⟨rfl, rfl, rfl, rfl⟩ ?_
  refine Chunk.binary (n := 133) 130 132 _ _ _ _ _ _ _ ⟨rfl, rfl, rfl, rfl⟩ (rng rfl) ⟨rfl, rfl, rfl, rfl⟩ (rng rfl) ⟨rfl, rfl, rfl, rfl⟩ ?_
  refine Chunk.binary (n := 134) 128 133 _ _ _ _ _ _ _ ⟨rfl, rfl, rfl, rfl⟩ (rng rfl) ⟨rfl, rfl, rfl, rfl⟩ (rng rfl) ⟨rfl, rfl, rfl, rfl⟩ ?_
  refine Chunk.nullary (n := 135) _ _ _ ⟨rfl, rfl, rfl, rfl⟩ ?_
  refine Chunk.unary (n := 136) 135 _ _ _ _ _ ⟨rfl, rfl, rfl, rfl⟩ (rng rfl) ⟨rfl, rfl, rfl, rfl⟩ ?_
  refine Chunk.binary (n := 137) 133 136 _ _ _ _ _ _ _ ⟨rfl, rfl, rfl, rfl⟩ (rng rfl) ⟨rfl, rfl, rfl, rfl⟩ (rng rfl) ⟨rfl, rfl, rfl, rfl⟩ ?_
  refine Chunk.nullary (n := 138) _ _ _ ⟨rfl, rfl, rfl, rfl⟩ ?_
  refine Chunk.unary (n := 139) 138 _ _ _ _ _ ⟨rfl, rfl, rfl, rfl⟩ (rng rfl) ⟨rfl, rfl, rfl, rfl⟩ ?_
  refine Chunk.binary (n := 140) 133 139 _ _ _ _ _ _ _ ⟨rfl, rfl, rfl, rfl⟩ (rng rfl) ⟨rfl, rfl, rfl, rfl⟩ (rng rfl) ⟨rfl, rfl, rfl, rfl⟩ ?_
  refine Chunk.binary (n := 141) 137 140 _ _ _ _ _ _ _ ⟨rfl, rfl, rfl, rfl⟩ (rng rfl) ⟨rfl, rfl, rfl, rfl⟩ (rng rfl) ⟨rfl, rfl, rfl, rfl⟩ ?_
  refine Chunk.binary (n := 142) 134 141 _ _ _ _ _ _ _ ⟨rfl, rfl, rfl, rfl⟩ (rng rfl) ⟨rfl, rfl, rfl, rfl⟩ (rng rfl) ⟨rfl, rfl, rfl, rfl⟩ ?_
  refine Chunk.binary (n := 143) 134 142 _ _ _ _ _ _ _ ⟨rfl, rfl, rfl, rfl⟩ (rng rfl) ⟨rfl, rfl, rfl, rfl⟩ (rng rfl) ⟨rfl, rfl, rfl, rfl⟩ ?_
  refine Chunk.nullary (n := 144) _ _ _ ⟨rfl, rfl, rfl, rfl⟩ ?_
  refine Chunk.unary (n := 145) 144 _ _ _ _ _ ⟨rfl, rfl, rfl, rfl⟩ (rng rfl) ⟨rfl, rfl, rfl, rfl⟩ ?_
  refine Chunk.binary (n := 146) 142 145 _ _ _ _ _ _ _ ⟨rfl, rfl, rfl, rfl⟩ (rng rfl) ⟨rfl, rfl, rfl, rfl⟩ (rng rfl) ⟨rfl, rfl, rfl, rfl⟩ ?_
  refine Chunk.nullary (n := 147) _ _ _ ⟨rfl, rfl, rfl, rfl⟩ ?_
  refine Chunk.unary (n := 148) 147 _ _ _ _ _ ⟨rfl, rfl, rfl, rfl⟩ (rng rfl) ⟨rfl, rfl, rfl, rfl⟩ ?_
  refine Chunk.binary (n := 149) 142 148 _ _ _ _ _ _ _ ⟨rfl, rfl, rfl, rfl⟩ (rng rfl) ⟨rfl, rfl, rfl, rfl⟩ (rng rfl) ⟨rfl, rfl, rfl, rfl⟩ ?_
  refine Chunk.binary (n := 150) 146 149 _ _ _ _ _ _ _ ⟨rfl, rfl, rfl, rfl⟩ (rng rfl) ⟨rfl, rfl, rfl, rfl⟩ (rng rfl) ⟨rfl, rfl, rfl, rfl⟩ ?_
  refine Chunk.binary (n := 151) 143 150 _ _ _ _ _ _ _ ⟨rfl, rfl, rfl, rfl⟩ (rng rfl) ⟨rfl, rfl, rfl, rfl⟩ (rng rfl) ⟨rfl, rfl, rfl, rfl⟩ ?_
  refine Chunk.binary (n := 152) 143 151 _ _ _ _ _ _ _ ⟨rfl, rfl, rfl, rfl⟩ (rng rfl) ⟨rfl, rfl, rfl, rfl⟩ (rng rfl) ⟨rfl, rfl, rfl, rfl⟩ ?_
  refine Chunk.nullary (n := 153) _ _ _ ⟨rfl, rfl, rfl, rfl⟩ ?_
  refine Chunk.unary (n := 154) 153 _ _ _ _ _ ⟨rfl, rfl, rfl, rfl⟩ (rng rfl) ⟨rfl, rfl, rfl, rfl⟩ ?_
  refine Chunk.binary (n := 155) 151 154 _ _ _ _ _ _ _ ⟨rfl, rfl, rfl, rfl⟩ (rng rfl) ⟨rfl, rfl, rfl, rfl⟩ (rng rfl) ⟨rfl, rfl, rfl, rfl⟩ ?_
  refine Chunk.nullary (n := 156) _ _ _ ⟨rfl, rfl, rfl, rfl⟩ ?_
  refine Chunk.unary (n := 157) 156 _ _ _ _ _ ⟨rfl, rfl, rfl, rfl⟩ (rng rfl) ⟨rfl, rfl, rfl, rfl⟩ ?_
  refine Chunk.binary (n := 158) 151 157 _ _ _ _ _ _ _ ⟨rfl, rfl, rfl, rfl⟩ (rng rfl) ⟨rfl, rfl, rfl, rfl⟩ (rng rfl) ⟨rfl, rfl, rfl, rfl⟩ ?_
  refine Chunk.binary (n := 159) 155 158 _ _ _ _ _ _ _ ⟨rfl, rfl, rfl, rfl⟩ (rng rfl) ⟨rfl, rfl, rfl, rfl⟩ (rng rfl) ⟨rfl, rfl, rfl, rfl⟩ ?_
  refine Chunk.binary (n := 160) 152 159 _ _ _ _ _ _ _ ⟨rfl, rfl, rfl, rfl⟩ (rng rfl) ⟨rfl, rfl, rfl, rfl⟩ (rng rfl) ⟨rfl, rfl, rfl, rfl⟩ ?_
  exact Chunk.nil
set_option maxHeartbeats 4000000 in
theorem cT2 : Chunk (F := F) 161 221 kT2 opsT2 := by
  refine Chunk.binary (n := 161) 152 160 _ _ _ _ _ _ _ ⟨rfl, rfl, rfl, rfl⟩ (rng rfl) ⟨rfl, rfl, rfl, rfl⟩ (rng rfl) ⟨rfl, rfl, rfl, rfl⟩ ?_
  refine Chunk.nullary (n := 162) _ _ _ ⟨rfl, rfl, rfl, rfl⟩ ?_
  refine Chunk.unary (n := 163) 162 _ _ _ _ _ ⟨rfl, rfl, rfl, rfl⟩ (rng rfl) ⟨rfl, rfl, rfl, rfl⟩ ?_
  refine Chunk.binary (n := 164) 160 163 _ _ _ _ _ _ _ ⟨rfl, rfl, rfl, rfl⟩ (rng rfl) ⟨rfl, rfl, rfl, rfl⟩ (rng rfl) ⟨rfl, rfl, rfl, rfl⟩ ?_
  refine Chunk.nullary (n := 165) _ _ _ ⟨rfl, rfl, rfl, rfl⟩ ?_
  refine Chunk.unary (n := 166) 165 _ _ _ _ _ ⟨rfl, rfl, rfl, rfl⟩ (rng rfl) ⟨rfl, rfl, rfl, rfl⟩ ?_
  refine Chunk.binary (n := 167) 160 166 _ _ _ _ _ _ _ ⟨rfl, rfl, rfl, rfl⟩ (rng rfl) ⟨rfl, rfl, rfl, rfl⟩ (rng rfl) ⟨rfl, rfl, rfl, rfl⟩ ?_
  refine Chunk.binary (n := 168) 164 167 _ _ _ _ _ _ _ ⟨rfl, rfl, rfl, rfl⟩ (rng rfl) ⟨rfl, rfl, rfl, rfl⟩ (rng rfl) ⟨rfl, rfl, rfl, rfl⟩ ?_
  refine Chunk.binary (n := 169) 161 168 _ _ _ _ _ _ _ ⟨rfl, rfl, rfl, rfl⟩ (rng rfl) ⟨rfl, rfl, rfl, rfl⟩ (rng rfl) ⟨rfl, rfl, rfl, rfl⟩ ?_
  refine Chunk.unary (n := 170) 24 _ _ _ _ _ ⟨rfl, rfl, rfl, rfl⟩ (rng rfl) ⟨rfl, rfl, rfl, rfl⟩ ?_
  refine Chunk.binary (n := 171) 161 170 _ _ _ _ _ _ _ ⟨rfl, rfl, rfl, rfl⟩ (rng rfl) ⟨rfl, rfl, rfl, rfl⟩ (rng rfl) ⟨rfl, rfl, rfl, rfl⟩ ?_
  refine Chunk.unary (n := 172) 26 _ _ _ _ _ ⟨rfl, rfl, rfl, rfl⟩ (rng rfl) ⟨rfl, rfl, rfl, rfl⟩ ?_
  refine Chunk.binary (n := 173) 169 172 _ _ _ _ _ _ _ ⟨rfl, rfl, rfl, rfl⟩ (rng rfl) ⟨rfl, rfl, rfl, rfl⟩ (rng rfl) ⟨rfl, rfl, rfl, rfl⟩ ?_
  refine Chunk.nullary (n := 174) _ _ _ ⟨rfl, rfl, rfl, rfl⟩ ?_
  refine Chunk.unary (n := 175) 174 _ _ _ _ _ ⟨rfl, rfl, rfl, rfl⟩ (rng rfl) ⟨rfl, rfl, rfl, rfl⟩ ?_
  refine Chunk.binary (n := 176) 173 175 _ _ _ _ _ _ _ ⟨rfl, rfl, rfl, rfl⟩ (rng rfl) ⟨rfl, rfl, rfl, rfl⟩ (rng rfl) ⟨rfl, rfl, rfl, rfl⟩ ?_
  refine Chunk.binary (n := 177) 171 176 _ _ _ _ _ _ _ ⟨rfl, rfl, rfl, rfl⟩ (rng rfl) ⟨rfl, rfl, rfl, rfl⟩ (rng rfl) ⟨rfl, rfl, rfl, rfl⟩ ?_
  refine Chunk.nullary (n := 178) _ _ _ ⟨rfl, rfl, rfl, rfl⟩ ?_
  refine Chunk.unary (n := 179) 178 _ _ _ _ _ ⟨rfl, rfl, rfl, rfl⟩ (rng rfl) ⟨rfl, rfl, rfl, rfl⟩ ?_
  refine Chunk.binary (n := 180) 176 179 _ _ _ _ _ _ _ ⟨rfl, rfl, rfl, rfl⟩ (rng rfl) ⟨rfl, rfl, rfl, rfl⟩ (rng rfl) ⟨rfl, rfl, rfl, rfl⟩ ?_
  refine Chunk.nullary (n := 181) _ _ _ ⟨rfl, rfl, rfl, rfl⟩ ?_
  refine Chunk.unary (n := 182) 181 _ _ _ _ _ ⟨rfl, rfl, rfl, rfl⟩ (rng rfl) ⟨rfl, rfl, rfl, rfl⟩ ?_
  refine Chunk.binary (n := 183) 176 182 _ _ _ _ _ _ _ ⟨rfl, rfl, rfl, rfl⟩ (rng rfl) ⟨rfl, rfl, rfl, rfl⟩ (rng rfl) ⟨rfl, rfl, rfl, rfl⟩ ?_
  refine Chunk.binary (n := 184) 180 183 _ _ _ _ _ _ _ ⟨rfl, rfl, rfl, rfl⟩ (rng rfl) ⟨rfl, rfl, rfl, rfl⟩ (rng rfl) ⟨rfl, rfl, rfl, rfl⟩ ?_
  refine Chunk.binary (n := 185) 177 184 _ _ _ _ _ _ _ ⟨rfl, rfl, rfl, rfl⟩ (rng rfl) ⟨rfl, rfl, rfl, rfl⟩ (rng rfl) ⟨rfl, rfl, rfl, rfl⟩ ?_
  refine Chunk.binary (n := 186) 177 185 _ _ _ _ _ _ _ ⟨rfl, rfl, rfl, rfl⟩ (rng rfl) ⟨rfl, rfl, rfl, rfl⟩ (rng rfl) ⟨rfl, rfl, rfl, rfl⟩ ?_
  refine Chunk.nullary (n := 187) _ _ _ ⟨rfl, rfl, rfl, rfl⟩ ?_
  refine Chunk.unary (n := 188) 187 _ _ _ _ _ ⟨rfl, rfl, rfl, rfl⟩ (rng rfl) ⟨rfl, rfl, rfl, rfl⟩ ?_
  refine Chunk.binary (n := 189) 185 188 _ _ _ _ _ _ _ ⟨rfl, rfl, rfl, rfl⟩ (rng rfl) ⟨rfl, rfl, rfl, rfl⟩ (rng rfl) ⟨rfl, rfl, rfl, rfl⟩ ?_
  refine Chunk.nullary (n := 190) _ _ _ ⟨rfl, rfl, rfl, rfl⟩ ?_
  refine Chunk.unary (n := 191) 190 _ _ _ _ _ ⟨rfl, rfl, rfl, rfl⟩ (rng rfl) ⟨rfl, rfl, rfl, rfl⟩ ?_
  refine Chunk.binary (n := 192) 185 191 _ _ _ _ _ _ _ ⟨rfl, rfl, rfl, rfl⟩ (rng rfl) ⟨rfl, rfl, rfl, rfl⟩ (rng rfl) ⟨rfl, rfl, rfl, rfl⟩ ?_
  refine Chunk.binary (n := 193) 189 192 _ _ _ _ _ _ _ ⟨rfl, rfl, rfl, rfl⟩ (rng rfl) ⟨rfl, rfl, rfl, rfl⟩ (rng rfl) ⟨rfl, rfl, rfl, rfl⟩ ?_
  refine Chunk.binary (n := 194) 186 193 _ _ _ _ _ _ _ ⟨rfl, rfl, rfl, rfl⟩ (rng rfl) ⟨rfl, rfl, rfl, rfl⟩ (rng rfl) ⟨rfl, rfl, rfl, rfl⟩ ?_
  refine Chunk.binary (n := 195) 186 194 _ _ _ _ _ _ _ ⟨rfl, rfl, rfl, rfl⟩ (rng rfl) ⟨rfl, rfl, rfl, rfl⟩ (rng rfl) ⟨rfl, rfl, rfl, rfl⟩ ?_
  refine Chunk.nullary (n := 196) _ _ _ ⟨rfl, rfl, rfl, rfl⟩ ?_
  refine Chunk.unary (n := 197) 196 _ _ _ _ _ ⟨rfl, rfl, rfl, rfl⟩ (rng rfl) ⟨rfl, rfl, rfl, rfl⟩ ?_
  refine Chunk.binary (n := 198) 194 197 _ _ _ _ _ _ _ ⟨rfl, rfl, rfl, rfl⟩ (rng rfl) ⟨rfl, rfl, rfl, rfl⟩ (rng rfl) ⟨rfl, rfl, rfl, rfl⟩ ?_
  refine Chunk.nullary (n := 199) _ _ _ ⟨rfl, rfl, rfl, rfl⟩ ?_
  refine Chunk.unary (n := 200) 199 _ _ _ _ _ ⟨rfl, rfl, rfl, rfl⟩ (rng rfl) ⟨rfl, rfl, rfl, rfl⟩ ?_
  refine Chunk.binary (n := 201) 194 200 _ _ _ _ _ _ _ ⟨rfl, rfl, rfl, rfl⟩ (rng rfl) ⟨rfl, rfl, rfl, rfl⟩ (rng rfl) ⟨rfl, rfl, rfl, rfl⟩ ?_
  refine Chunk.binary (n := 202) 198 201 _ _ _ _ _ _ _ ⟨rfl, rfl, rfl, rfl⟩ (rng rfl) ⟨rfl, rfl, rfl, rfl⟩ (rng rfl) ⟨rfl, rfl, rfl, rfl⟩ ?_
  refine Chunk.binary (n := 203) 195 202 _ _ _ _ _ _ _ ⟨rfl, rfl, rfl, rfl⟩ (rng rfl) ⟨rfl, rfl, rfl, rfl⟩ (rng rfl) ⟨rfl, rfl, rfl, rfl⟩ ?_
  refine Chunk.binary (n := 204) 195 203 _ _ _ _ _ _ _ ⟨rfl, rfl, rfl, rfl⟩ (rng rfl) ⟨rfl, rfl, rfl, rfl⟩ (rng rfl) ⟨rfl, rfl, rfl, rfl⟩ ?_
  refine Chunk.nullary (n := 205) _ _ _ ⟨rfl, rfl, rfl, rfl⟩ ?_
  refine Chunk.unary (n := 206) 205 _ _ _ _ _ ⟨rfl, rfl, rfl, rfl⟩ (rng rfl) ⟨rfl, rfl, rfl, rfl⟩ ?_
  refine Chunk.binary (n := 207) 203 206 _ _ _ _ _ _ _ ⟨rfl, rfl, rfl, rfl⟩ (rng rfl) ⟨rfl, rfl, rfl, rfl⟩ (rng rfl) ⟨rfl, rfl, rfl, rfl⟩ ?_
  refine Chunk.nullary (n := 208) _ _ _ ⟨rfl, rfl, rfl, rfl⟩ ?_
  refine Chunk.unary (n := 209) 208 _ _ _ _ _ ⟨rfl, rfl, rfl, rfl⟩ (rng rfl) ⟨rfl, rfl, rfl, rfl⟩ ?_
  refine Chunk.binary (n := 210) 203 209 _ _ _ _ _ _ _ ⟨rfl, rfl, rfl, rfl⟩ (rng rfl) ⟨rfl, rfl, rfl, rfl⟩ (rng rfl) ⟨rfl, rfl, rfl, rfl⟩ ?_
  refine Chunk.binary (n := 211) 207 210 _ _ _ _ _ _ _ ⟨rfl, rfl, rfl, rfl⟩ (rng rfl) ⟨rfl, rfl, rfl, rfl⟩ (rng rfl) ⟨rfl, rfl, rfl, rfl⟩ ?_
  refine Chunk.binary (n := 212) 204 211 _ _ _ _ _ _ _ ⟨rfl, rfl, rfl, rfl⟩ (rng rfl) ⟨rfl, rfl, rfl, rfl⟩ (rng rfl) ⟨rfl, rfl, rfl, rfl⟩ ?_
  refine Chunk.unary (n := 213) 26 _ _ _ _ _ ⟨rfl, rfl, rfl, rfl⟩ (rng rfl) ⟨rfl, rfl, rfl, rfl⟩ ?_
  refine Chunk.binary (n := 214) 204 213 _ _ _ _ _ _ _ ⟨rfl, rfl, rfl, rfl⟩ (rng rfl) ⟨rfl, rfl, rfl, rfl⟩ (rng rfl) ⟨rfl, rfl, rfl, rfl⟩ ?_
  refine Chunk.unary (n := 215) 43 _ _ _ _ _ ⟨rfl, rfl, rfl, rfl⟩ (rng rfl) ⟨rfl, rfl, rfl, rfl⟩ ?_
  refine Chunk.binary (n := 216) 212 215 _ _ _ _ _ _ _ ⟨rfl, rfl, rfl, rfl⟩ (rng rfl) ⟨rfl, rfl, rfl, rfl⟩ (rng rfl) ⟨rfl, rfl, rfl, rfl⟩ ?_
  refine Chunk.nullary (n := 217) _ _ _ ⟨rfl, rfl, rfl, rfl⟩ ?_
  refine Chunk.unary (n := 218) 217 _ _ _ _ _ ⟨rfl, rfl, rfl, rfl⟩ (rng rfl) ⟨rfl, rfl, rfl, rfl⟩ ?_
  refine Chunk.binary (n := 219) 216 218 _ _ _ _ _ _ _ ⟨rfl, rfl, rfl, rfl⟩ (rng rfl) ⟨rfl, rfl, rfl, rfl⟩ (rng rfl) ⟨rfl, rfl, rfl, rfl⟩ ?_
  refine Chunk.binary (n := 220) 214 219 _ _ _ _ _ _ _ ⟨rfl, rfl, rfl, rfl⟩ (rng rfl) ⟨rfl, rfl, rfl, rfl⟩ (rng rfl) ⟨rfl, rfl, rfl, rfl⟩ ?_
  exact Chunk.nil
set_option maxHeartbeats 4000000 in
theorem cT3 : Chunk (F := F) 221 263 kT3 opsT3 := by
  refine Chunk.nullary (n := 221) _ _ _ ⟨rfl, rfl, rfl, rfl⟩ ?_
  refine Chunk.unary (n := 222) 221 _ _ _ _ _ ⟨rfl, rfl, rfl, rfl⟩ (rng rfl) ⟨rfl, rfl, rfl, rfl⟩ ?_
  refine Chunk.binary (n := 223) 219 222 _ _ _ _ _ _ _ ⟨rfl, rfl, rfl, rfl⟩ (rng rfl) ⟨rfl, rfl, rfl, rfl⟩ (rng rfl) ⟨rfl, rfl, rfl, rfl⟩ ?_
  refine Chunk.nullary (n := 224) _ _ _ ⟨rfl, rfl, rfl, rfl⟩ ?_
  refine Chunk.unary (n := 225) 224 _ _ _ _ _ ⟨rfl, rfl, rfl, rfl⟩ (rng rfl) ⟨rfl, rfl, rfl, rfl⟩ ?_
  refine Chunk.binary (n := 226) 219 225 _ _ _ _ _ _ _ ⟨rfl, rfl, rfl, rfl⟩ (rng rfl) ⟨rfl, rfl, rfl, rfl⟩ (rng rfl) ⟨rfl, rfl, rfl, rfl⟩ ?_
  refine Chunk.binary (n := 227) 223 226 _ _ _ _ _ _ _ ⟨rfl, rfl, rfl, rfl⟩ (rng rfl) ⟨rfl, rfl, rfl, rfl⟩ (rng rfl) ⟨rfl, rfl, rfl, rfl⟩ ?_
  refine Chunk.binary (n := 228) 220 227 _ _ _ _ _ _ _ ⟨rfl, rfl, rfl, rfl⟩ (rng rfl) ⟨rfl, rfl, rfl, rfl⟩ (rng rfl) ⟨rfl, rfl, rfl, rfl⟩ ?_
  refine Chunk.binary (n := 229) 220 228 _ _ _ _ _ _ _ ⟨rfl, rfl, rfl, rfl⟩ (rng rfl) ⟨rfl, rfl, rfl, rfl⟩ (rng rfl) ⟨rfl, rfl, rfl, rfl⟩ ?_
  refine Chunk.nullary (n := 230) _ _ _ ⟨rfl, rfl, rfl, rfl⟩ ?_
  refine Chunk.unary (n := 231) 230 _ _ _ _ _ ⟨rfl, rfl, rfl, rfl⟩ (rng rfl) ⟨rfl, rfl, rfl, rfl⟩ ?_
  refine Chunk.binary (n := 232) 228 231 _ _ _ _ _ _ _ ⟨rfl, rfl, rfl, rfl⟩ (rng rfl) ⟨rfl, rfl, rfl, rfl⟩ (rng rfl) ⟨rfl, rfl, rfl, rfl⟩ ?_
  refine Chunk.nullary (n := 233) _ _ _ ⟨rfl, rfl, rfl, rfl⟩ ?_
  refine Chunk.unary (n := 234) 233 _ _ _ _ _ ⟨rfl, rfl, rfl, rfl⟩ (rng rfl) ⟨rfl, rfl, rfl, rfl⟩ ?_
  refine Chunk.binary (n := 235) 228 234 _ _ _ _ _ _ _ ⟨rfl, rfl, rfl, rfl⟩ (rng rfl) ⟨rfl, rfl, rfl, rfl⟩ (rng rfl) ⟨rfl, rfl, rfl, rfl⟩ ?_
  refine Chunk.binary (n := 236) 232 235 _ _ _ _ _ _ _ ⟨rfl, rfl, rfl, rfl⟩ (rng rfl) ⟨rfl, rfl, rfl, rfl⟩ (rng rfl) ⟨rfl, rfl, rfl, rfl⟩ ?_
  refine Chunk.binary (n := 237) 229 236 _ _ _ _ _ _ _ ⟨rfl, rfl, rfl, rfl⟩ (rng rfl) ⟨rfl, rfl, rfl, rfl⟩ (rng rfl) ⟨rfl, rfl, rfl, rfl⟩ ?_
  refine Chunk.binary (n := 238) 229 237 _ _ _ _ _ _ _ ⟨rfl, rfl, rfl, rfl⟩ (rng rfl) ⟨rfl, rfl, rfl, rfl⟩ (rng rfl) ⟨rfl, rfl, rfl, rfl⟩ ?_
  refine Chunk.nullary (n := 239) _ _ _ ⟨rfl, rfl, rfl, rfl⟩ ?_
  refine Chunk.unary (n := 240) 239 _ _ _ _ _ ⟨rfl, rfl, rfl, rfl⟩ (rng rfl) ⟨rfl, rfl, rfl, rfl⟩ ?_
  refine Chunk.binary (n := 241) 237 240 _ _ _ _ _ _ _ ⟨rfl, rfl, rfl, rfl⟩ (rng rfl) ⟨rfl, rfl, rfl, rfl⟩ (rng rfl) ⟨rfl, rfl, rfl, rfl⟩ ?_
  refine Chunk.nullary (n := 242) _ _ _ ⟨rfl, rfl, rfl, rfl⟩ ?_
  refine Chunk.unary (n := 243) 242 _ _ _ _ _ ⟨rfl, rfl, rfl, rfl⟩ (rng rfl) ⟨rfl, rfl, rfl, rfl⟩ ?_
  refine Chunk.binary (n := 244) 237 243 _ _ _ _ _ _ _ ⟨rfl, rfl, rfl, rfl⟩ (rng rfl) ⟨rfl, rfl, rfl, rfl⟩ (rng rfl) ⟨rfl, rfl, rfl, rfl⟩ ?_
  refine Chunk.binary (n := 245) 241 244 _ _ _ _ _ _ _ ⟨rfl, rfl, rfl, rfl⟩ (rng rfl) ⟨rfl, rfl, rfl, rfl⟩ (rng rfl) ⟨rfl, rfl, rfl, rfl⟩ ?_
  refine Chunk.binary (n := 246) 238 245 _ _ _ _ _ _ _ ⟨rfl, rfl, rfl, rfl⟩ (rng rfl) ⟨rfl, rfl, rfl, rfl⟩ (rng rfl) ⟨rfl, rfl, rfl, rfl⟩ ?_
  refine Chunk.binary (n := 247) 238 246 _ _ _ _ _ _ _ ⟨rfl, rfl, rfl, rfl⟩ (rng rfl) ⟨rfl, rfl, rfl, rfl⟩ (rng rfl) ⟨rfl, rfl, rfl, rfl⟩ ?_
  refine Chunk.nullary (n := 248) _ _ _ ⟨rfl, rfl, rfl, rfl⟩ ?_
  refine Chunk.unary (n := 249) 248 _ _ _ _ _ ⟨rfl, rfl, rfl, rfl⟩ (rng rfl) ⟨rfl, rfl, rfl, rfl⟩ ?_
  refine Chunk.binary (n := 250) 246 249 _ _ _ _ _ _ _ ⟨rfl, rfl, rfl, rfl⟩ (rng rfl) ⟨rfl, rfl, rfl, rfl⟩ (rng rfl) ⟨rfl, rfl, rfl, rfl⟩ ?_
  refine Chunk.nullary (n := 251) _ _ _ ⟨rfl, rfl, rfl, rfl⟩ ?_
  refine Chunk.unary (n := 252) 251 _ _ _ _ _ ⟨rfl, rfl, rfl, rfl⟩ (rng rfl) ⟨rfl, rfl, rfl, rfl⟩ ?_
  refine Chunk.binary (n := 253) 246 252 _ _ _ _ _ _ _ ⟨rfl, rfl, rfl, rfl⟩ (rng rfl) ⟨rfl, rfl, rfl, rfl⟩ (rng rfl) ⟨rfl, rfl, rfl, rfl⟩ ?_
  refine Chunk.binary (n := 254) 250 253 _ _ _ _ _ _ _ ⟨rfl, rfl, rfl, rfl⟩ (rng rfl) ⟨rfl, rfl, rfl, rfl⟩ (rng rfl) ⟨rfl, rfl, rfl, rfl⟩ ?_
  refine Chunk.binary (n := 255) 247 254 _ _ _ _ _ _ _ ⟨rfl, rfl, rfl, rfl⟩ (rng rfl) ⟨rfl, rfl, rfl, rfl⟩ (rng rfl) ⟨rfl, rfl, rfl, rfl⟩ ?_
  refine Chunk.unary (n := 256) 43 _ _ _ _ _ ⟨rfl, rfl, rfl, rfl⟩ (rng rfl) ⟨rfl, rfl, rfl, rfl⟩ ?_
  refine Chunk.binary (n := 257) 247 256 _ _ _ _ _ _ _ ⟨rfl, rfl, rfl, rfl⟩ (rng rfl) ⟨rfl, rfl, rfl, rfl⟩ (rng rfl) ⟨rfl, rfl, rfl, rfl⟩ ?_
  refine Chunk.unary (n := 258) 24 _ _ _ _ _ ⟨rfl, rfl, rfl, rfl⟩ (rng rfl) ⟨rfl, rfl, rfl, rfl⟩ ?_
  refine Chunk.binary (n := 259) 255 258 _ _ _ _ _ _ _ ⟨rfl, rfl, rfl, rfl⟩ (rng rfl) ⟨rfl, rfl, rfl, rfl⟩ (rng rfl) ⟨rfl, rfl, rfl, rfl⟩ ?_
  refine Chunk.nullary (n := 260) _ _ _ ⟨rfl, rfl, rfl, rfl⟩ ?_
  refine Chunk.unary (n := 261) 260 _ _ _ _ _ ⟨rfl, rfl, rfl, rfl⟩ (rng rfl) ⟨rfl, rfl, rfl, rfl⟩ ?_
  refine Chunk.binary (n := 262) 259 261 _ _ _ _ _ _ _ ⟨rfl, rfl, rfl, rfl⟩ (rng rfl) ⟨rfl, rfl, rfl, rfl⟩ (rng rfl) ⟨rfl, rfl, rfl, rfl⟩ ?_
  exact Chunk.nil
set_option maxHeartbeats 4000000 in
theorem cG1 : Chunk (F := F) 263 285 kG1 opsG1 := by
  refine Chunk.binary (n := 263) 257 262 _ _ _ _ _ _ _ ⟨rfl, rfl, rfl, rfl⟩ (rng rfl) ⟨rfl, rfl, rfl, rfl⟩ (rng rfl) ⟨rfl, rfl, rfl, rfl⟩ ?_
  refine Chunk.nullary (n := 264) _ _ _ ⟨rfl, rfl, rfl, rfl⟩ ?_
  refine Chunk.unary (n := 265) 264 _ _ _ _ _ ⟨rfl, rfl, rfl, rfl⟩ (rng rfl) ⟨rfl, rfl, rfl, rfl⟩ ?_
  refine Chunk.binary (n := 266) 263 265 _ _ _ _ _ _ _ ⟨rfl, rfl, rfl, rfl⟩ (rng rfl) ⟨rfl, rfl, rfl, rfl⟩ (rng rfl) ⟨rfl, rfl, rfl, rfl⟩ ?_
  refine Chunk.nullary (n := 267) _ _ _ ⟨rfl, rfl, rfl, rfl⟩ ?_
  refine Chunk.unary (n := 268) 267 _ _ _ _ _ ⟨rfl, rfl, rfl, rfl⟩ (rng rfl) ⟨rfl, rfl, rfl, rfl⟩ ?_
  refine Chunk.binary (n := 269) 266 268 _ _ _ _ _ _ _ ⟨rfl, rfl, rfl, rfl⟩ (rng rfl) ⟨rfl, rfl, rfl, rfl⟩ (rng rfl) ⟨rfl, rfl, rfl, rfl⟩ ?_
  refine Chunk.unary (n := 270) 269 _ _ _ _ _ ⟨rfl, rfl, rfl, rfl⟩ (rng rfl) ⟨rfl, rfl, rfl, rfl⟩ ?_
  refine Chunk.nullary (n := 271) _ _ _ ⟨rfl, rfl, rfl, rfl⟩ ?_
  refine Chunk.unary (n := 272) 271 _ _ _ _ _ ⟨rfl, rfl, rfl, rfl⟩ (rng rfl) ⟨rfl, rfl, rfl, rfl⟩ ?_
  refine Chunk.binary (n := 273) 270 272 _ _ _ _ _ _ _ ⟨rfl, rfl, rfl, rfl⟩ (rng rfl) ⟨rfl, rfl, rfl, rfl⟩ (rng rfl) ⟨rfl, rfl, rfl, rfl⟩ ?_
  refine Chunk.binary (n := 274) 22 21 _ _ _ _ _ _ _ ⟨rfl, rfl, rfl, rfl⟩ (rng rfl) ⟨rfl, rfl, rfl, rfl⟩ (rng rfl) ⟨rfl, rfl, rfl, rfl⟩ ?_
  refine Chunk.unary (n := 275) 274 _ _ _ _ _ ⟨rfl, rfl, rfl, rfl⟩ (rng rfl) ⟨rfl, rfl, rfl, rfl⟩ ?_
  refine Chunk.binary (n := 276) 273 275 _ _ _ _ _ _ _ ⟨rfl, rfl, rfl, rfl⟩ (rng rfl) ⟨rfl, rfl, rfl, rfl⟩ (rng rfl) ⟨rfl, rfl, rfl, rfl⟩ ?_
  refine Chunk.unary (n := 277) 21 _ _ _ _ _ ⟨rfl, rfl, rfl, rfl⟩ (rng rfl) ⟨rfl, rfl, rfl, rfl⟩ ?_
  refine Chunk.binary (n := 278) 276 277 _ _ _ _ _ _ _ ⟨rfl, rfl, rfl, rfl⟩ (rng rfl) ⟨rfl, rfl, rfl, rfl⟩ (rng rfl) ⟨rfl, rfl, rfl, rfl⟩ ?_
  refine Chunk.unary (n := 279) 21 _ _ _ _ _ ⟨rfl, rfl, rfl, rfl⟩ (rng rfl) ⟨rfl, rfl, rfl, rfl⟩ ?_
  refine Chunk.binary (n := 280) 279 278 _ _ _ _ _ _ _ ⟨rfl, rfl, rfl, rfl⟩ (rng rfl) ⟨rfl, rfl, rfl, rfl⟩ (rng rfl) ⟨rfl, rfl, rfl, rfl⟩ ?_
  refine Chunk.unary (n := 281) 280 _ _ _ _ _ ⟨rfl, rfl, rfl, rfl⟩ (rng rfl) ⟨rfl, rfl, rfl, rfl⟩ ?_
  refine Chunk.unary (n := 282) 281 _ _ _ _ _ ⟨rfl, rfl, rfl, rfl⟩ (rng rfl) ⟨rfl, rfl, rfl, rfl⟩ ?_
  refine Chunk.unary (n := 283) 282 _ _ _ _ _ ⟨rfl, rfl, rfl, rfl⟩ (rng rfl) ⟨rfl, rfl, rfl, rfl⟩ ?_
  refine Chunk.unary (n := 284) 283 _ _ _ _ _ ⟨rfl, rfl, rfl, rfl⟩ (rng rfl) ⟨rfl, rfl, rfl, rfl⟩ ?_
  exact Chunk.nil
theorem cAll : Chunk (F := F) 18 285 (kG0 ++ ((kT0 ++ (kT1 ++ (kT2 ++ kT3))) ++ kG1)) opsG :=
  cG0.append ((cT0.append (cT1.append (cT2.append cT3))).append cG1)

end Cert.NoiseOps
end
-- ==== Proof.Noise.lean ====
/- The kernel's noise is the reference's, by pairs. -/
module
public import proofs.«01_k».proof.Proof.NoiseOps
@[expose] public section
set_option maxRecDepth 16384
noncomputable section
namespace Cert.Noise
open Idealize.ShloMosaic Idealize.ShloMosaic.TcCoe Idealize.SL.Sem Idealize.ShloMosaic.StableHlo Cert.NoiseSim Cert.NoiseOps
open Cert.ReferenceIdeal.Ops (opsK opsG)
variable {F : FTy → Type} [FloatOps F]

theorem keyK (VK : KVal F) : (after kKey VK (Proc.devRef .tc Cert.KernelIdeal.main_call0_v6) : (⟨⟨1, ![2]⟩, .i32⟩ : BufTy).Contents (Elt F)) =
    concatenate Cert.ReferenceIdeal.S2 0 [⟨Cert.ReferenceIdeal.S1, broadcastInDim Cert.ReferenceIdeal.S1 ![] Cert.ReferenceIdeal.Facts₀.bcast_S_S1 (Host.shrui (constantI Cert.ReferenceIdeal.S_ 32 42#32) (constantI Cert.ReferenceIdeal.S_ 32 32#32))⟩,
      ⟨Cert.ReferenceIdeal.S1, broadcastInDim Cert.ReferenceIdeal.S1 ![] Cert.ReferenceIdeal.Facts₀.bcast_S_S1 (andi (constantI Cert.ReferenceIdeal.S_ 32 42#32) (constantI Cert.ReferenceIdeal.S_ 32 4294967295#32))⟩] Cert.ReferenceIdeal.Facts₀.concatenates_S1_S1_S2_d0 := by
  after_reads_simp
  rfl
theorem keyR (VR : RVal F) : (after opsK VR (Proc.devRef .tc Cert.ReferenceIdeal.main_v31) : (⟨⟨1, ![2]⟩, .i32⟩ : BufTy).Contents (Elt F)) =
    concatenate Cert.ReferenceIdeal.S2 0 [⟨Cert.ReferenceIdeal.S1, broadcastInDim Cert.ReferenceIdeal.S1 ![] Cert.ReferenceIdeal.Facts₀.bcast_S_S1 (Host.shrui (constantI Cert.ReferenceIdeal.S_ 32 42#32) (constantI Cert.ReferenceIdeal.S_ 32 32#32))⟩,
      ⟨Cert.ReferenceIdeal.S1, broadcastInDim Cert.ReferenceIdeal.S1 ![] Cert.ReferenceIdeal.Facts₀.bcast_S_S1 (andi (constantI Cert.ReferenceIdeal.S_ 32 42#32) (constantI Cert.ReferenceIdeal.S_ 32 4294967295#32))⟩] Cert.ReferenceIdeal.Facts₀.concatenates_S1_S1_S2_d0 := by
  after_reads_simp
  rfl

theorem base (VK : KVal F) (VR : RVal F) : Sim 18 (after kKey VK) (after opsK VR) := by
  intro i x x' hx lo hi
  obtain rfl : i = 17 := by omega
  obtain rfl : x = Cert.KernelIdeal.main_call0_v6 := ref_ext hx.1 hx.2.2.1
  obtain rfl : x' = Cert.ReferenceIdeal.main_v31 := ref_ext hx.2.1 hx.2.2.2
  exact heq_of_eq ((keyK VK).trans (keyR VR).symm)

theorem flat (VK : KVal F) (VR : RVal F) :
    (after (kG0 ++ ((kT0 ++ (kT1 ++ (kT2 ++ kT3))) ++ kG1)) (after kKey VK) (Proc.devRef .tc Cert.KernelIdeal.main_call0_v7) : (⟨⟨2, ![1024, 4096]⟩, .f32⟩ : BufTy).Contents (Elt F))
      = after opsG (after opsK VR) (Proc.devRef .tc Cert.ReferenceIdeal.main_v32) :=
  eq_of_heq (cAll _ _ (base VK VR) 284 Cert.KernelIdeal.main_call0_v7 Cert.ReferenceIdeal.main_v32 ⟨rfl, rfl, rfl, rfl⟩ (by decide) (by decide))

theorem endK (W : KVal F) (R : Fin 1024) (i j : Fin 64) : (after kEnd W (Proc.devRef .tc Cert.KernelIdeal.main_v0) : (⟨⟨3, ![1024, 64, 64]⟩, .f32⟩ : BufTy).Contents (Elt F)) (ix3 R i j)
    = (W (Proc.devRef .tc Cert.KernelIdeal.main_call0_v7) : (⟨⟨2, ![1024, 4096]⟩, .f32⟩ : BufTy).Contents (Elt F)) (ix2 R ⟨i.val * 64 + j.val, by omega⟩) := by
  after_reads_simp
  pointwise

/-- The kernel's noise of a pair is the reference's noise at the pair's position. -/
theorem noise_eq (m : (ℓ : Loc Cert.KernelIdeal.nD Cert.KernelIdeal.τ Cert.KernelIdeal.sig) → Buf (Elt F) ℓ) (c : Dev Cert.KernelIdeal.nD)
    (VR : RVal F) (R : Fin 1024) (i j : Fin 64) :
    (Cert.KernelIn.V00 m c (Proc.devRef .tc Cert.KernelIdeal.main_v0) : (⟨⟨3, ![1024, 64, 64]⟩, .f32⟩ : BufTy).Contents (Elt F)) (ix3 R i j)
      = (after opsG (after opsK VR) (Proc.devRef .tc Cert.ReferenceIdeal.main_v32) : (⟨⟨2, ![1024, 4096]⟩, .f32⟩ : BufTy).Contents (Elt F)) (ix2 R ⟨i.val * 64 + j.val, by omega⟩) := by
  unfold Cert.KernelIn.V00
  rw [host_eq, Cert.ReferenceIdeal.Ops.after_append, Cert.ReferenceIdeal.Ops.after_append, endK]
  exact congrFun (flat _ VR) _
end Cert.Noise
end
-- ==== Proof.NoiseReal.lean ====
/- The noise is a real number. -/
module
public import proofs.«01_k».proof.Proof.RefRun
public import proofs.«01_k».proof.Proof.Spec
@[expose] public section
set_option maxRecDepth 16384
noncomputable section
namespace Cert.NoiseReal
open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.Ops

/-- The noise from the words, a one and a least value. -/
def noiseOf (a b : IVec S1024x4096 32) (o t : FVec Ideal S1x1 .f32) : FVec Ideal S1024x4096 .f32 :=
  Host.negf (Host.log (Host.negf (Host.log (maximumf (broadcastInDim S1024x4096 ![0, 1] bcast_S1x1_S1024x4096_0_1 t)
    (addf (mulf (subf (bitcastToFloat .f32 (ori (Host.shrui (xori a b) (broadcastInDim S1024x4096 ![] bcast_S_S1024x4096 (constantI S_ 32 9#32)))
        (broadcastInDim S1024x4096 ![] bcast_S_S1024x4096 (constantI S_ 32 1065353216#32))))
        (broadcastInDim S1024x4096 ![] bcast_S_S1024x4096 (constant (F := Ideal) S_ .f32 0x3F800000#32)))
      (broadcastInDim S1024x4096 ![0, 1] bcast_S1x1_S1024x4096_0_1 (subf o t)))
      (broadcastInDim S1024x4096 ![0, 1] bcast_S1x1_S1024x4096_0_1 t))))))

theorem tail (W : Valuation τ sig (Elt Ideal)) :
    (after opsG1 W (Proc.devRef .tc main_v32) : (⟨S1024x4096, .f32⟩ : BufTy).Contents (Elt Ideal))
      = noiseOf (W (Proc.devRef .tc main_call1_call0_v18_0)) (W (Proc.devRef .tc main_call1_call0_v18_1))
          (W (Proc.devRef .tc main_call1_call0_v2)) (W (Proc.devRef .tc main_call1_call0_v1)) := by
  after_reads_simp
  rfl
theorem head1 (W : Valuation τ sig (Elt Ideal)) : (after opsG0 W (Proc.devRef .tc main_call1_call0_v1) : (⟨S1x1, .f32⟩ : BufTy).Contents (Elt Ideal))
    = broadcastInDim S1x1 ![] bcast_S_S1x1 (constant (F := Ideal) S_ .f32 0x00800000#32) := by
  after_reads_simp
  rfl
theorem head2 (W : Valuation τ sig (Elt Ideal)) : (after opsG0 W (Proc.devRef .tc main_call1_call0_v2) : (⟨S1x1, .f32⟩ : BufTy).Contents (Elt Ideal))
    = broadcastInDim S1x1 ![] bcast_S_S1x1 (constant (F := Ideal) S_ .f32 0x3F800000#32) := by
  after_reads_simp
  rfl
theorem keepT (r : Ref sig .tc) (h0 : r ∉ wrT0) (h1 : r ∉ wrT1) (h2 : r ∉ wrT2) (h3 : r ∉ wrT3) : Keeps (F := Ideal) opsT r :=
  keeps_app (keeps_of opsT0_writes h0) (keeps_app (keeps_of opsT1_writes h1) (keeps_app (keeps_of opsT2_writes h2) (keeps_of opsT3_writes h3)))

theorem value (W : Valuation τ sig (Elt Ideal)) : ∃ a b : IVec S1024x4096 32,
    (after opsG W (Proc.devRef .tc main_v32) : (⟨S1024x4096, .f32⟩ : BufTy).Contents (Elt Ideal))
      = noiseOf a b (broadcastInDim S1x1 ![] bcast_S_S1x1 (constant (F := Ideal) S_ .f32 0x3F800000#32)) (broadcastInDim S1x1 ![] bcast_S_S1x1 (constant (F := Ideal) S_ .f32 0x00800000#32)) := by
  rw [show opsG (F := Ideal) = opsG0 ++ (opsT ++ opsG1) from rfl, Ops.after_append, Ops.after_append, tail,
    keepT main_call1_call0_v1 (by decide +kernel) (by decide +kernel) (by decide +kernel) (by decide +kernel),
    keepT main_call1_call0_v2 (by decide +kernel) (by decide +kernel) (by decide +kernel) (by decide +kernel), head1, head2]
  exact ⟨_, _, rfl⟩

theorem word (x : BitVec 32) : ∃ f : ℝ, 0 ≤ f ∧ f < 1 ∧
    Ideal.ofBits FTy.f32 (IntOp.ori (IntOp.shrui ArithUnit.host x 9#32) 1065353216#32) = ((1 + f : ℝ) : EReal) := by
  have hs : IntOp.shrui ArithUnit.host x 9#32 = x >>> 9 := by
    simp [IntOp.shrui]
  rw [hs]
  have hi0 : ∀ p q : Nat, 23 ≤ p → BitVec.extractLsb' p q (x >>> 9) = 0#q := by
    intro p q hp
    ext i hi
    simp only [BitVec.getElem_extractLsb', BitVec.getLsbD_ushiftRight, BitVec.getElem_zero]
    exact BitVec.getLsbD_of_ge _ _ (by omega)
  generalize hy : IntOp.ori (x >>> 9) 1065353216#32 = y
  have hex : (y.extractLsb' 23 8).toNat = 127 := by
    have : y.extractLsb' 23 8 = 127#8 := by
      rw [← hy]; simp only [IntOp.ori]
      rw [BitVec.extractLsb'_or, show BitVec.extractLsb' 23 8 (1065353216#32) = 127#8 from by decide, hi0 23 8 (by decide)]; decide
    rw [this]; rfl
  have hneg : (y.extractLsb' 31 1 == 1#1) = false := by
    have : y.extractLsb' 31 1 = 0#1 := by
      rw [← hy]; simp only [IntOp.ori]
      rw [BitVec.extractLsb'_or, show BitVec.extractLsb' 31 1 (1065353216#32) = 0#1 from by decide, hi0 31 1 (by decide)]; decide
    rw [this]; rfl
  have hfr : (y.extractLsb' 0 23).toNat < 2 ^ 23 := (y.extractLsb' 0 23).isLt
  refine ⟨((y.extractLsb' 0 23).toNat : ℝ) / 2 ^ 23, by positivity, ?_, ?_⟩
  · rw [div_lt_one (by positivity)]; exact_mod_cast hfr
  · show Ideal.ieee 8 23 y = _
    have e : Ideal.ieee 8 23 y = ((1 * ((2 ^ 23 + (y.extractLsb' 0 23).toNat : ℕ) : ℝ) * (2 : ℝ) ^ ((127 : ℤ) - (2 ^ (8 - 1) - 1) - 23) : ℝ) : EReal) := by
      unfold Ideal.ieee
      simp only [hex, hneg]
      rw [if_neg (by norm_num), if_neg (by norm_num)]; rfl
    rw [e]
    congr 1
    push_cast
    norm_num
    ring
theorem tiny : ∃ t : ℝ, 0 < t ∧ t < 1 ∧ Ideal.ofBits FTy.f32 8388608#32 = ((t : ℝ) : EReal) := by
  refine ⟨2 ^ (-126 : Int), by positivity, ?_, ?_⟩
  · exact zpow_lt_one_of_neg₀ (by norm_num) (by norm_num)
  · simp [Ideal.ofBits, Ideal.ieee, -EReal.coe_mul]
    norm_num
theorem log_real {u : ℝ} (h : 0 < u) : Ideal.log ((u : ℝ) : EReal) = ((Real.log u : ℝ) : EReal) := by
  show (if u ≤ 0 then ⊥ else ((Real.log u : ℝ) : EReal)) = _
  rw [if_neg (not_le.mpr h)]

/-- The noise is a real number everywhere. -/
theorem real (a b : IVec S1024x4096 32) (R : Fin 1024) (p : Fin 4096) : ∃ g : ℝ,
   noiseOf a b (broadcastInDim S1x1 ![] bcast_S_S1x1 (constant (F := Ideal) S_ .f32 0x3F800000#32)) (broadcastInDim S1x1 ![] bcast_S_S1x1 (constant (F := Ideal) S_ .f32 0x00800000#32)) (ix2 R p) = ((g : ℝ) : EReal) := by
  pointwise [noiseOf]
  obtain ⟨f, f0, f1, hf⟩ := word (IntOp.xori (a (ix2 R p)) (b (ix2 R p)))
  obtain ⟨t, t0, t1, ht⟩ := tiny
  rw [hf, ht]
  have e1 : (((1 + f : ℝ) : EReal) - 1) * (1 - (t : EReal)) + (t : EReal) = ((f * (1 - t) + t : ℝ) : EReal) := by
    have : (((1 + f : ℝ) : EReal) - 1) = ((1 + f - 1 : ℝ) : EReal) := by rw [EReal.coe_sub]; rfl
    rw [this, show (1 : EReal) - (t : EReal) = ((1 - t : ℝ) : EReal) from by rw [EReal.coe_sub]; rfl, ← EReal.coe_mul, ← EReal.coe_add]
    congr 2; ring
  rw [e1, ← EReal.coe_strictMono.monotone.map_max]
  have hu0 : 0 < max t (f * (1 - t) + t) := lt_max_of_lt_left t0
  have hu1 : max t (f * (1 - t) + t) < 1 := by
    apply max_lt t1; nlinarith
  rw [log_real hu0, ← EReal.coe_neg, log_real (by have := Real.log_neg hu0 hu1; linarith), ← EReal.coe_neg]
  exact ⟨_, rfl⟩
end Cert.NoiseReal
end
-- ==== Proof.RefA.lean ====
/- The logits of the reference. -/
module
public import proofs.«01_k».proof.Proof.RefRun
public import proofs.«01_k».proof.Proof.Spec
@[expose] public section
set_option maxRecDepth 16384
noncomputable section
namespace Cert.RefA
open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.Ops

/-- The squared distances, the root taken, negated and divided by one. -/
def negDist (x : FVec Ideal S1024x64x128 .f32) : FVec Ideal S1024x64x64 .f32 :=
  Host.divf (Host.negf (Host.sqrt (maximumf (subf
      (addf (broadcastInDim S1024x64x64 ![0, 1, 2] bcast_S1024x64x1_S1024x64x64_0_1_2 (broadcastInDim S1024x64x1 ![0, 1] bcast_S1024x64_S1024x64x1_0_1
          (Host.reduceAdd (mulf x x) (constant (F := Ideal) S_ .f32 0x00000000#32) reducesTo_S1024x64x128_S1024x64_d2 h_S_)))
        (broadcastInDim S1024x64x64 ![0, 1, 2] bcast_S1024x1x64_S1024x64x64_0_1_2 (broadcastInDim S1024x1x64 ![0, 2] bcast_S1024x64_S1024x1x64_0_2
          (Host.reduceAdd (mulf x x) (constant (F := Ideal) S_ .f32 0x00000000#32) reducesTo_S1024x64x128_S1024x64_d2 h_S_))))
      (mulf (broadcastInDim S1024x64x64 ![] bcast_S_S1024x64x64 (constant (F := Ideal) S_ .f32 0x40000000#32))
        (Host.dotGeneral dot_S1024x64x128_S1024x64x128_S1024x64x64_2_2_1_1_0_0 none x x)))
      (broadcastInDim S1024x64x64 ![] bcast_S_S1024x64x64 (constant (F := Ideal) S_ .f32 0x2B8CBCCC#32)))))
    (broadcastInDim S1024x64x64 ![] bcast_S_S1024x64x64 (constant (F := Ideal) S_ .f32 0x3F800000#32))

/-- The logits: minus infinity on the diagonal. -/
def logits (x : FVec Ideal S1024x64x128 .f32) : FVec Ideal S1024x64x64 .f32 :=
  select (broadcastInDim S1024x64x64 ![0, 1, 2] bcast_S1x64x64_S1024x64x64_0_1_2 (broadcastInDim S1x64x64 ![1, 2] bcast_S64x64_S1x64x64_1_2
      (cmpi .eq (addi (iotaInDim S64x64 32 0) (broadcastInDim S64x64 ![] bcast_S_S64x64 (constantI S_ 32 0#32))) (iotaInDim S64x64 32 1))))
    (broadcastInDim S1024x64x64 ![] bcast_S_S1024x64x64 (id (constant (F := Ideal) S_ .f32 0xFF800000#32))) (negDist x)

theorem v23_eq (W : Valuation τ sig (Elt Ideal)) :
    (after opsA W (Proc.devRef .tc main_v23) : (⟨S1024x64x64, .f32⟩ : BufTy).Contents (Elt Ideal)) = logits (W (Proc.devRef .tc main_arg2)) := by
  after_reads_simp
  rfl

theorem negDist_at (x : FVec Ideal S1024x64x128 .f32) (R : Fin 1024) (i j : Fin 64) :
    negDist x (ix3 R i j) = - Spec.far (fun i d => x (ix3 R i d)) i j := by
  pointwise [negDist]
  simp [Spec.far, Spec.sq, Spec.inner, Spec.eps, Spec.two]
  unfold Ideal.div
  simp

theorem logits_at (x : FVec Ideal S1024x64x128 .f32) (R : Fin 1024) (i j : Fin 64) :
    logits x (ix3 R i j) = Spec.lg (fun i d => x (ix3 R i d)) i j := by
  have h := negDist_at x R i j
  unfold logits Spec.lg
  generalize negDist x = D at h ⊢
  rw [← h]
  pointwise
  have key : ∀ i j : Fin 64, IntOp.cmpi CmpIPredicate.eq (IntOp.addi (BitVec.ofNat 32 i.val) 0#32) (BitVec.ofNat 32 j.val) = if i = j then 1#1 else 0#1 := by
    decide +kernel
  rw [key]
  have e : (id (constant (F := Ideal) S_ FTy.f32 4286578688#32) : FVec Ideal S_ .f32) ix0 = ⊥ := Spec.negInf
  rw [e]
  by_cases c : i = j <;> simp [c, Scalar.select]

theorem v24_at (W : Valuation τ sig (Elt Ideal)) (R : Fin 1024) (i j : Fin 64) :
    (after opsK W (Proc.devRef .tc main_v24) : (⟨S1024x4096, .f32⟩ : BufTy).Contents (Elt Ideal)) (ix2 R ⟨i.val * 64 + j.val, by omega⟩)
      = (W (Proc.devRef .tc main_v23) : (⟨S1024x64x64, .f32⟩ : BufTy).Contents (Elt Ideal)) (ix3 R i j) := by
  after_reads_simp
  pointwise

end Cert.RefA
end
-- ==== Proof.RefArg.lean ====
/- The position of the first greatest element of a line. -/
module
public import proofs.«01_k».proof.Proof.RefRun
public import proofs.«01_k».proof.Proof.Spec
@[expose] public section
set_option maxRecDepth 16384
noncomputable section
namespace Cert.RefArg
open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.Ops

/-- A left fold whose step keeps one good element against every other good one ends at it. -/
theorem foldl_stay {α : Type} (f : α → α → α) (P : α → Prop) (t : α) (hb : ∀ b, P b → f t b = t) :
    ∀ l : List α, (∀ b ∈ l, P b) → l.foldl f t = t
  | [], _ => rfl
  | x :: l, h => by
    rw [List.foldl_cons, hb x (h x (by simp))]
    exact foldl_stay f P t hb l fun b hx => h b (by simp [hx])

theorem foldl_best {α : Type} (f : α → α → α) (P : α → Prop) (t : α) (hP : ∀ a b, P a → P b → P (f a b))
    (hb : ∀ b, P b → f t b = t) (ha : ∀ a, P a → f a t = t) :
    ∀ (l : List α) (i : α), P i → (∀ b ∈ l, P b) → t ∈ l → l.foldl f i = t
  | [], _, _, _, h => by simp at h
  | x :: l, i, hi, h, ht => by
    rw [List.foldl_cons]
    have hl : ∀ b ∈ l, P b := fun b hx => h b (by simp [hx])
    by_cases e : t = x
    · subst e; rw [ha i hi]; exact foldl_stay f P t hb l hl
    · have : t ∈ l := by simpa [e] using ht
      exact foldl_best f P t hP hb ha l _ (hP _ _ hi (h x (by simp))) hl this

/-- A pair is no better than `t`: a lower value, or the same value no earlier. -/
def Under (t y : EReal × BitVec 32) : Prop :=
  y.1 < t.1 ∨ (y.1 = t.1 ∧ (t.2.toInt < y.2.toInt ∨ t.2 = y.2))

theorem red (a b : EReal × BitVec 32) : reducer_argmax_f32_i32 (F := Ideal) a b =
    if b.1 < a.1 then a else if a.1 = b.1 ∧ a.2.toInt < b.2.toInt then a else b := by
  obtain ⟨x, p⟩ := a; obtain ⟨y, q⟩ := b
  pointwise [reducer_argmax_f32_i32, Scalar.select, IntOp.ori, IntOp.andi, IntOp.cmpi]
  have hs : p.slt q = decide (p.toInt < q.toInt) := rfl
  rw [hs]
  by_cases h1 : y < x
  · have h3 : ¬ x = y := h1.ne'
    simp [h1, h3]
  · by_cases h2 : x = y
    · by_cases h3 : p.toInt < q.toInt <;> simp [h1, h2, h3]
    · simp [h1, h2]

theorem argmax (s : FVec Ideal S1024x4096 .f32) (R : Fin 1024) (p : Fin 4096) (h1 : ∀ q : Fin 4096, s (ix2 R q) ≤ s (ix2 R p))
    (h2 : ∀ q : Fin 4096, q.val < p.val → s (ix2 R q) < s (ix2 R p)) :
    (Host.argReduce (reducer_argmax_f32_i32 (F := Ideal)) s (iotaInDim S1024x4096 32 1) (constant (F := Ideal) S_ .f32 0xFF800000#32) (constantI S_ 32 0#32)
      reducesTo_S1024x4096_S1024_d1 h_S_ (ix1 R)).2 = BitVec.ofNat 32 p.val := by
  rw [Ideal.argReduce_eq_reduce2, Host.reduce2_eq_foldl_fiber]
  have toI : ∀ n : Nat, n ≤ 4096 → (BitVec.ofNat 32 n).toInt = n := by
    intro n hn
    rw [BitVec.toInt_eq_toNat_of_lt] <;> simp <;> omega
  have key := foldl_best (reducer_argmax_f32_i32 (F := Ideal)) (Under (s (ix2 R p), BitVec.ofNat 32 p.val)) (s (ix2 R p), BitVec.ofNat 32 p.val)
    (fun a b ha hb => by rw [red]; split_ifs <;> assumption)
    (fun b hb => by
      rw [red]
      rcases hb with hb | ⟨hb, hc | hc⟩
      · rw [if_pos hb]
      · rw [if_neg (by simp [hb]), if_pos ⟨hb.symm, hc⟩]
      · split_ifs <;> first | rfl | exact Prod.ext hb hc.symm)
    (fun a hb => by
      rw [red]
      rcases hb with hb | ⟨hb, hc | hc⟩
      · rw [if_neg (not_lt.mpr hb.le), if_neg (fun c => hb.ne c.1)]
      · rw [if_neg (by simp [hb]), if_neg (fun c => by have := c.2; simp only at *; omega)]
      · split_ifs <;> first | rfl | exact Prod.ext hb hc.symm)
    (Host.argReduceFiber s (iotaInDim S1024x4096 32 1) reducesTo_S1024x4096_S1024_d1 (ix1 R))
    ((⊥ : EReal), 0#32) ?_ ?_ ?_
  · have e : ((constant (F := Ideal) S_ .f32 0xFF800000#32) (Shape.Idx.first h_S_), (constantI S_ 32 0#32) (Shape.Idx.first h_S_)) = ((⊥ : EReal), 0#32) := by
      exact Prod.ext Spec.negInf rfl
    rw [e, key]
  · rcases eq_or_ne (s (ix2 R p)) ⊥ with e | e
    · refine Or.inr ⟨e.symm, Or.inr ?_⟩
      have : p.val = 0 := by
        by_contra c
        have := h2 ⟨0, by omega⟩ (by simp only; omega)
        rw [e] at this; exact not_lt_bot this
      simp [this]
    · exact Or.inl (bot_lt_iff_ne_bot.mpr e)
  · intro b hb
    simp only [Host.argReduceFiber, List.mem_map, List.mem_filter, decide_eq_true_eq] at hb
    obtain ⟨n, ⟨-, hn⟩, rfl⟩ := hb
    generalize S1024x4096.rowMajor.symm n = i at hn ⊢
    have h0 : (i 0).val = R.val := by
      have := congrArg (fun x : S1024.Idx => (x 0).val) hn
      exact this
    obtain ⟨r, q, rfl⟩ : ∃ r q, i = ix2 r q := ⟨i 0, i 1, by funext a; match a with | ⟨0, _⟩ => rfl | ⟨1, _⟩ => rfl⟩
    have hr : r = R := Fin.ext h0
    subst hr
    show Under _ (s (ix2 r q), BitVec.ofNat 32 q.val)
    rcases lt_or_eq_of_le (h1 q) with c | c
    · exact Or.inl c
    · refine Or.inr ⟨c, ?_⟩
      have : ¬ q.val < p.val := fun d => (h2 q d).ne c
      have hq := q.isLt
      have hp := p.isLt
      rcases Nat.lt_or_ge p.val q.val with d | d
      · left; show (BitVec.ofNat 32 p.val).toInt < (BitVec.ofNat 32 q.val).toInt
        rw [toI _ (by omega), toI _ (by omega)]; omega
      · right; show BitVec.ofNat 32 p.val = BitVec.ofNat 32 q.val
        rw [show p.val = q.val by omega]
  · simp only [Host.argReduceFiber, List.mem_map, List.mem_filter, decide_eq_true_eq]
    refine ⟨S1024x4096.rowMajor (ix2 R p), ⟨List.mem_finRange _, ?_⟩, ?_⟩
    · rw [Equiv.symm_apply_apply]; funext a; apply Fin.ext; match a with | ⟨0, _⟩ => rfl
    · rw [Equiv.symm_apply_apply]; rfl

end Cert.RefArg
end
-- ==== Proof.RefPair.lean ====
/- The pair of the flat position. -/
module
public import proofs.«01_k».proof.Proof.RefArg
@[expose] public section
set_option maxRecDepth 16384
noncomputable section
namespace Cert.RefPair
open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.Ops

theorem v34_eq (W : Valuation τ sig (Elt Ideal)) :
    (after opsB1 W (Proc.devRef .tc main_v34) : (⟨S1024, .i32⟩ : BufTy).Contents (Elt Ideal))
      = fun j => (Host.argReduce (reducer_argmax_f32_i32 (F := Ideal))
          (addf (W (Proc.devRef .tc main_v32) : FVec Ideal S1024x4096 .f32) (W (Proc.devRef .tc main_v24)))
          (iotaInDim S1024x4096 32 1) (constant (F := Ideal) S_ .f32 0xFF800000#32) (constantI S_ 32 0#32)
          reducesTo_S1024x4096_S1024_d1 h_S_ j).2 := by
  after_reads_simp
  rfl

/-- The quotient by sixty-four, rounded down. -/
def quot (x : IVec S1024 32) : IVec S1024 32 :=
  select (andi (cmpi .ne (signi x) (broadcastInDim S1024 ![] bcast_S_S1024 (signi (id (constantI S_ 32 64#32)))))
      (cmpi .ne (Host.remsi x (broadcastInDim S1024 ![] bcast_S_S1024 (id (constantI S_ 32 64#32)))) (broadcastInDim S1024 ![] bcast_S_S1024 (constantI S_ 32 0#32))))
    (subi (Host.divsi x (broadcastInDim S1024 ![] bcast_S_S1024 (id (constantI S_ 32 64#32)))) (broadcastInDim S1024 ![] bcast_S_S1024 (constantI S_ 32 1#32)))
    (Host.divsi x (broadcastInDim S1024 ![] bcast_S_S1024 (id (constantI S_ 32 64#32))))

/-- The divisor: sixty-four, or one in place of zero. -/
def dvs : IVec S_ 32 := select (cmpi .eq (id (constantI S_ 32 64#32)) (constantI S_ 32 0#32)) (constantI S_ 32 1#32) (id (constantI S_ 32 64#32))

/-- The remainder by sixty-four, of the divisor's sign. -/
def rest (x : IVec S1024 32) : IVec S1024 32 :=
  select (andi (cmpi .ne (cmpi .slt (Host.remsi x (broadcastInDim S1024 ![] bcast_S_S1024 dvs)) (broadcastInDim S1024 ![] bcast_S_S1024 (constantI S_ 32 0#32)))
        (broadcastInDim S1024 ![] bcast_S_S1024 (cmpi .slt dvs (constantI S_ 32 0#32))))
      (cmpi .ne (Host.remsi x (broadcastInDim S1024 ![] bcast_S_S1024 dvs)) (broadcastInDim S1024 ![] bcast_S_S1024 (constantI S_ 32 0#32))))
    (addi (Host.remsi x (broadcastInDim S1024 ![] bcast_S_S1024 dvs)) (broadcastInDim S1024 ![] bcast_S_S1024 dvs))
    (Host.remsi x (broadcastInDim S1024 ![] bcast_S_S1024 dvs))

theorem v35_eq (W : Valuation τ sig (Elt Ideal)) :
    (after opsB2 W (Proc.devRef .tc main_v35) : (⟨S1024, .i32⟩ : BufTy).Contents (Elt Ideal)) = quot (W (Proc.devRef .tc main_v34)) := by
  after_reads_simp
  rfl
theorem v36_eq (W : Valuation τ sig (Elt Ideal)) :
    (after opsB2 W (Proc.devRef .tc main_v36) : (⟨S1024, .i32⟩ : BufTy).Contents (Elt Ideal)) = rest (W (Proc.devRef .tc main_v34)) := by
  after_reads_simp
  rfl

theorem quot_at (x : IVec S1024 32) (R : Fin 1024) (a b : Fin 64) (h : x (ix1 R) = BitVec.ofNat 32 (a.val * 64 + b.val)) :
    quot x (ix1 R) = BitVec.ofNat 32 a.val := by
  pointwise [quot]
  rw [h]
  have e : (id (constantI S_ 32 64#32) : IVec S_ 32) ix0 = 64#32 := rfl
  simp only [e]
  clear h x R e
  revert a b
  decide +kernel
theorem rest_at (x : IVec S1024 32) (R : Fin 1024) (a b : Fin 64) (h : x (ix1 R) = BitVec.ofNat 32 (a.val * 64 + b.val)) :
    rest x (ix1 R) = BitVec.ofNat 32 b.val := by
  pointwise [rest, dvs]
  rw [h]
  have e : (id (constantI S_ 32 64#32) : IVec S_ 32) ix0 = 64#32 := rfl
  simp only [e]
  clear h x R e
  revert a b
  decide +kernel

end Cert.RefPair
end
-- ==== Proof.RefGather.lean ====
/- The gathers at an index. -/
module
public import proofs.«01_k».proof.Proof.RefRun
public import proofs.«01_k».proof.Proof.Spec
@[expose] public section
set_option maxRecDepth 16384
noncomputable section
namespace Cert.RefGather
open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.Ops

/-- A small number as a signed word. -/
theorem toI (n : Nat) (hn : n ≤ 4096) : (BitVec.ofNat 32 n).toInt = n := by
  rw [BitVec.toInt_eq_toNat_of_lt] <;> simp <;> omega

/-- An embedding of a row. -/
theorem rows {α : Type} (x : S1024x64x128.Idx → α) (idx : IVec S1024x2 32) (R : Fin 1024) (r : Fin 1024) (i : Fin 64) (y : Fin 128) (h0 : idx (ix2 R (0 : Fin 2)) = BitVec.ofNat 32 r.val) (h1 : idx (ix2 R (1 : Fin 2)) = BitVec.ofNat 32 i.val) :
    Host.gather gather_S1024x64x128_S1024x2_S1024x128_1_01_n_n_01_1_11128 x idx (ix2 R y) = x (ix3 r i y) := by
  unfold Host.gather
  refine congrArg x (funext fun a => Fin.ext ?_)
  have hk : ∀ a : Fin 3, a.val < 2 → a ∉ (gather_S1024x64x128_S1024x2_S1024x128_1_01_n_n_01_1_11128).sKept := fun a ha h => ((GatherDims.mem_sKept _ _).1 h).1 (by revert ha; revert a; decide)
  match a with
  | ⟨0, _⟩ =>
    show (gather_S1024x64x128_S1024x2_S1024x128_1_01_n_n_01_1_11128).start (ix2 R y) idx 0 + (gather_S1024x64x128_S1024x2_S1024x128_1_01_n_n_01_1_11128).batchCoord (ix2 R y) 0 + (gather_S1024x64x128_S1024x2_S1024x128_1_01_n_n_01_1_11128).offCoord (ix2 R y) 0 = r.val
    rw [GatherDims.batchCoord_eq_zero _ _ _ List.not_mem_nil, GatherDims.offCoord_eq_zero _ _ _ (hk 0 (by decide))]
    simp only [Nat.add_zero]
    unfold GatherDims.start
    rw [dif_pos (show (0 : Fin 3) ∈ (gather_S1024x64x128_S1024x2_S1024x128_1_01_n_n_01_1_11128).startIndexMap by decide)]
    have hsi : (gather_S1024x64x128_S1024x2_S1024x128_1_01_n_n_01_1_11128).siIdx (ix2 R y) ⟨List.idxOf (0 : Fin 3) (gather_S1024x64x128_S1024x2_S1024x128_1_01_n_n_01_1_11128).startIndexMap, List.idxOf_lt_length_iff.2 (by decide)⟩ = ix2 R (0 : Fin 2) := by
      funext b; refine Fin.ext ?_
      match b with
      | ⟨0, _⟩ => rfl
      | ⟨1, _⟩ => rfl
    rw [hsi, h0, toI _ (by omega)]
    show min ((r.val : Int)).toNat (1024 - 1) = r.val
    omega
  | ⟨1, _⟩ =>
    show (gather_S1024x64x128_S1024x2_S1024x128_1_01_n_n_01_1_11128).start (ix2 R y) idx 1 + (gather_S1024x64x128_S1024x2_S1024x128_1_01_n_n_01_1_11128).batchCoord (ix2 R y) 1 + (gather_S1024x64x128_S1024x2_S1024x128_1_01_n_n_01_1_11128).offCoord (ix2 R y) 1 = i.val
    rw [GatherDims.batchCoord_eq_zero _ _ _ List.not_mem_nil, GatherDims.offCoord_eq_zero _ _ _ (hk 1 (by decide))]
    simp only [Nat.add_zero]
    unfold GatherDims.start
    rw [dif_pos (show (1 : Fin 3) ∈ (gather_S1024x64x128_S1024x2_S1024x128_1_01_n_n_01_1_11128).startIndexMap by decide)]
    have hsi : (gather_S1024x64x128_S1024x2_S1024x128_1_01_n_n_01_1_11128).siIdx (ix2 R y) ⟨List.idxOf (1 : Fin 3) (gather_S1024x64x128_S1024x2_S1024x128_1_01_n_n_01_1_11128).startIndexMap, List.idxOf_lt_length_iff.2 (by decide)⟩ = ix2 R (1 : Fin 2) := by
      funext b; refine Fin.ext ?_
      match b with
      | ⟨0, _⟩ => rfl
      | ⟨1, _⟩ => rfl
    rw [hsi, h1, toI _ (by omega)]
    show min ((i.val : Int)).toNat (64 - 1) = i.val
    omega
  | ⟨2, _⟩ =>
    show (gather_S1024x64x128_S1024x2_S1024x128_1_01_n_n_01_1_11128).start (ix2 R y) idx 2 + (gather_S1024x64x128_S1024x2_S1024x128_1_01_n_n_01_1_11128).batchCoord (ix2 R y) 2 + (gather_S1024x64x128_S1024x2_S1024x128_1_01_n_n_01_1_11128).offCoord (ix2 R y) 2 = y.val
    rw [GatherDims.batchCoord_eq_zero _ _ _ List.not_mem_nil, Nat.add_zero]
    unfold GatherDims.start
    rw [dif_neg (show (2 : Fin 3) ∉ (gather_S1024x64x128_S1024x2_S1024x128_1_01_n_n_01_1_11128).startIndexMap by decide), Nat.zero_add]
    rfl
/-- An entry of a row's table of pairs. -/
theorem pair {α : Type} (x : S1024x64x64.Idx → α) (idx : IVec S1024x3 32) (R : Fin 1024) (r : Fin 1024) (i : Fin 64) (j : Fin 64) (h0 : idx (ix2 R (0 : Fin 3)) = BitVec.ofNat 32 r.val) (h1 : idx (ix2 R (1 : Fin 3)) = BitVec.ofNat 32 i.val) (h2 : idx (ix2 R (2 : Fin 3)) = BitVec.ofNat 32 j.val) :
    Host.gather gather_S1024x64x64_S1024x3_S1024_n_012_n_n_012_1_111 x idx (ix1 R) = x (ix3 r i j) := by
  unfold Host.gather
  refine congrArg x (funext fun a => Fin.ext ?_)
  have hk : ∀ a : Fin 3, a.val < 3 → a ∉ (gather_S1024x64x64_S1024x3_S1024_n_012_n_n_012_1_111).sKept := fun a ha h => ((GatherDims.mem_sKept _ _).1 h).1 (by revert ha; revert a; decide)
  match a with
  | ⟨0, _⟩ =>
    show (gather_S1024x64x64_S1024x3_S1024_n_012_n_n_012_1_111).start (ix1 R) idx 0 + (gather_S1024x64x64_S1024x3_S1024_n_012_n_n_012_1_111).batchCoord (ix1 R) 0 + (gather_S1024x64x64_S1024x3_S1024_n_012_n_n_012_1_111).offCoord (ix1 R) 0 = r.val
    rw [GatherDims.batchCoord_eq_zero _ _ _ List.not_mem_nil, GatherDims.offCoord_eq_zero _ _ _ (hk 0 (by decide))]
    simp only [Nat.add_zero]
    unfold GatherDims.start
    rw [dif_pos (show (0 : Fin 3) ∈ (gather_S1024x64x64_S1024x3_S1024_n_012_n_n_012_1_111).startIndexMap by decide)]
    have hsi : (gather_S1024x64x64_S1024x3_S1024_n_012_n_n_012_1_111).siIdx (ix1 R) ⟨List.idxOf (0 : Fin 3) (gather_S1024x64x64_S1024x3_S1024_n_012_n_n_012_1_111).startIndexMap, List.idxOf_lt_length_iff.2 (by decide)⟩ = ix2 R (0 : Fin 3) := by
      funext b; refine Fin.ext ?_
      match b with
      | ⟨0, _⟩ => rfl
      | ⟨1, _⟩ => rfl
    rw [hsi, h0, toI _ (by omega)]
    show min ((r.val : Int)).toNat (1024 - 1) = r.val
    omega
  | ⟨1, _⟩ =>
    show (gather_S1024x64x64_S1024x3_S1024_n_012_n_n_012_1_111).start (ix1 R) idx 1 + (gather_S1024x64x64_S1024x3_S1024_n_012_n_n_012_1_111).batchCoord (ix1 R) 1 + (gather_S1024x64x64_S1024x3_S1024_n_012_n_n_012_1_111).offCoord (ix1 R) 1 = i.val
    rw [GatherDims.batchCoord_eq_zero _ _ _ List.not_mem_nil, GatherDims.offCoord_eq_zero _ _ _ (hk 1 (by decide))]
    simp only [Nat.add_zero]
    unfold GatherDims.start
    rw [dif_pos (show (1 : Fin 3) ∈ (gather_S1024x64x64_S1024x3_S1024_n_012_n_n_012_1_111).startIndexMap by decide)]
    have hsi : (gather_S1024x64x64_S1024x3_S1024_n_012_n_n_012_1_111).siIdx (ix1 R) ⟨List.idxOf (1 : Fin 3) (gather_S1024x64x64_S1024x3_S1024_n_012_n_n_012_1_111).startIndexMap, List.idxOf_lt_length_iff.2 (by decide)⟩ = ix2 R (1 : Fin 3) := by
      funext b; refine Fin.ext ?_
      match b with
      | ⟨0, _⟩ => rfl
      | ⟨1, _⟩ => rfl
    rw [hsi, h1, toI _ (by omega)]
    show min ((i.val : Int)).toNat (64 - 1) = i.val
    omega
  | ⟨2, _⟩ =>
    show (gather_S1024x64x64_S1024x3_S1024_n_012_n_n_012_1_111).start (ix1 R) idx 2 + (gather_S1024x64x64_S1024x3_S1024_n_012_n_n_012_1_111).batchCoord (ix1 R) 2 + (gather_S1024x64x64_S1024x3_S1024_n_012_n_n_012_1_111).offCoord (ix1 R) 2 = j.val
    rw [GatherDims.batchCoord_eq_zero _ _ _ List.not_mem_nil, GatherDims.offCoord_eq_zero _ _ _ (hk 2 (by decide))]
    simp only [Nat.add_zero]
    unfold GatherDims.start
    rw [dif_pos (show (2 : Fin 3) ∈ (gather_S1024x64x64_S1024x3_S1024_n_012_n_n_012_1_111).startIndexMap by decide)]
    have hsi : (gather_S1024x64x64_S1024x3_S1024_n_012_n_n_012_1_111).siIdx (ix1 R) ⟨List.idxOf (2 : Fin 3) (gather_S1024x64x64_S1024x3_S1024_n_012_n_n_012_1_111).startIndexMap, List.idxOf_lt_length_iff.2 (by decide)⟩ = ix2 R (2 : Fin 3) := by
      funext b; refine Fin.ext ?_
      match b with
      | ⟨0, _⟩ => rfl
      | ⟨1, _⟩ => rfl
    rw [hsi, h2, toI _ (by omega)]
    show min ((j.val : Int)).toNat (64 - 1) = j.val
    omega
/-- An entry of a row's line. -/
theorem entry {α : Type} (x : S1024x64.Idx → α) (idx : IVec S1024x2 32) (R : Fin 1024) (r : Fin 1024) (i : Fin 64) (h0 : idx (ix2 R (0 : Fin 2)) = BitVec.ofNat 32 r.val) (h1 : idx (ix2 R (1 : Fin 2)) = BitVec.ofNat 32 i.val) :
    Host.gather gather_S1024x64_S1024x2_S1024_n_01_n_n_01_1_11 x idx (ix1 R) = x (ix2 r i) := by
  unfold Host.gather
  refine congrArg x (funext fun a => Fin.ext ?_)
  have hk : ∀ a : Fin 2, a.val < 2 → a ∉ (gather_S1024x64_S1024x2_S1024_n_01_n_n_01_1_11).sKept := fun a ha h => ((GatherDims.mem_sKept _ _).1 h).1 (by revert ha; revert a; decide)
  match a with
  | ⟨0, _⟩ =>
    show (gather_S1024x64_S1024x2_S1024_n_01_n_n_01_1_11).start (ix1 R) idx 0 + (gather_S1024x64_S1024x2_S1024_n_01_n_n_01_1_11).batchCoord (ix1 R) 0 + (gather_S1024x64_S1024x2_S1024_n_01_n_n_01_1_11).offCoord (ix1 R) 0 = r.val
    rw [GatherDims.batchCoord_eq_zero _ _ _ List.not_mem_nil, GatherDims.offCoord_eq_zero _ _ _ (hk 0 (by decide))]
    simp only [Nat.add_zero]
    unfold GatherDims.start
    rw [dif_pos (show (0 : Fin 2) ∈ (gather_S1024x64_S1024x2_S1024_n_01_n_n_01_1_11).startIndexMap by decide)]
    have hsi : (gather_S1024x64_S1024x2_S1024_n_01_n_n_01_1_11).siIdx (ix1 R) ⟨List.idxOf (0 : Fin 2) (gather_S1024x64_S1024x2_S1024_n_01_n_n_01_1_11).startIndexMap, List.idxOf_lt_length_iff.2 (by decide)⟩ = ix2 R (0 : Fin 2) := by
      funext b; refine Fin.ext ?_
      match b with
      | ⟨0, _⟩ => rfl
      | ⟨1, _⟩ => rfl
    rw [hsi, h0, toI _ (by omega)]
    show min ((r.val : Int)).toNat (1024 - 1) = r.val
    omega
  | ⟨1, _⟩ =>
    show (gather_S1024x64_S1024x2_S1024_n_01_n_n_01_1_11).start (ix1 R) idx 1 + (gather_S1024x64_S1024x2_S1024_n_01_n_n_01_1_11).batchCoord (ix1 R) 1 + (gather_S1024x64_S1024x2_S1024_n_01_n_n_01_1_11).offCoord (ix1 R) 1 = i.val
    rw [GatherDims.batchCoord_eq_zero _ _ _ List.not_mem_nil, GatherDims.offCoord_eq_zero _ _ _ (hk 1 (by decide))]
    simp only [Nat.add_zero]
    unfold GatherDims.start
    rw [dif_pos (show (1 : Fin 2) ∈ (gather_S1024x64_S1024x2_S1024_n_01_n_n_01_1_11).startIndexMap by decide)]
    have hsi : (gather_S1024x64_S1024x2_S1024_n_01_n_n_01_1_11).siIdx (ix1 R) ⟨List.idxOf (1 : Fin 2) (gather_S1024x64_S1024x2_S1024_n_01_n_n_01_1_11).startIndexMap, List.idxOf_lt_length_iff.2 (by decide)⟩ = ix2 R (1 : Fin 2) := by
      funext b; refine Fin.ext ?_
      match b with
      | ⟨0, _⟩ => rfl
      | ⟨1, _⟩ => rfl
    rw [hsi, h1, toI _ (by omega)]
    show min ((i.val : Int)).toNat (64 - 1) = i.val
    omega

end Cert.RefGather
end
-- ==== Proof.RefKids.lean ====
/- The children, their parent and the branch lengths. -/
module
public import proofs.«01_k».proof.Proof.RefGather
@[expose] public section
set_option maxRecDepth 16384
noncomputable section
namespace Cert.RefKids
open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.Ops

/-- An index, counted from the end where it is negative. -/
def wrap (n : BitVec 32) (x : IVec S1024 32) : IVec S1024 32 :=
  select (cmpi .slt x (broadcastInDim S1024 ![] bcast_S_S1024 (constantI S_ 32 0#32))) (addi x (broadcastInDim S1024 ![] bcast_S_S1024 (constantI S_ 32 n))) x

/-- Two lines of indices side by side. -/
def two (a b : IVec S1024 32) : IVec S1024x2 32 :=
  concatenate S1024x2 1 [⟨S1024x1, broadcastInDim S1024x1 ![0] bcast_S1024_S1024x1_0 a⟩, ⟨S1024x1, broadcastInDim S1024x1 ![0] bcast_S1024_S1024x1_0 b⟩] concatenates_S1024x1_S1024x1_S1024x2_d1

/-- The embeddings of the rows' children. -/
def kid (e : FVec Ideal S1024x64x128 .f32) (r i : IVec S1024 32) : FVec Ideal S1024x128 .f32 :=
  Host.gather gather_S1024x64x128_S1024x2_S1024x128_1_01_n_n_01_1_11128 e (two r i)

/-- The merged embedding. -/
def mlp (c1 c2 : FVec Ideal S1024x128 .f32) (W : FVec Ideal S256x256 .f32) (b : FVec Ideal S256 .f32) (U : FVec Ideal S256x128 .f32) (a : FVec Ideal S128 .f32) :
    FVec Ideal S1024x128 .f32 :=
  addf (Host.dotGeneral dot_S1024x256_S256x128_S1024x128_1_0_0_1_n_n none
      (maximumf (addf (Host.dotGeneral dot_S1024x256_S256x256_S1024x256_1_0_0_1_n_n none
            (concatenate S1024x256 1 [⟨S1024x128, c1⟩, ⟨S1024x128, c2⟩] concatenates_S1024x128_S1024x128_S1024x256_d1) W)
          (broadcastInDim S1024x256 ![0, 1] bcast_S1x256_S1024x256_0_1 (broadcastInDim S1x256 ![1] bcast_S256_S1x256_1 b)))
        (broadcastInDim S1024x256 ![] bcast_S_S1024x256 (constant (F := Ideal) S_ .f32 0x00000000#32))) U)
    (broadcastInDim S1024x128 ![0, 1] bcast_S1x128_S1024x128_0_1 (broadcastInDim S1x128 ![1] bcast_S128_S1x128_1 a))

/-- A branch length. -/
def len (c o : FVec Ideal S1024x128 .f32) : FVec Ideal S1024 .f32 :=
  Host.sqrt (maximumf (Host.reduceAdd (mulf (subf c o) (subf c o)) (constant (F := Ideal) S_ .f32 0x00000000#32) reducesTo_S1024x128_S1024_d1 h_S_)
    (broadcastInDim S1024 ![] bcast_S_S1024 (constant (F := Ideal) S_ .f32 0x2B8CBCCC#32)))

theorem v37_eq (W : Valuation τ sig (Elt Ideal)) :
    (after opsB3 W (Proc.devRef .tc main_v37) : (⟨S1024, .i32⟩ : BufTy).Contents (Elt Ideal)) = iotaInDim S1024 32 0 := by
  after_reads_simp
theorem v42_eq (W : Valuation τ sig (Elt Ideal)) :
    (after opsB3 W (Proc.devRef .tc main_v42) : (⟨S1024, .i32⟩ : BufTy).Contents (Elt Ideal)) = wrap 1024#32 (iotaInDim S1024 32 0) := by
  after_reads_simp
  rfl
theorem v44_eq (W : Valuation τ sig (Elt Ideal)) :
    (after opsB3 W (Proc.devRef .tc main_v44) : (⟨S1024, .i1⟩ : BufTy).Contents (Elt Ideal))
      = cmpi .slt (W (Proc.devRef .tc main_v35) : IVec S1024 32) (broadcastInDim S1024 ![] bcast_S_S1024 (constantI S_ 32 0#32)) := by
  after_reads_simp
theorem c12_eq (W : Valuation τ sig (Elt Ideal)) :
    (after opsB3 W (Proc.devRef .tc main_c_12) : (⟨S_, .i32⟩ : BufTy).Contents (Elt Ideal)) = constantI S_ 32 64#32 := by
  after_reads_simp
theorem v51_eq (W : Valuation τ sig (Elt Ideal)) :
    (after opsB3b W (Proc.devRef .tc main_v51) : (⟨S1024x128, .f32⟩ : BufTy).Contents (Elt Ideal))
      = kid (W (Proc.devRef .tc main_arg2)) (W (Proc.devRef .tc main_v42))
        (select (W (Proc.devRef .tc main_v44)) (addi (W (Proc.devRef .tc main_v35) : IVec S1024 32) (broadcastInDim S1024 ![] bcast_S_S1024 (W (Proc.devRef .tc main_c_12)))) (W (Proc.devRef .tc main_v35))) := by
  after_reads_simp
  rfl
theorem v65_eq (W : Valuation τ sig (Elt Ideal)) :
    (after opsB3b W (Proc.devRef .tc main_v65) : (⟨S1024x128, .f32⟩ : BufTy).Contents (Elt Ideal))
      = kid (W (Proc.devRef .tc main_arg2)) (wrap 1024#32 (W (Proc.devRef .tc main_v37))) (wrap 64#32 (W (Proc.devRef .tc main_v36))) := by
  after_reads_simp
  rfl
theorem v75_eq (W : Valuation τ sig (Elt Ideal)) :
    (after opsB3b W (Proc.devRef .tc main_v75) : (⟨S1024x128, .f32⟩ : BufTy).Contents (Elt Ideal))
      = mlp (kid (W (Proc.devRef .tc main_arg2)) (W (Proc.devRef .tc main_v42))
        (select (W (Proc.devRef .tc main_v44)) (addi (W (Proc.devRef .tc main_v35) : IVec S1024 32) (broadcastInDim S1024 ![] bcast_S_S1024 (W (Proc.devRef .tc main_c_12)))) (W (Proc.devRef .tc main_v35))))
        (kid (W (Proc.devRef .tc main_arg2)) (wrap 1024#32 (W (Proc.devRef .tc main_v37))) (wrap 64#32 (W (Proc.devRef .tc main_v36))))
        (W (Proc.devRef .tc main_arg4)) (W (Proc.devRef .tc main_arg5)) (W (Proc.devRef .tc main_arg6)) (W (Proc.devRef .tc main_arg7)) := by
  after_reads_simp
  rfl
theorem v81_eq (W : Valuation τ sig (Elt Ideal)) :
    (after opsB4 W (Proc.devRef .tc main_v81) : (⟨S1024, .f32⟩ : BufTy).Contents (Elt Ideal)) = len (W (Proc.devRef .tc main_v51)) (W (Proc.devRef .tc main_v75)) := by
  after_reads_simp
  rfl
theorem v87_eq (W : Valuation τ sig (Elt Ideal)) :
    (after opsB4 W (Proc.devRef .tc main_v87) : (⟨S1024, .f32⟩ : BufTy).Contents (Elt Ideal)) = len (W (Proc.devRef .tc main_v65)) (W (Proc.devRef .tc main_v75)) := by
  after_reads_simp
  rfl

theorem slt0 (k : Nat) (hk : k ≤ 4096) : IntOp.cmpi CmpIPredicate.slt (BitVec.ofNat 32 k) 0#32 = 0#1 := by
  have : (BitVec.ofNat 32 k).slt 0#32 = false := by
    have h : (BitVec.ofNat 32 k).slt 0#32 = decide ((BitVec.ofNat 32 k).toInt < (0#32).toInt) := rfl
    rw [h, RefGather.toI k hk]; simp
  simp [IntOp.cmpi, this]

theorem wrap_at (n : BitVec 32) (x : IVec S1024 32) (R : Fin 1024) (k : Nat) (hk : k ≤ 4096) (h : x (ix1 R) = BitVec.ofNat 32 k) :
    wrap n x (ix1 R) = BitVec.ofNat 32 k := by
  pointwise [wrap]
  rw [h, slt0 k hk]
  simp [Scalar.select]

theorem two_at0 (a b : IVec S1024 32) (R : Fin 1024) : two a b (ix2 R (0 : Fin 2)) = a (ix1 R) := by
  pointwise [two]
theorem two_at1 (a b : IVec S1024 32) (R : Fin 1024) : two a b (ix2 R (1 : Fin 2)) = b (ix1 R) := by
  pointwise [two]

theorem kid_at (e : FVec Ideal S1024x64x128 .f32) (r i : IVec S1024 32) (R : Fin 1024) (a : Fin 64) (d : Fin 128)
    (hr : r (ix1 R) = BitVec.ofNat 32 R.val) (ha : i (ix1 R) = BitVec.ofNat 32 a.val) :
    kid e r i (ix2 R d) = e (ix3 R a d) :=
  RefGather.rows e (two r i) R R a d ((two_at0 r i R).trans hr) ((two_at1 r i R).trans ha)

theorem len_at (c o : FVec Ideal S1024x128 .f32) (R : Fin 1024) :
    len c o (ix1 R) = Spec.branch (fun d => c (ix2 R d)) (fun d => o (ix2 R d)) := by
  pointwise [len]
  simp [Spec.branch, Spec.eps]

theorem mlp_at (c1 c2 : FVec Ideal S1024x128 .f32) (W : FVec Ideal S256x256 .f32) (b : FVec Ideal S256 .f32) (U : FVec Ideal S256x128 .f32) (a : FVec Ideal S128 .f32)
    (R : Fin 1024) (d : Fin 128) :
    mlp c1 c2 W b U a (ix2 R d) = Spec.out (fun d => c1 (ix2 R d)) (fun d => c2 (ix2 R d)) (fun i k => W (ix2 i k)) (fun k => b (ix1 k)) (fun k d => U (ix2 k d)) (fun d => a (ix1 d)) d := by
  pointwise [mlp]
  rfl

end Cert.RefKids
end
-- ==== Proof.RefProb.lean ====
/- The log probability of the chosen pair. -/
module
public import proofs.«01_k».proof.Proof.RefKids
@[expose] public section
set_option maxRecDepth 16384
noncomputable section
namespace Cert.RefProb
open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.Ops

/-- Three lines of indices side by side. -/
def three (a b c : IVec S1024 32) : IVec S1024x3 32 :=
  concatenate S1024x3 1 [⟨S1024x1, broadcastInDim S1024x1 ![0] bcast_S1024_S1024x1_0 a⟩, ⟨S1024x1, broadcastInDim S1024x1 ![0] bcast_S1024_S1024x1_0 b⟩, ⟨S1024x1, broadcastInDim S1024x1 ![0] bcast_S1024_S1024x1_0 c⟩] concatenates_S1024x1_S1024x1_S1024x1_S1024x3_d1

/-- The chosen logits. -/
def pick (x : FVec Ideal S1024x64x64 .f32) (r i j : IVec S1024 32) : FVec Ideal S1024 .f32 :=
  Host.gather gather_S1024x64x64_S1024x3_S1024_n_012_n_n_012_1_111 x (three r i j)

/-- The greatest logits. -/
def most (x : FVec Ideal S1024x64x64 .f32) : FVec Ideal S1024 .f32 :=
  Host.reduce FloatOps.maximumf x (constant (F := Ideal) S_ .f32 0xFF800000#32) reducesTo_S1024x64x64_S1024_d1_2 h_S_

/-- A line, and zero where it is infinite. -/
def fin (y : FVec Ideal S1024 .f32) : FVec Ideal S1024x1x1 .f32 :=
  select (cmpf .olt (Host.absf (broadcastInDim S1024x1x1 ![0] bcast_S1024_S1024x1x1_0 y)) (broadcastInDim S1024x1x1 ![] bcast_S_S1024x1x1 (constant (F := Ideal) S_ .f32 0x7F800000#32)))
    (broadcastInDim S1024x1x1 ![0] bcast_S1024_S1024x1x1_0 y) (broadcastInDim S1024x1x1 ![] bcast_S_S1024x1x1 (constant (F := Ideal) S_ .f32 0x00000000#32))

/-- The log of the sum of the exponentials, shifted by the finite part of the greatest. -/
def lse (x : FVec Ideal S1024x64x64 .f32) (t : FVec Ideal S1024x1x1 .f32) : FVec Ideal S1024 .f32 :=
  addf (Host.log (Host.absf (Host.reduceAdd (Host.exp (subf x (broadcastInDim S1024x64x64 ![0, 1, 2] bcast_S1024x1x1_S1024x64x64_0_1_2 t)))
    (constant (F := Ideal) S_ .f32 0x00000000#32) reducesTo_S1024x64x64_S1024_d1_2 h_S_))) (shapeCast S1024 t shapeCasts_S1024x1x1_S1024)

/-- The log probability from the chosen logit. -/
def prob (p : FVec Ideal S1024 .f32) (q : FVec Ideal S1024 .f32) : FVec Ideal S1024 .f32 :=
  addf (addf (subf (addf p (broadcastInDim S1024 ![] bcast_S_S1024 (id (Host.log (constant (F := Ideal) S_ .f32 0x40000000#32))))) q)
    (broadcastInDim S1024 ![] bcast_S_S1024 (constant (F := Ideal) S_ .f32 0x00000000#32))) (broadcastInDim S1024 ![] bcast_S_S1024 (constant (F := Ideal) S_ .f32 0x00000000#32))

theorem v92_eq (W : Valuation τ sig (Elt Ideal)) :
    (after opsB5 W (Proc.devRef .tc main_v92) : (⟨S1024, .i32⟩ : BufTy).Contents (Elt Ideal)) = RefKids.wrap 1024#32 (W (Proc.devRef .tc main_v37)) := by
  after_reads_simp
  rfl
theorem v93_eq (W : Valuation τ sig (Elt Ideal)) :
    (after opsB5 W (Proc.devRef .tc main_v93) : (⟨S1024, .i32⟩ : BufTy).Contents (Elt Ideal)) = broadcastInDim S1024 ![] bcast_S_S1024 (constantI S_ 32 0#32) := by
  after_reads_simp
theorem v131_eq (W : Valuation τ sig (Elt Ideal)) :
    (after opsB5b W (Proc.devRef .tc main_v131) : (⟨S1024, .f32⟩ : BufTy).Contents (Elt Ideal))
      = prob (pick (W (Proc.devRef .tc main_v23)) (W (Proc.devRef .tc main_v92))
          (select (cmpi .slt (W (Proc.devRef .tc main_v35) : IVec S1024 32) (W (Proc.devRef .tc main_v93)))
            (addi (W (Proc.devRef .tc main_v35) : IVec S1024 32) (broadcastInDim S1024 ![] bcast_S_S1024 (constantI S_ 32 64#32))) (W (Proc.devRef .tc main_v35)))
          (RefKids.wrap 64#32 (W (Proc.devRef .tc main_v36))))
        (lse (W (Proc.devRef .tc main_v23)) (fin (most (W (Proc.devRef .tc main_v23))))) := by
  after_reads_simp
  rfl

theorem three_at0 (a b c : IVec S1024 32) (R : Fin 1024) : three a b c (ix2 R (0 : Fin 3)) = a (ix1 R) := by
  pointwise [three]
theorem three_at1 (a b c : IVec S1024 32) (R : Fin 1024) : three a b c (ix2 R (1 : Fin 3)) = b (ix1 R) := by
  pointwise [three]
theorem three_at2 (a b c : IVec S1024 32) (R : Fin 1024) : three a b c (ix2 R (2 : Fin 3)) = c (ix1 R) := by
  pointwise [three]

theorem pick_at (x : FVec Ideal S1024x64x64 .f32) (r i j : IVec S1024 32) (R : Fin 1024) (a b : Fin 64)
    (hr : r (ix1 R) = BitVec.ofNat 32 R.val) (ha : i (ix1 R) = BitVec.ofNat 32 a.val) (hb : j (ix1 R) = BitVec.ofNat 32 b.val) :
    pick x r i j (ix1 R) = x (ix3 R a b) :=
  RefGather.pair x (three r i j) R R a b ((three_at0 r i j R).trans hr) ((three_at1 r i j R).trans ha) ((three_at2 r i j R).trans hb)

theorem most_at (x : FVec Ideal S1024x64x64 .f32) (R : Fin 1024) : most x (ix1 R) = Spec.top (fun i j => x (ix3 R i j)) := by
  pointwise [most]
  rw [Spec.negInf]; rfl

theorem fin_at (y : FVec Ideal S1024 .f32) (R : Fin 1024) (t : ℝ) (h : y (ix1 R) = (t : EReal)) : fin y (ix3 R 0 0) = (t : EReal) := by
  pointwise [fin]
  rw [h]
  rw [Spec.posInf, Ideal.absf_def, if_pos]
  exact max_lt (EReal.coe_lt_top t) (by rw [← EReal.coe_neg]; exact EReal.coe_lt_top _)

theorem exp_nonneg (v : EReal) : 0 ≤ Ideal.exp v := by
  induction v using EReal.rec with
  | bot => exact le_refl _
  | top => exact le_top
  | coe r => exact EReal.coe_nonneg.mpr (Real.exp_pos r).le

theorem lse_at (x : FVec Ideal S1024x64x64 .f32) (t : FVec Ideal S1024x1x1 .f32) (R : Fin 1024)
    (h : t (ix3 R 0 0) = Spec.top (fun i j => x (ix3 R i j))) :
    lse x t (ix1 R) = Spec.top (fun i j => x (ix3 R i j)) + Ideal.log (Spec.mass (fun i j => x (ix3 R i j))) := by
  pointwise [lse]
  rw [h, Ideal.absf_def]
  have e : (∑ i, ∑ j, Ideal.exp (x (ix3 R i j) - Spec.top (fun i j => x (ix3 R i j)))) = Spec.mass (fun i j => x (ix3 R i j)) := rfl
  rw [e]
  have p : 0 ≤ Spec.mass (fun i j => x (ix3 R i j)) := by
    unfold Spec.mass
    exact Finset.sum_nonneg fun i _ => Finset.sum_nonneg fun j _ => exp_nonneg _
  rw [max_eq_left (le_trans (by rw [← neg_zero]; exact EReal.neg_le_neg_iff.mpr p) p), add_comm]

theorem prob_at (p q : FVec Ideal S1024 .f32) (R : Fin 1024) : prob p q (ix1 R) = p (ix1 R) + ((Real.log 2 : ℝ) : EReal) - q (ix1 R) := by
  pointwise [prob]
  have e : (id (Host.log (constant (F := Ideal) S_ FTy.f32 1073741824#32)) : FVec Ideal S_ .f32) ix0 = ((Real.log 2 : ℝ) : EReal) := by
    show Ideal.log (Ideal.ofBits FTy.f32 1073741824#32) = _
    have : Ideal.ofBits FTy.f32 1073741824#32 = ((2 : ℝ) : EReal) := by
      simp [Ideal.ofBits, Ideal.ieee, -EReal.coe_mul]
      norm_num
    rw [this]
    show (if (2 : ℝ) ≤ 0 then ⊥ else ((Real.log 2 : ℝ) : EReal)) = _
    rw [if_neg (by norm_num)]
  rw [e]

end Cert.RefProb
end
-- ==== Proof.RefCount.lean ====
/- The log of the number of the merges. -/
module
public import proofs.«01_k».proof.Proof.RefKids
@[expose] public section
set_option maxRecDepth 16384
noncomputable section
namespace Cert.RefCount
open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.Ops

/-- The ones of a line, as words. -/
def unit (x : IVec S1024x64 32) : IVec S1024x64 32 := extui 32 (cmpi .eq x (broadcastInDim S1024x64 ![] bcast_S_S1024x64 (constantI S_ 32 1#32))) natLt_1_32
/-- The number of ones. -/
def total (x : IVec S1024x64 32) : IVec S1024 32 := Host.reduce IntOp.addi (unit x) (constantI S_ 32 0#32) reducesTo_S1024x64_S1024_d1 h_S_
/-- Whether the chosen entry is one. -/
def chosen (x : IVec S1024x64 32) (r i : IVec S1024 32) : IVec S1024 32 :=
  extui 32 (cmpi .eq (Host.gather gather_S1024x64_S1024x2_S1024_n_01_n_n_01_1_11 x (RefKids.two r i)) (broadcastInDim S1024 ![] bcast_S_S1024 (constantI S_ 32 1#32))) natLt_1_32

theorem v135_eq (W : Valuation τ sig (Elt Ideal)) :
    (after opsB6 W (Proc.devRef .tc main_v135) : (⟨S1024, .i32⟩ : BufTy).Contents (Elt Ideal)) = total (W (Proc.devRef .tc main_arg1)) := by
  after_reads_simp
  rfl
theorem v137_eq (W : Valuation τ sig (Elt Ideal)) :
    (after opsB6 W (Proc.devRef .tc main_v137) : (⟨S1024, .i1⟩ : BufTy).Contents (Elt Ideal))
      = cmpi .slt (W (Proc.devRef .tc main_v37) : IVec S1024 32) (broadcastInDim S1024 ![] bcast_S_S1024 (constantI S_ 32 0#32)) := by
  after_reads_simp
theorem v139_eq (W : Valuation τ sig (Elt Ideal)) :
    (after opsB6 W (Proc.devRef .tc main_v139) : (⟨S1024, .i32⟩ : BufTy).Contents (Elt Ideal))
      = addi (W (Proc.devRef .tc main_v37) : IVec S1024 32) (broadcastInDim S1024 ![] bcast_S_S1024 (constantI S_ 32 1024#32)) := by
  after_reads_simp
theorem v175_eq (W : Valuation τ sig (Elt Ideal)) :
    (after opsB6b W (Proc.devRef .tc main_v175) : (⟨S1024, .f32⟩ : BufTy).Contents (Elt Ideal))
      = Host.log (sitofp (F := Ideal) .f32 (subi (broadcastInDim S1024 ![] bcast_S_S1024 (W (Proc.devRef .tc main_arg0) : IVec S_ 32))
        (subi (subi (W (Proc.devRef .tc main_v135) : IVec S1024 32)
          (chosen (W (Proc.devRef .tc main_arg1)) (select (W (Proc.devRef .tc main_v137)) (W (Proc.devRef .tc main_v139)) (W (Proc.devRef .tc main_v37))) (RefKids.wrap 64#32 (W (Proc.devRef .tc main_v35)))))
          (chosen (W (Proc.devRef .tc main_arg1)) (RefKids.wrap 1024#32 (W (Proc.devRef .tc main_v37))) (RefKids.wrap 64#32 (W (Proc.devRef .tc main_v36))))))) := by
  after_reads_simp
  rfl

theorem chosen_at (x : IVec S1024x64 32) (r i : IVec S1024 32) (R : Fin 1024) (a : Fin 64)
    (hr : r (ix1 R) = BitVec.ofNat 32 R.val) (ha : i (ix1 R) = BitVec.ofNat 32 a.val) :
    chosen x r i (ix1 R) = BitVec.setWidth 32 (IntOp.cmpi .eq (x (ix2 R a)) 1#32) := by
  have h := RefGather.entry x (RefKids.two r i) R R a ((RefKids.two_at0 r i R).trans hr) ((RefKids.two_at1 r i R).trans ha)
  unfold chosen
  generalize Host.gather gather_S1024x64_S1024x2_S1024_n_01_n_n_01_1_11 x (RefKids.two r i) = z at h ⊢
  pointwise
  rw [h]
theorem total_at (x : IVec S1024x64 32) (R : Fin 1024) :
    total x (ix1 R) = Finset.univ.fold IntOp.addi 0#32 fun k => BitVec.setWidth 32 (IntOp.cmpi .eq (x (ix2 R k)) 1#32) := by
  pointwise [total, unit]

end Cert.RefCount
end
-- ==== Proof.Finite.lean ====
/- What finite embeddings give: real logits off the diagonal. -/
module
public import proofs.«01_k».proof.Proof.RefRun
public import proofs.«01_k».proof.Proof.Spec
@[expose] public section
set_option maxRecDepth 16384
noncomputable section
namespace Cert.Finite
open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.Ops

/-- A value is a real number. -/
def IsReal (x : EReal) : Prop := ∃ r : ℝ, x = (r : EReal)

theorem add_real {x y : EReal} : IsReal x → IsReal y → IsReal (x + y) := by
  rintro ⟨a, rfl⟩ ⟨b, rfl⟩; exact ⟨a + b, (EReal.coe_add a b).symm⟩
theorem sub_real {x y : EReal} : IsReal x → IsReal y → IsReal (x - y) := by
  rintro ⟨a, rfl⟩ ⟨b, rfl⟩; exact ⟨a - b, (EReal.coe_sub a b).symm⟩
theorem mul_real {x y : EReal} : IsReal x → IsReal y → IsReal (x * y) := by
  rintro ⟨a, rfl⟩ ⟨b, rfl⟩; exact ⟨a * b, (EReal.coe_mul a b).symm⟩
theorem neg_real {x : EReal} : IsReal x → IsReal (-x) := by
  rintro ⟨a, rfl⟩; exact ⟨-a, (EReal.coe_neg a).symm⟩
theorem sum_real {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact add_real (h a) ih

theorem two_real : IsReal Spec.two := by
  refine ⟨2, ?_⟩
  simp [Spec.two, Ideal.ofBits, Ideal.ieee, -EReal.coe_mul]
  norm_num
theorem eps_real : ∃ r : ℝ, 0 ≤ r ∧ Spec.eps = (r : EReal) := by
  refine ⟨_, ?_, rfl⟩
  norm_num
  rw [if_neg (by decide)]
  positivity

theorem far_real (E : Fin 64 → Fin 128 → EReal) (h : ∀ i d, IsReal (E i d)) (i j : Fin 64) : IsReal (Spec.far E i j) := by
  have hs : ∀ i, IsReal (Spec.sq E i) := fun i => sum_real _ _ fun d => mul_real (h i d) (h i d)
  have hi : IsReal (Spec.inner E i j) := sum_real _ _ fun d => mul_real (h i d) (h j d)
  obtain ⟨r, hr⟩ := sub_real (add_real (hs i) (hs j)) (mul_real two_real hi)
  obtain ⟨t, t0, ht⟩ := eps_real
  unfold Spec.far
  rw [hr, ht, ← EReal.coe_strictMono.monotone.map_max]
  refine ⟨Real.sqrt (max r t), ?_⟩
  show (if max r t < 0 then ⊥ else ((Real.sqrt (max r t) : ℝ) : EReal)) = _
  rw [if_neg (not_lt.mpr (le_trans t0 (le_max_right r t)))]

theorem lg_real (E : Fin 64 → Fin 128 → EReal) (h : ∀ i d, IsReal (E i d)) (i j : Fin 64) (c : i ≠ j) : IsReal (Spec.lg E i j) := by
  unfold Spec.lg; rw [if_neg c]; exact neg_real (far_real E h i j)

theorem top_real (E : Fin 64 → Fin 128 → EReal) (h : ∀ i d, IsReal (E i d)) : ∃ t : ℝ, Spec.top (Spec.lg E) = (t : EReal) := by
  have h1 : Spec.top (Spec.lg E) < ⊤ := by
    unfold Spec.top
    rw [Finset.fold_max_lt]
    refine ⟨bot_lt_top, fun x _ => ?_⟩
    by_cases c : x.1 = x.2
    · unfold Spec.lg; rw [if_pos c]; exact bot_lt_top
    · obtain ⟨r, hr⟩ := lg_real E h x.1 x.2 c
      rw [hr]; exact EReal.coe_lt_top r
  have h2 : ⊥ < Spec.top (Spec.lg E) := by
    obtain ⟨r, hr⟩ := lg_real E h 0 1 (by decide)
    have := (Spec.fold_max_le Finset.univ (fun x : Fin 64 × Fin 64 => Spec.lg E x.1 x.2) _).mp le_rfl (0, 1) (Finset.mem_univ _)
    refine lt_of_lt_of_le ?_ this
    show ⊥ < Spec.lg E 0 1
    rw [hr]; exact EReal.bot_lt_coe r
  exact ⟨_, (EReal.coe_toReal h1.ne h2.ne').symm⟩

/-- The chosen pair is off the diagonal. -/
theorem off (E : Fin 64 → Fin 128 → EReal) (G : Fin 64 → Fin 64 → EReal) (h : ∀ i d, IsReal (E i d)) (hG : ∀ i j, IsReal (G i j))
    (a b : Fin 64) (hm : Spec.FirstMax (Spec.score E G) a b) : a ≠ b := by
  rintro rfl
  have := hm.1 0 1
  obtain ⟨r, hr⟩ := add_real (lg_real E h 0 1 (by decide)) (hG 0 1)
  unfold Spec.score at this
  rw [hr, show Spec.lg E a a = ⊥ from if_pos rfl, EReal.bot_add] at this
  exact absurd this (not_le.mpr (EReal.bot_lt_coe r))

end Cert.Finite
end
-- ==== Proof.RefEnd.lean ====
/- The reference's rows. -/
module
public import proofs.«01_k».proof.Proof.NoiseReal
public import proofs.«01_k».proof.Proof.RefA
public import proofs.«01_k».proof.Proof.RefPair
public import proofs.«01_k».proof.Proof.RefProb
public import proofs.«01_k».proof.Proof.RefCount
public import proofs.«01_k».proof.Proof.Finite
@[expose] public section
set_option maxRecDepth 16384
noncomputable section
namespace Cert.RefEnd
open Idealize.ShloMosaic Idealize.ShloMosaic.TcCoe Idealize.SL.Sem Idealize.ShloMosaic.StableHlo
open Cert.ReferenceIdeal Cert.ReferenceIdeal.Facts₀ Cert.ReferenceIdeal.Facts Cert.ReferenceIdeal.Ops

variable (V : Valuation τ sig (Elt Ideal))

/-- The contents after segment A. -/
def wA : Valuation τ sig (Elt Ideal) := after opsA (V)
/-- The contents after segment K. -/
def wK : Valuation τ sig (Elt Ideal) := after opsK (wA V)
/-- The contents after segment G. -/
def wG : Valuation τ sig (Elt Ideal) := after opsG (wK V)
/-- The contents after segment 1. -/
def w1 : Valuation τ sig (Elt Ideal) := after opsB1 (wG V)
/-- The contents after segment 2. -/
def w2 : Valuation τ sig (Elt Ideal) := after opsB2 (w1 V)
/-- The contents after segment 3. -/
def w3 : Valuation τ sig (Elt Ideal) := after opsB3 (w2 V)
/-- The contents after segment 3b. -/
def w3b : Valuation τ sig (Elt Ideal) := after opsB3b (w3 V)
/-- The contents after segment 4. -/
def w4 : Valuation τ sig (Elt Ideal) := after opsB4 (w3b V)
/-- The contents after segment 5. -/
def w5 : Valuation τ sig (Elt Ideal) := after opsB5 (w4 V)
/-- The contents after segment 5b. -/
def w5b : Valuation τ sig (Elt Ideal) := after opsB5b (w5 V)
/-- The contents after segment 6. -/
def w6 : Valuation τ sig (Elt Ideal) := after opsB6 (w5b V)
/-- The contents after segment 6b. -/
def w6b : Valuation τ sig (Elt Ideal) := after opsB6b (w6 V)
theorem kA (r : Ref sig .tc) (h : r ∉ wrA) : wA V (Proc.devRef .tc r) = (V) (Proc.devRef .tc r) := keeps_of opsA_writes h _
theorem kK (r : Ref sig .tc) (h : r ∉ wrK) : wK V (Proc.devRef .tc r) = (wA V) (Proc.devRef .tc r) := keeps_of opsK_writes h _
theorem kG (r : Ref sig .tc) (h0 : r ∉ wrG0) (h1 : r ∉ wrT0) (h2 : r ∉ wrT1) (h3 : r ∉ wrT2) (h4 : r ∉ wrT3) (h5 : r ∉ wrG1) : wG V (Proc.devRef .tc r) = wK V (Proc.devRef .tc r) :=
  keeps_app (keeps_of opsG0_writes h0) (keeps_app (NoiseReal.keepT r h1 h2 h3 h4) (keeps_of opsG1_writes h5)) (wK V)
theorem k1 (r : Ref sig .tc) (h : r ∉ wrB1) : w1 V (Proc.devRef .tc r) = (wG V) (Proc.devRef .tc r) := keeps_of opsB1_writes h _
theorem k2 (r : Ref sig .tc) (h : r ∉ wrB2) : w2 V (Proc.devRef .tc r) = (w1 V) (Proc.devRef .tc r) := keeps_of opsB2_writes h _
theorem k3 (r : Ref sig .tc) (h : r ∉ wrB3) : w3 V (Proc.devRef .tc r) = (w2 V) (Proc.devRef .tc r) := keeps_of opsB3_writes h _
theorem k3b (r : Ref sig .tc) (h : r ∉ wrB3b) : w3b V (Proc.devRef .tc r) = (w3 V) (Proc.devRef .tc r) := keeps_of opsB3b_writes h _
theorem k4 (r : Ref sig .tc) (h : r ∉ wrB4) : w4 V (Proc.devRef .tc r) = (w3b V) (Proc.devRef .tc r) := keeps_of opsB4_writes h _
theorem k5 (r : Ref sig .tc) (h : r ∉ wrB5) : w5 V (Proc.devRef .tc r) = (w4 V) (Proc.devRef .tc r) := keeps_of opsB5_writes h _
theorem k5b (r : Ref sig .tc) (h : r ∉ wrB5b) : w5b V (Proc.devRef .tc r) = (w5 V) (Proc.devRef .tc r) := keeps_of opsB5b_writes h _
theorem k6 (r : Ref sig .tc) (h : r ∉ wrB6) : w6 V (Proc.devRef .tc r) = (w5b V) (Proc.devRef .tc r) := keeps_of opsB6_writes h _
theorem k6b (r : Ref sig .tc) (h : r ∉ wrB6b) : w6b V (Proc.devRef .tc r) = (w6 V) (Proc.devRef .tc r) := keeps_of opsB6b_writes h _
/-- The whole reference is its segments in turn. -/
theorem all : after refOps V = w6b V := by
  rw [show refOps (F := Ideal) = (opsA ++ (opsK ++ (opsG ++ (opsB1 ++ (opsB2 ++ opsB3))))) ++ ((opsB3b ++ (opsB4 ++ opsB5)) ++ ((opsB5b ++ opsB6) ++ opsB6b)) from rfl]
  simp only [Ops.after_append]
  rfl

/-- The arrays the rows are read from. -/
def E (R : Fin 1024) (i : Fin 64) (d : Fin 128) : EReal := (V (Proc.devRef .tc main_arg2) : FVec Ideal S1024x64x128 .f32) (ix3 R i d)
def G (R : Fin 1024) (i j : Fin 64) : EReal := (wG V (Proc.devRef .tc main_v32) : FVec Ideal S1024x4096 .f32) (ix2 R ⟨i.val * 64 + j.val, by omega⟩)
def Out (R : Fin 1024) (a b : Fin 64) (d : Fin 128) : EReal :=
  Spec.out (E V R a) (E V R b) (fun i k => (V (Proc.devRef .tc main_arg4) : FVec Ideal S256x256 .f32) (ix2 i k)) (fun k => (V (Proc.devRef .tc main_arg5) : FVec Ideal S256 .f32) (ix1 k))
    (fun k d => (V (Proc.devRef .tc main_arg6) : FVec Ideal S256x128 .f32) (ix2 k d)) (fun d => (V (Proc.devRef .tc main_arg7) : FVec Ideal S128 .f32) (ix1 d)) d
def C (R : Fin 1024) (i : Fin 64) : BitVec 32 := (V (Proc.devRef .tc main_arg1) : IVec S1024x64 32) (ix2 R i)
def N : BitVec 32 := (V (Proc.devRef .tc main_arg0) : IVec S_ 32) ix0

theorem c_v24_K_G : (wG V) (Proc.devRef .tc main_v24) = (wK V) (Proc.devRef .tc main_v24) := kG V main_v24 (by decide +kernel) (by decide +kernel) (by decide +kernel) (by decide +kernel) (by decide +kernel) (by decide +kernel)
theorem c_v35_2_3 : (w3 V) (Proc.devRef .tc main_v35) = (w2 V) (Proc.devRef .tc main_v35) := k3 V main_v35 (by decide +kernel)
theorem c_v35_2_6b : (w6b V) (Proc.devRef .tc main_v35) = (w2 V) (Proc.devRef .tc main_v35) := (k6b V main_v35 (by decide +kernel)).trans ((k6 V main_v35 (by decide +kernel)).trans ((k5b V main_v35 (by decide +kernel)).trans ((k5 V main_v35 (by decide +kernel)).trans ((k4 V main_v35 (by decide +kernel)).trans ((k3b V main_v35 (by decide +kernel)).trans (k3 V main_v35 (by decide +kernel)))))))
theorem c_v36_2_6b : (w6b V) (Proc.devRef .tc main_v36) = (w2 V) (Proc.devRef .tc main_v36) := (k6b V main_v36 (by decide +kernel)).trans ((k6 V main_v36 (by decide +kernel)).trans ((k5b V main_v36 (by decide +kernel)).trans ((k5 V main_v36 (by decide +kernel)).trans ((k4 V main_v36 (by decide +kernel)).trans ((k3b V main_v36 (by decide +kernel)).trans (k3 V main_v36 (by decide +kernel)))))))
theorem c_v35_2_5 : (w5 V) (Proc.devRef .tc main_v35) = (w2 V) (Proc.devRef .tc main_v35) := (k5 V main_v35 (by decide +kernel)).trans ((k4 V main_v35 (by decide +kernel)).trans ((k3b V main_v35 (by decide +kernel)).trans (k3 V main_v35 (by decide +kernel))))
theorem c_v36_2_5 : (w5 V) (Proc.devRef .tc main_v36) = (w2 V) (Proc.devRef .tc main_v36) := (k5 V main_v36 (by decide +kernel)).trans ((k4 V main_v36 (by decide +kernel)).trans ((k3b V main_v36 (by decide +kernel)).trans (k3 V main_v36 (by decide +kernel))))
theorem c_v36_2_3 : (w3 V) (Proc.devRef .tc main_v36) = (w2 V) (Proc.devRef .tc main_v36) := k3 V main_v36 (by decide +kernel)
theorem c_v35_2_6 : (w6 V) (Proc.devRef .tc main_v35) = (w2 V) (Proc.devRef .tc main_v35) := (k6 V main_v35 (by decide +kernel)).trans ((k5b V main_v35 (by decide +kernel)).trans ((k5 V main_v35 (by decide +kernel)).trans ((k4 V main_v35 (by decide +kernel)).trans ((k3b V main_v35 (by decide +kernel)).trans (k3 V main_v35 (by decide +kernel))))))
theorem c_v36_2_6 : (w6 V) (Proc.devRef .tc main_v36) = (w2 V) (Proc.devRef .tc main_v36) := (k6 V main_v36 (by decide +kernel)).trans ((k5b V main_v36 (by decide +kernel)).trans ((k5 V main_v36 (by decide +kernel)).trans ((k4 V main_v36 (by decide +kernel)).trans ((k3b V main_v36 (by decide +kernel)).trans (k3 V main_v36 (by decide +kernel))))))
theorem c_v37_3_4 : (w4 V) (Proc.devRef .tc main_v37) = (w3 V) (Proc.devRef .tc main_v37) := (k4 V main_v37 (by decide +kernel)).trans (k3b V main_v37 (by decide +kernel))
theorem c_v37_3_5b : (w5b V) (Proc.devRef .tc main_v37) = (w3 V) (Proc.devRef .tc main_v37) := (k5b V main_v37 (by decide +kernel)).trans ((k5 V main_v37 (by decide +kernel)).trans ((k4 V main_v37 (by decide +kernel)).trans (k3b V main_v37 (by decide +kernel))))
theorem c_v37_3_6 : (w6 V) (Proc.devRef .tc main_v37) = (w3 V) (Proc.devRef .tc main_v37) := (k6 V main_v37 (by decide +kernel)).trans ((k5b V main_v37 (by decide +kernel)).trans ((k5 V main_v37 (by decide +kernel)).trans ((k4 V main_v37 (by decide +kernel)).trans (k3b V main_v37 (by decide +kernel)))))
theorem c_v75_3b_6b : (w6b V) (Proc.devRef .tc main_v75) = (w3b V) (Proc.devRef .tc main_v75) := (k6b V main_v75 (by decide +kernel)).trans ((k6 V main_v75 (by decide +kernel)).trans ((k5b V main_v75 (by decide +kernel)).trans ((k5 V main_v75 (by decide +kernel)).trans (k4 V main_v75 (by decide +kernel)))))
theorem c_v81_4_6b : (w6b V) (Proc.devRef .tc main_v81) = (w4 V) (Proc.devRef .tc main_v81) := (k6b V main_v81 (by decide +kernel)).trans ((k6 V main_v81 (by decide +kernel)).trans ((k5b V main_v81 (by decide +kernel)).trans (k5 V main_v81 (by decide +kernel))))
theorem c_v87_4_6b : (w6b V) (Proc.devRef .tc main_v87) = (w4 V) (Proc.devRef .tc main_v87) := (k6b V main_v87 (by decide +kernel)).trans ((k6 V main_v87 (by decide +kernel)).trans ((k5b V main_v87 (by decide +kernel)).trans (k5 V main_v87 (by decide +kernel))))
theorem c_v131_5b_6b : (w6b V) (Proc.devRef .tc main_v131) = (w5b V) (Proc.devRef .tc main_v131) := (k6b V main_v131 (by decide +kernel)).trans (k6 V main_v131 (by decide +kernel))
theorem c_v23_A_5 : (w5 V) (Proc.devRef .tc main_v23) = (wA V) (Proc.devRef .tc main_v23) := (k5 V main_v23 (by decide +kernel)).trans ((k4 V main_v23 (by decide +kernel)).trans ((k3b V main_v23 (by decide +kernel)).trans ((k3 V main_v23 (by decide +kernel)).trans ((k2 V main_v23 (by decide +kernel)).trans ((k1 V main_v23 (by decide +kernel)).trans ((kG V main_v23 (by decide +kernel) (by decide +kernel) (by decide +kernel) (by decide +kernel) (by decide +kernel) (by decide +kernel)).trans (kK V main_v23 (by decide +kernel))))))))
theorem c_arg0_V_6 : (w6 V) (Proc.devRef .tc main_arg0) = (V) (Proc.devRef .tc main_arg0) := (k6 V main_arg0 (by decide +kernel)).trans ((k5b V main_arg0 (by decide +kernel)).trans ((k5 V main_arg0 (by decide +kernel)).trans ((k4 V main_arg0 (by decide +kernel)).trans ((k3b V main_arg0 (by decide +kernel)).trans ((k3 V main_arg0 (by decide +kernel)).trans ((k2 V main_arg0 (by decide +kernel)).trans ((k1 V main_arg0 (by decide +kernel)).trans ((kG V main_arg0 (by decide +kernel) (by decide +kernel) (by decide +kernel) (by decide +kernel) (by decide +kernel) (by decide +kernel)).trans ((kK V main_arg0 (by decide +kernel)).trans (kA V main_arg0 (by decide +kernel)))))))))))
theorem c_arg1_V_6 : (w6 V) (Proc.devRef .tc main_arg1) = (V) (Proc.devRef .tc main_arg1) := (k6 V main_arg1 (by decide +kernel)).trans ((k5b V main_arg1 (by decide +kernel)).trans ((k5 V main_arg1 (by decide +kernel)).trans ((k4 V main_arg1 (by decide +kernel)).trans ((k3b V main_arg1 (by decide +kernel)).trans ((k3 V main_arg1 (by decide +kernel)).trans ((k2 V main_arg1 (by decide +kernel)).trans ((k1 V main_arg1 (by decide +kernel)).trans ((kG V main_arg1 (by decide +kernel) (by decide +kernel) (by decide +kernel) (by decide +kernel) (by decide +kernel) (by decide +kernel)).trans ((kK V main_arg1 (by decide +kernel)).trans (kA V main_arg1 (by decide +kernel)))))))))))
theorem c_arg1_V_5b : (w5b V) (Proc.devRef .tc main_arg1) = (V) (Proc.devRef .tc main_arg1) := (k5b V main_arg1 (by decide +kernel)).trans ((k5 V main_arg1 (by decide +kernel)).trans ((k4 V main_arg1 (by decide +kernel)).trans ((k3b V main_arg1 (by decide +kernel)).trans ((k3 V main_arg1 (by decide +kernel)).trans ((k2 V main_arg1 (by decide +kernel)).trans ((k1 V main_arg1 (by decide +kernel)).trans ((kG V main_arg1 (by decide +kernel) (by decide +kernel) (by decide +kernel) (by decide +kernel) (by decide +kernel) (by decide +kernel)).trans ((kK V main_arg1 (by decide +kernel)).trans (kA V main_arg1 (by decide +kernel))))))))))
theorem c_arg2_V_3 : (w3 V) (Proc.devRef .tc main_arg2) = (V) (Proc.devRef .tc main_arg2) := (k3 V main_arg2 (by decide +kernel)).trans ((k2 V main_arg2 (by decide +kernel)).trans ((k1 V main_arg2 (by decide +kernel)).trans ((kG V main_arg2 (by decide +kernel) (by decide +kernel) (by decide +kernel) (by decide +kernel) (by decide +kernel) (by decide +kernel)).trans ((kK V main_arg2 (by decide +kernel)).trans (kA V main_arg2 (by decide +kernel))))))
theorem c_arg4_V_3 : (w3 V) (Proc.devRef .tc main_arg4) = (V) (Proc.devRef .tc main_arg4) := (k3 V main_arg4 (by decide +kernel)).trans ((k2 V main_arg4 (by decide +kernel)).trans ((k1 V main_arg4 (by decide +kernel)).trans ((kG V main_arg4 (by decide +kernel) (by decide +kernel) (by decide +kernel) (by decide +kernel) (by decide +kernel) (by decide +kernel)).trans ((kK V main_arg4 (by decide +kernel)).trans (kA V main_arg4 (by decide +kernel))))))
theorem c_arg5_V_3 : (w3 V) (Proc.devRef .tc main_arg5) = (V) (Proc.devRef .tc main_arg5) := (k3 V main_arg5 (by decide +kernel)).trans ((k2 V main_arg5 (by decide +kernel)).trans ((k1 V main_arg5 (by decide +kernel)).trans ((kG V main_arg5 (by decide +kernel) (by decide +kernel) (by decide +kernel) (by decide +kernel) (by decide +kernel) (by decide +kernel)).trans ((kK V main_arg5 (by decide +kernel)).trans (kA V main_arg5 (by decide +kernel))))))
theorem c_arg6_V_3 : (w3 V) (Proc.devRef .tc main_arg6) = (V) (Proc.devRef .tc main_arg6) := (k3 V main_arg6 (by decide +kernel)).trans ((k2 V main_arg6 (by decide +kernel)).trans ((k1 V main_arg6 (by decide +kernel)).trans ((kG V main_arg6 (by decide +kernel) (by decide +kernel) (by decide +kernel) (by decide +kernel) (by decide +kernel) (by decide +kernel)).trans ((kK V main_arg6 (by decide +kernel)).trans (kA V main_arg6 (by decide +kernel))))))
theorem c_arg7_V_3 : (w3 V) (Proc.devRef .tc main_arg7) = (V) (Proc.devRef .tc main_arg7) := (k3 V main_arg7 (by decide +kernel)).trans ((k2 V main_arg7 (by decide +kernel)).trans ((k1 V main_arg7 (by decide +kernel)).trans ((kG V main_arg7 (by decide +kernel) (by decide +kernel) (by decide +kernel) (by decide +kernel) (by decide +kernel) (by decide +kernel)).trans ((kK V main_arg7 (by decide +kernel)).trans (kA V main_arg7 (by decide +kernel))))))

theorem noise_real (R : Fin 1024) (i j : Fin 64) : Finite.IsReal (G V R i j) := by
  obtain ⟨a, b, h⟩ := NoiseReal.value (wK V)
  unfold G
  rw [show wG V (Proc.devRef .tc main_v32) = _ from h]
  exact NoiseReal.real a b R _

theorem sum_at (n l : FVec Ideal S1024x4096 .f32) (i : S1024x4096.Idx) : (addf n l : FVec Ideal S1024x4096 .f32) i = (n i + l i : EReal) := rfl

theorem logit_at (R : Fin 1024) (i j : Fin 64) :
    (wG V (Proc.devRef .tc main_v24) : FVec Ideal S1024x4096 .f32) (ix2 R ⟨i.val * 64 + j.val, by omega⟩) = Spec.lg (E V R) i j := by
  rw [c_v24_K_G]
  refine (RefA.v24_at (wA V) R i j).trans ?_
  rw [show wA V (Proc.devRef .tc main_v23) = _ from RefA.v23_eq V]
  exact RefA.logits_at _ R i j

theorem score_at (R : Fin 1024) (i j : Fin 64) :
    (addf (wG V (Proc.devRef .tc main_v32) : FVec Ideal S1024x4096 .f32) (wG V (Proc.devRef .tc main_v24)) : FVec Ideal S1024x4096 .f32) (ix2 R ⟨i.val * 64 + j.val, by omega⟩)
      = Spec.score (E V R) (G V R) i j :=
  (sum_at _ _ _).trans ((congrArg (fun y : EReal => G V R i j + y) (logit_at V R i j)).trans (add_comm (G V R i j) (Spec.lg (E V R) i j)))

variable (R : Fin 1024) (a b : Fin 64) (hm : Spec.FirstMax (Spec.score (E V R) (G V R)) a b)

include hm

theorem flat : (w1 V (Proc.devRef .tc main_v34) : IVec S1024 32) (ix1 R) = BitVec.ofNat 32 (a.val * 64 + b.val) := by
  rw [show w1 V (Proc.devRef .tc main_v34) = _ from RefPair.v34_eq (wG V)]
  have hq : ∀ q : Fin 4096, ∃ i j : Fin 64, q = ⟨i.val * 64 + j.val, by omega⟩ := fun q =>
    ⟨⟨q.val / 64, by omega⟩, ⟨q.val % 64, by omega⟩, Fin.ext (by simp only; omega)⟩
  refine RefArg.argmax _ R ⟨a.val * 64 + b.val, by omega⟩ (fun q => ?_) (fun q h => ?_)
  · obtain ⟨i, j, rfl⟩ := hq q
    rw [score_at, score_at]; exact hm.1 i j
  · obtain ⟨i, j, rfl⟩ := hq q
    rw [score_at, score_at]; exact hm.2 i j h

theorem fst2 : (w2 V (Proc.devRef .tc main_v35) : IVec S1024 32) (ix1 R) = BitVec.ofNat 32 a.val := by
  rw [show w2 V (Proc.devRef .tc main_v35) = _ from RefPair.v35_eq (w1 V)]
  exact RefPair.quot_at _ R a b (flat V R a b hm)
theorem snd2 : (w2 V (Proc.devRef .tc main_v36) : IVec S1024 32) (ix1 R) = BitVec.ofNat 32 b.val := by
  rw [show w2 V (Proc.devRef .tc main_v36) = _ from RefPair.v36_eq (w1 V)]
  exact RefPair.rest_at _ R a b (flat V R a b hm)

theorem out0 : (after refOps V (Proc.devRef .tc main_v35) : IVec S1024 32) (ix1 R) = BitVec.ofNat 32 a.val := by
  rw [all, c_v35_2_6b]; exact fst2 V R a b hm
theorem out1 : (after refOps V (Proc.devRef .tc main_v36) : IVec S1024 32) (ix1 R) = BitVec.ofNat 32 b.val := by
  rw [all, c_v36_2_6b]; exact snd2 V R a b hm

omit hm in
theorem row3 : (w3 V (Proc.devRef .tc main_v37) : IVec S1024 32) = iotaInDim S1024 32 0 := RefKids.v37_eq (w2 V)
omit hm in
theorem wrapRow : RefKids.wrap 1024#32 (iotaInDim S1024 32 0) (ix1 R) = BitVec.ofNat 32 R.val :=
  RefKids.wrap_at _ _ R R.val (by omega) rfl

theorem kid1 (d : Fin 128) : (w3b V (Proc.devRef .tc main_v51) : FVec Ideal S1024x128 .f32) (ix2 R d) = E V R a d := by
  rw [show w3b V (Proc.devRef .tc main_v51) = _ from RefKids.v51_eq (w3 V)]
  rw [show w3 V (Proc.devRef .tc main_v42) = _ from RefKids.v42_eq (w2 V), show w3 V (Proc.devRef .tc main_v44) = _ from RefKids.v44_eq (w2 V),
    show w3 V (Proc.devRef .tc main_c_12) = _ from RefKids.c12_eq (w2 V), c_v35_2_3, c_arg2_V_3]
  exact RefKids.kid_at _ _ _ R a d (wrapRow R) (RefKids.wrap_at 64#32 _ R a.val (by omega) (fst2 V R a b hm))
theorem kid2 (d : Fin 128) : (w3b V (Proc.devRef .tc main_v65) : FVec Ideal S1024x128 .f32) (ix2 R d) = E V R b d := by
  rw [show w3b V (Proc.devRef .tc main_v65) = _ from RefKids.v65_eq (w3 V)]
  rw [row3, c_v36_2_3, c_arg2_V_3]
  exact RefKids.kid_at _ _ _ R b d (wrapRow R) (RefKids.wrap_at 64#32 _ R b.val (by omega) (snd2 V R a b hm))
theorem parent (d : Fin 128) : (w3b V (Proc.devRef .tc main_v75) : FVec Ideal S1024x128 .f32) (ix2 R d) = Out V R a b d := by
  have h : (w3b V (Proc.devRef .tc main_v75) : FVec Ideal S1024x128 .f32)
      = RefKids.mlp (w3b V (Proc.devRef .tc main_v51)) (w3b V (Proc.devRef .tc main_v65)) (w3 V (Proc.devRef .tc main_arg4)) (w3 V (Proc.devRef .tc main_arg5)) (w3 V (Proc.devRef .tc main_arg6)) (w3 V (Proc.devRef .tc main_arg7)) := by
    rw [show w3b V (Proc.devRef .tc main_v75) = _ from RefKids.v75_eq (w3 V), show w3b V (Proc.devRef .tc main_v51) = _ from RefKids.v51_eq (w3 V), show w3b V (Proc.devRef .tc main_v65) = _ from RefKids.v65_eq (w3 V)]
  rw [h, RefKids.mlp_at, c_arg4_V_3, c_arg5_V_3, c_arg6_V_3, c_arg7_V_3]
  simp only [kid1 V R a b hm, kid2 V R a b hm]
  rfl

theorem out4 (d : Fin 128) : (after refOps V (Proc.devRef .tc main_v75) : FVec Ideal S1024x128 .f32) (ix2 R d) = Out V R a b d := by
  rw [all, c_v75_3b_6b]; exact parent V R a b hm d
theorem out2 : (after refOps V (Proc.devRef .tc main_v81) : FVec Ideal S1024 .f32) (ix1 R) = Spec.branch (E V R a) (Out V R a b) := by
  rw [all, c_v81_4_6b, show w4 V (Proc.devRef .tc main_v81) = _ from RefKids.v81_eq (w3b V), RefKids.len_at]
  simp only [kid1 V R a b hm, parent V R a b hm]
theorem out3 : (after refOps V (Proc.devRef .tc main_v87) : FVec Ideal S1024 .f32) (ix1 R) = Spec.branch (E V R b) (Out V R a b) := by
  rw [all, c_v87_4_6b, show w4 V (Proc.devRef .tc main_v87) = _ from RefKids.v87_eq (w3b V), RefKids.len_at]
  simp only [kid2 V R a b hm, parent V R a b hm]

omit hm in
theorem logit_row : (fun i j => (w5 V (Proc.devRef .tc main_v23) : FVec Ideal S1024x64x64 .f32) (ix3 R i j)) = Spec.lg (E V R) := by
  rw [c_v23_A_5, show wA V (Proc.devRef .tc main_v23) = _ from RefA.v23_eq V]
  funext i j
  exact RefA.logits_at _ R i j

theorem out5 (hE : ∀ i d, Finite.IsReal (E V R i d)) : (after refOps V (Proc.devRef .tc main_v131) : FVec Ideal S1024 .f32) (ix1 R)
    = - Spec.far (E V R) a b + ((Real.log 2 : ℝ) : EReal) - (Spec.top (Spec.lg (E V R)) + Ideal.log (Spec.mass (Spec.lg (E V R)))) := by
  obtain ⟨t, ht⟩ := Finite.top_real (E V R) hE
  have hab := Finite.off (E V R) (G V R) hE (noise_real V R) a b hm
  rw [all, c_v131_5b_6b, show w5b V (Proc.devRef .tc main_v131) = _ from RefProb.v131_eq (w5 V), RefProb.prob_at]
  rw [show w5 V (Proc.devRef .tc main_v92) = _ from RefProb.v92_eq (w4 V), show w5 V (Proc.devRef .tc main_v93) = _ from RefProb.v93_eq (w4 V),
    c_v37_3_4, row3, c_v35_2_5, c_v36_2_5]
  have hl := logit_row V R
  have h1 := RefProb.pick_at (w5 V (Proc.devRef .tc main_v23)) (RefKids.wrap 1024#32 (iotaInDim S1024 32 0)) (RefKids.wrap 64#32 (w2 V (Proc.devRef .tc main_v35)))
    (RefKids.wrap 64#32 (w2 V (Proc.devRef .tc main_v36))) R a b (wrapRow R)
    (RefKids.wrap_at 64#32 _ R a.val (by omega) (fst2 V R a b hm)) (RefKids.wrap_at 64#32 _ R b.val (by omega) (snd2 V R a b hm))
  have h2 : (w5 V (Proc.devRef .tc main_v23) : FVec Ideal S1024x64x64 .f32) (ix3 R a b) = Spec.lg (E V R) a b := congrFun (congrFun hl a) b
  have h3 := RefProb.most_at (w5 V (Proc.devRef .tc main_v23)) R
  rw [hl, ht] at h3
  have h4 := RefProb.fin_at _ R t h3
  have h5 := RefProb.lse_at (w5 V (Proc.devRef .tc main_v23)) (RefProb.fin (RefProb.most (w5 V (Proc.devRef .tc main_v23)))) R (by rw [h4, hl, ht])
  rw [hl] at h5
  rw [h5, show Spec.lg (E V R) a b = - Spec.far (E V R) a b from if_neg hab] at *
  exact congrArg (fun z => z + ((Real.log 2 : ℝ) : EReal) - (Spec.top (Spec.lg (E V R)) + Ideal.log (Spec.mass (Spec.lg (E V R))))) (h1.trans h2)

omit hm in
theorem spread (x : IVec S_ 32) (R : Fin 1024) : broadcastInDim S1024 ![] bcast_S_S1024 x (ix1 R) = x ix0 := by
  pointwise

theorem out6 : (after refOps V (Proc.devRef .tc main_v175) : FVec Ideal S1024 .f32) (ix1 R)
    = Ideal.log (FloatOps.sitofp (F := Ideal) FTy.f32 (IntOp.subi (N V) (Spec.ones (C V R) a b))) := by
  rw [all, show w6b V (Proc.devRef .tc main_v175) = _ from RefCount.v175_eq (w6 V)]
  rw [show w6 V (Proc.devRef .tc main_v135) = _ from RefCount.v135_eq (w5b V), show w6 V (Proc.devRef .tc main_v137) = _ from RefCount.v137_eq (w5b V),
    show w6 V (Proc.devRef .tc main_v139) = _ from RefCount.v139_eq (w5b V), c_v37_3_5b, c_v37_3_6, row3, c_v35_2_6, c_v36_2_6, c_arg0_V_6, c_arg1_V_6, c_arg1_V_5b]
  have h0 := RefCount.total_at (V (Proc.devRef .tc main_arg1)) R
  have h1 := RefCount.chosen_at (V (Proc.devRef .tc main_arg1)) (RefKids.wrap 1024#32 (iotaInDim S1024 32 0)) (RefKids.wrap 64#32 (w2 V (Proc.devRef .tc main_v35))) R a (wrapRow R)
    (RefKids.wrap_at 64#32 _ R a.val (by omega) (fst2 V R a b hm))
  have h2 := RefCount.chosen_at (V (Proc.devRef .tc main_arg1)) (RefKids.wrap 1024#32 (iotaInDim S1024 32 0)) (RefKids.wrap 64#32 (w2 V (Proc.devRef .tc main_v36))) R b (wrapRow R)
    (RefKids.wrap_at 64#32 _ R b.val (by omega) (snd2 V R a b hm))
  refine congrArg (fun z => Ideal.log (FloatOps.sitofp (F := Ideal) FTy.f32 z)) ?_
  refine congrArg₂ IntOp.subi (spread _ R) ?_
  exact congrArg₂ IntOp.subi (congrArg₂ IntOp.subi h0 h1) h2

end Cert.RefEnd
end
-- ==== Proof.Same.lean ====
/- The idealized kernel and the reference leave equal results. -/
module
public import proofs.«01_k».proof.Defs
public import proofs.«01_k».proof.Proof.KernelEnd
public import proofs.«01_k».proof.Proof.Noise
public import proofs.«01_k».proof.Proof.RefEnd
@[expose] public section
set_option maxRecDepth 16384
noncomputable section
namespace Cert.Same
open Idealize.ShloMosaic Idealize.ShloMosaic.TcCoe Idealize.SL.Sem Idealize.ShloMosaic.StableHlo

/-- The precondition's side condition. -/
instance preFacts : Cert.Pre_finite_embeddings.Facts := ⟨by decide⟩

/-- A value of finite size is a real number. -/
theorem real_of (x : EReal) (h : FloatOps.cmpf (F := Ideal) (φ := .f32) .olt (FloatOps.hostAbsf (F := Ideal) (φ := .f32) x) (Ideal.ofBits FTy.f32 2139095040#32) = 1#1) : Finite.IsReal x := by
  have h' : max x (-x) < ⊤ := by
    rw [Spec.posInf] at h
    by_contra c
    have : FloatOps.cmpf (F := Ideal) (φ := .f32) .olt (FloatOps.hostAbsf (F := Ideal) (φ := .f32) x) (⊤ : EReal) = 0#1 := by
      show BitVec.ofBool (decide (max x (-x) < ⊤)) = 0#1
      simp [c]
    rw [this] at h
    exact absurd h (by decide)
  have h1 : x ≠ ⊤ := fun e => by rw [e] at h'; exact absurd (lt_of_le_of_lt (le_max_left _ _) h') (lt_irrefl _)
  have h2 : x ≠ ⊥ := fun e => by rw [e, EReal.neg_bot] at h'; exact absurd (lt_of_le_of_lt (le_max_right _ _) h') (lt_irrefl _)
  exact ⟨x.toReal, (EReal.coe_toReal h1 h2).symm⟩

/-- Under the precondition every embedding is a real number. -/
theorem pre_real (m : (ℓ : Loc Cert.KernelIdeal.nD Cert.KernelIdeal.τ Cert.KernelIdeal.sig) → Buf (Elt Ideal) ℓ) (h : Cert.Pre_KernelIdeal_finite_embeddings m)
    (c : Dev Cert.KernelIdeal.nD) (R : Fin 1024) (i : Fin 64) (d : Fin 128) : Finite.IsReal (KernelVal.Ein m c R i d) :=
  real_of _ (congrFun (h c) (ix3 R i d))

/-- Two lines are equal where their entries are. -/
theorem ext1 {α : Type} {x y : (⟨1, ![1024]⟩ : Shape).Idx → α} (h : ∀ R : Fin 1024, x (ix1 R) = y (ix1 R)) : x = y := by
  funext i
  obtain ⟨R, rfl⟩ : ∃ R : Fin 1024, i = ix1 R := ⟨i 0, by funext a; match a with | ⟨0, _⟩ => rfl⟩
  exact h R
theorem ext2 {α : Type} {x y : (⟨2, ![1024, 128]⟩ : Shape).Idx → α} (h : ∀ (R : Fin 1024) (d : Fin 128), x (ix2 R d) = y (ix2 R d)) : x = y := by
  funext i
  obtain ⟨R, d, rfl⟩ : ∃ (R : Fin 1024) (d : Fin 128), i = ix2 R d := ⟨i 0, i 1, by funext a; match a with | ⟨0, _⟩ => rfl | ⟨1, _⟩ => rfl⟩
  exact h R d

/-- A line from its entries. -/
def line {α : Type} (f : Fin 1024 → α) : (⟨1, ![1024]⟩ : Shape).Idx → α := fun i => f (i 0)
/-- A table from its entries. -/
def table {α : Type} (f : Fin 1024 → Fin 128 → α) : (⟨2, ![1024, 128]⟩ : Shape).Idx → α := fun i => f (i 0) (i 1)

theorem line_at {α : Type} (f : Fin 1024 → α) (R : Fin 1024) : line f (ix1 R) = f R := rfl
theorem table_at {α : Type} (f : Fin 1024 → Fin 128 → α) (R : Fin 1024) (d : Fin 128) : table f (ix2 R d) = f R d := rfl

section Reference
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))

/-- The reference's contents at launch. -/
def VR : Valuation Cert.ReferenceIdeal.τ Cert.ReferenceIdeal.sig (Elt Ideal) := launchContents m' c

include e2 in
theorem E_eq (R : Fin 1024) : RefEnd.E (VR m' c) R = KernelVal.Ein m c R := by
  funext i d; exact congrFun e2 (ix3 R i d)
theorem G_eq (R : Fin 1024) : RefEnd.G (VR m' c) R = KernelVal.Gin m c R := by
  funext i j; exact (Noise.noise_eq m c (RefEnd.wA (VR m' c)) R i j).symm
include e1 in
theorem C_eq (R : Fin 1024) : RefEnd.C (VR m' c) R = KernelVal.Cin m c R := by
  funext i; exact congrFun e1 (ix2 R i)
include e0 in
theorem N_eq : RefEnd.N (VR m' c) = KernelVal.Nin m c := congrFun e0 ix0
include e2 e4 e5 e6 e7 in
theorem Out_eq (R : Fin 1024) (a b : Fin 64) : RefEnd.Out (VR m' c) R a b = KernelVal.Out m c R a b := by
  have h4 : (fun i k => (VR m' c (Proc.devRef .tc Cert.ReferenceIdeal.main_arg4) : FVec Ideal Cert.ReferenceIdeal.S256x256 .f32) (ix2 i k)) = KernelVal.W1in m c := by
    funext i k; exact congrFun e4 (ix2 i k)
  have h5 : (fun k => (VR m' c (Proc.devRef .tc Cert.ReferenceIdeal.main_arg5) : FVec Ideal Cert.ReferenceIdeal.S256 .f32) (ix1 k)) = KernelVal.B1in m c := by
    funext k; exact congrFun e5 (ix1 k)
  have h6 : (fun k d => (VR m' c (Proc.devRef .tc Cert.ReferenceIdeal.main_arg6) : FVec Ideal Cert.ReferenceIdeal.S256x128 .f32) (ix2 k d)) = KernelVal.W2in m c := by
    funext k d; exact congrFun e6 (ix2 k d)
  have h7 : (fun d => (VR m' c (Proc.devRef .tc Cert.ReferenceIdeal.main_arg7) : FVec Ideal Cert.ReferenceIdeal.S128 .f32) (ix1 d)) = KernelVal.B2in m c := by
    funext d; exact congrFun e7 (ix1 d)
  funext d
  unfold RefEnd.Out KernelVal.Out
  rw [h4, h5, h6, h7, E_eq m m' c e2]

include e0 e1 e2 e4 e5 e6 e7 in
/-- The reference's row is the kernel's. -/
theorem rowIs (R : Fin 1024) (a b : Fin 64) (hE : ∀ i d, Finite.IsReal (KernelVal.Ein m c R i d))
    (hm : Spec.FirstMax (Spec.score (KernelVal.Ein m c R) (KernelVal.Gin m c R)) a b) :
    KernelEnd.RowIs m c R a b
      ((after Cert.ReferenceIdeal.Ops.refOps (VR m' c) (Proc.devRef .tc Cert.ReferenceIdeal.main_v35) : IVec Cert.ReferenceIdeal.S1024 32) (ix1 R))
      ((after Cert.ReferenceIdeal.Ops.refOps (VR m' c) (Proc.devRef .tc Cert.ReferenceIdeal.main_v36) : IVec Cert.ReferenceIdeal.S1024 32) (ix1 R))
      ((after Cert.ReferenceIdeal.Ops.refOps (VR m' c) (Proc.devRef .tc Cert.ReferenceIdeal.main_v81) : FVec Ideal Cert.ReferenceIdeal.S1024 .f32) (ix1 R))
      ((after Cert.ReferenceIdeal.Ops.refOps (VR m' c) (Proc.devRef .tc Cert.ReferenceIdeal.main_v87) : FVec Ideal Cert.ReferenceIdeal.S1024 .f32) (ix1 R))
      (fun d => (after Cert.ReferenceIdeal.Ops.refOps (VR m' c) (Proc.devRef .tc Cert.ReferenceIdeal.main_v75) : FVec Ideal Cert.ReferenceIdeal.S1024x128 .f32) (ix2 R d))
      ((after Cert.ReferenceIdeal.Ops.refOps (VR m' c) (Proc.devRef .tc Cert.ReferenceIdeal.main_v131) : FVec Ideal Cert.ReferenceIdeal.S1024 .f32) (ix1 R))
      ((after Cert.ReferenceIdeal.Ops.refOps (VR m' c) (Proc.devRef .tc Cert.ReferenceIdeal.main_v175) : FVec Ideal Cert.ReferenceIdeal.S1024 .f32) (ix1 R)) := by
  have hE' := E_eq m m' c e2 R
  have hO' := Out_eq m m' c e2 e4 e5 e6 e7 R a b
  have hm' : Spec.FirstMax (Spec.score (RefEnd.E (VR m' c) R) (RefEnd.G (VR m' c) R)) a b := by
    rw [hE', G_eq m m' c R]; exact hm
  have p2 := RefEnd.out2 (VR m' c) R a b hm'
  have p3 := RefEnd.out3 (VR m' c) R a b hm'
  have p4 := RefEnd.out4 (VR m' c) R a b hm'
  have p5 := RefEnd.out5 (VR m' c) R a b hm' (by rw [hE']; exact hE)
  have p6 := RefEnd.out6 (VR m' c) R a b hm'
  rw [hE', hO'] at p2 p3
  rw [hO'] at p4
  rw [hE'] at p5
  rw [N_eq m m' c e0, C_eq m m' c e1] at p6
  exact ⟨RefEnd.out0 (VR m' c) R a b hm', RefEnd.out1 (VR m' c) R a b hm', p2, p3, p4, p5, p6⟩
end Reference

/-- From memories agreeing on the arguments, the embeddings finite, the idealized kernel and the reference both run, end with equal results and keep their arguments. -/
theorem algebraic : Cert.algebraic_KernelIdeal_ReferenceIdeal_pre_finite_embeddings := by
  intro m g m' g' hpre hag
  have hex : ∀ c R, ∃ a b, Spec.FirstMax (Spec.score (KernelVal.Ein m c R) (KernelVal.Gin m c R)) a b := fun c R => Spec.firstMax_exists _
  choose A B hP using hex
  refine ⟨fun c => line fun R => BitVec.ofNat 32 (A c R).val, fun c => line fun R => BitVec.ofNat 32 (B c R).val,
    fun c => line fun R => Spec.branch (KernelVal.Ein m c R (A c R)) (KernelVal.Out m c R (A c R) (B c R)),
    fun c => line fun R => Spec.branch (KernelVal.Ein m c R (B c R)) (KernelVal.Out m c R (A c R) (B c R)),
    fun c => table fun R d => KernelVal.Out m c R (A c R) (B c R) d,
    fun c => line fun R => - Spec.far (KernelVal.Ein m c R) (A c R) (B c R) + ((Real.log 2 : ℝ) : EReal)
      - (Spec.top (Spec.lg (KernelVal.Ein m c R)) + Ideal.log (Spec.mass (Spec.lg (KernelVal.Ein m c R)))),
    fun c => line fun R => Ideal.log (FloatOps.sitofp (F := Ideal) FTy.f32 (IntOp.subi (KernelVal.Nin m c) (Spec.ones (KernelVal.Cin m c R) (A c R) (B c R)))), ?_, ?_⟩
  · refine (θ_run _ _ _).mono (fun r h c => ?_) (θ_run_and (KernelEnd.run m g A B hP) (Cert.KernelIdeal.Gen.unchanged m g trivial))
    have hr := h.1 c
    exact ⟨ext1 fun R => (hr R).1, ext1 fun R => (hr R).2.1, ext1 fun R => (hr R).2.2.1, ext1 fun R => (hr R).2.2.2.1, ext2 fun R d => (hr R).2.2.2.2.1 d,
      ext1 fun R => (hr R).2.2.2.2.2.1, ext1 fun R => (hr R).2.2.2.2.2.2, h.2 c⟩
  · refine (θ_run _ _ _).mono (fun r h c => ?_) (Cert.ReferenceIdeal.Ops.run m' g')
    obtain ⟨e0, e1, e2, e3, e4, e5, e6, e7⟩ := hag c
    have hr := fun R => rowIs m m' c e0 e1 e2 e4 e5 e6 e7 R (A c R) (B c R) (fun i d => pre_real m hpre c R i d) (hP c R)
    obtain ⟨h0, h1, h2, h3, h4, h5, h6, h7⟩ := Cert.ReferenceIdeal.Ops.refOps_args m' c
    exact ⟨(h c _).trans (ext1 fun R => (hr R).1), (h c _).trans (ext1 fun R => (hr R).2.1), (h c _).trans (ext1 fun R => (hr R).2.2.1),
      (h c _).trans (ext1 fun R => (hr R).2.2.2.1), (h c _).trans (ext2 fun R d => (hr R).2.2.2.2.1 d), (h c _).trans (ext1 fun R => (hr R).2.2.2.2.2.1),
      (h c _).trans (ext1 fun R => (hr R).2.2.2.2.2.2),
      (h c _).trans h0, (h c _).trans h1, (h c _).trans h2, (h c _).trans h3, (h c _).trans h4, (h c _).trans h5, (h c _).trans h6, (h c _).trans h7⟩
end Cert.Same
end
-- ==== Proof.lean ====
/- The proof of the certificate's claim. -/
module

public import proofs.«01_k».proof.Defs
public import proofs.«01_k».proof.Proof.Frames
public import proofs.«01_k».proof.Proof.Same

@[expose] public section

noncomputable section

namespace Cert.Proof

/-- The claim: the frames, the named constant's step and the equality with the reference. -/
theorem claim : Cert.Claim :=
  ⟨Cert.Kernel.Gen.facts, Cert.KernelIdeal.Gen.facts, Cert.ReferenceIdeal.Gen.facts, Cert.Same.preFacts,
    frame_kernel, frame_ideal, fun m g _ => frame_ideal m g trivial, frame_reference, fun m g _ => frame_reference m g trivial,
    log2_step, Cert.Same.algebraic⟩

end Cert.Proof

end
